-- ==== Defs.lean ====
def Pre_Kernel [hPre_tables_fit : Cert.Pre_tables_fit.Facts] (m : (ℓ : Loc Cert.Kernel.nD Cert.Kernel.τ Cert.Kernel.sig) → Buf (Elt Bits) ℓ) : Prop :=
  ∀ c : Dev Cert.Kernel.nD,
    (Cert.Pre_tables_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tables_fit : Cert.Pre_tables_fit.Facts] (m : (ℓ : Loc Cert.KernelIdeal.nD Cert.KernelIdeal.τ Cert.KernelIdeal.sig) → Buf (Elt Ideal) ℓ) : Prop :=
  ∀ c : Dev Cert.KernelIdeal.nD,
    (Cert.Pre_tables_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_scales_fit [hPre_scales_fit : Cert.Pre_scales_fit.Facts] (m : (ℓ : Loc Cert.KernelIdeal.nD Cert.KernelIdeal.τ Cert.KernelIdeal.sig) → Buf (Elt Ideal) ℓ) : Prop :=
  ∀ c : Dev Cert.KernelIdeal.nD,
    (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_scales_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_fit [hPre_scales_fit : Cert.Pre_scales_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_scales_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2 = (fun _ => 1#1)

def quiescent_Kernel [hKernel : Cert.Kernel.Facts] [hPre_tables_fit : Cert.Pre_tables_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tables_fit : Cert.Pre_tables_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_fit [hKernelIdeal : Cert.KernelIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_fit [hReferenceIdeal : Cert.ReferenceIdeal.Facts] [hPre_scales_fit : Cert.Pre_scales_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_scales_fit [hKernelIdeal : Cert.KernelIdeal.Facts] [hReferenceIdeal : Cert.ReferenceIdeal.Facts] [hPre_scales_fit : Cert.Pre_scales_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tables_fit : Cert.Pre_tables_fit.Facts) (hPre_scales_fit : Cert.Pre_scales_fit.Facts),
    quiescent_Kernel (hKernel := hKernel) (hPre_tables_fit := hPre_tables_fit)
    ∧ quiescent_KernelIdeal (hKernelIdeal := hKernelIdeal) (hPre_tables_fit := hPre_tables_fit)
    ∧ quiescent_KernelIdeal_pre_scales_fit (hKernelIdeal := hKernelIdeal) (hPre_scales_fit := hPre_scales_fit)
    ∧ quiescent_ReferenceIdeal (hReferenceIdeal := hReferenceIdeal)
    ∧ quiescent_ReferenceIdeal_pre_scales_fit (hReferenceIdeal := hReferenceIdeal) (hPre_scales_fit := hPre_scales_fit)
    ∧ preserves_Kernel_KernelIdeal
    ∧ algebraic_KernelIdeal_ReferenceIdeal_pre_scales_fit (hKernelIdeal := hKernelIdeal) (hReferenceIdeal := hReferenceIdeal) (hPre_scales_fit := hPre_scales_fit)
-- ==== Pre_scales_fit.lean ====
abbrev S8192x10240 : Shape := ⟨2, ![8192, 10240]⟩
abbrev S2560x10240 : Shape := ⟨2, ![2560, 10240]⟩
abbrev S1 : Shape := ⟨1, ![1]⟩
abbrev S20 : Shape := ⟨1, ![20]⟩
abbrev S1x10240 : Shape := ⟨2, ![1, 10240]⟩
abbrev S8192x384 : Shape := ⟨2, ![8192, 384]⟩
abbrev S5x2560x256 : Shape := ⟨3, ![5, 2560, 256]⟩
abbrev S8192x1 : Shape := ⟨2, ![8192, 1]⟩
abbrev S8 : Shape := ⟨1, ![8]⟩
abbrev S20x512 : Shape := ⟨2, ![20, 512]⟩
abbrev S20x1 : Shape := ⟨2, ![20, 1]⟩
abbrev S_ : Shape := ⟨0, ![]⟩
abbrev S5x2560x128 : Shape := ⟨3, ![5, 2560, 128]⟩
abbrev S1x1 : Shape := ⟨2, ![1, 1]⟩

class Facts : Prop where
  shapeCasts_S1x10240_S20x512 : S1x10240.ShapeCasts S20x512
  shapeCasts_S20_S20x1 : S20.ShapeCasts S20x1
  bcast_S20x1_S20x512_0_1 : S20x1.BroadcastsInDim S20x512 (![0, 1] : Fin 2 → Fin S20x512.rank)
  bcast_S_S20x512 : S_.BroadcastsInDim S20x512 (![] : Fin 0 → Fin S20x512.rank)
  slices_S5x2560x256_S5x2560x128_0_0_0 : S5x2560x256.Slices ![0, 0, 0] S5x2560x128
  bitsLt_bf16_f32 : FTy.bits .bf16 < FTy.bits .f32
  slices_S5x2560x256_S5x2560x128_0_0_128 : S5x2560x256.Slices ![0, 0, 128] S5x2560x128
  bcast_S_S8 : S_.BroadcastsInDim S8 (![] : Fin 0 → Fin S8.rank)
  bcast_S_S1 : S_.BroadcastsInDim S1 (![] : Fin 0 → Fin S1.rank)
  bcast_S1_S8_0 : S1.BroadcastsInDim S8 (![0] : Fin 1 → Fin S8.rank)
  bcast_S1_S1x1_1 : S1.BroadcastsInDim S1x1 (![1] : Fin 1 → Fin S1x1.rank)
  bcast_S1x1_S20x512_0_1 : S1x1.BroadcastsInDim S20x512 (![0, 1] : Fin 2 → Fin S20x512.rank)
  bcast_S_S8192x1 : S_.BroadcastsInDim S8192x1 (![] : Fin 0 → Fin S8192x1.rank)
  bcast_S_S8192x384 : S_.BroadcastsInDim S8192x384 (![] : Fin 0 → Fin S8192x384.rank)
  bcast_S_S5x2560x128 : S_.BroadcastsInDim S5x2560x128 (![] : Fin 0 → Fin S5x2560x128.rank)

variable [Facts]

def fn_part2 {F : FTy → Type} [FloatOps F] (main_v12 : FVec F S5x2560x128 .f32) (main_v14 : FVec F S5x2560x128 .f32) (main_v15 : FVec F S8192x384 .f32) (main_v28 : IVec S8 1) (main_v32 : IVec S20x512 1) (main_v37 : IVec S8192x1 1) (main_v38 : FVec F S8192x384 .f32) : IVec S8 1 × IVec S20x512 1 × IVec S8192x1 1 × IVec S8192x384 1 × IVec S5x2560x128 1 :=
  let main_v39 : IVec S8192x384 1 := cmpf .oge main_v15 main_v38
  let main_cst_7 : FVec F S_ .f32 := constant S_ .f32 0x7F61B1E6#32
  let main_v40 : FVec F S8192x384 .f32 := broadcastInDim S8192x384 ![] bcast_S_S8192x384 main_cst_7
  let main_v41 : IVec S8192x384 1 := cmpf .ole main_v15 main_v40
  let main_v42 : IVec S8192x384 1 := andi main_v39 main_v41
  let main_v43 : IVec S5x2560x128 1 := cmpf .oeq main_v12 main_v14
  let main_cst_8 : FVec F S_ .f32 := constant S_ .f32 0xFF61B1E6#32
  let main_v44 : FVec F S5x2560x128 .f32 := broadcastInDim S5x2560x128 ![] bcast_S_S5x2560x128 main_cst_8
  let main_v45 : IVec S5x2560x128 1 := cmpf .oge main_v12 main_v44
  let main_v46 : IVec S5x2560x128 1 := andi main_v43 main_v45
  let main_cst_9 : FVec F S_ .f32 := constant S_ .f32 0x7F61B1E6#32
  let main_v47 : FVec F S5x2560x128 .f32 := broadcastInDim S5x2560x128 ![] bcast_S_S5x2560x128 main_cst_9
  let main_v48 : IVec S5x2560x128 1 := cmpf .ole main_v12 main_v47
  let main_v49 : IVec S5x2560x128 1 := andi main_v46 main_v48
  (main_v28, main_v32, main_v37, main_v42, main_v49)

def fn_part1 {F : FTy → Type} [FloatOps F] (main_arg2 : IVec S1 32) (main_arg7 : FVec F S8192x1 .f32) (main_v0 : IVec S20x512 32) (main_v10 : IVec S20x512 1) (main_v12 : FVec F S5x2560x128 .f32) (main_v14 : FVec F S5x2560x128 .f32) (main_v15 : FVec F S8192x384 .f32) (main_v17 : IVec S8 1) (main_v19 : IVec S8 1) : IVec S8 1 × IVec S20x512 1 × IVec S8192x1 1 × IVec S8192x384 1 × IVec S5x2560x128 1 :=
  let main_v20 : IVec S8 1 := andi main_v17 main_v19
  let main_c_2 : IVec S_ 32 := constantI S_ 32 0#32
  let main_v21 : IVec S1 32 := broadcastInDim S1 ![] bcast_S_S1 main_c_2
  let main_v22 : IVec S1 1 := cmpi .sge main_arg2 main_v21
  let main_v23 : IVec S8 1 := broadcastInDim S8 ![0] bcast_S1_S8_0 main_v22
  let main_v24 : IVec S8 1 := andi main_v20 main_v23
  let main_c_3 : IVec S_ 32 := constantI S_ 32 20#32
  let main_v25 : IVec S1 32 := broadcastInDim S1 ![] bcast_S_S1 main_c_3
  let main_v26 : IVec S1 1 := cmpi .sle main_arg2 main_v25
  let main_v27 : IVec S8 1 := broadcastInDim S8 ![0] bcast_S1_S8_0 main_v26
  let main_v28 : IVec S8 1 := andi main_v24 main_v27
  let main_v29 : IVec S1x1 32 := broadcastInDim S1x1 ![1] bcast_S1_S1x1_1 main_arg2
  let main_v30 : IVec S20x512 32 := broadcastInDim S20x512 ![0, 1] bcast_S1x1_S20x512_0_1 main_v29
  let main_v31 : IVec S20x512 1 := cmpi .sge main_v0 main_v30
  let main_v32 : IVec S20x512 1 := ori main_v31 main_v10
  let main_cst_4 : FVec F S_ .f32 := constant S_ .f32 0xFF61B1E6#32
  let main_v33 : FVec F S8192x1 .f32 := broadcastInDim S8192x1 ![] bcast_S_S8192x1 main_cst_4
  let main_v34 : IVec S8192x1 1 := cmpf .oge main_arg7 main_v33
  let main_cst_5 : FVec F S_ .f32 := constant S_ .f32 0x7F61B1E6#32
  let main_v35 : FVec F S8192x1 .f32 := broadcastInDim S8192x1 ![] bcast_S_S8192x1 main_cst_5
  let main_v36 : IVec S8192x1 1 := cmpf .ole main_arg7 main_v35
  let main_v37 : IVec S8192x1 1 := andi main_v34 main_v36
  let main_cst_6 : FVec F S_ .f32 := constant S_ .f32 0xFF61B1E6#32
  let main_v38 : FVec F S8192x384 .f32 := broadcastInDim S8192x384 ![] bcast_S_S8192x384 main_cst_6
  fn_part2 (F := F) main_v12 main_v14 main_v15 main_v28 main_v32 main_v37 main_v38

def fn {F : FTy → Type} [FloatOps F] (main_arg0 : FVec F S8192x10240 .fp8e5m2) (main_arg1 : FVec F S2560x10240 .fp8e4m3) (main_arg2 : IVec S1 32) (main_arg3 : FVec F S20 .f32) (main_arg4 : FVec F S1x10240 .f32) (main_arg5 : FVec F S8192x384 .bf16) (main_arg6 : FVec F S5x2560x256 .bf16) (main_arg7 : FVec F S8192x1 .f32) (main_arg8 : IVec S8 32) : IVec S8 1 × IVec S20x512 1 × IVec S8192x1 1 × IVec S8192x384 1 × IVec S5x2560x128 1 :=
  let main_v0 : IVec S20x512 32 := iotaInDim S20x512 32 0
  let main_v1 : FVec F S20x512 .f32 := shapeCast S20x512 main_arg4 shapeCasts_S1x10240_S20x512
  let main_v2 : FVec F S20x1 .f32 := shapeCast S20x1 main_arg3 shapeCasts_S20_S20x1
  let main_v3 : FVec F S20x512 .f32 := broadcastInDim S20x512 ![0, 1] bcast_S20x1_S20x512_0_1 main_v2
  let main_v4 : IVec S20x512 1 := cmpf .oeq main_v1 main_v3
  let main_cst : FVec F S_ .f32 := constant S_ .f32 0x00000000#32
  let main_v5 : FVec F S20x512 .f32 := broadcastInDim S20x512 ![] bcast_S_S20x512 main_cst
  let main_v6 : IVec S20x512 1 := cmpf .oge main_v1 main_v5
  let main_v7 : IVec S20x512 1 := andi main_v4 main_v6
  let main_cst_0 : FVec F S_ .f32 := constant S_ .f32 0x7F61B1E6#32
  let main_v8 : FVec F S20x512 .f32 := broadcastInDim S20x512 ![] bcast_S_S20x512 main_cst_0
  let main_v9 : IVec S20x512 1 := cmpf .ole main_v1 main_v8
  let main_v10 : IVec S20x512 1 := andi main_v7 main_v9
  let main_v11 : FVec F S5x2560x128 .bf16 := (extractStridedSlice S5x2560x128 ![0, 0, 0] · slices_S5x2560x256_S5x2560x128_0_0_0) main_arg6
  let main_v12 : FVec F S5x2560x128 .f32 := (extf .f32 · bitsLt_bf16_f32) main_v11
  let main_v13 : FVec F S5x2560x128 .bf16 := (extractStridedSlice S5x2560x128 ![0, 0, 128] · slices_S5x2560x256_S5x2560x128_0_0_128) main_arg6
  let main_v14 : FVec F S5x2560x128 .f32 := (extf .f32 · bitsLt_bf16_f32) main_v13
  let main_v15 : FVec F S8192x384 .f32 := (extf .f32 · bitsLt_bf16_f32) main_arg5
  let main_c : IVec S_ 32 := constantI S_ 32 0#32
  let main_v16 : IVec S8 32 := broadcastInDim S8 ![] bcast_S_S8 main_c
  let main_v17 : IVec S8 1 := cmpi .sge main_arg8 main_v16
  let main_c_1 : IVec S_ 32 := constantI S_ 32 5#32
  let main_v18 : IVec S8 32 := broadcastInDim S8 ![] bcast_S_S8 main_c_1
  let main_v19 : IVec S8 1 := cmpi .slt main_arg8 main_v18
  fn_part1 (F := F) main_arg2 main_arg7 main_v0 main_v10 main_v12 main_v14 main_v15 main_v17 main_v19
-- ==== Pre_tables_fit.lean ====
abbrev S8192x10240 : Shape := ⟨2, ![8192, 10240]⟩
abbrev S2560x10240 : Shape := ⟨2, ![2560, 10240]⟩
abbrev S1 : Shape := ⟨1, ![1]⟩
abbrev S20 : Shape := ⟨1, ![20]⟩
abbrev S1x10240 : Shape := ⟨2, ![1, 10240]⟩
abbrev S8192x384 : Shape := ⟨2, ![8192, 384]⟩
abbrev S5x2560x256 : Shape := ⟨3, ![5, 2560, 256]⟩
abbrev S8192x1 : Shape := ⟨2, ![8192, 1]⟩
abbrev S8 : Shape := ⟨1, ![8]⟩
abbrev S_ : Shape := ⟨0, ![]⟩

class Facts : Prop where
  bcast_S_S8 : S_.BroadcastsInDim S8 (![] : Fin 0 → Fin S8.rank)
  bcast_S_S1 : S_.BroadcastsInDim S1 (![] : Fin 0 → Fin S1.rank)
  bcast_S1_S8_0 : S1.BroadcastsInDim S8 (![0] : Fin 1 → Fin S8.rank)

variable [Facts]

def fn {F : FTy → Type} [FloatOps F] (main_arg0 : FVec F S8192x10240 .fp8e5m2) (main_arg1 : FVec F S2560x10240 .fp8e4m3) (main_arg2 : IVec S1 32) (main_arg3 : FVec F S20 .f32) (main_arg4 : FVec F S1x10240 .f32) (main_arg5 : FVec F S8192x384 .bf16) (main_arg6 : FVec F S5x2560x256 .bf16) (main_arg7 : FVec F S8192x1 .f32) (main_arg8 : IVec S8 32) : IVec S8 1 :=
  let main_c : IVec S_ 32 := constantI S_ 32 0#32
  let main_v0 : IVec S8 32 := broadcastInDim S8 ![] bcast_S_S8 main_c
  let main_v1 : IVec S8 1 := cmpi .sge main_arg8 main_v0
  let main_c_0 : IVec S_ 32 := constantI S_ 32 5#32
  let main_v2 : IVec S8 32 := broadcastInDim S8 ![] bcast_S_S8 main_c_0
  let main_v3 : IVec S8 1 := cmpi .slt main_arg8 main_v2
  let main_v4 : IVec S8 1 := andi main_v1 main_v3
  let main_c_1 : IVec S_ 32 := constantI S_ 32 0#32
  let main_v5 : IVec S1 32 := broadcastInDim S1 ![] bcast_S_S1 main_c_1
  let main_v6 : IVec S1 1 := cmpi .sge main_arg2 main_v5
  let main_v7 : IVec S8 1 := broadcastInDim S8 ![0] bcast_S1_S8_0 main_v6
  let main_v8 : IVec S8 1 := andi main_v4 main_v7
  let main_c_2 : IVec S_ 32 := constantI S_ 32 20#32
  let main_v9 : IVec S1 32 := broadcastInDim S1 ![] bcast_S_S1 main_c_2
  let main_v10 : IVec S1 1 := cmpi .sle main_arg2 main_v9
  let main_v11 : IVec S8 1 := broadcastInDim S8 ![0] bcast_S1_S8_0 main_v10
  let main_v12 : IVec S8 1 := andi main_v8 main_v11
  main_v12
-- ==== Kernel.lean ====
abbrev S8192x10240 : Shape := ⟨2, ![8192, 10240]⟩
abbrev S2560x10240 : Shape := ⟨2, ![2560, 10240]⟩
abbrev S1 : Shape := ⟨1, ![1]⟩
abbrev S20 : Shape := ⟨1, ![20]⟩
abbrev S1x10240 : Shape := ⟨2, ![1, 10240]⟩
abbrev S8192x384 : Shape := ⟨2, ![8192, 384]⟩
abbrev S5x2560x256 : Shape := ⟨3, ![5, 2560, 256]⟩
abbrev S8192x1 : Shape := ⟨2, ![8192, 1]⟩
abbrev S8 : Shape := ⟨1, ![8]⟩
abbrev S8192x2560 : Shape := ⟨2, ![8192, 2560]⟩
abbrev S2048x1 : Shape := ⟨2, ![2048, 1]⟩
abbrev S2048x2560 : Shape := ⟨2, ![2048, 2560]⟩
abbrev S2x2x2048x512 : Shape := ⟨4, ![2, 2, 2048, 512]⟩
abbrev S2x2x2560x512 : Shape := ⟨4, ![2, 2, 2560, 512]⟩
abbrev S2048x384 : Shape := ⟨2, ![2048, 384]⟩
abbrev S2x2560x256 : Shape := ⟨3, ![2, 2560, 256]⟩
abbrev S2x2 : Shape := ⟨2, ![2, 2]⟩
abbrev S_ : Shape := ⟨0, ![]⟩
abbrev S1x1 : Shape := ⟨2, ![1, 1]⟩
abbrev S1x1x2048x512 : Shape := ⟨4, ![1, 1, 2048, 512]⟩
abbrev S2048x512 : Shape := ⟨2, ![2048, 512]⟩
abbrev S1x1x2560x512 : Shape := ⟨4, ![1, 1, 2560, 512]⟩
abbrev S2560x512 : Shape := ⟨2, ![2560, 512]⟩
abbrev S1x2560x256 : Shape := ⟨3, ![1, 2560, 256]⟩
abbrev S2560x256 : Shape := ⟨2, ![2560, 256]⟩
abbrev S1x1x512x512 : Shape := ⟨4, ![1, 1, 512, 512]⟩
abbrev S512x512 : Shape := ⟨2, ![512, 512]⟩
abbrev S1x512 : Shape := ⟨2, ![1, 512]⟩
abbrev S512x256 : Shape := ⟨2, ![512, 256]⟩
abbrev S1x512x256 : Shape := ⟨3, ![1, 512, 256]⟩
abbrev S512x128 : Shape := ⟨2, ![512, 128]⟩
abbrev S1x512x128 : Shape := ⟨3, ![1, 512, 128]⟩
abbrev S512x1 : Shape := ⟨2, ![512, 1]⟩

abbrev nBuf : Space → Nat
  | .hbm => 8
  | .vmem => 9
  | .smem => 3
  | _ => 0

abbrev bufTy : (tb : Table) → Fin (tcTables nBuf tb) → BufTy
  | .hbm, ⟨0, _⟩ => ⟨S8192x10240, .fp8e5m2⟩
  | .hbm, ⟨1, _⟩ => ⟨S2560x10240, .fp8e4m3⟩
  | .hbm, ⟨2, _⟩ => ⟨S20, .f32⟩
  | .hbm, ⟨3, _⟩ => ⟨S1x10240, .f32⟩
  | .hbm, ⟨4, _⟩ => ⟨S8192x384, .bf16⟩
  | .hbm, ⟨5, _⟩ => ⟨S5x2560x256, .bf16⟩
  | .hbm, ⟨6, _⟩ => ⟨S8192x1, .f32⟩
  | .hbm, ⟨7, _⟩ => ⟨S8192x2560, .bf16⟩
  | .local _ .vmem, ⟨0, _⟩ => ⟨S1x10240, .f32⟩
  | .local _ .vmem, ⟨1, _⟩ => ⟨S2048x1, .f32⟩
  | .local _ .vmem, ⟨2, _⟩ => ⟨S2048x1, .f32⟩
  | .local _ .vmem, ⟨3, _⟩ => ⟨S2048x2560, .f32⟩
  | .local _ .vmem, ⟨4, _⟩ => ⟨S2x2x2048x512, .fp8e5m2⟩
  | .local _ .vmem, ⟨5, _⟩ => ⟨S2x2x2560x512, .fp8e4m3⟩
  | .local _ .vmem, ⟨6, _⟩ => ⟨S2048x384, .bf16⟩
  | .local _ .vmem, ⟨7, _⟩ => ⟨S2x2560x256, .bf16⟩
  | .local _ .vmem, ⟨8, _⟩ => ⟨S2048x2560, .bf16⟩
  | .local _ .smem, ⟨0, _⟩ => ⟨S8, .i32⟩
  | .local _ .smem, ⟨1, _⟩ => ⟨S1, .i32⟩
  | .local _ .smem, ⟨2, _⟩ => ⟨S20, .f32⟩
  | _, _ => ⟨S8192x10240, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_arg8 : Ref sig .tc := ⟨.smem, 0, rfl⟩
abbrev main_arg2 : Ref sig .tc := ⟨.smem, 1, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_stg0_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨2, ![main_arg8.idx, main_arg2.idx], fun | 0 => main_arg8.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32_12 : BitVec 32 := 0#32
  let v38 : BitVec 1 := Scalar.cmpi .eq arg0 c0_i32_12
  let v39 : BitVec 32 := Scalar.extui v38
  let c0_i32_13 : BitVec 32 := 0#32
  let v40 : BitVec 1 := Scalar.cmpi .ne v39 c0_i32_13
  v40

def k0_mult1 (v0 : BitVec 32) : BitVec 32 :=
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c0_i32_416 : BitVec 32 := 0#32
  let v461 : BitVec 1 := Scalar.cmpi .sgt v35 c0_i32_416
  let c0_i32_418 : BitVec 32 := 0#32
  let c0_i32_417 : BitVec 32 := 0#32
  let v462 : BitVec 32 := Scalar.addi v0 c0_i32_417
  let v463 : BitVec 32 := Scalar.subi v462 v35
  let v464 : BitVec 32 := Scalar.select v461 c0_i32_418 v463
  let c0_i32_419 : BitVec 32 := 0#32
  let v465 : BitVec 32 := Scalar.addi v464 c0_i32_419
  let c512_i32 : BitVec 32 := 512#32
  let v466 : BitVec 32 := Scalar.muli v465 c512_i32
  v466

def k0_mult2 : BitVec 32 :=
  let c0_i32_420 : BitVec 32 := 0#32
  c0_i32_420
def k0_off1 (v0 : BitVec 32) : Fin 2 → Nat :=
  let c0_i32_420 : BitVec 32 := 0#32
  let v468 : BitVec 32 := c0_i32_420
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c0_i32_416 : BitVec 32 := 0#32
  let v461 : BitVec 1 := Scalar.cmpi .sgt v35 c0_i32_416
  let c0_i32_418 : BitVec 32 := 0#32
  let c0_i32_417 : BitVec 32 := 0#32
  let v462 : BitVec 32 := Scalar.addi v0 c0_i32_417
  let v463 : BitVec 32 := Scalar.subi v462 v35
  let v464 : BitVec 32 := Scalar.select v461 c0_i32_418 v463
  let c0_i32_419 : BitVec 32 := 0#32
  let v465 : BitVec 32 := Scalar.addi v464 c0_i32_419
  let c512_i32 : BitVec 32 := 512#32
  let v466 : BitVec 32 := Scalar.muli v465 c512_i32
  let v467 : BitVec 32 := v466
  ![0, v467.toNat]
def k0_off2 (v0 : BitVec 32) : Fin 2 → Nat :=
  let c0_i32_433 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c0_i32_416 : BitVec 32 := 0#32
  let v461 : BitVec 1 := Scalar.cmpi .sgt v35 c0_i32_416
  let c0_i32_418 : BitVec 32 := 0#32
  let c0_i32_417 : BitVec 32 := 0#32
  let v462 : BitVec 32 := Scalar.addi v0 c0_i32_417
  let v463 : BitVec 32 := Scalar.subi v462 v35
  let v464 : BitVec 32 := Scalar.select v461 c0_i32_418 v463
  let c0_i32_419 : BitVec 32 := 0#32
  let v465 : BitVec 32 := Scalar.addi v464 c0_i32_419
  let c512_i32 : BitVec 32 := 512#32
  let v466 : BitVec 32 := Scalar.muli v465 c512_i32
  let v467 : BitVec 32 := v466
  ![0, v467.toNat]
def k0_mult3 (v0 : BitVec 32) : BitVec 32 :=
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c0_i32_436 : BitVec 32 := 0#32
  let v482 : BitVec 1 := Scalar.cmpi .sgt v35 c0_i32_436
  let c0_i32_438 : BitVec 32 := 0#32
  let c0_i32_437 : BitVec 32 := 0#32
  let v483 : BitVec 32 := Scalar.addi v0 c0_i32_437
  let v484 : BitVec 32 := Scalar.subi v483 v35
  let v485 : BitVec 32 := Scalar.select v482 c0_i32_438 v484
  let c1_i32_439 : BitVec 32 := 1#32
  let v486 : BitVec 32 := Scalar.addi v485 c1_i32_439
  let c512_i32_440 : BitVec 32 := 512#32
  let v487 : BitVec 32 := Scalar.muli v486 c512_i32_440
  v487
def k0_cond2 (v0 : BitVec 32) : BitVec 1 :=
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let c0_i32_434 : BitVec 32 := 0#32
  let v479 : BitVec 1 := Scalar.cmpi .sgt v17 c0_i32_434
  let v480 : BitVec 32 := Scalar.extui v479
  let c0_i32_435 : BitVec 32 := 0#32
  let v481 : BitVec 1 := Scalar.cmpi .ne v480 c0_i32_435
  v481

def k0_mult4 : BitVec 32 :=
  let c0_i32_441 : BitVec 32 := 0#32
  c0_i32_441
def k0_off3 (v0 : BitVec 32) : Fin 2 → Nat :=
  let c0_i32_441 : BitVec 32 := 0#32
  let v489 : BitVec 32 := c0_i32_441
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c0_i32_436 : BitVec 32 := 0#32
  let v482 : BitVec 1 := Scalar.cmpi .sgt v35 c0_i32_436
  let c0_i32_438 : BitVec 32 := 0#32
  let c0_i32_437 : BitVec 32 := 0#32
  let v483 : BitVec 32 := Scalar.addi v0 c0_i32_437
  let v484 : BitVec 32 := Scalar.subi v483 v35
  let v485 : BitVec 32 := Scalar.select v482 c0_i32_438 v484
  let c1_i32_439 : BitVec 32 := 1#32
  let v486 : BitVec 32 := Scalar.addi v485 c1_i32_439
  let c512_i32_440 : BitVec 32 := 512#32
  let v487 : BitVec 32 := Scalar.muli v486 c512_i32_440
  let v488 : BitVec 32 := v487
  ![0, v488.toNat]
def k0_off4 (v0 : BitVec 32) : Fin 2 → Nat :=
  let c0_i32_454 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c0_i32_436 : BitVec 32 := 0#32
  let v482 : BitVec 1 := Scalar.cmpi .sgt v35 c0_i32_436
  let c0_i32_438 : BitVec 32 := 0#32
  let c0_i32_437 : BitVec 32 := 0#32
  let v483 : BitVec 32 := Scalar.addi v0 c0_i32_437
  let v484 : BitVec 32 := Scalar.subi v483 v35
  let v485 : BitVec 32 := Scalar.select v482 c0_i32_438 v484
  let c1_i32_439 : BitVec 32 := 1#32
  let v486 : BitVec 32 := Scalar.addi v485 c1_i32_439
  let c512_i32_440 : BitVec 32 := 512#32
  let v487 : BitVec 32 := Scalar.muli v486 c512_i32_440
  let v488 : BitVec 32 := v487
  ![0, v488.toNat]
def k0_mult5 (i : grid0.Coords) : BitVec 32 :=
  let arg0 : BitVec 32 := BitVec.ofNat 32 (i 0).val
  let c2048_i32 : BitVec 32 := 2048#32
  let v41 : BitVec 32 := Scalar.muli arg0 c2048_i32
  v41
def k0_off5 (i : grid0.Coords) : Fin 2 → Nat :=
  let arg0 : BitVec 32 := BitVec.ofNat 32 (i 0).val
  let c2048_i32 : BitVec 32 := 2048#32
  let v41 : BitVec 32 := Scalar.muli arg0 c2048_i32
  let v42 : BitVec 32 := v41
  let c0_i32_14 : BitVec 32 := 0#32
  ![v42.toNat, 0]
def k0_off6 (i : grid0.Coords) : Fin 1 → Nat :=
  let arg0 : BitVec 32 := BitVec.ofNat 32 (i 0).val
  let c2_i32_15 : BitVec 32 := 2#32
  let v44 : BitVec 32 := Scalar.muli arg0 c2_i32_15
  let c0_i32_16 : BitVec 32 := 0#32
  let v45 : BitVec 32 := Scalar.addi v44 c0_i32_16
  let v46 : Index := Scalar.indexCast v45
  ![v46.toNat]
def k0_off7 (v47 : BitVec 32) : Fin 3 → Nat :=
  let c0_i32_20 : BitVec 32 := 0#32
  let c0_i32_21 : BitVec 32 := 0#32
  ![v47.toNat, 0, 0]

def k0_chk2 (v47 : BitVec 32) : Prop :=
  (∀ a, (k0_off7 v47) a + S1x2560x256.size a ≤ S5x2560x256.size a) ∧
  (∀ (hinb : ∀ a, (k0_off7 v47) a + S1x2560x256.size a ≤ S5x2560x256.size a), (Rect.unit (s := S5x2560x256) (k0_off7 v47) S1x2560x256.size hinb).WholeWords (EltTy.packing .bf16))
theorem k0_off7_inb : ∀ (v47 : BitVec 32) (k0_hw2 : k0_chk2 v47), ∀ a, (k0_off7 v47) a + S1x2560x256.size a ≤ S5x2560x256.size a := fun v47 k0_hw2 => k0_hw2.1
theorem k0_off7_wordsbf16 : ∀ (v47 : BitVec 32) (k0_hw2 : k0_chk2 v47), (Rect.unit (s := S5x2560x256) (k0_off7 v47) S1x2560x256.size (k0_off7_inb v47 k0_hw2)).WholeWords (EltTy.packing .bf16) := fun v47 k0_hw2 => k0_hw2.2 (k0_off7_inb v47 k0_hw2)

def k0_off8 (i : grid0.Coords) : Fin 1 → Nat :=
  let arg0 : BitVec 32 := BitVec.ofNat 32 (i 0).val
  let c2_i32_22 : BitVec 32 := 2#32
  let v52 : BitVec 32 := Scalar.muli arg0 c2_i32_22
  let c1_i32_23 : BitVec 32 := 1#32
  let v53 : BitVec 32 := Scalar.addi v52 c1_i32_23
  let v54 : Index := Scalar.indexCast v53
  ![v54.toNat]
def k0_off9 (v55 : BitVec 32) : Fin 3 → Nat :=
  let c0_i32_27 : BitVec 32 := 0#32
  let c0_i32_28 : BitVec 32 := 0#32
  ![v55.toNat, 0, 0]

def k0_chk3 (v55 : BitVec 32) : Prop :=
  (∀ a, (k0_off9 v55) a + S1x2560x256.size a ≤ S5x2560x256.size a) ∧
  (∀ (hinb : ∀ a, (k0_off9 v55) a + S1x2560x256.size a ≤ S5x2560x256.size a), (Rect.unit (s := S5x2560x256) (k0_off9 v55) S1x2560x256.size hinb).WholeWords (EltTy.packing .bf16))
theorem k0_off9_inb : ∀ (v55 : BitVec 32) (k0_hw3 : k0_chk3 v55), ∀ a, (k0_off9 v55) a + S1x2560x256.size a ≤ S5x2560x256.size a := fun v55 k0_hw3 => k0_hw3.1
theorem k0_off9_wordsbf16 : ∀ (v55 : BitVec 32) (k0_hw3 : k0_chk3 v55), (Rect.unit (s := S5x2560x256) (k0_off9 v55) S1x2560x256.size (k0_off9_inb v55 k0_hw3)).WholeWords (EltTy.packing .bf16) := fun v55 k0_hw3 => k0_hw3.2 (k0_off9_inb v55 k0_hw3)

@[reducible] def k0_t1_loop (v0 : BitVec 32) : Scf.Loop 32 :=
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_39 : BitVec 32 := 1#32
  ⟨c0_i32_37, v72, c1_i32_39⟩
def k0_mult6 (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v518 : BitVec 1 := Scalar.cmpi .slt v516 v35
  let c2_i32_444 : BitVec 32 := 2#32
  let v519 : BitVec 32 := Scalar.muli c2_i32_444 v516
  let v520 : BitVec 32 := Scalar.addi v0 v516
  let v521 : BitVec 32 := Scalar.subi v520 v35
  let v522 : BitVec 32 := Scalar.select v518 v519 v521
  let c0_i32_445 : BitVec 32 := 0#32
  let v523 : BitVec 32 := Scalar.addi v522 c0_i32_445
  let c512_i32_446 : BitVec 32 := 512#32
  let v524 : BitVec 32 := Scalar.muli v523 c512_i32_446
  v524
def k0_cond3 (i : grid0.Coords) (v0 : BitVec 32) (k0_t1 : Fin (k0_t1_loop v0).trips) : BitVec 1 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c3_i32_423 : BitVec 32 := 3#32
  let v477 : BitVec 1 := Scalar.cmpi .eq arg0 c3_i32_423
  let v478 : BitVec 1 := Scalar.andi v476 v477
  let v_true : BitVec 1 := 1#1
  let v479 : BitVec 1 := Scalar.xori v478 v_true
  let v480 : BitVec 32 := Scalar.extui v479
  let c0_i32_424 : BitVec 32 := 0#32
  let v481 : BitVec 1 := Scalar.cmpi .ne v480 c0_i32_424
  v481

def k0_mult7 (i : grid0.Coords) (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_447 : BitVec 32 := 2048#32
  let v526 : BitVec 32 := Scalar.muli v514 c2048_i32_447
  v526
def k0_off10 (i : grid0.Coords) (v0 : BitVec 32) (k0_t1 : Fin (k0_t1_loop v0).trips) : Fin 2 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c0_i32_449 : BitVec 32 := 0#32
  ![v517.toNat, 0]
def k0_off11 (i : grid0.Coords) (v0 : BitVec 32) (k0_t1 : Fin (k0_t1_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c0_i32_448 : BitVec 32 := 0#32
  let c0_i32_450 : BitVec 32 := 0#32
  let c0_i32_451 : BitVec 32 := 0#32
  ![v517.toNat, 0, 0, 0]
def k0_off12 (i : grid0.Coords) (v0 : BitVec 32) (k0_t1 : Fin (k0_t1_loop v0).trips) : Fin 2 → Nat :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_447 : BitVec 32 := 2048#32
  let v526 : BitVec 32 := Scalar.muli v514 c2048_i32_447
  let v527 : BitVec 32 := v526
  let c0_i32_442 : BitVec 32 := 0#32
  let c1_i32_441 : BitVec 32 := 1#32
  let v515 : BitVec 32 := Scalar.addi v462 c1_i32_441
  let v516 : BitVec 32 := Scalar.select v476 c0_i32_442 v515
  let v518 : BitVec 1 := Scalar.cmpi .slt v516 v35
  let c2_i32_444 : BitVec 32 := 2#32
  let v519 : BitVec 32 := Scalar.muli c2_i32_444 v516
  let v520 : BitVec 32 := Scalar.addi v0 v516
  let v521 : BitVec 32 := Scalar.subi v520 v35
  let v522 : BitVec 32 := Scalar.select v518 v519 v521
  let c0_i32_445 : BitVec 32 := 0#32
  let v523 : BitVec 32 := Scalar.addi v522 c0_i32_445
  let c512_i32_446 : BitVec 32 := 512#32
  let v524 : BitVec 32 := Scalar.muli v523 c512_i32_446
  let v525 : BitVec 32 := v524
  ![v527.toNat, v525.toNat]
def k0_off13 (i : grid0.Coords) (v0 : BitVec 32) (k0_t1 : Fin (k0_t1_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c0_i32_452 : BitVec 32 := 0#32
  let c0_i32_454 : BitVec 32 := 0#32
  let c0_i32_455 : BitVec 32 := 0#32
  ![v517.toNat, 0, 0, 0]
def k0_off14 (v0 : BitVec 32) (k0_t1 : Fin (k0_t1_loop v0).trips) : Fin 2 → Nat :=
  let c0_i32_456 : BitVec 32 := 0#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v518 : BitVec 1 := Scalar.cmpi .slt v516 v35
  let c2_i32_444 : BitVec 32 := 2#32
  let v519 : BitVec 32 := Scalar.muli c2_i32_444 v516
  let v520 : BitVec 32 := Scalar.addi v0 v516
  let v521 : BitVec 32 := Scalar.subi v520 v35
  let v522 : BitVec 32 := Scalar.select v518 v519 v521
  let c0_i32_445 : BitVec 32 := 0#32
  let v523 : BitVec 32 := Scalar.addi v522 c0_i32_445
  let c512_i32_446 : BitVec 32 := 512#32
  let v524 : BitVec 32 := Scalar.muli v523 c512_i32_446
  let v525 : BitVec 32 := v524
  ![0, v525.toNat]
def k0_mult8 (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v541 : BitVec 1 := Scalar.cmpi .slt v516 v35
  let c2_i32_458 : BitVec 32 := 2#32
  let v542 : BitVec 32 := Scalar.muli c2_i32_458 v516
  let v543 : BitVec 32 := Scalar.addi v0 v516
  let v544 : BitVec 32 := Scalar.subi v543 v35
  let v545 : BitVec 32 := Scalar.select v541 v542 v544
  let c1_i32_459 : BitVec 32 := 1#32
  let v546 : BitVec 32 := Scalar.addi v545 c1_i32_459
  let c512_i32_460 : BitVec 32 := 512#32
  let v547 : BitVec 32 := Scalar.muli v546 c512_i32_460
  v547
def k0_cond4 (v0 : BitVec 32) (k0_t1 : Fin (k0_t1_loop v0).trips) : BitVec 1 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v538 : BitVec 1 := Scalar.cmpi .slt v516 v17
  let v539 : BitVec 32 := Scalar.extui v538
  let c0_i32_457 : BitVec 32 := 0#32
  let v540 : BitVec 1 := Scalar.cmpi .ne v539 c0_i32_457
  v540

def k0_mult9 (i : grid0.Coords) (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_461 : BitVec 32 := 2048#32
  let v549 : BitVec 32 := Scalar.muli v514 c2048_i32_461
  v549
def k0_off15 (i : grid0.Coords) (v0 : BitVec 32) (k0_t1 : Fin (k0_t1_loop v0).trips) : Fin 2 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c1_i32_463 : BitVec 32 := 1#32
  ![v517.toNat, 1]
def k0_off16 (i : grid0.Coords) (v0 : BitVec 32) (k0_t1 : Fin (k0_t1_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c1_i32_462 : BitVec 32 := 1#32
  let c0_i32_464 : BitVec 32 := 0#32
  let c0_i32_465 : BitVec 32 := 0#32
  ![v517.toNat, 1, 0, 0]
def k0_off17 (i : grid0.Coords) (v0 : BitVec 32) (k0_t1 : Fin (k0_t1_loop v0).trips) : Fin 2 → Nat :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_461 : BitVec 32 := 2048#32
  let v549 : BitVec 32 := Scalar.muli v514 c2048_i32_461
  let v550 : BitVec 32 := v549
  let c0_i32_442 : BitVec 32 := 0#32
  let c1_i32_441 : BitVec 32 := 1#32
  let v515 : BitVec 32 := Scalar.addi v462 c1_i32_441
  let v516 : BitVec 32 := Scalar.select v476 c0_i32_442 v515
  let v541 : BitVec 1 := Scalar.cmpi .slt v516 v35
  let c2_i32_458 : BitVec 32 := 2#32
  let v542 : BitVec 32 := Scalar.muli c2_i32_458 v516
  let v543 : BitVec 32 := Scalar.addi v0 v516
  let v544 : BitVec 32 := Scalar.subi v543 v35
  let v545 : BitVec 32 := Scalar.select v541 v542 v544
  let c1_i32_459 : BitVec 32 := 1#32
  let v546 : BitVec 32 := Scalar.addi v545 c1_i32_459
  let c512_i32_460 : BitVec 32 := 512#32
  let v547 : BitVec 32 := Scalar.muli v546 c512_i32_460
  let v548 : BitVec 32 := v547
  ![v550.toNat, v548.toNat]
def k0_off18 (i : grid0.Coords) (v0 : BitVec 32) (k0_t1 : Fin (k0_t1_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c1_i32_466 : BitVec 32 := 1#32
  let c0_i32_468 : BitVec 32 := 0#32
  let c0_i32_469 : BitVec 32 := 0#32
  ![v517.toNat, 1, 0, 0]
def k0_off19 (v0 : BitVec 32) (k0_t1 : Fin (k0_t1_loop v0).trips) : Fin 2 → Nat :=
  let c0_i32_470 : BitVec 32 := 0#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v541 : BitVec 1 := Scalar.cmpi .slt v516 v35
  let c2_i32_458 : BitVec 32 := 2#32
  let v542 : BitVec 32 := Scalar.muli c2_i32_458 v516
  let v543 : BitVec 32 := Scalar.addi v0 v516
  let v544 : BitVec 32 := Scalar.subi v543 v35
  let v545 : BitVec 32 := Scalar.select v541 v542 v544
  let c1_i32_459 : BitVec 32 := 1#32
  let v546 : BitVec 32 := Scalar.addi v545 c1_i32_459
  let c512_i32_460 : BitVec 32 := 512#32
  let v547 : BitVec 32 := Scalar.muli v546 c512_i32_460
  let v548 : BitVec 32 := v547
  ![0, v548.toNat]
def k0_mult10 (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v482 : BitVec 1 := Scalar.cmpi .slt v462 v35
  let c2_i32_425 : BitVec 32 := 2#32
  let v483 : BitVec 32 := Scalar.muli c2_i32_425 v462
  let v484 : BitVec 32 := Scalar.addi v0 v462
  let v485 : BitVec 32 := Scalar.subi v484 v35
  let v486 : BitVec 32 := Scalar.select v482 v483 v485
  let c0_i32_426 : BitVec 32 := 0#32
  let v487 : BitVec 32 := Scalar.addi v486 c0_i32_426
  let c512_i32 : BitVec 32 := 512#32
  let v488 : BitVec 32 := Scalar.muli v487 c512_i32
  v488
def k0_mult11 (i : grid0.Coords) : BitVec 32 :=
  let arg0 : BitVec 32 := BitVec.ofNat 32 (i 0).val
  let c2048_i32_427 : BitVec 32 := 2048#32
  let v490 : BitVec 32 := Scalar.muli arg0 c2048_i32_427
  v490
def k0_off20 (i : grid0.Coords) (v0 : BitVec 32) (k0_t1 : Fin (k0_t1_loop v0).trips) : Fin 2 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c0_i32_429 : BitVec 32 := 0#32
  ![v474.toNat, 0]
def k0_off21 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c0_i32_428 : BitVec 32 := 0#32
  let c0_i32_430 : BitVec 32 := 0#32
  let c0_i32_431 : BitVec 32 := 0#32
  ![v474.toNat, 0, 0, 0]
def k0_off22 (i : grid0.Coords) (v0 : BitVec 32) (k0_t1 : Fin (k0_t1_loop v0).trips) : Fin 2 → Nat :=
  let arg0 : BitVec 32 := BitVec.ofNat 32 (i 0).val
  let c2048_i32_427 : BitVec 32 := 2048#32
  let v490 : BitVec 32 := Scalar.muli arg0 c2048_i32_427
  let v491 : BitVec 32 := v490
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v482 : BitVec 1 := Scalar.cmpi .slt v462 v35
  let c2_i32_425 : BitVec 32 := 2#32
  let v483 : BitVec 32 := Scalar.muli c2_i32_425 v462
  let v484 : BitVec 32 := Scalar.addi v0 v462
  let v485 : BitVec 32 := Scalar.subi v484 v35
  let v486 : BitVec 32 := Scalar.select v482 v483 v485
  let c0_i32_426 : BitVec 32 := 0#32
  let v487 : BitVec 32 := Scalar.addi v486 c0_i32_426
  let c512_i32 : BitVec 32 := 512#32
  let v488 : BitVec 32 := Scalar.muli v487 c512_i32
  let v489 : BitVec 32 := v488
  ![v491.toNat, v489.toNat]
def k0_off23 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c0_i32_432 : BitVec 32 := 0#32
  let c0_i32_434 : BitVec 32 := 0#32
  let c0_i32_435 : BitVec 32 := 0#32
  ![v474.toNat, 0, 0, 0]
def k0_off24 (v0 : BitVec 32) (k0_t1 : Fin (k0_t1_loop v0).trips) : Fin 2 → Nat :=
  let c0_i32_436 : BitVec 32 := 0#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v482 : BitVec 1 := Scalar.cmpi .slt v462 v35
  let c2_i32_425 : BitVec 32 := 2#32
  let v483 : BitVec 32 := Scalar.muli c2_i32_425 v462
  let v484 : BitVec 32 := Scalar.addi v0 v462
  let v485 : BitVec 32 := Scalar.subi v484 v35
  let v486 : BitVec 32 := Scalar.select v482 v483 v485
  let c0_i32_426 : BitVec 32 := 0#32
  let v487 : BitVec 32 := Scalar.addi v486 c0_i32_426
  let c512_i32 : BitVec 32 := 512#32
  let v488 : BitVec 32 := Scalar.muli v487 c512_i32
  let v489 : BitVec 32 := v488
  ![0, v489.toNat]
def k0_mult12 (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c1_i32_441 : BitVec 32 := 1#32
  let v518 : BitVec 32 := Scalar.addi v517 c1_i32_441
  let c512_i32_442 : BitVec 32 := 512#32
  let v519 : BitVec 32 := Scalar.muli v518 c512_i32_442
  v519
def k0_cond5 (v0 : BitVec 32) (k0_t1 : Fin (k0_t1_loop v0).trips) : BitVec 1 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v502 : BitVec 1 := Scalar.cmpi .slt v462 v17
  let v503 : BitVec 32 := Scalar.extui v502
  let c0_i32_437 : BitVec 32 := 0#32
  let v504 : BitVec 1 := Scalar.cmpi .ne v503 c0_i32_437
  v504

def k0_mult13 (i : grid0.Coords) : BitVec 32 :=
  let arg0 : BitVec 32 := BitVec.ofNat 32 (i 0).val
  let c2048_i32_443 : BitVec 32 := 2048#32
  let v521 : BitVec 32 := Scalar.muli arg0 c2048_i32_443
  v521
def k0_off25 (i : grid0.Coords) (v0 : BitVec 32) (k0_t1 : Fin (k0_t1_loop v0).trips) : Fin 2 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c1_i32_445 : BitVec 32 := 1#32
  ![v474.toNat, 1]
def k0_off26 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c1_i32_444 : BitVec 32 := 1#32
  let c0_i32_446 : BitVec 32 := 0#32
  let c0_i32_447 : BitVec 32 := 0#32
  ![v474.toNat, 1, 0, 0]
def k0_off27 (i : grid0.Coords) (v0 : BitVec 32) (k0_t1 : Fin (k0_t1_loop v0).trips) : Fin 2 → Nat :=
  let arg0 : BitVec 32 := BitVec.ofNat 32 (i 0).val
  let c2048_i32_443 : BitVec 32 := 2048#32
  let v521 : BitVec 32 := Scalar.muli arg0 c2048_i32_443
  let v522 : BitVec 32 := v521
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c1_i32_441 : BitVec 32 := 1#32
  let v518 : BitVec 32 := Scalar.addi v517 c1_i32_441
  let c512_i32_442 : BitVec 32 := 512#32
  let v519 : BitVec 32 := Scalar.muli v518 c512_i32_442
  let v520 : BitVec 32 := v519
  ![v522.toNat, v520.toNat]
def k0_off28 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c1_i32_448 : BitVec 32 := 1#32
  let c0_i32_450 : BitVec 32 := 0#32
  let c0_i32_451 : BitVec 32 := 0#32
  ![v474.toNat, 1, 0, 0]
def k0_off29 (v0 : BitVec 32) (k0_t1 : Fin (k0_t1_loop v0).trips) : Fin 2 → Nat :=
  let c0_i32_452 : BitVec 32 := 0#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c1_i32_441 : BitVec 32 := 1#32
  let v518 : BitVec 32 := Scalar.addi v517 c1_i32_441
  let c512_i32_442 : BitVec 32 := 512#32
  let v519 : BitVec 32 := Scalar.muli v518 c512_i32_442
  let v520 : BitVec 32 := v519
  ![0, v520.toNat]
def k0_off30 (v0 : BitVec 32) (k0_t1 : Fin (k0_t1_loop v0).trips) : Fin 1 → Nat :=
  let c2_i32_453 : BitVec 32 := 2#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v533 : BitVec 32 := Scalar.muli c2_i32_453 v462
  let v534 : Index := Scalar.indexCast v533
  ![v534.toNat]
def k0_off31 (v0 : BitVec 32) (k0_t1 : Fin (k0_t1_loop v0).trips) : Fin 1 → Nat :=
  let c2_i32_454 : BitVec 32 := 2#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v536 : BitVec 32 := Scalar.muli c2_i32_454 v462
  let c1_i32_455 : BitVec 32 := 1#32
  let v537 : BitVec 32 := Scalar.addi v536 c1_i32_455
  let v538 : Index := Scalar.indexCast v537
  ![v538.toNat]
def k0_off32 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v540 : Index := Scalar.indexCast v474
  let c0_456 : Index := 0#32
  let c0_457 : Index := 0#32
  let c0_458 : Index := 0#32
  ![v540.toNat, 0, 0, 0]
def k0_off33 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v543 : Index := Scalar.indexCast v474
  let c0_459 : Index := 0#32
  let c0_460 : Index := 0#32
  let c0_461 : Index := 0#32
  ![v543.toNat, 0, 0, 0]
def k0_off34 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v547 : Index := Scalar.indexCast v474
  let c1_463 : Index := 1#32
  let c0_464 : Index := 0#32
  let c0_465 : Index := 0#32
  ![v547.toNat, 1, 0, 0]
def k0_off35 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v550 : Index := Scalar.indexCast v474
  let c1_466 : Index := 1#32
  let c0_467 : Index := 0#32
  let c0_468 : Index := 0#32
  ![v550.toNat, 1, 0, 0]
def k0_off36 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v567 : Index := Scalar.indexCast v474
  let c0_477 : Index := 0#32
  let c512_478 : Index := 512#32
  let c0_479 : Index := 0#32
  ![v567.toNat, 0, 512, 0]
def k0_off37 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v574 : Index := Scalar.indexCast v474
  let c1_484 : Index := 1#32
  let c512_485 : Index := 512#32
  let c0_486 : Index := 0#32
  ![v574.toNat, 1, 512, 0]
def k0_off38 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v591 : Index := Scalar.indexCast v474
  let c0_495 : Index := 0#32
  let c1024_496 : Index := 1024#32
  let c0_497 : Index := 0#32
  ![v591.toNat, 0, 1024, 0]
def k0_off39 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v598 : Index := Scalar.indexCast v474
  let c1_502 : Index := 1#32
  let c1024_503 : Index := 1024#32
  let c0_504 : Index := 0#32
  ![v598.toNat, 1, 1024, 0]
def k0_off40 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v615 : Index := Scalar.indexCast v474
  let c0_513 : Index := 0#32
  let c1536_514 : Index := 1536#32
  let c0_515 : Index := 0#32
  ![v615.toNat, 0, 1536, 0]
def k0_off41 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v622 : Index := Scalar.indexCast v474
  let c1_520 : Index := 1#32
  let c1536_521 : Index := 1536#32
  let c0_522 : Index := 0#32
  ![v622.toNat, 1, 1536, 0]
def k0_off42 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v639 : Index := Scalar.indexCast v474
  let c0_531 : Index := 0#32
  let c2048_532 : Index := 2048#32
  let c0_533 : Index := 0#32
  ![v639.toNat, 0, 2048, 0]
def k0_off43 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v646 : Index := Scalar.indexCast v474
  let c1_538 : Index := 1#32
  let c2048_539 : Index := 2048#32
  let c0_540 : Index := 0#32
  ![v646.toNat, 1, 2048, 0]
def k0_off44 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v660 : Index := Scalar.indexCast v474
  let c0_546 : Index := 0#32
  let c512_547 : Index := 512#32
  let c0_548 : Index := 0#32
  ![v660.toNat, 0, 512, 0]
def k0_off45 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v667 : Index := Scalar.indexCast v474
  let c1_553 : Index := 1#32
  let c512_554 : Index := 512#32
  let c0_555 : Index := 0#32
  ![v667.toNat, 1, 512, 0]
def k0_off46 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v780 : Index := Scalar.indexCast v474
  let c0_636 : Index := 0#32
  let c1024_637 : Index := 1024#32
  let c0_638 : Index := 0#32
  ![v780.toNat, 0, 1024, 0]
def k0_off47 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v787 : Index := Scalar.indexCast v474
  let c1_643 : Index := 1#32
  let c1024_644 : Index := 1024#32
  let c0_645 : Index := 0#32
  ![v787.toNat, 1, 1024, 0]
def k0_off48 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v900 : Index := Scalar.indexCast v474
  let c0_726 : Index := 0#32
  let c1536_727 : Index := 1536#32
  let c0_728 : Index := 0#32
  ![v900.toNat, 0, 1536, 0]
def k0_off49 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v907 : Index := Scalar.indexCast v474
  let c1_733 : Index := 1#32
  let c1536_734 : Index := 1536#32
  let c0_735 : Index := 0#32
  ![v907.toNat, 1, 1536, 0]
def k0_off50 (v0 : BitVec 32) (k0_t1 : Fin (k0_t1_loop v0).trips) : Fin 1 → Nat :=
  let c2_i32_440 : BitVec 32 := 2#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v513 : BitVec 32 := Scalar.muli c2_i32_440 v462
  let v514 : Index := Scalar.indexCast v513
  ![v514.toNat]
def k0_cond6 (v0 : BitVec 32) (k0_t1 : Fin (k0_t1_loop v0).trips) : BitVec 1 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v505 : BitVec 1 := Scalar.cmpi .sge v462 v17
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v506 : BitVec 1 := Scalar.cmpi .slt v462 v35
  let v507 : BitVec 1 := Scalar.andi v505 v506
  let v508 : BitVec 32 := Scalar.extui v507
  let c0_i32_438 : BitVec 32 := 0#32
  let v509 : BitVec 1 := Scalar.cmpi .ne v508 c0_i32_438
  v509

def k0_off51 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : Index := Scalar.indexCast v474
  let c0_443 : Index := 0#32
  let c0_444 : Index := 0#32
  let c0_445 : Index := 0#32
  ![v517.toNat, 0, 0, 0]
def k0_off52 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v520 : Index := Scalar.indexCast v474
  let c0_446 : Index := 0#32
  let c0_447 : Index := 0#32
  let c0_448 : Index := 0#32
  ![v520.toNat, 0, 0, 0]
def k0_off53 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v534 : Index := Scalar.indexCast v474
  let c0_457 : Index := 0#32
  let c512_458 : Index := 512#32
  let c0_459 : Index := 0#32
  ![v534.toNat, 0, 512, 0]
def k0_off54 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v548 : Index := Scalar.indexCast v474
  let c0_468 : Index := 0#32
  let c1024_469 : Index := 1024#32
  let c0_470 : Index := 0#32
  ![v548.toNat, 0, 1024, 0]
def k0_off55 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v562 : Index := Scalar.indexCast v474
  let c0_479 : Index := 0#32
  let c1536_480 : Index := 1536#32
  let c0_481 : Index := 0#32
  ![v562.toNat, 0, 1536, 0]
def k0_off56 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v576 : Index := Scalar.indexCast v474
  let c0_490 : Index := 0#32
  let c2048_491 : Index := 2048#32
  let c0_492 : Index := 0#32
  ![v576.toNat, 0, 2048, 0]
def k0_off57 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v587 : Index := Scalar.indexCast v474
  let c0_498 : Index := 0#32
  let c512_499 : Index := 512#32
  let c0_500 : Index := 0#32
  ![v587.toNat, 0, 512, 0]
def k0_off58 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v657 : Index := Scalar.indexCast v474
  let c0_553 : Index := 0#32
  let c1024_554 : Index := 1024#32
  let c0_555 : Index := 0#32
  ![v657.toNat, 0, 1024, 0]
def k0_off59 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v727 : Index := Scalar.indexCast v474
  let c0_608 : Index := 0#32
  let c1536_609 : Index := 1536#32
  let c0_610 : Index := 0#32
  ![v727.toNat, 0, 1536, 0]
def k0_mult14 (v0 : BitVec 32) (k0_t1 : Fin (k0_t1_loop v0).trips) : BitVec 32 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c512_i32_441 : BitVec 32 := 512#32
  let v518 : BitVec 32 := Scalar.muli v517 c512_i32_441
  v518
def k0_cond7 (v0 : BitVec 32) (k0_t1 : Fin (k0_t1_loop v0).trips) : BitVec 1 :=
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v510 : BitVec 1 := Scalar.cmpi .sge v462 v35
  let v511 : BitVec 32 := Scalar.extui v510
  let c0_i32_439 : BitVec 32 := 0#32
  let v512 : BitVec 1 := Scalar.cmpi .ne v511 c0_i32_439
  v512

def k0_off60 (v0 : BitVec 32) (k0_t1 : Fin (k0_t1_loop v0).trips) : Fin 2 → Nat :=
  let c0_442 : Index := 0#32
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c512_i32_441 : BitVec 32 := 512#32
  let v518 : BitVec 32 := Scalar.muli v517 c512_i32_441
  let v519 : BitVec 32 := v518
  let v520 : Index := Scalar.indexCast v519
  ![0, v520.toNat]
def k0_off61 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v523 : Index := Scalar.indexCast v474
  let c0_443 : Index := 0#32
  let c0_444 : Index := 0#32
  let c0_445 : Index := 0#32
  ![v523.toNat, 0, 0, 0]
def k0_off62 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v530 : Index := Scalar.indexCast v474
  let c0_448 : Index := 0#32
  let c0_449 : Index := 0#32
  let c0_450 : Index := 0#32
  ![v530.toNat, 0, 0, 0]
def k0_off63 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v540 : Index := Scalar.indexCast v474
  let c0_456 : Index := 0#32
  let c512_457 : Index := 512#32
  let c0_458 : Index := 0#32
  ![v540.toNat, 0, 512, 0]
def k0_off64 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v550 : Index := Scalar.indexCast v474
  let c0_464 : Index := 0#32
  let c1024_465 : Index := 1024#32
  let c0_466 : Index := 0#32
  ![v550.toNat, 0, 1024, 0]
def k0_off65 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v560 : Index := Scalar.indexCast v474
  let c0_472 : Index := 0#32
  let c1536_473 : Index := 1536#32
  let c0_474 : Index := 0#32
  ![v560.toNat, 0, 1536, 0]
def k0_off66 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v570 : Index := Scalar.indexCast v474
  let c0_480 : Index := 0#32
  let c2048_481 : Index := 2048#32
  let c0_482 : Index := 0#32
  ![v570.toNat, 0, 2048, 0]
def k0_off67 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v579 : Index := Scalar.indexCast v474
  let c0_486 : Index := 0#32
  let c512_487 : Index := 512#32
  let c0_488 : Index := 0#32
  ![v579.toNat, 0, 512, 0]
def k0_off68 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v635 : Index := Scalar.indexCast v474
  let c0_529 : Index := 0#32
  let c1024_530 : Index := 1024#32
  let c0_531 : Index := 0#32
  ![v635.toNat, 0, 1024, 0]
def k0_off69 (i : grid0.Coords) (v0 : BitVec 32) (k0_t1 : Fin (k0_t1_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c1_i32_39 : BitVec 32 := 1#32
  let arg20 : BitVec 32 := Scf.iv c0_i32_37 c1_i32_39 k0_t1
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v691 : Index := Scalar.indexCast v474
  let c0_572 : Index := 0#32
  let c1536_573 : Index := 1536#32
  let c0_574 : Index := 0#32
  ![v691.toNat, 0, 1536, 0]
@[reducible] def k0_t2_loop (v0 : BitVec 32) : Scf.Loop 32 :=
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let v69 : BitVec 32 := Scalar.addi c0_i32_37 v68
  let c1_i32_40 : BitVec 32 := 1#32
  ⟨v72, v69, c1_i32_40⟩
def k0_mult15 (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v518 : BitVec 1 := Scalar.cmpi .slt v516 v35
  let c2_i32_444 : BitVec 32 := 2#32
  let v519 : BitVec 32 := Scalar.muli c2_i32_444 v516
  let v520 : BitVec 32 := Scalar.addi v0 v516
  let v521 : BitVec 32 := Scalar.subi v520 v35
  let v522 : BitVec 32 := Scalar.select v518 v519 v521
  let c0_i32_445 : BitVec 32 := 0#32
  let v523 : BitVec 32 := Scalar.addi v522 c0_i32_445
  let c512_i32_446 : BitVec 32 := 512#32
  let v524 : BitVec 32 := Scalar.muli v523 c512_i32_446
  v524
def k0_cond8 (i : grid0.Coords) (v0 : BitVec 32) (k0_t2 : Fin (k0_t2_loop v0).trips) : BitVec 1 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c3_i32_423 : BitVec 32 := 3#32
  let v477 : BitVec 1 := Scalar.cmpi .eq arg0 c3_i32_423
  let v478 : BitVec 1 := Scalar.andi v476 v477
  let v_true : BitVec 1 := 1#1
  let v479 : BitVec 1 := Scalar.xori v478 v_true
  let v480 : BitVec 32 := Scalar.extui v479
  let c0_i32_424 : BitVec 32 := 0#32
  let v481 : BitVec 1 := Scalar.cmpi .ne v480 c0_i32_424
  v481

def k0_mult16 (i : grid0.Coords) (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_447 : BitVec 32 := 2048#32
  let v526 : BitVec 32 := Scalar.muli v514 c2048_i32_447
  v526
def k0_off70 (i : grid0.Coords) (v0 : BitVec 32) (k0_t2 : Fin (k0_t2_loop v0).trips) : Fin 2 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c0_i32_449 : BitVec 32 := 0#32
  ![v517.toNat, 0]
def k0_off71 (i : grid0.Coords) (v0 : BitVec 32) (k0_t2 : Fin (k0_t2_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c0_i32_448 : BitVec 32 := 0#32
  let c0_i32_450 : BitVec 32 := 0#32
  let c0_i32_451 : BitVec 32 := 0#32
  ![v517.toNat, 0, 0, 0]
def k0_off72 (i : grid0.Coords) (v0 : BitVec 32) (k0_t2 : Fin (k0_t2_loop v0).trips) : Fin 2 → Nat :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_447 : BitVec 32 := 2048#32
  let v526 : BitVec 32 := Scalar.muli v514 c2048_i32_447
  let v527 : BitVec 32 := v526
  let c0_i32_442 : BitVec 32 := 0#32
  let c1_i32_441 : BitVec 32 := 1#32
  let v515 : BitVec 32 := Scalar.addi v462 c1_i32_441
  let v516 : BitVec 32 := Scalar.select v476 c0_i32_442 v515
  let v518 : BitVec 1 := Scalar.cmpi .slt v516 v35
  let c2_i32_444 : BitVec 32 := 2#32
  let v519 : BitVec 32 := Scalar.muli c2_i32_444 v516
  let v520 : BitVec 32 := Scalar.addi v0 v516
  let v521 : BitVec 32 := Scalar.subi v520 v35
  let v522 : BitVec 32 := Scalar.select v518 v519 v521
  let c0_i32_445 : BitVec 32 := 0#32
  let v523 : BitVec 32 := Scalar.addi v522 c0_i32_445
  let c512_i32_446 : BitVec 32 := 512#32
  let v524 : BitVec 32 := Scalar.muli v523 c512_i32_446
  let v525 : BitVec 32 := v524
  ![v527.toNat, v525.toNat]
def k0_off73 (i : grid0.Coords) (v0 : BitVec 32) (k0_t2 : Fin (k0_t2_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c0_i32_452 : BitVec 32 := 0#32
  let c0_i32_454 : BitVec 32 := 0#32
  let c0_i32_455 : BitVec 32 := 0#32
  ![v517.toNat, 0, 0, 0]
def k0_off74 (v0 : BitVec 32) (k0_t2 : Fin (k0_t2_loop v0).trips) : Fin 2 → Nat :=
  let c0_i32_456 : BitVec 32 := 0#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v518 : BitVec 1 := Scalar.cmpi .slt v516 v35
  let c2_i32_444 : BitVec 32 := 2#32
  let v519 : BitVec 32 := Scalar.muli c2_i32_444 v516
  let v520 : BitVec 32 := Scalar.addi v0 v516
  let v521 : BitVec 32 := Scalar.subi v520 v35
  let v522 : BitVec 32 := Scalar.select v518 v519 v521
  let c0_i32_445 : BitVec 32 := 0#32
  let v523 : BitVec 32 := Scalar.addi v522 c0_i32_445
  let c512_i32_446 : BitVec 32 := 512#32
  let v524 : BitVec 32 := Scalar.muli v523 c512_i32_446
  let v525 : BitVec 32 := v524
  ![0, v525.toNat]
def k0_mult17 (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v541 : BitVec 1 := Scalar.cmpi .slt v516 v35
  let c2_i32_458 : BitVec 32 := 2#32
  let v542 : BitVec 32 := Scalar.muli c2_i32_458 v516
  let v543 : BitVec 32 := Scalar.addi v0 v516
  let v544 : BitVec 32 := Scalar.subi v543 v35
  let v545 : BitVec 32 := Scalar.select v541 v542 v544
  let c1_i32_459 : BitVec 32 := 1#32
  let v546 : BitVec 32 := Scalar.addi v545 c1_i32_459
  let c512_i32_460 : BitVec 32 := 512#32
  let v547 : BitVec 32 := Scalar.muli v546 c512_i32_460
  v547
def k0_cond9 (v0 : BitVec 32) (k0_t2 : Fin (k0_t2_loop v0).trips) : BitVec 1 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v538 : BitVec 1 := Scalar.cmpi .slt v516 v17
  let v539 : BitVec 32 := Scalar.extui v538
  let c0_i32_457 : BitVec 32 := 0#32
  let v540 : BitVec 1 := Scalar.cmpi .ne v539 c0_i32_457
  v540

def k0_mult18 (i : grid0.Coords) (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_461 : BitVec 32 := 2048#32
  let v549 : BitVec 32 := Scalar.muli v514 c2048_i32_461
  v549
def k0_off75 (i : grid0.Coords) (v0 : BitVec 32) (k0_t2 : Fin (k0_t2_loop v0).trips) : Fin 2 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c1_i32_463 : BitVec 32 := 1#32
  ![v517.toNat, 1]
def k0_off76 (i : grid0.Coords) (v0 : BitVec 32) (k0_t2 : Fin (k0_t2_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c1_i32_462 : BitVec 32 := 1#32
  let c0_i32_464 : BitVec 32 := 0#32
  let c0_i32_465 : BitVec 32 := 0#32
  ![v517.toNat, 1, 0, 0]
def k0_off77 (i : grid0.Coords) (v0 : BitVec 32) (k0_t2 : Fin (k0_t2_loop v0).trips) : Fin 2 → Nat :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let arg0 : BitVec 32 := BitVec.ofNat 32 (i 0).val
  let c1_i32_440 : BitVec 32 := 1#32
  let v513 : BitVec 32 := Scalar.addi arg0 c1_i32_440
  let v514 : BitVec 32 := Scalar.select v476 v513 arg0
  let c2048_i32_461 : BitVec 32 := 2048#32
  let v549 : BitVec 32 := Scalar.muli v514 c2048_i32_461
  let v550 : BitVec 32 := v549
  let c0_i32_442 : BitVec 32 := 0#32
  let c1_i32_441 : BitVec 32 := 1#32
  let v515 : BitVec 32 := Scalar.addi v462 c1_i32_441
  let v516 : BitVec 32 := Scalar.select v476 c0_i32_442 v515
  let v541 : BitVec 1 := Scalar.cmpi .slt v516 v35
  let c2_i32_458 : BitVec 32 := 2#32
  let v542 : BitVec 32 := Scalar.muli c2_i32_458 v516
  let v543 : BitVec 32 := Scalar.addi v0 v516
  let v544 : BitVec 32 := Scalar.subi v543 v35
  let v545 : BitVec 32 := Scalar.select v541 v542 v544
  let c1_i32_459 : BitVec 32 := 1#32
  let v546 : BitVec 32 := Scalar.addi v545 c1_i32_459
  let c512_i32_460 : BitVec 32 := 512#32
  let v547 : BitVec 32 := Scalar.muli v546 c512_i32_460
  let v548 : BitVec 32 := v547
  ![v550.toNat, v548.toNat]
def k0_off78 (i : grid0.Coords) (v0 : BitVec 32) (k0_t2 : Fin (k0_t2_loop v0).trips) : Fin 4 → Nat :=
  let c1_i32_443 : BitVec 32 := 1#32
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : BitVec 32 := Scalar.subi c1_i32_443 v474
  let c1_i32_466 : BitVec 32 := 1#32
  let c0_i32_468 : BitVec 32 := 0#32
  let c0_i32_469 : BitVec 32 := 0#32
  ![v517.toNat, 1, 0, 0]
def k0_off79 (v0 : BitVec 32) (k0_t2 : Fin (k0_t2_loop v0).trips) : Fin 2 → Nat :=
  let c0_i32_470 : BitVec 32 := 0#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c1_i32_422 : BitVec 32 := 1#32
  let v475 : BitVec 32 := Scalar.subi v37 c1_i32_422
  let v476 : BitVec 1 := Scalar.cmpi .eq v462 v475
  let c0_i32_442 : BitVec 32 := 0#32
  let c1_i32_441 : BitVec 32 := 1#32
  let v515 : BitVec 32 := Scalar.addi v462 c1_i32_441
  let v516 : BitVec 32 := Scalar.select v476 c0_i32_442 v515
  let v541 : BitVec 1 := Scalar.cmpi .slt v516 v35
  let c2_i32_458 : BitVec 32 := 2#32
  let v542 : BitVec 32 := Scalar.muli c2_i32_458 v516
  let v543 : BitVec 32 := Scalar.addi v0 v516
  let v544 : BitVec 32 := Scalar.subi v543 v35
  let v545 : BitVec 32 := Scalar.select v541 v542 v544
  let c1_i32_459 : BitVec 32 := 1#32
  let v546 : BitVec 32 := Scalar.addi v545 c1_i32_459
  let c512_i32_460 : BitVec 32 := 512#32
  let v547 : BitVec 32 := Scalar.muli v546 c512_i32_460
  let v548 : BitVec 32 := v547
  ![0, v548.toNat]
def k0_mult19 (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v482 : BitVec 1 := Scalar.cmpi .slt v462 v35
  let c2_i32_425 : BitVec 32 := 2#32
  let v483 : BitVec 32 := Scalar.muli c2_i32_425 v462
  let v484 : BitVec 32 := Scalar.addi v0 v462
  let v485 : BitVec 32 := Scalar.subi v484 v35
  let v486 : BitVec 32 := Scalar.select v482 v483 v485
  let c0_i32_426 : BitVec 32 := 0#32
  let v487 : BitVec 32 := Scalar.addi v486 c0_i32_426
  let c512_i32 : BitVec 32 := 512#32
  let v488 : BitVec 32 := Scalar.muli v487 c512_i32
  v488
def k0_mult20 (i : grid0.Coords) : BitVec 32 :=
  let arg0 : BitVec 32 := BitVec.ofNat 32 (i 0).val
  let c2048_i32_427 : BitVec 32 := 2048#32
  let v490 : BitVec 32 := Scalar.muli arg0 c2048_i32_427
  v490
def k0_off80 (i : grid0.Coords) (v0 : BitVec 32) (k0_t2 : Fin (k0_t2_loop v0).trips) : Fin 2 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c0_i32_429 : BitVec 32 := 0#32
  ![v474.toNat, 0]
def k0_off81 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c0_i32_428 : BitVec 32 := 0#32
  let c0_i32_430 : BitVec 32 := 0#32
  let c0_i32_431 : BitVec 32 := 0#32
  ![v474.toNat, 0, 0, 0]
def k0_off82 (i : grid0.Coords) (v0 : BitVec 32) (k0_t2 : Fin (k0_t2_loop v0).trips) : Fin 2 → Nat :=
  let arg0 : BitVec 32 := BitVec.ofNat 32 (i 0).val
  let c2048_i32_427 : BitVec 32 := 2048#32
  let v490 : BitVec 32 := Scalar.muli arg0 c2048_i32_427
  let v491 : BitVec 32 := v490
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v482 : BitVec 1 := Scalar.cmpi .slt v462 v35
  let c2_i32_425 : BitVec 32 := 2#32
  let v483 : BitVec 32 := Scalar.muli c2_i32_425 v462
  let v484 : BitVec 32 := Scalar.addi v0 v462
  let v485 : BitVec 32 := Scalar.subi v484 v35
  let v486 : BitVec 32 := Scalar.select v482 v483 v485
  let c0_i32_426 : BitVec 32 := 0#32
  let v487 : BitVec 32 := Scalar.addi v486 c0_i32_426
  let c512_i32 : BitVec 32 := 512#32
  let v488 : BitVec 32 := Scalar.muli v487 c512_i32
  let v489 : BitVec 32 := v488
  ![v491.toNat, v489.toNat]
def k0_off83 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c0_i32_432 : BitVec 32 := 0#32
  let c0_i32_434 : BitVec 32 := 0#32
  let c0_i32_435 : BitVec 32 := 0#32
  ![v474.toNat, 0, 0, 0]
def k0_off84 (v0 : BitVec 32) (k0_t2 : Fin (k0_t2_loop v0).trips) : Fin 2 → Nat :=
  let c0_i32_436 : BitVec 32 := 0#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v482 : BitVec 1 := Scalar.cmpi .slt v462 v35
  let c2_i32_425 : BitVec 32 := 2#32
  let v483 : BitVec 32 := Scalar.muli c2_i32_425 v462
  let v484 : BitVec 32 := Scalar.addi v0 v462
  let v485 : BitVec 32 := Scalar.subi v484 v35
  let v486 : BitVec 32 := Scalar.select v482 v483 v485
  let c0_i32_426 : BitVec 32 := 0#32
  let v487 : BitVec 32 := Scalar.addi v486 c0_i32_426
  let c512_i32 : BitVec 32 := 512#32
  let v488 : BitVec 32 := Scalar.muli v487 c512_i32
  let v489 : BitVec 32 := v488
  ![0, v489.toNat]
def k0_mult21 (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c1_i32_441 : BitVec 32 := 1#32
  let v518 : BitVec 32 := Scalar.addi v517 c1_i32_441
  let c512_i32_442 : BitVec 32 := 512#32
  let v519 : BitVec 32 := Scalar.muli v518 c512_i32_442
  v519
def k0_cond10 (v0 : BitVec 32) (k0_t2 : Fin (k0_t2_loop v0).trips) : BitVec 1 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v502 : BitVec 1 := Scalar.cmpi .slt v462 v17
  let v503 : BitVec 32 := Scalar.extui v502
  let c0_i32_437 : BitVec 32 := 0#32
  let v504 : BitVec 1 := Scalar.cmpi .ne v503 c0_i32_437
  v504

def k0_mult22 (i : grid0.Coords) : BitVec 32 :=
  let arg0 : BitVec 32 := BitVec.ofNat 32 (i 0).val
  let c2048_i32_443 : BitVec 32 := 2048#32
  let v521 : BitVec 32 := Scalar.muli arg0 c2048_i32_443
  v521
def k0_off85 (i : grid0.Coords) (v0 : BitVec 32) (k0_t2 : Fin (k0_t2_loop v0).trips) : Fin 2 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c1_i32_445 : BitVec 32 := 1#32
  ![v474.toNat, 1]
def k0_off86 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c1_i32_444 : BitVec 32 := 1#32
  let c0_i32_446 : BitVec 32 := 0#32
  let c0_i32_447 : BitVec 32 := 0#32
  ![v474.toNat, 1, 0, 0]
def k0_off87 (i : grid0.Coords) (v0 : BitVec 32) (k0_t2 : Fin (k0_t2_loop v0).trips) : Fin 2 → Nat :=
  let arg0 : BitVec 32 := BitVec.ofNat 32 (i 0).val
  let c2048_i32_443 : BitVec 32 := 2048#32
  let v521 : BitVec 32 := Scalar.muli arg0 c2048_i32_443
  let v522 : BitVec 32 := v521
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c1_i32_441 : BitVec 32 := 1#32
  let v518 : BitVec 32 := Scalar.addi v517 c1_i32_441
  let c512_i32_442 : BitVec 32 := 512#32
  let v519 : BitVec 32 := Scalar.muli v518 c512_i32_442
  let v520 : BitVec 32 := v519
  ![v522.toNat, v520.toNat]
def k0_off88 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let c1_i32_448 : BitVec 32 := 1#32
  let c0_i32_450 : BitVec 32 := 0#32
  let c0_i32_451 : BitVec 32 := 0#32
  ![v474.toNat, 1, 0, 0]
def k0_off89 (v0 : BitVec 32) (k0_t2 : Fin (k0_t2_loop v0).trips) : Fin 2 → Nat :=
  let c0_i32_452 : BitVec 32 := 0#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c1_i32_441 : BitVec 32 := 1#32
  let v518 : BitVec 32 := Scalar.addi v517 c1_i32_441
  let c512_i32_442 : BitVec 32 := 512#32
  let v519 : BitVec 32 := Scalar.muli v518 c512_i32_442
  let v520 : BitVec 32 := v519
  ![0, v520.toNat]
def k0_off90 (v0 : BitVec 32) (k0_t2 : Fin (k0_t2_loop v0).trips) : Fin 1 → Nat :=
  let c2_i32_453 : BitVec 32 := 2#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v533 : BitVec 32 := Scalar.muli c2_i32_453 v462
  let v534 : Index := Scalar.indexCast v533
  ![v534.toNat]
def k0_off91 (v0 : BitVec 32) (k0_t2 : Fin (k0_t2_loop v0).trips) : Fin 1 → Nat :=
  let c2_i32_454 : BitVec 32 := 2#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v536 : BitVec 32 := Scalar.muli c2_i32_454 v462
  let c1_i32_455 : BitVec 32 := 1#32
  let v537 : BitVec 32 := Scalar.addi v536 c1_i32_455
  let v538 : Index := Scalar.indexCast v537
  ![v538.toNat]
def k0_off92 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v540 : Index := Scalar.indexCast v474
  let c0_456 : Index := 0#32
  let c0_457 : Index := 0#32
  let c0_458 : Index := 0#32
  ![v540.toNat, 0, 0, 0]
def k0_off93 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v543 : Index := Scalar.indexCast v474
  let c0_459 : Index := 0#32
  let c0_460 : Index := 0#32
  let c0_461 : Index := 0#32
  ![v543.toNat, 0, 0, 0]
def k0_off94 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v547 : Index := Scalar.indexCast v474
  let c1_463 : Index := 1#32
  let c0_464 : Index := 0#32
  let c0_465 : Index := 0#32
  ![v547.toNat, 1, 0, 0]
def k0_off95 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v550 : Index := Scalar.indexCast v474
  let c1_466 : Index := 1#32
  let c0_467 : Index := 0#32
  let c0_468 : Index := 0#32
  ![v550.toNat, 1, 0, 0]
def k0_off96 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v567 : Index := Scalar.indexCast v474
  let c0_477 : Index := 0#32
  let c512_478 : Index := 512#32
  let c0_479 : Index := 0#32
  ![v567.toNat, 0, 512, 0]
def k0_off97 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v574 : Index := Scalar.indexCast v474
  let c1_484 : Index := 1#32
  let c512_485 : Index := 512#32
  let c0_486 : Index := 0#32
  ![v574.toNat, 1, 512, 0]
def k0_off98 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v591 : Index := Scalar.indexCast v474
  let c0_495 : Index := 0#32
  let c1024_496 : Index := 1024#32
  let c0_497 : Index := 0#32
  ![v591.toNat, 0, 1024, 0]
def k0_off99 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v598 : Index := Scalar.indexCast v474
  let c1_502 : Index := 1#32
  let c1024_503 : Index := 1024#32
  let c0_504 : Index := 0#32
  ![v598.toNat, 1, 1024, 0]
def k0_off100 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v615 : Index := Scalar.indexCast v474
  let c0_513 : Index := 0#32
  let c1536_514 : Index := 1536#32
  let c0_515 : Index := 0#32
  ![v615.toNat, 0, 1536, 0]
def k0_off101 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v622 : Index := Scalar.indexCast v474
  let c1_520 : Index := 1#32
  let c1536_521 : Index := 1536#32
  let c0_522 : Index := 0#32
  ![v622.toNat, 1, 1536, 0]
def k0_off102 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v639 : Index := Scalar.indexCast v474
  let c0_531 : Index := 0#32
  let c2048_532 : Index := 2048#32
  let c0_533 : Index := 0#32
  ![v639.toNat, 0, 2048, 0]
def k0_off103 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v646 : Index := Scalar.indexCast v474
  let c1_538 : Index := 1#32
  let c2048_539 : Index := 2048#32
  let c0_540 : Index := 0#32
  ![v646.toNat, 1, 2048, 0]
def k0_off104 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v660 : Index := Scalar.indexCast v474
  let c0_546 : Index := 0#32
  let c512_547 : Index := 512#32
  let c0_548 : Index := 0#32
  ![v660.toNat, 0, 512, 0]
def k0_off105 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v667 : Index := Scalar.indexCast v474
  let c1_553 : Index := 1#32
  let c512_554 : Index := 512#32
  let c0_555 : Index := 0#32
  ![v667.toNat, 1, 512, 0]
def k0_off106 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v780 : Index := Scalar.indexCast v474
  let c0_636 : Index := 0#32
  let c1024_637 : Index := 1024#32
  let c0_638 : Index := 0#32
  ![v780.toNat, 0, 1024, 0]
def k0_off107 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v787 : Index := Scalar.indexCast v474
  let c1_643 : Index := 1#32
  let c1024_644 : Index := 1024#32
  let c0_645 : Index := 0#32
  ![v787.toNat, 1, 1024, 0]
def k0_off108 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v900 : Index := Scalar.indexCast v474
  let c0_726 : Index := 0#32
  let c1536_727 : Index := 1536#32
  let c0_728 : Index := 0#32
  ![v900.toNat, 0, 1536, 0]
def k0_off109 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v907 : Index := Scalar.indexCast v474
  let c1_733 : Index := 1#32
  let c1536_734 : Index := 1536#32
  let c0_735 : Index := 0#32
  ![v907.toNat, 1, 1536, 0]
def k0_off110 (v0 : BitVec 32) (k0_t2 : Fin (k0_t2_loop v0).trips) : Fin 1 → Nat :=
  let c2_i32_440 : BitVec 32 := 2#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v513 : BitVec 32 := Scalar.muli c2_i32_440 v462
  let v514 : Index := Scalar.indexCast v513
  ![v514.toNat]
def k0_cond11 (v0 : BitVec 32) (k0_t2 : Fin (k0_t2_loop v0).trips) : BitVec 1 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let v1 : BitVec 32 := Scalar.divsi v0 c2_i32
  let c1_i32 : BitVec 32 := 1#32
  let v16 : BitVec 32 := Scalar.subi v1 c1_i32
  let v17 : BitVec 32 := Scalar.select v15 v16 v1
  let v505 : BitVec 1 := Scalar.cmpi .sge v462 v17
  let v506 : BitVec 1 := Scalar.cmpi .slt v462 v35
  let v507 : BitVec 1 := Scalar.andi v505 v506
  let v508 : BitVec 32 := Scalar.extui v507
  let c0_i32_438 : BitVec 32 := 0#32
  let v509 : BitVec 1 := Scalar.cmpi .ne v508 c0_i32_438
  v509

def k0_off111 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v517 : Index := Scalar.indexCast v474
  let c0_443 : Index := 0#32
  let c0_444 : Index := 0#32
  let c0_445 : Index := 0#32
  ![v517.toNat, 0, 0, 0]
def k0_off112 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v520 : Index := Scalar.indexCast v474
  let c0_446 : Index := 0#32
  let c0_447 : Index := 0#32
  let c0_448 : Index := 0#32
  ![v520.toNat, 0, 0, 0]
def k0_off113 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v534 : Index := Scalar.indexCast v474
  let c0_457 : Index := 0#32
  let c512_458 : Index := 512#32
  let c0_459 : Index := 0#32
  ![v534.toNat, 0, 512, 0]
def k0_off114 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v548 : Index := Scalar.indexCast v474
  let c0_468 : Index := 0#32
  let c1024_469 : Index := 1024#32
  let c0_470 : Index := 0#32
  ![v548.toNat, 0, 1024, 0]
def k0_off115 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v562 : Index := Scalar.indexCast v474
  let c0_479 : Index := 0#32
  let c1536_480 : Index := 1536#32
  let c0_481 : Index := 0#32
  ![v562.toNat, 0, 1536, 0]
def k0_off116 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v576 : Index := Scalar.indexCast v474
  let c0_490 : Index := 0#32
  let c2048_491 : Index := 2048#32
  let c0_492 : Index := 0#32
  ![v576.toNat, 0, 2048, 0]
def k0_off117 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v587 : Index := Scalar.indexCast v474
  let c0_498 : Index := 0#32
  let c512_499 : Index := 512#32
  let c0_500 : Index := 0#32
  ![v587.toNat, 0, 512, 0]
def k0_off118 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v657 : Index := Scalar.indexCast v474
  let c0_553 : Index := 0#32
  let c1024_554 : Index := 1024#32
  let c0_555 : Index := 0#32
  ![v657.toNat, 0, 1024, 0]
def k0_off119 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v727 : Index := Scalar.indexCast v474
  let c0_608 : Index := 0#32
  let c1536_609 : Index := 1536#32
  let c0_610 : Index := 0#32
  ![v727.toNat, 0, 1536, 0]
def k0_mult23 (v0 : BitVec 32) (k0_t2 : Fin (k0_t2_loop v0).trips) : BitVec 32 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c512_i32_441 : BitVec 32 := 512#32
  let v518 : BitVec 32 := Scalar.muli v517 c512_i32_441
  v518
def k0_cond12 (v0 : BitVec 32) (k0_t2 : Fin (k0_t2_loop v0).trips) : BitVec 1 :=
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v510 : BitVec 1 := Scalar.cmpi .sge v462 v35
  let v511 : BitVec 32 := Scalar.extui v510
  let c0_i32_439 : BitVec 32 := 0#32
  let v512 : BitVec 1 := Scalar.cmpi .ne v511 c0_i32_439
  v512

def k0_off120 (v0 : BitVec 32) (k0_t2 : Fin (k0_t2_loop v0).trips) : Fin 2 → Nat :=
  let c0_442 : Index := 0#32
  let c0_i32_36 : BitVec 32 := 0#32
  let c0_i32_37 : BitVec 32 := 0#32
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v513 : BitVec 1 := Scalar.cmpi .slt v462 v35
  let c2_i32_440 : BitVec 32 := 2#32
  let v514 : BitVec 32 := Scalar.muli c2_i32_440 v462
  let v515 : BitVec 32 := Scalar.addi v0 v462
  let v516 : BitVec 32 := Scalar.subi v515 v35
  let v517 : BitVec 32 := Scalar.select v513 v514 v516
  let c512_i32_441 : BitVec 32 := 512#32
  let v518 : BitVec 32 := Scalar.muli v517 c512_i32_441
  let v519 : BitVec 32 := v518
  let v520 : Index := Scalar.indexCast v519
  ![0, v520.toNat]
def k0_off121 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v523 : Index := Scalar.indexCast v474
  let c0_443 : Index := 0#32
  let c0_444 : Index := 0#32
  let c0_445 : Index := 0#32
  ![v523.toNat, 0, 0, 0]
def k0_off122 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v530 : Index := Scalar.indexCast v474
  let c0_448 : Index := 0#32
  let c0_449 : Index := 0#32
  let c0_450 : Index := 0#32
  ![v530.toNat, 0, 0, 0]
def k0_off123 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v540 : Index := Scalar.indexCast v474
  let c0_456 : Index := 0#32
  let c512_457 : Index := 512#32
  let c0_458 : Index := 0#32
  ![v540.toNat, 0, 512, 0]
def k0_off124 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v550 : Index := Scalar.indexCast v474
  let c0_464 : Index := 0#32
  let c1024_465 : Index := 1024#32
  let c0_466 : Index := 0#32
  ![v550.toNat, 0, 1024, 0]
def k0_off125 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v560 : Index := Scalar.indexCast v474
  let c0_472 : Index := 0#32
  let c1536_473 : Index := 1536#32
  let c0_474 : Index := 0#32
  ![v560.toNat, 0, 1536, 0]
def k0_off126 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v570 : Index := Scalar.indexCast v474
  let c0_480 : Index := 0#32
  let c2048_481 : Index := 2048#32
  let c0_482 : Index := 0#32
  ![v570.toNat, 0, 2048, 0]
def k0_off127 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v579 : Index := Scalar.indexCast v474
  let c0_486 : Index := 0#32
  let c512_487 : Index := 512#32
  let c0_488 : Index := 0#32
  ![v579.toNat, 0, 512, 0]
def k0_off128 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v635 : Index := Scalar.indexCast v474
  let c0_529 : Index := 0#32
  let c1024_530 : Index := 1024#32
  let c0_531 : Index := 0#32
  ![v635.toNat, 0, 1024, 0]
def k0_off129 (i : grid0.Coords) (v0 : BitVec 32) (k0_t2 : Fin (k0_t2_loop v0).trips) : Fin 4 → Nat :=
  let arg0 : BitVec 32 := BitVec.ofNat 32 (i 0).val
  let c1_i32_4 : BitVec 32 := 1#32
  let v18 : BitVec 32 := Scalar.addi v0 c1_i32_4
  let c0_i32_6 : BitVec 32 := 0#32
  let v20 : BitVec 1 := Scalar.cmpi .sgt v18 c0_i32_6
  let v21 : BitVec 32 := Scalar.extui v20
  let c0_i32_7 : BitVec 32 := 0#32
  let v22 : BitVec 1 := Scalar.cmpi .slt v18 c0_i32_7
  let v23 : BitVec 32 := Scalar.extui v22
  let v24 : BitVec 32 := Scalar.subi v21 v23
  let c2_i32_5 : BitVec 32 := 2#32
  let c0_i32_8 : BitVec 32 := 0#32
  let v25 : BitVec 1 := Scalar.cmpi .sgt c2_i32_5 c0_i32_8
  let v26 : BitVec 32 := Scalar.extui v25
  let c0_i32_9 : BitVec 32 := 0#32
  let v27 : BitVec 1 := Scalar.cmpi .slt c2_i32_5 c0_i32_9
  let v28 : BitVec 32 := Scalar.extui v27
  let v29 : BitVec 32 := Scalar.subi v26 v28
  let v30 : BitVec 1 := Scalar.cmpi .ne v24 v29
  let v31 : BitVec 32 := Scalar.remsi v18 c2_i32_5
  let c0_i32_10 : BitVec 32 := 0#32
  let v32 : BitVec 1 := Scalar.cmpi .ne v31 c0_i32_10
  let v33 : BitVec 1 := Scalar.andi v30 v32
  let v19 : BitVec 32 := Scalar.divsi v18 c2_i32_5
  let c1_i32_11 : BitVec 32 := 1#32
  let v34 : BitVec 32 := Scalar.subi v19 c1_i32_11
  let v35 : BitVec 32 := Scalar.select v33 v34 v19
  let c20_i32 : BitVec 32 := 20#32
  let v36 : BitVec 32 := Scalar.subi c20_i32 v0
  let v37 : BitVec 32 := Scalar.addi v35 v36
  let v463 : BitVec 32 := Scalar.muli arg0 v37
  let c0_i32_36 : BitVec 32 := 0#32
  let c0_i32_37 : BitVec 32 := 0#32
  let c0_i32_31 : BitVec 32 := 0#32
  let v64 : BitVec 32 := Scalar.subi v37 c0_i32_31
  let c1_i32_32 : BitVec 32 := 1#32
  let c1_i32_33 : BitVec 32 := 1#32
  let v65 : BitVec 32 := Scalar.subi c1_i32_32 c1_i32_33
  let v66 : BitVec 32 := Scalar.addi v64 v65
  let c1_i32_34 : BitVec 32 := 1#32
  let v67 : BitVec 32 := Scalar.divsi v66 c1_i32_34
  let v68 : BitVec 32 := Scalar.subi v67 c0_i32_37
  let c1_i32_38 : BitVec 32 := 1#32
  let v70 : BitVec 32 := Scalar.divsi v68 c1_i32_38
  let v71 : BitVec 32 := Scalar.muli v70 c1_i32_38
  let v72 : BitVec 32 := Scalar.addi c0_i32_37 v71
  let c1_i32_40 : BitVec 32 := 1#32
  let arg20 : BitVec 32 := Scf.iv v72 c1_i32_40 k0_t2
  let c1_i32_35 : BitVec 32 := 1#32
  let v461 : BitVec 32 := Scalar.muli arg20 c1_i32_35
  let v462 : BitVec 32 := Scalar.addi c0_i32_36 v461
  let v464 : BitVec 32 := Scalar.addi v463 v462
  let c2_i32_416 : BitVec 32 := 2#32
  let c0_i32_417 : BitVec 32 := 0#32
  let v465 : BitVec 1 := Scalar.cmpi .eq c2_i32_416 c0_i32_417
  let c1_i32_418 : BitVec 32 := 1#32
  let v466 : BitVec 32 := Scalar.select v465 c1_i32_418 c2_i32_416
  let v467 : BitVec 32 := Scalar.remsi v464 v466
  let c0_i32_420 : BitVec 32 := 0#32
  let v469 : BitVec 1 := Scalar.cmpi .slt v467 c0_i32_420
  let c0_i32_421 : BitVec 32 := 0#32
  let v470 : BitVec 1 := Scalar.cmpi .slt v466 c0_i32_421
  let v471 : BitVec 1 := Scalar.xori v469 v470
  let c0_i32_419 : BitVec 32 := 0#32
  let v468 : BitVec 1 := Scalar.cmpi .ne v467 c0_i32_419
  let v472 : BitVec 1 := Scalar.andi v471 v468
  let v473 : BitVec 32 := Scalar.addi v467 v466
  let v474 : BitVec 32 := Scalar.select v472 v473 v467
  let v691 : Index := Scalar.indexCast v474
  let c0_572 : Index := 0#32
  let c1536_573 : Index := 1536#32
  let c0_574 : Index := 0#32
  ![v691.toNat, 0, 1536, 0]

def k0_chk1_0 (i : grid0.Coords) (v0 : BitVec 32) : Prop :=
  (∀ (k0_h1 : k0_cond1 i = 1#1), 512 ∣ (k0_mult1 v0).toNat) ∧
  (∀ (k0_h1 : k0_cond1 i = 1#1), ∀ a, (k0_off1 v0) a + S2048x512.size a ≤ S8192x10240.size a) ∧
  (∀ (k0_h1 : k0_cond1 i = 1#1), ∀ (hinb : ∀ a, (k0_off1 v0) a + S2048x512.size a ≤ S8192x10240.size a), (Rect.unit (s := S8192x10240) (k0_off1 v0) S2048x512.size hinb).WholeWords (EltTy.packing .fp8e5m2)) ∧
  (∀ (k0_h1 : k0_cond1 i = 1#1), ∀ a, (k0_off2 v0) a + S2560x512.size a ≤ S2560x10240.size a) ∧
  (∀ (k0_h1 : k0_cond1 i = 1#1), ∀ (hinb : ∀ a, (k0_off2 v0) a + S2560x512.size a ≤ S2560x10240.size a), (Rect.unit (s := S2560x10240) (k0_off2 v0) S2560x512.size hinb).WholeWords (EltTy.packing .fp8e4m3)) ∧
  (∀ (k0_h1 : k0_cond1 i = 1#1), ∀ (k0_h2 : k0_cond2 v0 = 1#1), 512 ∣ (k0_mult3 v0).toNat) ∧
  (∀ (k0_h1 : k0_cond1 i = 1#1), ∀ (k0_h2 : k0_cond2 v0 = 1#1), ∀ a, (k0_off3 v0) a + S2048x512.size a ≤ S8192x10240.size a) ∧
  (∀ (k0_h1 : k0_cond1 i = 1#1), ∀ (k0_h2 : k0_cond2 v0 = 1#1), ∀ (hinb : ∀ a, (k0_off3 v0) a + S2048x512.size a ≤ S8192x10240.size a), (Rect.unit (s := S8192x10240) (k0_off3 v0) S2048x512.size hinb).WholeWords (EltTy.packing .fp8e5m2)) ∧
  (∀ (k0_h1 : k0_cond1 i = 1#1), ∀ (k0_h2 : k0_cond2 v0 = 1#1), ∀ a, (k0_off4 v0) a + S2560x512.size a ≤ S2560x10240.size a) ∧
  (∀ (k0_h1 : k0_cond1 i = 1#1), ∀ (k0_h2 : k0_cond2 v0 = 1#1), ∀ (hinb : ∀ a, (k0_off4 v0) a + S2560x512.size a ≤ S2560x10240.size a), (Rect.unit (s := S2560x10240) (k0_off4 v0) S2560x512.size hinb).WholeWords (EltTy.packing .fp8e4m3)) ∧
  ((k0_t1_loop v0).OK) ∧
  (∀ k0_t1 : Fin (k0_t1_loop v0).trips, ∀ (k0_h3 : k0_cond3 i v0 k0_t1 = 1#1), 512 ∣ (k0_mult6 v0 k0_t1).toNat) ∧
  (∀ k0_t1 : Fin (k0_t1_loop v0).trips, ∀ (k0_h3 : k0_cond3 i v0 k0_t1 = 1#1), 2048 ∣ (k0_mult7 i v0 k0_t1).toNat) ∧
  (∀ k0_t1 : Fin (k0_t1_loop v0).trips, ∀ (k0_h3 : k0_cond3 i v0 k0_t1 = 1#1), ∀ a, (k0_off10 i v0 k0_t1) a + S1x1.size a ≤ S2x2.size a) ∧
  (∀ k0_t1 : Fin (k0_t1_loop v0).trips, ∀ (k0_h3 : k0_cond3 i v0 k0_t1 = 1#1), ∀ a, (k0_off11 i v0 k0_t1) a + S1x1x2048x512.size a ≤ S2x2x2048x512.size a) ∧
  (∀ k0_t1 : Fin (k0_t1_loop v0).trips, ∀ (k0_h3 : k0_cond3 i v0 k0_t1 = 1#1), ∀ a, (k0_off12 i v0 k0_t1) a + S2048x512.size a ≤ S8192x10240.size a) ∧
  (∀ k0_t1 : Fin (k0_t1_loop v0).trips, ∀ (k0_h3 : k0_cond3 i v0 k0_t1 = 1#1), ∀ (hinb : ∀ a, (k0_off12 i v0 k0_t1) a + S2048x512.size a ≤ S8192x10240.size a), (Rect.unit (s := S8192x10240) (k0_off12 i v0 k0_t1) S2048x512.size hinb).WholeWords (EltTy.packing .fp8e5m2)) ∧
  (∀ k0_t1 : Fin (k0_t1_loop v0).trips, ∀ (k0_h3 : k0_cond3 i v0 k0_t1 = 1#1), ∀ (hinb : ∀ a, (k0_off11 i v0 k0_t1) a + S1x1x2048x512.size a ≤ S2x2x2048x512.size a), (Rect.unit (s := S2x2x2048x512) (k0_off11 i v0 k0_t1) S1x1x2048x512.size hinb).WholeWords (EltTy.packing .fp8e5m2)) ∧
  (∀ k0_t1 : Fin (k0_t1_loop v0).trips, ∀ (k0_h3 : k0_cond3 i v0 k0_t1 = 1#1), ∀ a, (k0_off13 i v0 k0_t1) a + S1x1x2560x512.size a ≤ S2x2x2560x512.size a) ∧
  (∀ k0_t1 : Fin (k0_t1_loop v0).trips, ∀ (k0_h3 : k0_cond3 i v0 k0_t1 = 1#1), ∀ a, (k0_off14 v0 k0_t1) a + S2560x512.size a ≤ S2560x10240.size a) ∧
  (∀ k0_t1 : Fin (k0_t1_loop v0).trips, ∀ (k0_h3 : k0_cond3 i v0 k0_t1 = 1#1), ∀ (hinb : ∀ a, (k0_off14 v0 k0_t1) a + S2560x512.size a ≤ S2560x10240.size a), (Rect.unit (s := S2560x10240) (k0_off14 v0 k0_t1) S2560x512.size hinb).WholeWords (EltTy.packing .fp8e4m3)) ∧
  (∀ k0_t1 : Fin (k0_t1_loop v0).trips, ∀ (k0_h3 : k0_cond3 i v0 k0_t1 = 1#1), ∀ (hinb : ∀ a, (k0_off13 i v0 k0_t1) a + S1x1x2560x512.size a ≤ S2x2x2560x512.size a), (Rect.unit (s := S2x2x2560x512) (k0_off13 i v0 k0_t1) S1x1x2560x512.size hinb).WholeWords (EltTy.packing .fp8e4m3)) ∧
  (∀ k0_t1 : Fin (k0_t1_loop v0).trips, ∀ (k0_h3 : k0_cond3 i v0 k0_t1 = 1#1), ∀ (k0_h4 : k0_cond4 v0 k0_t1 = 1#1), 512 ∣ (k0_mult8 v0 k0_t1).toNat) ∧
  (∀ k0_t1 : Fin (k0_t1_loop v0).trips, ∀ (k0_h3 : k0_cond3 i v0 k0_t1 = 1#1), ∀ (k0_h4 : k0_cond4 v0 k0_t1 = 1#1), 2048 ∣ (k0_mult9 i v0 k0_t1).toNat) ∧
  (∀ k0_t1 : Fin (k0_t1_loop v0).trips, ∀ (k0_h3 : k0_cond3 i v0 k0_t1 = 1#1), ∀ (k0_h4 : k0_cond4 v0 k0_t1 = 1#1), ∀ a, (k0_off15 i v0 k0_t1) a + S1x1.size a ≤ S2x2.size a) ∧
  (∀ k0_t1 : Fin (k0_t1_loop v0).trips, ∀ (k0_h3 : k0_cond3 i v0 k0_t1 = 1#1), ∀ (k0_h4 : k0_cond4 v0 k0_t1 = 1#1), ∀ a, (k0_off16 i v0 k0_t1) a + S1x1x2048x512.size a ≤ S2x2x2048x512.size a) ∧
  (∀ k0_t1 : Fin (k0_t1_loop v0).trips, ∀ (k0_h3 : k0_cond3 i v0 k0_t1 = 1#1), ∀ (k0_h4 : k0_cond4 v0 k0_t1 = 1#1), ∀ a, (k0_off17 i v0 k0_t1) a + S2048x512.size a ≤ S8192x10240.size a) ∧
  (∀ k0_t1 : Fin (k0_t1_loop v0).trips, ∀ (k0_h3 : k0_cond3 i v0 k0_t1 = 1#1), ∀ (k0_h4 : k0_cond4 v0 k0_t1 = 1#1), ∀ (hinb : ∀ a, (k0_off17 i v0 k0_t1) a + S2048x512.size a ≤ S8192x10240.size a), (Rect.unit (s := S8192x10240) (k0_off17 i v0 k0_t1) S2048x512.size hinb).WholeWords (EltTy.packing .fp8e5m2)) ∧
  (∀ k0_t1 : Fin (k0_t1_loop v0).trips, ∀ (k0_h3 : k0_cond3 i v0 k0_t1 = 1#1), ∀ (k0_h4 : k0_cond4 v0 k0_t1 = 1#1), ∀ (hinb : ∀ a, (k0_off16 i v0 k0_t1) a + S1x1x2048x512.size a ≤ S2x2x2048x512.size a), (Rect.unit (s := S2x2x2048x512) (k0_off16 i v0 k0_t1) S1x1x2048x512.size hinb).WholeWords (EltTy.packing .fp8e5m2)) ∧
  (∀ k0_t1 : Fin (k0_t1_loop v0).trips, ∀ (k0_h3 : k0_cond3 i v0 k0_t1 = 1#1), ∀ (k0_h4 : k0_cond4 v0 k0_t1 = 1#1), ∀ a, (k0_off18 i v0 k0_t1) a + S1x1x2560x512.size a ≤ S2x2x2560x512.size a) ∧
  (∀ k0_t1 : Fin (k0_t1_loop v0).trips, ∀ (k0_h3 : k0_cond3 i v0 k0_t1 = 1#1), ∀ (k0_h4 : k0_cond4 v0 k0_t1 = 1#1), ∀ a, (k0_off19 v0 k0_t1) a + S2560x512.size a ≤ S2560x10240.size a) ∧
  (∀ k0_t1 : Fin (k0_t1_loop v0).trips, ∀ (k0_h3 : k0_cond3 i v0 k0_t1 = 1#1), ∀ (k0_h4 : k0_cond4 v0 k0_t1 = 1#1), ∀ (hinb : ∀ a, (k0_off19 v0 k0_t1) a + S2560x512.size a ≤ S2560x10240.size a), (Rect.unit (s := S2560x10240) (k0_off19 v0 k0_t1) S2560x512.size hinb).WholeWords (EltTy.packing .fp8e4m3))
def k0_chk1_1 (i : grid0.Coords) (v0 : BitVec 32) : Prop :=
  (∀ k0_t1 : Fin (k0_t1_loop v0).trips, ∀ (k0_h3 : k0_cond3 i v0 k0_t1 = 1#1), ∀ (k0_h4 : k0_cond4 v0 k0_t1 = 1#1), ∀ (hinb : ∀ a, (k0_off18 i v0 k0_t1) a + S1x1x2560x512.size a ≤ S2x2x2560x512.size a), (Rect.unit (s := S2x2x2560x512) (k0_off18 i v0 k0_t1) S1x1x2560x512.size hinb).WholeWords (EltTy.packing .fp8e4m3)) ∧
  (∀ k0_t1 : Fin (k0_t1_loop v0).trips, 512 ∣ (k0_mult10 v0 k0_t1).toNat) ∧
  (∀ k0_t1 : Fin (k0_t1_loop v0).trips, ∀ a, (k0_off20 i v0 k0_t1) a + S1x1.size a ≤ S2x2.size a) ∧
  (∀ k0_t1 : Fin (k0_t1_loop v0).trips, ∀ a, (k0_off21 i v0 k0_t1) a + S1x1x2048x512.size a ≤ S2x2x2048x512.size a) ∧
  (∀ k0_t1 : Fin (k0_t1_loop v0).trips, ∀ a, (k0_off22 i v0 k0_t1) a + S2048x512.size a ≤ S8192x10240.size a) ∧
  (∀ k0_t1 : Fin (k0_t1_loop v0).trips, ∀ (hinb : ∀ a, (k0_off22 i v0 k0_t1) a + S2048x512.size a ≤ S8192x10240.size a), (Rect.unit (s := S8192x10240) (k0_off22 i v0 k0_t1) S2048x512.size hinb).WholeWords (EltTy.packing .fp8e5m2)) ∧
  (∀ k0_t1 : Fin (k0_t1_loop v0).trips, ∀ (hinb : ∀ a, (k0_off21 i v0 k0_t1) a + S1x1x2048x512.size a ≤ S2x2x2048x512.size a), (Rect.unit (s := S2x2x2048x512) (k0_off21 i v0 k0_t1) S1x1x2048x512.size hinb).WholeWords (EltTy.packing .fp8e5m2)) ∧
  (∀ k0_t1 : Fin (k0_t1_loop v0).trips, ∀ a, (k0_off23 i v0 k0_t1) a + S1x1x2560x512.size a ≤ S2x2x2560x512.size a) ∧
  (∀ k0_t1 : Fin (k0_t1_loop v0).trips, ∀ a, (k0_off24 v0 k0_t1) a + S2560x512.size a ≤ S2560x10240.size a) ∧
  (∀ k0_t1 : Fin (k0_t1_loop v0).trips, ∀ (hinb : ∀ a, (k0_off24 v0 k0_t1) a + S2560x512.size a ≤ S2560x10240.size a), (Rect.unit (s := S2560x10240) (k0_off24 v0 k0_t1) S2560x512.size hinb).WholeWords (EltTy.packing .fp8e4m3)) ∧
  (∀ k0_t1 : Fin (k0_t1_loop v0).trips, ∀ (hinb : ∀ a, (k0_off23 i v0 k0_t1) a + S1x1x2560x512.size a ≤ S2x2x2560x512.size a), (Rect.unit (s := S2x2x2560x512) (k0_off23 i v0 k0_t1) S1x1x2560x512.size hinb).WholeWords (EltTy.packing .fp8e4m3)) ∧
  (∀ k0_t1 : Fin (k0_t1_loop v0).trips, ∀ (k0_h5 : k0_cond5 v0 k0_t1 = 1#1), 512 ∣ (k0_mult12 v0 k0_t1).toNat) ∧
  (∀ k0_t1 : Fin (k0_t1_loop v0).trips, ∀ (k0_h5 : k0_cond5 v0 k0_t1 = 1#1), ∀ a, (k0_off25 i v0 k0_t1) a + S1x1.size a ≤ S2x2.size a) ∧
  (∀ k0_t1 : Fin (k0_t1_loop v0).trips, ∀ (k0_h5 : k0_cond5 v0 k0_t1 = 1#1), ∀ a, (k0_off26 i v0 k0_t1) a + S1x1x2048x512.size a ≤ S2x2x2048x512.size a) ∧
  (∀ k0_t1 : Fin (k0_t1_loop v0).trips, ∀ (k0_h5 : k0_cond5 v0 k0_t1 = 1#1), ∀ a, (k0_off27 i v0 k0_t1) a + S2048x512.size a ≤ S8192x10240.size a) ∧
  (∀ k0_t1 : Fin (k0_t1_loop v0).trips, ∀ (k0_h5 : k0_cond5 v0 k0_t1 = 1#1), ∀ (hinb : ∀ a, (k0_off27 i v0 k0_t1) a + S2048x512.size a ≤ S8192x10240.size a), (Rect.unit (s := S8192x10240) (k0_off27 i v0 k0_t1) S2048x512.size hinb).WholeWords (EltTy.packing .fp8e5m2)) ∧
  (∀ k0_t1 : Fin (k0_t1_loop v0).trips, ∀ (k0_h5 : k0_cond5 v0 k0_t1 = 1#1), ∀ (hinb : ∀ a, (k0_off26 i v0 k0_t1) a + S1x1x2048x512.size a ≤ S2x2x2048x512.size a), (Rect.unit (s := S2x2x2048x512) (k0_off26 i v0 k0_t1) S1x1x2048x512.size hinb).WholeWords (EltTy.packing .fp8e5m2)) ∧
  (∀ k0_t1 : Fin (k0_t1_loop v0).trips, ∀ (k0_h5 : k0_cond5 v0 k0_t1 = 1#1), ∀ a, (k0_off28 i v0 k0_t1) a + S1x1x2560x512.size a ≤ S2x2x2560x512.size a) ∧
  (∀ k0_t1 : Fin (k0_t1_loop v0).trips, ∀ (k0_h5 : k0_cond5 v0 k0_t1 = 1#1), ∀ a, (k0_off29 v0 k0_t1) a + S2560x512.size a ≤ S2560x10240.size a) ∧
  (∀ k0_t1 : Fin (k0_t1_loop v0).trips, ∀ (k0_h5 : k0_cond5 v0 k0_t1 = 1#1), ∀ (hinb : ∀ a, (k0_off29 v0 k0_t1) a + S2560x512.size a ≤ S2560x10240.size a), (Rect.unit (s := S2560x10240) (k0_off29 v0 k0_t1) S2560x512.size hinb).WholeWords (EltTy.packing .fp8e4m3)) ∧
  (∀ k0_t1 : Fin (k0_t1_loop v0).trips, ∀ (k0_h5 : k0_cond5 v0 k0_t1 = 1#1), ∀ (hinb : ∀ a, (k0_off28 i v0 k0_t1) a + S1x1x2560x512.size a ≤ S2x2x2560x512.size a), (Rect.unit (s := S2x2x2560x512) (k0_off28 i v0 k0_t1) S1x1x2560x512.size hinb).WholeWords (EltTy.packing .fp8e4m3)) ∧
  (∀ k0_t1 : Fin (k0_t1_loop v0).trips, ∀ (k0_h5 : k0_cond5 v0 k0_t1 = 1#1), ∀ a, (k0_off30 v0 k0_t1) a + S1.size a ≤ S20.size a) ∧
  (∀ k0_t1 : Fin (k0_t1_loop v0).trips, ∀ (k0_h5 : k0_cond5 v0 k0_t1 = 1#1), ∀ a, (k0_off31 v0 k0_t1) a + S1.size a ≤ S20.size a) ∧
  (∀ k0_t1 : Fin (k0_t1_loop v0).trips, ∀ (k0_h5 : k0_cond5 v0 k0_t1 = 1#1), ∀ a, (k0_off32 i v0 k0_t1) a + S1x1x512x512.size a ≤ S2x2x2048x512.size a) ∧
  (∀ k0_t1 : Fin (k0_t1_loop v0).trips, ∀ (k0_h5 : k0_cond5 v0 k0_t1 = 1#1), ∀ a, (k0_off33 i v0 k0_t1) a + S1x1x512x512.size a ≤ S2x2x2560x512.size a) ∧
  (∀ k0_t1 : Fin (k0_t1_loop v0).trips, ∀ (k0_h5 : k0_cond5 v0 k0_t1 = 1#1), ∀ a, (k0_off34 i v0 k0_t1) a + S1x1x512x512.size a ≤ S2x2x2048x512.size a) ∧
  (∀ k0_t1 : Fin (k0_t1_loop v0).trips, ∀ (k0_h5 : k0_cond5 v0 k0_t1 = 1#1), ∀ a, (k0_off35 i v0 k0_t1) a + S1x1x512x512.size a ≤ S2x2x2560x512.size a) ∧
  (∀ k0_t1 : Fin (k0_t1_loop v0).trips, ∀ (k0_h5 : k0_cond5 v0 k0_t1 = 1#1), ∀ a, (k0_off36 i v0 k0_t1) a + S1x1x512x512.size a ≤ S2x2x2560x512.size a) ∧
  (∀ k0_t1 : Fin (k0_t1_loop v0).trips, ∀ (k0_h5 : k0_cond5 v0 k0_t1 = 1#1), ∀ a, (k0_off37 i v0 k0_t1) a + S1x1x512x512.size a ≤ S2x2x2560x512.size a) ∧
  (∀ k0_t1 : Fin (k0_t1_loop v0).trips, ∀ (k0_h5 : k0_cond5 v0 k0_t1 = 1#1), ∀ a, (k0_off38 i v0 k0_t1) a + S1x1x512x512.size a ≤ S2x2x2560x512.size a) ∧
  (∀ k0_t1 : Fin (k0_t1_loop v0).trips, ∀ (k0_h5 : k0_cond5 v0 k0_t1 = 1#1), ∀ a, (k0_off39 i v0 k0_t1) a + S1x1x512x512.size a ≤ S2x2x2560x512.size a) ∧
  (∀ k0_t1 : Fin (k0_t1_loop v0).trips, ∀ (k0_h5 : k0_cond5 v0 k0_t1 = 1#1), ∀ a, (k0_off40 i v0 k0_t1) a + S1x1x512x512.size a ≤ S2x2x2560x512.size a)
def k0_chk1_2 (i : grid0.Coords) (v0 : BitVec 32) : Prop :=
  (∀ k0_t1 : Fin (k0_t1_loop v0).trips, ∀ (k0_h5 : k0_cond5 v0 k0_t1 = 1#1), ∀ a, (k0_off41 i v0 k0_t1) a + S1x1x512x512.size a ≤ S2x2x2560x512.size a) ∧
  (∀ k0_t1 : Fin (k0_t1_loop v0).trips, ∀ (k0_h5 : k0_cond5 v0 k0_t1 = 1#1), ∀ a, (k0_off42 i v0 k0_t1) a + S1x1x512x512.size a ≤ S2x2x2560x512.size a) ∧
  (∀ k0_t1 : Fin (k0_t1_loop v0).trips, ∀ (k0_h5 : k0_cond5 v0 k0_t1 = 1#1), ∀ a, (k0_off43 i v0 k0_t1) a + S1x1x512x512.size a ≤ S2x2x2560x512.size a) ∧
  (∀ k0_t1 : Fin (k0_t1_loop v0).trips, ∀ (k0_h5 : k0_cond5 v0 k0_t1 = 1#1), ∀ a, (k0_off44 i v0 k0_t1) a + S1x1x512x512.size a ≤ S2x2x2048x512.size a) ∧
  (∀ k0_t1 : Fin (k0_t1_loop v0).trips, ∀ (k0_h5 : k0_cond5 v0 k0_t1 = 1#1), ∀ a, (k0_off45 i v0 k0_t1) a + S1x1x512x512.size a ≤ S2x2x2048x512.size a) ∧
  (∀ k0_t1 : Fin (k0_t1_loop v0).trips, ∀ (k0_h5 : k0_cond5 v0 k0_t1 = 1#1), ∀ a, (k0_off46 i v0 k0_t1) a + S1x1x512x512.size a ≤ S2x2x2048x512.size a) ∧
  (∀ k0_t1 : Fin (k0_t1_loop v0).trips, ∀ (k0_h5 : k0_cond5 v0 k0_t1 = 1#1), ∀ a, (k0_off47 i v0 k0_t1) a + S1x1x512x512.size a ≤ S2x2x2048x512.size a) ∧
  (∀ k0_t1 : Fin (k0_t1_loop v0).trips, ∀ (k0_h5 : k0_cond5 v0 k0_t1 = 1#1), ∀ a, (k0_off48 i v0 k0_t1) a + S1x1x512x512.size a ≤ S2x2x2048x512.size a) ∧
  (∀ k0_t1 : Fin (k0_t1_loop v0).trips, ∀ (k0_h5 : k0_cond5 v0 k0_t1 = 1#1), ∀ a, (k0_off49 i v0 k0_t1) a + S1x1x512x512.size a ≤ S2x2x2048x512.size a) ∧
  (∀ k0_t1 : Fin (k0_t1_loop v0).trips, ∀ (k0_h6 : k0_cond6 v0 k0_t1 = 1#1), ∀ a, (k0_off50 v0 k0_t1) a + S1.size a ≤ S20.size a) ∧
  (∀ k0_t1 : Fin (k0_t1_loop v0).trips, ∀ (k0_h6 : k0_cond6 v0 k0_t1 = 1#1), ∀ a, (k0_off51 i v0 k0_t1) a + S1x1x512x512.size a ≤ S2x2x2048x512.size a) ∧
  (∀ k0_t1 : Fin (k0_t1_loop v0).trips, ∀ (k0_h6 : k0_cond6 v0 k0_t1 = 1#1), ∀ a, (k0_off52 i v0 k0_t1) a + S1x1x512x512.size a ≤ S2x2x2560x512.size a) ∧
  (∀ k0_t1 : Fin (k0_t1_loop v0).trips, ∀ (k0_h6 : k0_cond6 v0 k0_t1 = 1#1), ∀ a, (k0_off53 i v0 k0_t1) a + S1x1x512x512.size a ≤ S2x2x2560x512.size a) ∧
  (∀ k0_t1 : Fin (k0_t1_loop v0).trips, ∀ (k0_h6 : k0_cond6 v0 k0_t1 = 1#1), ∀ a, (k0_off54 i v0 k0_t1) a + S1x1x512x512.size a ≤ S2x2x2560x512.size a) ∧
  (∀ k0_t1 : Fin (k0_t1_loop v0).trips, ∀ (k0_h6 : k0_cond6 v0 k0_t1 = 1#1), ∀ a, (k0_off55 i v0 k0_t1) a + S1x1x512x512.size a ≤ S2x2x2560x512.size a) ∧
  (∀ k0_t1 : Fin (k0_t1_loop v0).trips, ∀ (k0_h6 : k0_cond6 v0 k0_t1 = 1#1), ∀ a, (k0_off56 i v0 k0_t1) a + S1x1x512x512.size a ≤ S2x2x2560x512.size a) ∧
  (∀ k0_t1 : Fin (k0_t1_loop v0).trips, ∀ (k0_h6 : k0_cond6 v0 k0_t1 = 1#1), ∀ a, (k0_off57 i v0 k0_t1) a + S1x1x512x512.size a ≤ S2x2x2048x512.size a) ∧
  (∀ k0_t1 : Fin (k0_t1_loop v0).trips, ∀ (k0_h6 : k0_cond6 v0 k0_t1 = 1#1), ∀ a, (k0_off58 i v0 k0_t1) a + S1x1x512x512.size a ≤ S2x2x2048x512.size a) ∧
  (∀ k0_t1 : Fin (k0_t1_loop v0).trips, ∀ (k0_h6 : k0_cond6 v0 k0_t1 = 1#1), ∀ a, (k0_off59 i v0 k0_t1) a + S1x1x512x512.size a ≤ S2x2x2048x512.size a) ∧
  (∀ k0_t1 : Fin (k0_t1_loop v0).trips, ∀ (k0_h7 : k0_cond7 v0 k0_t1 = 1#1), 512 ∣ (k0_mult14 v0 k0_t1).toNat) ∧
  (∀ k0_t1 : Fin (k0_t1_loop v0).trips, ∀ (k0_h7 : k0_cond7 v0 k0_t1 = 1#1), ∀ a, (k0_off60 v0 k0_t1) a + S1x512.size a ≤ S1x10240.size a) ∧
  (∀ k0_t1 : Fin (k0_t1_loop v0).trips, ∀ (k0_h7 : k0_cond7 v0 k0_t1 = 1#1), ∀ a, (k0_off61 i v0 k0_t1) a + S1x1x512x512.size a ≤ S2x2x2048x512.size a) ∧
  (∀ k0_t1 : Fin (k0_t1_loop v0).trips, ∀ (k0_h7 : k0_cond7 v0 k0_t1 = 1#1), ∀ a, (k0_off62 i v0 k0_t1) a + S1x1x512x512.size a ≤ S2x2x2560x512.size a) ∧
  (∀ k0_t1 : Fin (k0_t1_loop v0).trips, ∀ (k0_h7 : k0_cond7 v0 k0_t1 = 1#1), ∀ a, (k0_off63 i v0 k0_t1) a + S1x1x512x512.size a ≤ S2x2x2560x512.size a) ∧
  (∀ k0_t1 : Fin (k0_t1_loop v0).trips, ∀ (k0_h7 : k0_cond7 v0 k0_t1 = 1#1), ∀ a, (k0_off64 i v0 k0_t1) a + S1x1x512x512.size a ≤ S2x2x2560x512.size a) ∧
  (∀ k0_t1 : Fin (k0_t1_loop v0).trips, ∀ (k0_h7 : k0_cond7 v0 k0_t1 = 1#1), ∀ a, (k0_off65 i v0 k0_t1) a + S1x1x512x512.size a ≤ S2x2x2560x512.size a) ∧
  (∀ k0_t1 : Fin (k0_t1_loop v0).trips, ∀ (k0_h7 : k0_cond7 v0 k0_t1 = 1#1), ∀ a, (k0_off66 i v0 k0_t1) a + S1x1x512x512.size a ≤ S2x2x2560x512.size a) ∧
  (∀ k0_t1 : Fin (k0_t1_loop v0).trips, ∀ (k0_h7 : k0_cond7 v0 k0_t1 = 1#1), ∀ a, (k0_off67 i v0 k0_t1) a + S1x1x512x512.size a ≤ S2x2x2048x512.size a) ∧
  (∀ k0_t1 : Fin (k0_t1_loop v0).trips, ∀ (k0_h7 : k0_cond7 v0 k0_t1 = 1#1), ∀ a, (k0_off68 i v0 k0_t1) a + S1x1x512x512.size a ≤ S2x2x2048x512.size a) ∧
  (∀ k0_t1 : Fin (k0_t1_loop v0).trips, ∀ (k0_h7 : k0_cond7 v0 k0_t1 = 1#1), ∀ a, (k0_off69 i v0 k0_t1) a + S1x1x512x512.size a ≤ S2x2x2048x512.size a) ∧
  ((k0_t2_loop v0).OK) ∧
  (∀ k0_t2 : Fin (k0_t2_loop v0).trips, ∀ (k0_h8 : k0_cond8 i v0 k0_t2 = 1#1), 512 ∣ (k0_mult15 v0 k0_t2).toNat)
def k0_chk1_3 (i : grid0.Coords) (v0 : BitVec 32) : Prop :=
  (∀ k0_t2 : Fin (k0_t2_loop v0).trips, ∀ (k0_h8 : k0_cond8 i v0 k0_t2 = 1#1), 2048 ∣ (k0_mult16 i v0 k0_t2).toNat) ∧
  (∀ k0_t2 : Fin (k0_t2_loop v0).trips, ∀ (k0_h8 : k0_cond8 i v0 k0_t2 = 1#1), ∀ a, (k0_off70 i v0 k0_t2) a + S1x1.size a ≤ S2x2.size a) ∧
  (∀ k0_t2 : Fin (k0_t2_loop v0).trips, ∀ (k0_h8 : k0_cond8 i v0 k0_t2 = 1#1), ∀ a, (k0_off71 i v0 k0_t2) a + S1x1x2048x512.size a ≤ S2x2x2048x512.size a) ∧
  (∀ k0_t2 : Fin (k0_t2_loop v0).trips, ∀ (k0_h8 : k0_cond8 i v0 k0_t2 = 1#1), ∀ a, (k0_off72 i v0 k0_t2) a + S2048x512.size a ≤ S8192x10240.size a) ∧
  (∀ k0_t2 : Fin (k0_t2_loop v0).trips, ∀ (k0_h8 : k0_cond8 i v0 k0_t2 = 1#1), ∀ (hinb : ∀ a, (k0_off72 i v0 k0_t2) a + S2048x512.size a ≤ S8192x10240.size a), (Rect.unit (s := S8192x10240) (k0_off72 i v0 k0_t2) S2048x512.size hinb).WholeWords (EltTy.packing .fp8e5m2)) ∧
  (∀ k0_t2 : Fin (k0_t2_loop v0).trips, ∀ (k0_h8 : k0_cond8 i v0 k0_t2 = 1#1), ∀ (hinb : ∀ a, (k0_off71 i v0 k0_t2) a + S1x1x2048x512.size a ≤ S2x2x2048x512.size a), (Rect.unit (s := S2x2x2048x512) (k0_off71 i v0 k0_t2) S1x1x2048x512.size hinb).WholeWords (EltTy.packing .fp8e5m2)) ∧
  (∀ k0_t2 : Fin (k0_t2_loop v0).trips, ∀ (k0_h8 : k0_cond8 i v0 k0_t2 = 1#1), ∀ a, (k0_off73 i v0 k0_t2) a + S1x1x2560x512.size a ≤ S2x2x2560x512.size a) ∧
  (∀ k0_t2 : Fin (k0_t2_loop v0).trips, ∀ (k0_h8 : k0_cond8 i v0 k0_t2 = 1#1), ∀ a, (k0_off74 v0 k0_t2) a + S2560x512.size a ≤ S2560x10240.size a) ∧
  (∀ k0_t2 : Fin (k0_t2_loop v0).trips, ∀ (k0_h8 : k0_cond8 i v0 k0_t2 = 1#1), ∀ (hinb : ∀ a, (k0_off74 v0 k0_t2) a + S2560x512.size a ≤ S2560x10240.size a), (Rect.unit (s := S2560x10240) (k0_off74 v0 k0_t2) S2560x512.size hinb).WholeWords (EltTy.packing .fp8e4m3)) ∧
  (∀ k0_t2 : Fin (k0_t2_loop v0).trips, ∀ (k0_h8 : k0_cond8 i v0 k0_t2 = 1#1), ∀ (hinb : ∀ a, (k0_off73 i v0 k0_t2) a + S1x1x2560x512.size a ≤ S2x2x2560x512.size a), (Rect.unit (s := S2x2x2560x512) (k0_off73 i v0 k0_t2) S1x1x2560x512.size hinb).WholeWords (EltTy.packing .fp8e4m3)) ∧
  (∀ k0_t2 : Fin (k0_t2_loop v0).trips, ∀ (k0_h8 : k0_cond8 i v0 k0_t2 = 1#1), ∀ (k0_h9 : k0_cond9 v0 k0_t2 = 1#1), 512 ∣ (k0_mult17 v0 k0_t2).toNat) ∧
  (∀ k0_t2 : Fin (k0_t2_loop v0).trips, ∀ (k0_h8 : k0_cond8 i v0 k0_t2 = 1#1), ∀ (k0_h9 : k0_cond9 v0 k0_t2 = 1#1), 2048 ∣ (k0_mult18 i v0 k0_t2).toNat) ∧
  (∀ k0_t2 : Fin (k0_t2_loop v0).trips, ∀ (k0_h8 : k0_cond8 i v0 k0_t2 = 1#1), ∀ (k0_h9 : k0_cond9 v0 k0_t2 = 1#1), ∀ a, (k0_off75 i v0 k0_t2) a + S1x1.size a ≤ S2x2.size a) ∧
  (∀ k0_t2 : Fin (k0_t2_loop v0).trips, ∀ (k0_h8 : k0_cond8 i v0 k0_t2 = 1#1), ∀ (k0_h9 : k0_cond9 v0 k0_t2 = 1#1), ∀ a, (k0_off76 i v0 k0_t2) a + S1x1x2048x512.size a ≤ S2x2x2048x512.size a) ∧
  (∀ k0_t2 : Fin (k0_t2_loop v0).trips, ∀ (k0_h8 : k0_cond8 i v0 k0_t2 = 1#1), ∀ (k0_h9 : k0_cond9 v0 k0_t2 = 1#1), ∀ a, (k0_off77 i v0 k0_t2) a + S2048x512.size a ≤ S8192x10240.size a) ∧
  (∀ k0_t2 : Fin (k0_t2_loop v0).trips, ∀ (k0_h8 : k0_cond8 i v0 k0_t2 = 1#1), ∀ (k0_h9 : k0_cond9 v0 k0_t2 = 1#1), ∀ (hinb : ∀ a, (k0_off77 i v0 k0_t2) a + S2048x512.size a ≤ S8192x10240.size a), (Rect.unit (s := S8192x10240) (k0_off77 i v0 k0_t2) S2048x512.size hinb).WholeWords (EltTy.packing .fp8e5m2)) ∧
  (∀ k0_t2 : Fin (k0_t2_loop v0).trips, ∀ (k0_h8 : k0_cond8 i v0 k0_t2 = 1#1), ∀ (k0_h9 : k0_cond9 v0 k0_t2 = 1#1), ∀ (hinb : ∀ a, (k0_off76 i v0 k0_t2) a + S1x1x2048x512.size a ≤ S2x2x2048x512.size a), (Rect.unit (s := S2x2x2048x512) (k0_off76 i v0 k0_t2) S1x1x2048x512.size hinb).WholeWords (EltTy.packing .fp8e5m2)) ∧
  (∀ k0_t2 : Fin (k0_t2_loop v0).trips, ∀ (k0_h8 : k0_cond8 i v0 k0_t2 = 1#1), ∀ (k0_h9 : k0_cond9 v0 k0_t2 = 1#1), ∀ a, (k0_off78 i v0 k0_t2) a + S1x1x2560x512.size a ≤ S2x2x2560x512.size a) ∧
  (∀ k0_t2 : Fin (k0_t2_loop v0).trips, ∀ (k0_h8 : k0_cond8 i v0 k0_t2 = 1#1), ∀ (k0_h9 : k0_cond9 v0 k0_t2 = 1#1), ∀ a, (k0_off79 v0 k0_t2) a + S2560x512.size a ≤ S2560x10240.size a) ∧
  (∀ k0_t2 : Fin (k0_t2_loop v0).trips, ∀ (k0_h8 : k0_cond8 i v0 k0_t2 = 1#1), ∀ (k0_h9 : k0_cond9 v0 k0_t2 = 1#1), ∀ (hinb : ∀ a, (k0_off79 v0 k0_t2) a + S2560x512.size a ≤ S2560x10240.size a), (Rect.unit (s := S2560x10240) (k0_off79 v0 k0_t2) S2560x512.size hinb).WholeWords (EltTy.packing .fp8e4m3)) ∧
  (∀ k0_t2 : Fin (k0_t2_loop v0).trips, ∀ (k0_h8 : k0_cond8 i v0 k0_t2 = 1#1), ∀ (k0_h9 : k0_cond9 v0 k0_t2 = 1#1), ∀ (hinb : ∀ a, (k0_off78 i v0 k0_t2) a + S1x1x2560x512.size a ≤ S2x2x2560x512.size a), (Rect.unit (s := S2x2x2560x512) (k0_off78 i v0 k0_t2) S1x1x2560x512.size hinb).WholeWords (EltTy.packing .fp8e4m3)) ∧
  (∀ k0_t2 : Fin (k0_t2_loop v0).trips, 512 ∣ (k0_mult19 v0 k0_t2).toNat) ∧
  (∀ k0_t2 : Fin (k0_t2_loop v0).trips, ∀ a, (k0_off80 i v0 k0_t2) a + S1x1.size a ≤ S2x2.size a) ∧
  (∀ k0_t2 : Fin (k0_t2_loop v0).trips, ∀ a, (k0_off81 i v0 k0_t2) a + S1x1x2048x512.size a ≤ S2x2x2048x512.size a) ∧
  (∀ k0_t2 : Fin (k0_t2_loop v0).trips, ∀ a, (k0_off82 i v0 k0_t2) a + S2048x512.size a ≤ S8192x10240.size a) ∧
  (∀ k0_t2 : Fin (k0_t2_loop v0).trips, ∀ (hinb : ∀ a, (k0_off82 i v0 k0_t2) a + S2048x512.size a ≤ S8192x10240.size a), (Rect.unit (s := S8192x10240) (k0_off82 i v0 k0_t2) S2048x512.size hinb).WholeWords (EltTy.packing .fp8e5m2)) ∧
  (∀ k0_t2 : Fin (k0_t2_loop v0).trips, ∀ (hinb : ∀ a, (k0_off81 i v0 k0_t2) a + S1x1x2048x512.size a ≤ S2x2x2048x512.size a), (Rect.unit (s := S2x2x2048x512) (k0_off81 i v0 k0_t2) S1x1x2048x512.size hinb).WholeWords (EltTy.packing .fp8e5m2)) ∧
  (∀ k0_t2 : Fin (k0_t2_loop v0).trips, ∀ a, (k0_off83 i v0 k0_t2) a + S1x1x2560x512.size a ≤ S2x2x2560x512.size a) ∧
  (∀ k0_t2 : Fin (k0_t2_loop v0).trips, ∀ a, (k0_off84 v0 k0_t2) a + S2560x512.size a ≤ S2560x10240.size a) ∧
  (∀ k0_t2 : Fin (k0_t2_loop v0).trips, ∀ (hinb : ∀ a, (k0_off84 v0 k0_t2) a + S2560x512.size a ≤ S2560x10240.size a), (Rect.unit (s := S2560x10240) (k0_off84 v0 k0_t2) S2560x512.size hinb).WholeWords (EltTy.packing .fp8e4m3)) ∧
  (∀ k0_t2 : Fin (k0_t2_loop v0).trips, ∀ (hinb : ∀ a, (k0_off83 i v0 k0_t2) a + S1x1x2560x512.size a ≤ S2x2x2560x512.size a), (Rect.unit (s := S2x2x2560x512) (k0_off83 i v0 k0_t2) S1x1x2560x512.size hinb).WholeWords (EltTy.packing .fp8e4m3)) ∧
  (∀ k0_t2 : Fin (k0_t2_loop v0).trips, ∀ (k0_h10 : k0_cond10 v0 k0_t2 = 1#1), 512 ∣ (k0_mult21 v0 k0_t2).toNat)
def k0_chk1_4 (i : grid0.Coords) (v0 : BitVec 32) : Prop :=
  (∀ k0_t2 : Fin (k0_t2_loop v0).trips, ∀ (k0_h10 : k0_cond10 v0 k0_t2 = 1#1), ∀ a, (k0_off85 i v0 k0_t2) a + S1x1.size a ≤ S2x2.size a) ∧
  (∀ k0_t2 : Fin (k0_t2_loop v0).trips, ∀ (k0_h10 : k0_cond10 v0 k0_t2 = 1#1), ∀ a, (k0_off86 i v0 k0_t2) a + S1x1x2048x512.size a ≤ S2x2x2048x512.size a) ∧
  (∀ k0_t2 : Fin (k0_t2_loop v0).trips, ∀ (k0_h10 : k0_cond10 v0 k0_t2 = 1#1), ∀ a, (k0_off87 i v0 k0_t2) a + S2048x512.size a ≤ S8192x10240.size a) ∧
  (∀ k0_t2 : Fin (k0_t2_loop v0).trips, ∀ (k0_h10 : k0_cond10 v0 k0_t2 = 1#1), ∀ (hinb : ∀ a, (k0_off87 i v0 k0_t2) a + S2048x512.size a ≤ S8192x10240.size a), (Rect.unit (s := S8192x10240) (k0_off87 i v0 k0_t2) S2048x512.size hinb).WholeWords (EltTy.packing .fp8e5m2)) ∧
  (∀ k0_t2 : Fin (k0_t2_loop v0).trips, ∀ (k0_h10 : k0_cond10 v0 k0_t2 = 1#1), ∀ (hinb : ∀ a, (k0_off86 i v0 k0_t2) a + S1x1x2048x512.size a ≤ S2x2x2048x512.size a), (Rect.unit (s := S2x2x2048x512) (k0_off86 i v0 k0_t2) S1x1x2048x512.size hinb).WholeWords (EltTy.packing .fp8e5m2)) ∧
  (∀ k0_t2 : Fin (k0_t2_loop v0).trips, ∀ (k0_h10 : k0_cond10 v0 k0_t2 = 1#1), ∀ a, (k0_off88 i v0 k0_t2) a + S1x1x2560x512.size a ≤ S2x2x2560x512.size a) ∧
  (∀ k0_t2 : Fin (k0_t2_loop v0).trips, ∀ (k0_h10 : k0_cond10 v0 k0_t2 = 1#1), ∀ a, (k0_off89 v0 k0_t2) a + S2560x512.size a ≤ S2560x10240.size a) ∧
  (∀ k0_t2 : Fin (k0_t2_loop v0).trips, ∀ (k0_h10 : k0_cond10 v0 k0_t2 = 1#1), ∀ (hinb : ∀ a, (k0_off89 v0 k0_t2) a + S2560x512.size a ≤ S2560x10240.size a), (Rect.unit (s := S2560x10240) (k0_off89 v0 k0_t2) S2560x512.size hinb).WholeWords (EltTy.packing .fp8e4m3)) ∧
  (∀ k0_t2 : Fin (k0_t2_loop v0).trips, ∀ (k0_h10 : k0_cond10 v0 k0_t2 = 1#1), ∀ (hinb : ∀ a, (k0_off88 i v0 k0_t2) a + S1x1x2560x512.size a ≤ S2x2x2560x512.size a), (Rect.unit (s := S2x2x2560x512) (k0_off88 i v0 k0_t2) S1x1x2560x512.size hinb).WholeWords (EltTy.packing .fp8e4m3)) ∧
  (∀ k0_t2 : Fin (k0_t2_loop v0).trips, ∀ (k0_h10 : k0_cond10 v0 k0_t2 = 1#1), ∀ a, (k0_off90 v0 k0_t2) a + S1.size a ≤ S20.size a) ∧
  (∀ k0_t2 : Fin (k0_t2_loop v0).trips, ∀ (k0_h10 : k0_cond10 v0 k0_t2 = 1#1), ∀ a, (k0_off91 v0 k0_t2) a + S1.size a ≤ S20.size a) ∧
  (∀ k0_t2 : Fin (k0_t2_loop v0).trips, ∀ (k0_h10 : k0_cond10 v0 k0_t2 = 1#1), ∀ a, (k0_off92 i v0 k0_t2) a + S1x1x512x512.size a ≤ S2x2x2048x512.size a) ∧
  (∀ k0_t2 : Fin (k0_t2_loop v0).trips, ∀ (k0_h10 : k0_cond10 v0 k0_t2 = 1#1), ∀ a, (k0_off93 i v0 k0_t2) a + S1x1x512x512.size a ≤ S2x2x2560x512.size a) ∧
  (∀ k0_t2 : Fin (k0_t2_loop v0).trips, ∀ (k0_h10 : k0_cond10 v0 k0_t2 = 1#1), ∀ a, (k0_off94 i v0 k0_t2) a + S1x1x512x512.size a ≤ S2x2x2048x512.size a) ∧
  (∀ k0_t2 : Fin (k0_t2_loop v0).trips, ∀ (k0_h10 : k0_cond10 v0 k0_t2 = 1#1), ∀ a, (k0_off95 i v0 k0_t2) a + S1x1x512x512.size a ≤ S2x2x2560x512.size a) ∧
  (∀ k0_t2 : Fin (k0_t2_loop v0).trips, ∀ (k0_h10 : k0_cond10 v0 k0_t2 = 1#1), ∀ a, (k0_off96 i v0 k0_t2) a + S1x1x512x512.size a ≤ S2x2x2560x512.size a) ∧
  (∀ k0_t2 : Fin (k0_t2_loop v0).trips, ∀ (k0_h10 : k0_cond10 v0 k0_t2 = 1#1), ∀ a, (k0_off97 i v0 k0_t2) a + S1x1x512x512.size a ≤ S2x2x2560x512.size a) ∧
  (∀ k0_t2 : Fin (k0_t2_loop v0).trips, ∀ (k0_h10 : k0_cond10 v0 k0_t2 = 1#1), ∀ a, (k0_off98 i v0 k0_t2) a + S1x1x512x512.size a ≤ S2x2x2560x512.size a) ∧
  (∀ k0_t2 : Fin (k0_t2_loop v0).trips, ∀ (k0_h10 : k0_cond10 v0 k0_t2 = 1#1), ∀ a, (k0_off99 i v0 k0_t2) a + S1x1x512x512.size a ≤ S2x2x2560x512.size a) ∧
  (∀ k0_t2 : Fin (k0_t2_loop v0).trips, ∀ (k0_h10 : k0_cond10 v0 k0_t2 = 1#1), ∀ a, (k0_off100 i v0 k0_t2) a + S1x1x512x512.size a ≤ S2x2x2560x512.size a) ∧
  (∀ k0_t2 : Fin (k0_t2_loop v0).trips, ∀ (k0_h10 : k0_cond10 v0 k0_t2 = 1#1), ∀ a, (k0_off101 i v0 k0_t2) a + S1x1x512x512.size a ≤ S2x2x2560x512.size a) ∧
  (∀ k0_t2 : Fin (k0_t2_loop v0).trips, ∀ (k0_h10 : k0_cond10 v0 k0_t2 = 1#1), ∀ a, (k0_off102 i v0 k0_t2) a + S1x1x512x512.size a ≤ S2x2x2560x512.size a) ∧
  (∀ k0_t2 : Fin (k0_t2_loop v0).trips, ∀ (k0_h10 : k0_cond10 v0 k0_t2 = 1#1), ∀ a, (k0_off103 i v0 k0_t2) a + S1x1x512x512.size a ≤ S2x2x2560x512.size a) ∧
  (∀ k0_t2 : Fin (k0_t2_loop v0).trips, ∀ (k0_h10 : k0_cond10 v0 k0_t2 = 1#1), ∀ a, (k0_off104 i v0 k0_t2) a + S1x1x512x512.size a ≤ S2x2x2048x512.size a) ∧
  (∀ k0_t2 : Fin (k0_t2_loop v0).trips, ∀ (k0_h10 : k0_cond10 v0 k0_t2 = 1#1), ∀ a, (k0_off105 i v0 k0_t2) a + S1x1x512x512.size a ≤ S2x2x2048x512.size a) ∧
  (∀ k0_t2 : Fin (k0_t2_loop v0).trips, ∀ (k0_h10 : k0_cond10 v0 k0_t2 = 1#1), ∀ a, (k0_off106 i v0 k0_t2) a + S1x1x512x512.size a ≤ S2x2x2048x512.size a) ∧
  (∀ k0_t2 : Fin (k0_t2_loop v0).trips, ∀ (k0_h10 : k0_cond10 v0 k0_t2 = 1#1), ∀ a, (k0_off107 i v0 k0_t2) a + S1x1x512x512.size a ≤ S2x2x2048x512.size a) ∧
  (∀ k0_t2 : Fin (k0_t2_loop v0).trips, ∀ (k0_h10 : k0_cond10 v0 k0_t2 = 1#1), ∀ a, (k0_off108 i v0 k0_t2) a + S1x1x512x512.size a ≤ S2x2x2048x512.size a) ∧
  (∀ k0_t2 : Fin (k0_t2_loop v0).trips, ∀ (k0_h10 : k0_cond10 v0 k0_t2 = 1#1), ∀ a, (k0_off109 i v0 k0_t2) a + S1x1x512x512.size a ≤ S2x2x2048x512.size a) ∧
  (∀ k0_t2 : Fin (k0_t2_loop v0).trips, ∀ (k0_h11 : k0_cond11 v0 k0_t2 = 1#1), ∀ a, (k0_off110 v0 k0_t2) a + S1.size a ≤ S20.size a) ∧
  (∀ k0_t2 : Fin (k0_t2_loop v0).trips, ∀ (k0_h11 : k0_cond11 v0 k0_t2 = 1#1), ∀ a, (k0_off111 i v0 k0_t2) a + S1x1x512x512.size a ≤ S2x2x2048x512.size a) ∧
  (∀ k0_t2 : Fin (k0_t2_loop v0).trips, ∀ (k0_h11 : k0_cond11 v0 k0_t2 = 1#1), ∀ a, (k0_off112 i v0 k0_t2) a + S1x1x512x512.size a ≤ S2x2x2560x512.size a)
def k0_chk1_5 (i : grid0.Coords) (v0 : BitVec 32) : Prop :=
  (∀ k0_t2 : Fin (k0_t2_loop v0).trips, ∀ (k0_h11 : k0_cond11 v0 k0_t2 = 1#1), ∀ a, (k0_off113 i v0 k0_t2) a + S1x1x512x512.size a ≤ S2x2x2560x512.size a) ∧
  (∀ k0_t2 : Fin (k0_t2_loop v0).trips, ∀ (k0_h11 : k0_cond11 v0 k0_t2 = 1#1), ∀ a, (k0_off114 i v0 k0_t2) a + S1x1x512x512.size a ≤ S2x2x2560x512.size a) ∧
  (∀ k0_t2 : Fin (k0_t2_loop v0).trips, ∀ (k0_h11 : k0_cond11 v0 k0_t2 = 1#1), ∀ a, (k0_off115 i v0 k0_t2) a + S1x1x512x512.size a ≤ S2x2x2560x512.size a) ∧
  (∀ k0_t2 : Fin (k0_t2_loop v0).trips, ∀ (k0_h11 : k0_cond11 v0 k0_t2 = 1#1), ∀ a, (k0_off116 i v0 k0_t2) a + S1x1x512x512.size a ≤ S2x2x2560x512.size a) ∧
  (∀ k0_t2 : Fin (k0_t2_loop v0).trips, ∀ (k0_h11 : k0_cond11 v0 k0_t2 = 1#1), ∀ a, (k0_off117 i v0 k0_t2) a + S1x1x512x512.size a ≤ S2x2x2048x512.size a) ∧
  (∀ k0_t2 : Fin (k0_t2_loop v0).trips, ∀ (k0_h11 : k0_cond11 v0 k0_t2 = 1#1), ∀ a, (k0_off118 i v0 k0_t2) a + S1x1x512x512.size a ≤ S2x2x2048x512.size a) ∧
  (∀ k0_t2 : Fin (k0_t2_loop v0).trips, ∀ (k0_h11 : k0_cond11 v0 k0_t2 = 1#1), ∀ a, (k0_off119 i v0 k0_t2) a + S1x1x512x512.size a ≤ S2x2x2048x512.size a) ∧
  (∀ k0_t2 : Fin (k0_t2_loop v0).trips, ∀ (k0_h12 : k0_cond12 v0 k0_t2 = 1#1), 512 ∣ (k0_mult23 v0 k0_t2).toNat) ∧
  (∀ k0_t2 : Fin (k0_t2_loop v0).trips, ∀ (k0_h12 : k0_cond12 v0 k0_t2 = 1#1), ∀ a, (k0_off120 v0 k0_t2) a + S1x512.size a ≤ S1x10240.size a) ∧
  (∀ k0_t2 : Fin (k0_t2_loop v0).trips, ∀ (k0_h12 : k0_cond12 v0 k0_t2 = 1#1), ∀ a, (k0_off121 i v0 k0_t2) a + S1x1x512x512.size a ≤ S2x2x2048x512.size a) ∧
  (∀ k0_t2 : Fin (k0_t2_loop v0).trips, ∀ (k0_h12 : k0_cond12 v0 k0_t2 = 1#1), ∀ a, (k0_off122 i v0 k0_t2) a + S1x1x512x512.size a ≤ S2x2x2560x512.size a) ∧
  (∀ k0_t2 : Fin (k0_t2_loop v0).trips, ∀ (k0_h12 : k0_cond12 v0 k0_t2 = 1#1), ∀ a, (k0_off123 i v0 k0_t2) a + S1x1x512x512.size a ≤ S2x2x2560x512.size a) ∧
  (∀ k0_t2 : Fin (k0_t2_loop v0).trips, ∀ (k0_h12 : k0_cond12 v0 k0_t2 = 1#1), ∀ a, (k0_off124 i v0 k0_t2) a + S1x1x512x512.size a ≤ S2x2x2560x512.size a) ∧
  (∀ k0_t2 : Fin (k0_t2_loop v0).trips, ∀ (k0_h12 : k0_cond12 v0 k0_t2 = 1#1), ∀ a, (k0_off125 i v0 k0_t2) a + S1x1x512x512.size a ≤ S2x2x2560x512.size a) ∧
  (∀ k0_t2 : Fin (k0_t2_loop v0).trips, ∀ (k0_h12 : k0_cond12 v0 k0_t2 = 1#1), ∀ a, (k0_off126 i v0 k0_t2) a + S1x1x512x512.size a ≤ S2x2x2560x512.size a) ∧
  (∀ k0_t2 : Fin (k0_t2_loop v0).trips, ∀ (k0_h12 : k0_cond12 v0 k0_t2 = 1#1), ∀ a, (k0_off127 i v0 k0_t2) a + S1x1x512x512.size a ≤ S2x2x2048x512.size a) ∧
  (∀ k0_t2 : Fin (k0_t2_loop v0).trips, ∀ (k0_h12 : k0_cond12 v0 k0_t2 = 1#1), ∀ a, (k0_off128 i v0 k0_t2) a + S1x1x512x512.size a ≤ S2x2x2048x512.size a) ∧
  (∀ k0_t2 : Fin (k0_t2_loop v0).trips, ∀ (k0_h12 : k0_cond12 v0 k0_t2 = 1#1), ∀ a, (k0_off129 i v0 k0_t2) a + S1x1x512x512.size a ≤ S2x2x2048x512.size a)
def k0_chk1 (i : grid0.Coords) (v0 : BitVec 32) : Prop :=
  k0_chk1_0 i v0 ∧
  k0_chk1_1 i v0 ∧
  k0_chk1_2 i v0 ∧
  k0_chk1_3 i v0 ∧
  k0_chk1_4 i v0 ∧
  k0_chk1_5 i v0
theorem k0_mult1_dvd : ∀ (i : grid0.Coords) (v0 : BitVec 32) (k0_hw1 : k0_chk1 i v0), ∀ (k0_h1 : k0_cond1 i = 1#1), 512 ∣ (k0_mult1 v0).toNat := fun i v0 k0_hw1 k0_h1 => k0_hw1.1.1 k0_h1
theorem k0_off1_inb : ∀ (i : grid0.Coords) (v0 : BitVec 32) (k0_hw1 : k0_chk1 i v0), ∀ (k0_h1 : k0_cond1 i = 1#1), ∀ a, (k0_off1 v0) a + S2048x512.size a ≤ S8192x10240.size a := fun i v0 k0_hw1 k0_h1 => k0_hw1.1.2.1 k0_h1
theorem k0_off1_wordsfp8e5m2 : ∀ (i : grid0.Coords) (v0 : BitVec 32) (k0_hw1 : k0_chk1 i v0), ∀ (k0_h1 : k0_cond1 i = 1#1), (Rect.unit (s := S8192x10240) (k0_off1 v0) S2048x512.size (k0_off1_inb i v0 k0_hw1 k0_h1)).WholeWords (EltTy.packing .fp8e5m2) := fun i v0 k0_hw1 k0_h1 => k0_hw1.1.2.2.1 k0_h1 (k0_off1_inb i v0 k0_hw1 k0_h1)
theorem k0_off2_inb : ∀ (i : grid0.Coords) (v0 : BitVec 32) (k0_hw1 : k0_chk1 i v0), ∀ (k0_h1 : k0_cond1 i = 1#1), ∀ a, (k0_off2 v0) a + S2560x512.size a ≤ S2560x10240.size a := fun i v0 k0_hw1 k0_h1 => k0_hw1.1.2.2.2.1 k0_h1
theorem k0_off2_wordsfp8e4m3 : ∀ (i : grid0.Coords) (v0 : BitVec 32) (k0_hw1 : k0_chk1 i v0), ∀ (k0_h1 : k0_cond1 i = 1#1), (Rect.unit (s := S2560x10240) (k0_off2 v0) S2560x512.size (k0_off2_inb i v0 k0_hw1 k0_h1)).WholeWords (EltTy.packing .fp8e4m3) := fun i v0 k0_hw1 k0_h1 => k0_hw1.1.2.2.2.2.1 k0_h1 (k0_off2_inb i v0 k0_hw1 k0_h1)
theorem k0_mult3_dvd : ∀ (i : grid0.Coords) (v0 : BitVec 32) (k0_hw1 : k0_chk1 i v0), ∀ (k0_h1 : k0_cond1 i = 1#1), ∀ (k0_h2 : k0_cond2 v0 = 1#1), 512 ∣ (k0_mult3 v0).toNat := fun i v0 k0_hw1 k0_h1 k0_h2 => k0_hw1.1.2.2.2.2.2.1 k0_h1 k0_h2
theorem k0_off3_inb : ∀ (i : grid0.Coords) (v0 : BitVec 32) (k0_hw1 : k0_chk1 i v0), ∀ (k0_h1 : k0_cond1 i = 1#1), ∀ (k0_h2 : k0_cond2 v0 = 1#1), ∀ a, (k0_off3 v0) a + S2048x512.size a ≤ S8192x10240.size a := fun i v0 k0_hw1 k0_h1 k0_h2 => k0_hw1.1.2.2.2.2.2.2.1 k0_h1 k0_h2
theorem k0_off3_wordsfp8e5m2 : ∀ (i : grid0.Coords) (v0 : BitVec 32) (k0_hw1 : k0_chk1 i v0), ∀ (k0_h1 : k0_cond1 i = 1#1), ∀ (k0_h2 : k0_cond2 v0 = 1#1), (Rect.unit (s := S8192x10240) (k0_off3 v0) S2048x512.size (k0_off3_inb i v0 k0_hw1 k0_h1 k0_h2)).WholeWords (EltTy.packing .fp8e5m2) := fun i v0 k0_hw1 k0_h1 k0_h2 => k0_hw1.1.2.2.2.2.2.2.2.1 k0_h1 k0_h2 (k0_off3_inb i v0 k0_hw1 k0_h1 k0_h2)
theorem k0_off4_inb : ∀ (i : grid0.Coords) (v0 : BitVec 32) (k0_hw1 : k0_chk1 i v0), ∀ (k0_h1 : k0_cond1 i = 1#1), ∀ (k0_h2 : k0_cond2 v0 = 1#1), ∀ a, (k0_off4 v0) a + S2560x512.size a ≤ S2560x10240.size a := fun i v0 k0_hw1 k0_h1 k0_h2 => k0_hw1.1.2.2.2.2.2.2.2.2.1 k0_h1 k0_h2
theorem k0_off4_wordsfp8e4m3 : ∀ (i : grid0.Coords) (v0 : BitVec 32) (k0_hw1 : k0_chk1 i v0), ∀ (k0_h1 : k0_cond1 i = 1#1), ∀ (k0_h2 : k0_cond2 v0 = 1#1), (Rect.unit (s := S2560x10240) (k0_off4 v0) S2560x512.size (k0_off4_inb i v0 k0_hw1 k0_h1 k0_h2)).WholeWords (EltTy.packing .fp8e4m3) := fun i v0 k0_hw1 k0_h1 k0_h2 => k0_hw1.1.2.2.2.2.2.2.2.2.2.1 k0_h1 k0_h2 (k0_off4_inb i v0 k0_hw1 k0_h1 k0_h2)
theorem k0_t1_ok : ∀ (i : grid0.Coords) (v0 : BitVec 32) (k0_hw1 : k0_chk1 i v0), (k0_t1_loop v0).OK := fun i v0 k0_hw1 => k0_hw1.1.2.2.2.2.2.2.2.2.2.2.1
theorem k0_mult6_dvd : ∀ (i : grid0.Coords) (v0 : BitVec 32) (k0_hw1 : k0_chk1 i v0) (k0_t1 : Fin (k0_t1_loop v0).trips), ∀ (k0_h3 : k0_cond3 i v0 k0_t1 = 1#1), 512 ∣ (k0_mult6 v0 k0_t1).toNat := fun i v0 k0_hw1 k0_t1 k0_h3 => k0_hw1.1.2.2.2.2.2.2.2.2.2.2.2.1 k0_t1 k0_h3
theorem k0_mult7_dvd : ∀ (i : grid0.Coords) (v0 : BitVec 32) (k0_hw1 : k0_chk1 i v0) (k0_t1 : Fin (k0_t1_loop v0).trips), ∀ (k0_h3 : k0_cond3 i v0 k0_t1 = 1#1), 2048 ∣ (k0_mult7 i v0 k0_t1).toNat := fun i v0 k0_hw1 k0_t1 k0_h3 => k0_hw1.1.2.2.2.2.2.2.2.2.2.2.2.2.1 k0_t1 k0_h3
theorem k0_off10_inb : ∀ (i : grid0.Coords) (v0 : BitVec 32) (k0_hw1 : k0_chk1 i v0) (k0_t1 : Fin (k0_t1_loop v0).trips), ∀ (k0_h3 : k0_cond3 i v0 k0_t1 = 1#1), ∀ a, (k0_off10 i v0 k0_t1) a + S1x1.size a ≤ S2x2.size a := fun i v0 k0_hw1 k0_t1 k0_h3 => k0_hw1.1.2.2.2.2.2.2.2.2.2.2.2.2.2.1 k0_t1 k0_h3
theorem k0_off11_inb : ∀ (i : grid0.Coords) (v0 : BitVec 32) (k0_hw1 : k0_chk1 i v0) (k0_t1 : Fin (k0_t1_loop v0).trips), ∀ (k0_h3 : k0_cond3 i v0 k0_t1 = 1#1), ∀ a, (k0_off11 i v0 k0_t1) a + S1x1x2048x512.size a ≤ S2x2x2048x512.size a := fun i v0 k0_hw1 k0_t1 k0_h3 => k0_hw1.1.2.2.2.2.2.2.2.2.2.2.2.2.2.2.1 k0_t1 k0_h3
theorem k0_off12_inb : ∀ (i : grid0.Coords) (v0 : BitVec 32) (k0_hw1 : k0_chk1 i v0) (k0_t1 : Fin (k0_t1_loop v0).trips), ∀ (k0_h3 : k0_cond3 i v0 k0_t1 = 1#1), ∀ a, (k0_off12 i v0 k0_t1) a + S2048x512.size a ≤ S8192x10240.size a := fun i v0 k0_hw1 k0_t1 k0_h3 => k0_hw1.1.2.2.2.2.2.2.2.2.2.2.2.2.2.2.2.1 k0_t1 k0_h3
theorem k0_off12_wordsfp8e5m2 : ∀ (i : grid0.Coords) (v0 : BitVec 32) (k0_hw1 : k0_chk1 i v0) (k0_t1 : Fin (k0_t1_loop v0).trips), ∀ (k0_h3 : k0_cond3 i v0 k0_t1 = 1#1), (Rect.unit (s := S8192x10240) (k0_off12 i v0 k0_t1) S2048x512.size (k0_off12_inb i v0 k0_hw1 k0_t1 k0_h3)).WholeWords (EltTy.packing .fp8e5m2) := fun i v0 k0_hw1 k0_t1 k0_h3 => k0_hw1.1.2.2.2.2.2.2.2.2.2.2.2.2.2.2.2.2.1 k0_t1 k0_h3 (k0_off12_inb i v0 k0_hw1 k0_t1 k0_h3)
theorem k0_off11_wordsfp8e5m2 : ∀ (i : grid0.Coords) (v0 : BitVec 32) (k0_hw1 : k0_chk1 i v0) (k0_t1 : Fin (k0_t1_loop v0).trips), ∀ (k0_h3 : k0_cond3 i v0 k0_t1 = 1#1), (Rect.unit (s := S2x2x2048x512) (k0_off11 i v0 k0_t1) S1x1x2048x512.size (k0_off11_inb i v0 k0_hw1 k0_t1 k0_h3)).WholeWords (EltTy.packing .fp8e5m2) := fun i v0 k0_hw1 k0_t1 k0_h3 => k0_hw1.1.2.2.2.2.2.2.2.2.2.2.2.2.2.2.2.2.2.1 k0_t1 k0_h3 (k0_off11_inb i v0 k0_hw1 k0_t1 k0_h3)
theorem k0_off13_inb : ∀ (i : grid0.Coords) (v0 : BitVec 32) (k0_hw1 : k0_chk1 i v0) (k0_t1 : Fin (k0_t1_loop v0).trips), ∀ (k0_h3 : k0_cond3 i v0 k0_t1 = 1#1), ∀ a, (k0_off13 i v0 k0_t1) a + S1x1x2560x512.size a ≤ S2x2x2560x512.size a := fun i v0 k0_hw1 k0_t1 k0_h3 => k0_hw1.1.2.2.2.2.2.2.2.2.2.2.2.2.2.2.2.2.2.2.1 k0_t1 k0_h3
theorem k0_off14_inb : ∀ (i : grid0.Coords) (v0 : BitVec 32) (k0_hw1 : k0_chk1 i v0) (k0_t1 : Fin (k0_t1_loop v0).trips), ∀ (k0_h3 : k0_cond3 i v0 k0_t1 = 1#1), ∀ a, (k0_off14 v0 k0_t1) a + S2560x512.size a ≤ S2560x10240.size a := fun i v0 k0_hw1 k0_t1 k0_h3 => k0_hw1.1.2.2.2.2.2.2.2.2.2.2.2.2.2.2.2.2.2.2.2.1 k0_t1 k0_h3
theorem k0_off14_wordsfp8e4m3 : ∀ (i : grid0.Coords) (v0 : BitVec 32) (k0_hw1 : k0_chk1 i v0) (k0_t1 : Fin (k0_t1_loop v0).trips), ∀ (k0_h3 : k0_cond3 i v0 k0_t1 = 1#1), (Rect.unit (s := S2560x10240) (k0_off14 v0 k0_t1) S2560x512.size (k0_off14_inb i v0 k0_hw1 k0_t1 k0_h3)).WholeWords (EltTy.packing .fp8e4m3) := fun i v0 k0_hw1 k0_t1 k0_h3 => k0_hw1.1.2.2.2.2.2.2.2.2.2.2.2.2.2.2.2.2.2.2.2.2.1 k0_t1 k0_h3 (k0_off14_inb i v0 k0_hw1 k0_t1 k0_h3)
theorem k0_off13_wordsfp8e4m3 : ∀ (i : grid0.Coords) (v0 : BitVec 32) (k0_hw1 : k0_chk1 i v0) (k0_t1 : Fin (k0_t1_loop v0).trips), ∀ (k0_h3 : k0_cond3 i v0 k0_t1 = 1#1), (Rect.unit (s := S2x2x2560x512) (k0_off13 i v0 k0_t1) S1x1x2560x512.size (k0_off13_inb i v0 k0_hw1 k0_t1 k0_h3)).WholeWords (EltTy.packing .fp8e4m3) := fun i v0 k0_hw1 k0_t1 k0_h3 => k0_hw1.1.2.2.2.2.2.2.2.2.2.2.2.2.2.2.2.2.2.2.2.2.2.1 k0_t1 k0_h3 (k0_off13_inb i v0 k0_hw1 k0_t1 k0_h3)
theorem k0_mult8_dvd : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), 512 ∣ (k0_mult8 v0 k0_t1).toNat := fun i v0 k0_hw1 k0_t1 k0_h3 k0_h4 => k0_hw1.1.2.2.2.2.2.2.2.2.2.2.2.2.2.2.2.2.2.2.2.2.2.2.1 k0_t1 k0_h3 k0_h4
theorem k0_mult9_dvd : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), 2048 ∣ (k0_mult9 i v0 k0_t1).toNat := fun i v0 k0_hw1 k0_t1 k0_h3 k0_h4 => k0_hw1.1.2.2.2.2.2.2.2.2.2.2.2.2.2.2.2.2.2.2.2.2.2.2.2.1 k0_t1 k0_h3 k0_h4
theorem k0_off15_inb : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), ∀ a, (k0_off15 i v0 k0_t1) a + S1x1.size a ≤ S2x2.size a := fun i v0 k0_hw1 k0_t1 k0_h3 k0_h4 => k0_hw1.1.2.2.2.2.2.2.2.2.2.2.2.2.2.2.2.2.2.2.2.2.2.2.2.2.1 k0_t1 k0_h3 k0_h4
theorem k0_off16_inb : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), ∀ a, (k0_off16 i v0 k0_t1) a + S1x1x2048x512.size a ≤ S2x2x2048x512.size a := fun i v0 k0_hw1 k0_t1 k0_h3 k0_h4 => k0_hw1.1.2.2.2.2.2.2.2.2.2.2.2.2.2.2.2.2.2.2.2.2.2.2.2.2.2.1 k0_t1 k0_h3 k0_h4
theorem k0_off17_inb : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), ∀ a, (k0_off17 i v0 k0_t1) a + S2048x512.size a ≤ S8192x10240.size a := fun i v0 k0_hw1 k0_t1 k0_h3 k0_h4 => k0_hw1.1.2.2.2.2.2.2.2.2.2.2.2.2.2.2.2.2.2.2.2.2.2.2.2.2.2.2.1 k0_t1 k0_h3 k0_h4
theorem k0_off17_wordsfp8e5m2 : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), (Rect.unit (s := S8192x10240) (k0_off17 i v0 k0_t1) S2048x512.size (k0_off17_inb i v0 k0_hw1 k0_t1 k0_h3 k0_h4)).WholeWords (EltTy.packing .fp8e5m2) := fun i v0 k0_hw1 k0_t1 k0_h3 k0_h4 => k0_hw1.1.2.2.2.2.2.2.2.2.2.2.2.2.2.2.2.2.2.2.2.2.2.2.2.2.2.2.2.1 k0_t1 k0_h3 k0_h4 (k0_off17_inb i v0 k0_hw1 k0_t1 k0_h3 k0_h4)
theorem k0_off16_wordsfp8e5m2 : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), (Rect.unit (s := S2x2x2048x512) (k0_off16 i v0 k0_t1) S1x1x2048x512.size (k0_off16_inb i v0 k0_hw1 k0_t1 k0_h3 k0_h4)).WholeWords (EltTy.packing .fp8e5m2) := fun i v0 k0_hw1 k0_t1 k0_h3 k0_h4 => k0_hw1.1.2.2.2.2.2.2.2.2.2.2.2.2.2.2.2.2.2.2.2.2.2.2.2.2.2.2.2.2.1 k0_t1 k0_h3 k0_h4 (k0_off16_inb i v0 k0_hw1 k0_t1 k0_h3 k0_h4)
theorem k0_off18_inb : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), ∀ a, (k0_off18 i v0 k0_t1) a + S1x1x2560x512.size a ≤ S2x2x2560x512.size a := fun i v0 k0_hw1 k0_t1 k0_h3 k0_h4 => k0_hw1.1.2.2.2.2.2.2.2.2.2.2.2.2.2.2.2.2.2.2.2.2.2.2.2.2.2.2.2.2.2.1 k0_t1 k0_h3 k0_h4
theorem k0_off19_inb : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), ∀ a, (k0_off19 v0 k0_t1) a + S2560x512.size a ≤ S2560x10240.size a := fun i v0 k0_hw1 k0_t1 k0_h3 k0_h4 => k0_hw1.1.2.2.2.2.2.2.2.2.2.2.2.2.2.2.2.2.2.2.2.2.2.2.2.2.2.2.2.2.2.2.1 k0_t1 k0_h3 k0_h4
theorem k0_off19_wordsfp8e4m3 : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), (Rect.unit (s := S2560x10240) (k0_off19 v0 k0_t1) S2560x512.size (k0_off19_inb i v0 k0_hw1 k0_t1 k0_h3 k0_h4)).WholeWords (EltTy.packing .fp8e4m3) := fun i v0 k0_hw1 k0_t1 k0_h3 k0_h4 => k0_hw1.1.2.2.2.2.2.2.2.2.2.2.2.2.2.2.2.2.2.2.2.2.2.2.2.2.2.2.2.2.2.2.2 k0_t1 k0_h3 k0_h4 (k0_off19_inb i v0 k0_hw1 k0_t1 k0_h3 k0_h4)
theorem k0_off18_wordsfp8e4m3 : ∀ (i : grid0.Coords) (v0 : BitVec 32) (k0_hw1 : k0_chk1 i v0) (k0_t1 : Fin (k0_t1_loop v0).trips), ∀ (k0_h3 : k0_cond3 i v0 k0_t1 = 1#1), ∀ (k0_h4 : k0_cond4 v0 k0_t1 = 1#1), (Rect.unit (s := S2x2x2560x512) (k0_off18 i v0 k0_t1) S1x1x2560x512.size (k0_off18_inb i v0 k0_hw1 k0_t1 k0_h3 k0_h4)).WholeWords (EltTy.packing .fp8e4m3) := fun i v0 k0_hw1 k0_t1 k0_h3 k0_h4 => k0_hw1.2.1.1 k0_t1 k0_h3 k0_h4 (k0_off18_inb i v0 k0_hw1 k0_t1 k0_h3 k0_h4)
theorem k0_mult10_dvd : ∀ (i : grid0.Coords) (v0 : BitVec 32) (k0_hw1 : k0_chk1 i v0) (k0_t1 : Fin (k0_t1_loop v0).trips), 512 ∣ (k0_mult10 v0 k0_t1).toNat := fun i v0 k0_hw1 k0_t1 => k0_hw1.2.1.2.1 k0_t1
theorem k0_off20_inb : ∀ (i : grid0.Coords) (v0 : BitVec 32) (k0_hw1 : k0_chk1 i v0) (k0_t1 : Fin (k0_t1_loop v0).trips), ∀ a, (k0_off20 i v0 k0_t1) a + S1x1.size a ≤ S2x2.size a := fun i v0 k0_hw1 k0_t1 => k0_hw1.2.1.2.2.1 k0_t1
theorem k0_off21_inb : ∀ (i : grid0.Coords) (v0 : BitVec 32) (k0_hw1 : k0_chk1 i v0) (k0_t1 : Fin (k0_t1_loop v0).trips), ∀ a, (k0_off21 i v0 k0_t1) a + S1x1x2048x512.size a ≤ S2x2x2048x512.size a := fun i v0 k0_hw1 k0_t1 => k0_hw1.2.1.2.2.2.1 k0_t1
theorem k0_off22_inb : ∀ (i : grid0.Coords) (v0 : BitVec 32) (k0_hw1 : k0_chk1 i v0) (k0_t1 : Fin (k0_t1_loop v0).trips), ∀ a, (k0_off22 i v0 k0_t1) a + S2048x512.size a ≤ S8192x10240.size a := fun i v0 k0_hw1 k0_t1 => k0_hw1.2.1.2.2.2.2.1 k0_t1
theorem k0_off22_wordsfp8e5m2 : ∀ (i : grid0.Coords) (v0 : BitVec 32) (k0_hw1 : k0_chk1 i v0) (k0_t1 : Fin (k0_t1_loop v0).trips), (Rect.unit (s := S8192x10240) (k0_off22 i v0 k0_t1) S2048x512.size (k0_off22_inb i v0 k0_hw1 k0_t1)).WholeWords (EltTy.packing .fp8e5m2) := fun i v0 k0_hw1 k0_t1 => k0_hw1.2.1.2.2.2.2.2.1 k0_t1 (k0_off22_inb i v0 k0_hw1 k0_t1)
theorem k0_off21_wordsfp8e5m2 : ∀ (i : grid0.Coords) (v0 : BitVec 32) (k0_hw1 : k0_chk1 i v0) (k0_t1 : Fin (k0_t1_loop v0).trips), (Rect.unit (s := S2x2x2048x512) (k0_off21 i v0 k0_t1) S1x1x2048x512.size (k0_off21_inb i v0 k0_hw1 k0_t1)).WholeWords (EltTy.packing .fp8e5m2) := fun i v0 k0_hw1 k0_t1 => k0_hw1.2.1.2.2.2.2.2.2.1 k0_t1 (k0_off21_inb i v0 k0_hw1 k0_t1)
theorem k0_off23_inb : ∀ (i : grid0.Coords) (v0 : BitVec 32) (k0_hw1 : k0_chk1 i v0) (k0_t1 : Fin (k0_t1_loop v0).trips), ∀ a, (k0_off23 i v0 k0_t1) a + S1x1x2560x512.size a ≤ S2x2x2560x512.size a := fun i v0 k0_hw1 k0_t1 => k0_hw1.2.1.2.2.2.2.2.2.2.1 k0_t1
theorem k0_off24_inb : ∀ (i : grid0.Coords) (v0 : BitVec 32) (k0_hw1 : k0_chk1 i v0) (k0_t1 : Fin (k0_t1_loop v0).trips), ∀ a, (k0_off24 v0 k0_t1) a + S2560x512.size a ≤ S2560x10240.size a := fun i v0 k0_hw1 k0_t1 => k0_hw1.2.1.2.2.2.2.2.2.2.2.1 k0_t1
theorem k0_off24_wordsfp8e4m3 : ∀ (i : grid0.Coords) (v0 : BitVec 32) (k0_hw1 : k0_chk1 i v0) (k0_t1 : Fin (k0_t1_loop v0).trips), (Rect.unit (s := S2560x10240) (k0_off24 v0 k0_t1) S2560x512.size (k0_off24_inb i v0 k0_hw1 k0_t1)).WholeWords (EltTy.packing .fp8e4m3) := fun i v0 k0_hw1 k0_t1 => k0_hw1.2.1.2.2.2.2.2.2.2.2.2.1 k0_t1 (k0_off24_inb i v0 k0_hw1 k0_t1)
theorem k0_off23_wordsfp8e4m3 : ∀ (i : grid0.Coords) (v0 : BitVec 32) (k0_hw1 : k0_chk1 i v0) (k0_t1 : Fin (k0_t1_loop v0).trips), (Rect.unit (s := S2x2x2560x512) (k0_off23 i v0 k0_t1) S1x1x2560x512.size (k0_off23_inb i v0 k0_hw1 k0_t1)).WholeWords (EltTy.packing .fp8e4m3) := fun i v0 k0_hw1 k0_t1 => k0_hw1.2.1.2.2.2.2.2.2.2.2.2.2.1 k0_t1 (k0_off23_inb i v0 k0_hw1 k0_t1)
theorem k0_mult12_dvd : ∀ (i : grid0.Coords) (v0 : BitVec 32) (k0_hw1 : k0_chk1 i v0) (k0_t1 : Fin (k0_t1_loop v0).trips), ∀ (k0_h5 : k0_cond5 v0 k0_t1 = 1#1), 512 ∣ (k0_mult12 v0 k0_t1).toNat := fun i v0 k0_hw1 k0_t1 k0_h5 => k0_hw1.2.1.2.2.2.2.2.2.2.2.2.2.2.1 k0_t1 k0_h5
theorem k0_off25_inb : ∀ (i : grid0.Coords) (v0 : BitVec 32) (k0_hw1 : k0_chk1 i v0) (k0_t1 : Fin (k0_t1_loop v0).trips), ∀ (k0_h5 : k0_cond5 v0 k0_t1 = 1#1), ∀ a, (k0_off25 i v0 k0_t1) a + S1x1.size a ≤ S2x2.size a := fun i v0 k0_hw1 k0_t1 k0_h5 => k0_hw1.2.1.2.2.2.2.2.2.2.2.2.2.2.2.1 k0_t1 k0_h5
theorem k0_off26_inb : ∀ (i : grid0.Coords) (v0 : BitVec 32) (k0_hw1 : k0_chk1 i v0) (k0_t1 : Fin (k0_t1_loop v0).trips), ∀ (k0_h5 : k0_cond5 v0 k0_t1 = 1#1), ∀ a, (k0_off26 i v0 k0_t1) a + S1x1x2048x512.size a ≤ S2x2x2048x512.size a := fun i v0 k0_hw1 k0_t1 k0_h5 => k0_hw1.2.1.2.2.2.2.2.2.2.2.2.2.2.2.2.1 k0_t1 k0_h5
theorem k0_off27_inb : ∀ (i : grid0.Coords) (v0 : BitVec 32) (k0_hw1 : k0_chk1 i v0) (k0_t1 : Fin (k0_t1_loop v0).trips), ∀ (k0_h5 : k0_cond5 v0 k0_t1 = 1#1), ∀ a, (k0_off27 i v0 k0_t1) a + S2048x512.size a ≤ S8192x10240.size a := fun i v0 k0_hw1 k0_t1 k0_h5 => k0_hw1.2.1.2.2.2.2.2.2.2.2.2.2.2.2.2.2.1 k0_t1 k0_h5
theorem k0_off27_wordsfp8e5m2 : ∀ (i : grid0.Coords) (v0 : BitVec 32) (k0_hw1 : k0_chk1 i v0) (k0_t1 : Fin (k0_t1_loop v0).trips), ∀ (k0_h5 : k0_cond5 v0 k0_t1 = 1#1), (Rect.unit (s := S8192x10240) (k0_off27 i v0 k0_t1) S2048x512.size (k0_off27_inb i v0 k0_hw1 k0_t1 k0_h5)).WholeWords (EltTy.packing .fp8e5m2) := fun i v0 k0_hw1 k0_t1 k0_h5 => k0_hw1.2.1.2.2.2.2.2.2.2.2.2.2.2.2.2.2.2.1 k0_t1 k0_h5 (k0_off27_inb i v0 k0_hw1 k0_t1 k0_h5)
theorem k0_off26_wordsfp8e5m2 : ∀ (i : grid0.Coords) (v0 : BitVec 32) (k0_hw1 : k0_chk1 i v0) (k0_t1 : Fin (k0_t1_loop v0).trips), ∀ (k0_h5 : k0_cond5 v0 k0_t1 = 1#1), (Rect.unit (s := S2x2x2048x512) (k0_off26 i v0 k0_t1) S1x1x2048x512.size (k0_off26_inb i v0 k0_hw1 k0_t1 k0_h5)).WholeWords (EltTy.packing .fp8e5m2) := fun i v0 k0_hw1 k0_t1 k0_h5 => k0_hw1.2.1.2.2.2.2.2.2.2.2.2.2.2.2.2.2.2.2.1 k0_t1 k0_h5 (k0_off26_inb i v0 k0_hw1 k0_t1 k0_h5)
theorem k0_off28_inb : ∀ (i : grid0.Coords) (v0 : BitVec 32) (k0_hw1 : k0_chk1 i v0) (k0_t1 : Fin (k0_t1_loop v0).trips), ∀ (k0_h5 : k0_cond5 v0 k0_t1 = 1#1), ∀ a, (k0_off28 i v0 k0_t1) a + S1x1x2560x512.size a ≤ S2x2x2560x512.size a := fun i v0 k0_hw1 k0_t1 k0_h5 => k0_hw1.2.1.2.2.2.2.2.2.2.2.2.2.2.2.2.2.2.2.2.1 k0_t1 k0_h5
theorem k0_off29_inb : ∀ (i : grid0.Coords) (v0 : BitVec 32) (k0_hw1 : k0_chk1 i v0) (k0_t1 : Fin (k0_t1_loop v0).trips), ∀ (k0_h5 : k0_cond5 v0 k0_t1 = 1#1), ∀ a, (k0_off29 v0 k0_t1) a + S2560x512.size a ≤ S2560x10240.size a := fun i v0 k0_hw1 k0_t1 k0_h5 => k0_hw1.2.1.2.2.2.2.2.2.2.2.2.2.2.2.2.2.2.2.2.2.1 k0_t1 k0_h5
theorem k0_off29_wordsfp8e4m3 : ∀ (i : grid0.Coords) (v0 : BitVec 32) (k0_hw1 : k0_chk1 i v0) (k0_t1 : Fin (k0_t1_loop v0).trips), ∀ (k0_h5 : k0_cond5 v0 k0_t1 = 1#1), (Rect.unit (s := S2560x10240) (k0_off29 v0 k0_t1) S2560x512.size (k0_off29_inb i v0 k0_hw1 k0_t1 k0_h5)).WholeWords (EltTy.packing .fp8e4m3) := fun i v0 k0_hw1 k0_t1 k0_h5 => k0_hw1.2.1.2.2.2.2.2.2.2.2.2.2.2.2.2.2.2.2.2.2.2.1 k0_t1 k0_h5 (k0_off29_inb i v0 k0_hw1 k0_t1 k0_h5)
theorem k0_off28_wordsfp8e4m3 : ∀ (i : grid0.Coords) (v0 : BitVec 32) (k0_hw1 : k0_chk1 i v0) (k0_t1 : Fin (k0_t1_loop v0).trips), ∀ (k0_h5 : k0_cond5 v0 k0_t1 = 1#1), (Rect.unit (s := S2x2x2560x512) (k0_off28 i v0 k0_t1) S1x1x2560x512.size (k0_off28_inb i v0 k0_hw1 k0_t1 k0_h5)).WholeWords (EltTy.packing .fp8e4m3) := fun i v0 k0_hw1 k0_t1 k0_h5 => k0_hw1.2.1.2.2.2.2.2.2.2.2.2.2.2.2.2.2.2.2.2.2.2.2.1 k0_t1 k0_h5 (k0_off28_inb i v0 k0_hw1 k0_t1 k0_h5)
theorem k0_off30_inb : ∀ (i : grid0.Coords) (v0 : BitVec 32) (k0_hw1 : k0_chk1 i v0) (k0_t1 : Fin (k0_t1_loop v0).trips), ∀ (k0_h5 : k0_cond5 v0 k0_t1 = 1#1), ∀ a, (k0_off30 v0 k0_t1) a + S1.size a ≤ S20.size a := fun i v0 k0_hw1 k0_t1 k0_h5 => k0_hw1.2.1.2.2.2.2.2.2.2.2.2.2.2.2.2.2.2.2.2.2.2.2.2.1 k0_t1 k0_h5
theorem k0_off31_inb : ∀ (i : grid0.Coords) (v0 : BitVec 32) (k0_hw1 : k0_chk1 i v0) (k0_t1 : Fin (k0_t1_loop v0).trips), ∀ (k0_h5 : k0_cond5 v0 k0_t1 = 1#1), ∀ a, (k0_off31 v0 k0_t1) a + S1.size a ≤ S20.size a := fun i v0 k0_hw1 k0_t1 k0_h5 => k0_hw1.2.1.2.2.2.2.2.2.2.2.2.2.2.2.2.2.2.2.2.2.2.2.2.2.1 k0_t1 k0_h5
theorem k0_off32_inb : ∀ (i : grid0.Coords) (v0 : BitVec 32) (k0_hw1 : k0_chk1 i v0) (k0_t1 : Fin (k0_t1_loop v0).trips), ∀ (k0_h5 : k0_cond5 v0 k0_t1 = 1#1), ∀ a, (k0_off32 i v0 k0_t1) a + S1x1x512x512.size a ≤ S2x2x2048x512.size a := fun i v0 k0_hw1 k0_t1 k0_h5 => k0_hw1.2.1.2.2.2.2.2.2.2.2.2.2.2.2.2.2.2.2.2.2.2.2.2.2.2.1 k0_t1 k0_h5
theorem k0_off33_inb : ∀ (i : grid0.Coords) (v0 : BitVec 32) (k0_hw1 : k0_chk1 i v0) (k0_t1 : Fin (k0_t1_loop v0).trips), ∀ (k0_h5 : k0_cond5 v0 k0_t1 = 1#1), ∀ a, (k0_off33 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.1 k0_t1 k0_h5
theorem k0_off34_inb : ∀ (i : grid0.Coords) (v0 : BitVec 32) (k0_hw1 : k0_chk1 i v0) (k0_t1 : Fin (k0_t1_loop v0).trips), ∀ (k0_h5 : k0_cond5 v0 k0_t1 = 1#1), ∀ a, (k0_off34 i v0 k0_t1) a + S1x1x512x512.size a ≤ S2x2x2048x512.size a := fun i v0 k0_hw1 k0_t1 k0_h5 => k0_hw1.2.1.2.2.2.2.2.2.2.2.2.2.2.2.2.2.2.2.2.2.2.2.2.2.2.2.2.1 k0_t1 k0_h5
theorem k0_off35_inb : ∀ (i : grid0.Coords) (v0 : BitVec 32) (k0_hw1 : k0_chk1 i v0) (k0_t1 : Fin (k0_t1_loop v0).trips), ∀ (k0_h5 : k0_cond5 v0 k0_t1 = 1#1), ∀ a, (k0_off35 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.2.2.1 k0_t1 k0_h5
theorem k0_off36_inb : ∀ (i : grid0.Coords) (v0 : BitVec 32) (k0_hw1 : k0_chk1 i v0) (k0_t1 : Fin (k0_t1_loop v0).trips), ∀ (k0_h5 : k0_cond5 v0 k0_t1 = 1#1), ∀ a, (k0_off36 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.2.2.2.1 k0_t1 k0_h5
theorem k0_off37_inb : ∀ (i : grid0.Coords) (v0 : BitVec 32) (k0_hw1 : k0_chk1 i v0) (k0_t1 : Fin (k0_t1_loop v0).trips), ∀ (k0_h5 : k0_cond5 v0 k0_t1 = 1#1), ∀ a, (k0_off37 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.2.2.2.2.1 k0_t1 k0_h5
theorem k0_off38_inb : ∀ (i : grid0.Coords) (v0 : BitVec 32) (k0_hw1 : k0_chk1 i v0) (k0_t1 : Fin (k0_t1_loop v0).trips), ∀ (k0_h5 : k0_cond5 v0 k0_t1 = 1#1), ∀ a, (k0_off38 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.2.2.2.2.2.1 k0_t1 k0_h5
theorem k0_off39_inb : ∀ (i : grid0.Coords) (v0 : BitVec 32) (k0_hw1 : k0_chk1 i v0) (k0_t1 : Fin (k0_t1_loop v0).trips), ∀ (k0_h5 : k0_cond5 v0 k0_t1 = 1#1), ∀ a, (k0_off39 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.2.2.2.2.2.2.1 k0_t1 k0_h5
theorem k0_off40_inb : ∀ (i : grid0.Coords) (v0 : BitVec 32) (k0_hw1 : k0_chk1 i v0) (k0_t1 : Fin (k0_t1_loop v0).trips), ∀ (k0_h5 : k0_cond5 v0 k0_t1 = 1#1), ∀ a, (k0_off40 i v0 k0_t1) a + S1x1x512x512.size a ≤ S2x2x2560x512.size a := fun i v0 k0_hw1 k0_t1 k0_h5 => k0_hw1.2.1.2.2.2.2.2.2.2.2.2.2.2.2.2.2.2.2.2.2.2.2.2.2.2.2.2.2.2.2.2.2.2 k0_t1 k0_h5
theorem k0_off41_inb : ∀ (i : grid0.Coords) (v0 : BitVec 32) (k0_hw1 : k0_chk1 i v0) (k0_t1 : Fin (k0_t1_loop v0).trips), ∀ (k0_h5 : k0_cond5 v0 k0_t1 = 1#1), ∀ a, (k0_off41 i v0 k0_t1) a + S1x1x512x512.size a ≤ S2x2x2560x512.size a := fun i v0 k0_hw1 k0_t1 k0_h5 => k0_hw1.2.2.1.1 k0_t1 k0_h5
theorem k0_off42_inb : ∀ (i : grid0.Coords) (v0 : BitVec 32) (k0_hw1 : k0_chk1 i v0) (k0_t1 : Fin (k0_t1_loop v0).trips), ∀ (k0_h5 : k0_cond5 v0 k0_t1 = 1#1), ∀ a, (k0_off42 i v0 k0_t1) a + S1x1x512x512.size a ≤ S2x2x2560x512.size a := fun i v0 k0_hw1 k0_t1 k0_h5 => k0_hw1.2.2.1.2.1 k0_t1 k0_h5
theorem k0_off43_inb : ∀ (i : grid0.Coords) (v0 : BitVec 32) (k0_hw1 : k0_chk1 i v0) (k0_t1 : Fin (k0_t1_loop v0).trips), ∀ (k0_h5 : k0_cond5 v0 k0_t1 = 1#1), ∀ a, (k0_off43 i v0 k0_t1) a + S1x1x512x512.size a ≤ S2x2x2560x512.size a := fun i v0 k0_hw1 k0_t1 k0_h5 => k0_hw1.2.2.1.2.2.1 k0_t1 k0_h5
theorem k0_off44_inb : ∀ (i : grid0.Coords) (v0 : BitVec 32) (k0_hw1 : k0_chk1 i v0) (k0_t1 : Fin (k0_t1_loop v0).trips), ∀ (k0_h5 : k0_cond5 v0 k0_t1 = 1#1), ∀ a, (k0_off44 i v0 k0_t1) a + S1x1x512x512.size a ≤ S2x2x2048x512.size a := fun i v0 k0_hw1 k0_t1 k0_h5 => k0_hw1.2.2.1.2.2.2.1 k0_t1 k0_h5
theorem k0_off45_inb : ∀ (i : grid0.Coords) (v0 : BitVec 32) (k0_hw1 : k0_chk1 i v0) (k0_t1 : Fin (k0_t1_loop v0).trips), ∀ (k0_h5 : k0_cond5 v0 k0_t1 = 1#1), ∀ a, (k0_off45 i v0 k0_t1) a + S1x1x512x512.size a ≤ S2x2x2048x512.size a := fun i v0 k0_hw1 k0_t1 k0_h5 => k0_hw1.2.2.1.2.2.2.2.1 k0_t1 k0_h5
theorem k0_off46_inb : ∀ (i : grid0.Coords) (v0 : BitVec 32) (k0_hw1 : k0_chk1 i v0) (k0_t1 : Fin (k0_t1_loop v0).trips), ∀ (k0_h5 : k0_cond5 v0 k0_t1 = 1#1), ∀ a, (k0_off46 i v0 k0_t1) a + S1x1x512x512.size a ≤ S2x2x2048x512.size a := fun i v0 k0_hw1 k0_t1 k0_h5 => k0_hw1.2.2.1.2.2.2.2.2.1 k0_t1 k0_h5
theorem k0_off47_inb : ∀ (i : grid0.Coords) (v0 : BitVec 32) (k0_hw1 : k0_chk1 i v0) (k0_t1 : Fin (k0_t1_loop v0).trips), ∀ (k0_h5 : k0_cond5 v0 k0_t1 = 1#1), ∀ a, (k0_off47 i v0 k0_t1) a + S1x1x512x512.size a ≤ S2x2x2048x512.size a := fun i v0 k0_hw1 k0_t1 k0_h5 => k0_hw1.2.2.1.2.2.2.2.2.2.1 k0_t1 k0_h5
theorem k0_off48_inb : ∀ (i : grid0.Coords) (v0 : BitVec 32) (k0_hw1 : k0_chk1 i v0) (k0_t1 : Fin (k0_t1_loop v0).trips), ∀ (k0_h5 : k0_cond5 v0 k0_t1 = 1#1), ∀ a, (k0_off48 i v0 k0_t1) a + S1x1x512x512.size a ≤ S2x2x2048x512.size a := fun i v0 k0_hw1 k0_t1 k0_h5 => k0_hw1.2.2.1.2.2.2.2.2.2.2.1 k0_t1 k0_h5
theorem k0_off49_inb : ∀ (i : grid0.Coords) (v0 : BitVec 32) (k0_hw1 : k0_chk1 i v0) (k0_t1 : Fin (k0_t1_loop v0).trips), ∀ (k0_h5 : k0_cond5 v0 k0_t1 = 1#1), ∀ a, (k0_off49 i v0 k0_t1) a + S1x1x512x512.size a ≤ S2x2x2048x512.size a := fun i v0 k0_hw1 k0_t1 k0_h5 => k0_hw1.2.2.1.2.2.2.2.2.2.2.2.1 k0_t1 k0_h5
theorem k0_off50_inb : ∀ (i : grid0.Coords) (v0 : BitVec 32) (k0_hw1 : k0_chk1 i v0) (k0_t1 : Fin (k0_t1_loop v0).trips), ∀ (k0_h6 : k0_cond6 v0 k0_t1 = 1#1), ∀ a, (k0_off50 v0 k0_t1) a + S1.size a ≤ S20.size a := fun i v0 k0_hw1 k0_t1 k0_h6 => k0_hw1.2.2.1.2.2.2.2.2.2.2.2.2.1 k0_t1 k0_h6
theorem k0_off51_inb : ∀ (i : grid0.Coords) (v0 : BitVec 32) (k0_hw1 : k0_chk1 i v0) (k0_t1 : Fin (k0_t1_loop v0).trips), ∀ (k0_h6 : k0_cond6 v0 k0_t1 = 1#1), ∀ a, (k0_off51 i v0 k0_t1) a + S1x1x512x512.size a ≤ S2x2x2048x512.size a := fun i v0 k0_hw1 k0_t1 k0_h6 => k0_hw1.2.2.1.2.2.2.2.2.2.2.2.2.2.1 k0_t1 k0_h6
theorem k0_off52_inb : ∀ (i : grid0.Coords) (v0 : BitVec 32) (k0_hw1 : k0_chk1 i v0) (k0_t1 : Fin (k0_t1_loop v0).trips), ∀ (k0_h6 : k0_cond6 v0 k0_t1 = 1#1), ∀ a, (k0_off52 i v0 k0_t1) a + S1x1x512x512.size a ≤ S2x2x2560x512.size a := fun i v0 k0_hw1 k0_t1 k0_h6 => k0_hw1.2.2.1.2.2.2.2.2.2.2.2.2.2.2.1 k0_t1 k0_h6
theorem k0_off53_inb : ∀ (i : grid0.Coords) (v0 : BitVec 32) (k0_hw1 : k0_chk1 i v0) (k0_t1 : Fin (k0_t1_loop v0).trips), ∀ (k0_h6 : k0_cond6 v0 k0_t1 = 1#1), ∀ a, (k0_off53 i v0 k0_t1) a + S1x1x512x512.size a ≤ S2x2x2560x512.size a := fun i v0 k0_hw1 k0_t1 k0_h6 => k0_hw1.2.2.1.2.2.2.2.2.2.2.2.2.2.2.2.1 k0_t1 k0_h6
theorem k0_off54_inb : ∀ (i : grid0.Coords) (v0 : BitVec 32) (k0_hw1 : k0_chk1 i v0) (k0_t1 : Fin (k0_t1_loop v0).trips), ∀ (k0_h6 : k0_cond6 v0 k0_t1 = 1#1), ∀ a, (k0_off54 i v0 k0_t1) a + S1x1x512x512.size a ≤ S2x2x2560x512.size a := fun i v0 k0_hw1 k0_t1 k0_h6 => k0_hw1.2.2.1.2.2.2.2.2.2.2.2.2.2.2.2.2.1 k0_t1 k0_h6
theorem k0_off55_inb : ∀ (i : grid0.Coords) (v0 : BitVec 32) (k0_hw1 : k0_chk1 i v0) (k0_t1 : Fin (k0_t1_loop v0).trips), ∀ (k0_h6 : k0_cond6 v0 k0_t1 = 1#1), ∀ a, (k0_off55 i v0 k0_t1) a + S1x1x512x512.size a ≤ S2x2x2560x512.size a := fun i v0 k0_hw1 k0_t1 k0_h6 => k0_hw1.2.2.1.2.2.2.2.2.2.2.2.2.2.2.2.2.2.1 k0_t1 k0_h6
theorem k0_off56_inb : ∀ (i : grid0.Coords) (v0 : BitVec 32) (k0_hw1 : k0_chk1 i v0) (k0_t1 : Fin (k0_t1_loop v0).trips), ∀ (k0_h6 : k0_cond6 v0 k0_t1 = 1#1), ∀ a, (k0_off56 i v0 k0_t1) a + S1x1x512x512.size a ≤ S2x2x2560x512.size a := fun i v0 k0_hw1 k0_t1 k0_h6 => k0_hw1.2.2.1.2.2.2.2.2.2.2.2.2.2.2.2.2.2.2.1 k0_t1 k0_h6
theorem k0_off57_inb : ∀ (i : grid0.Coords) (v0 : BitVec 32) (k0_hw1 : k0_chk1 i v0) (k0_t1 : Fin (k0_t1_loop v0).trips), ∀ (k0_h6 : k0_cond6 v0 k0_t1 = 1#1), ∀ a, (k0_off57 i v0 k0_t1) a + S1x1x512x512.size a ≤ S2x2x2048x512.size a := fun i v0 k0_hw1 k0_t1 k0_h6 => k0_hw1.2.2.1.2.2.2.2.2.2.2.2.2.2.2.2.2.2.2.2.1 k0_t1 k0_h6
theorem k0_off58_inb : ∀ (i : grid0.Coords) (v0 : BitVec 32) (k0_hw1 : k0_chk1 i v0) (k0_t1 : Fin (k0_t1_loop v0).trips), ∀ (k0_h6 : k0_cond6 v0 k0_t1 = 1#1), ∀ a, (k0_off58 i v0 k0_t1) a + S1x1x512x512.size a ≤ S2x2x2048x512.size a := fun i v0 k0_hw1 k0_t1 k0_h6 => k0_hw1.2.2.1.2.2.2.2.2.2.2.2.2.2.2.2.2.2.2.2.2.1 k0_t1 k0_h6
theorem k0_off59_inb : ∀ (i : grid0.Coords) (v0 : BitVec 32) (k0_hw1 : k0_chk1 i v0) (k0_t1 : Fin (k0_t1_loop v0).trips), ∀ (k0_h6 : k0_cond6 v0 k0_t1 = 1#1), ∀ a, (k0_off59 i v0 k0_t1) a + S1x1x512x512.size a ≤ S2x2x2048x512.size a := fun i v0 k0_hw1 k0_t1 k0_h6 => k0_hw1.2.2.1.2.2.2.2.2.2.2.2.2.2.2.2.2.2.2.2.2.2.1 k0_t1 k0_h6
theorem k0_mult14_dvd : ∀ (i : grid0.Coords) (v0 : BitVec 32) (k0_hw1 : k0_chk1 i v0) (k0_t1 : Fin (k0_t1_loop v0).trips), ∀ (k0_h7 : k0_cond7 v0 k0_t1 = 1#1), 512 ∣ (k0_mult14 v0 k0_t1).toNat := fun i v0 k0_hw1 k0_t1 k0_h7 => k0_hw1.2.2.1.2.2.2.2.2.2.2.2.2.2.2.2.2.2.2.2.2.2.2.1 k0_t1 k0_h7
theorem k0_off60_inb : ∀ (i : grid0.Coords) (v0 : BitVec 32) (k0_hw1 : k0_chk1 i v0) (k0_t1 : Fin (k0_t1_loop v0).trips), ∀ (k0_h7 : k0_cond7 v0 k0_t1 = 1#1), ∀ a, (k0_off60 v0 k0_t1) a + S1x512.size a ≤ S1x10240.size a := fun i v0 k0_hw1 k0_t1 k0_h7 => k0_hw1.2.2.1.2.2.2.2.2.2.2.2.2.2.2.2.2.2.2.2.2.2.2.2.1 k0_t1 k0_h7
theorem k0_off61_inb : ∀ (i : grid0.Coords) (v0 : BitVec 32) (k0_hw1 : k0_chk1 i v0) (k0_t1 : Fin (k0_t1_loop v0).trips), ∀ (k0_h7 : k0_cond7 v0 k0_t1 = 1#1), ∀ a, (k0_off61 i v0 k0_t1) a + S1x1x512x512.size a ≤ S2x2x2048x512.size a := fun i v0 k0_hw1 k0_t1 k0_h7 => k0_hw1.2.2.1.2.2.2.2.2.2.2.2.2.2.2.2.2.2.2.2.2.2.2.2.2.1 k0_t1 k0_h7
theorem k0_off62_inb : ∀ (i : grid0.Coords) (v0 : BitVec 32) (k0_hw1 : k0_chk1 i v0) (k0_t1 : Fin (k0_t1_loop v0).trips), ∀ (k0_h7 : k0_cond7 v0 k0_t1 = 1#1), ∀ a, (k0_off62 i v0 k0_t1) a + S1x1x512x512.size a ≤ S2x2x2560x512.size a := fun i v0 k0_hw1 k0_t1 k0_h7 => k0_hw1.2.2.1.2.2.2.2.2.2.2.2.2.2.2.2.2.2.2.2.2.2.2.2.2.2.1 k0_t1 k0_h7
theorem k0_off63_inb : ∀ (i : grid0.Coords) (v0 : BitVec 32) (k0_hw1 : k0_chk1 i v0) (k0_t1 : Fin (k0_t1_loop v0).trips), ∀ (k0_h7 : k0_cond7 v0 k0_t1 = 1#1), ∀ a, (k0_off63 i v0 k0_t1) a + S1x1x512x512.size a ≤ S2x2x2560x512.size a := fun i v0 k0_hw1 k0_t1 k0_h7 => k0_hw1.2.2.1.2.2.2.2.2.2.2.2.2.2.2.2.2.2.2.2.2.2.2.2.2.2.2.1 k0_t1 k0_h7
theorem k0_off64_inb : ∀ (i : grid0.Coords) (v0 : BitVec 32) (k0_hw1 : k0_chk1 i v0) (k0_t1 : Fin (k0_t1_loop v0).trips), ∀ (k0_h7 : k0_cond7 v0 k0_t1 = 1#1), ∀ a, (k0_off64 i v0 k0_t1) a + S1x1x512x512.size a ≤ S2x2x2560x512.size a := fun i v0 k0_hw1 k0_t1 k0_h7 => k0_hw1.2.2.1.2.2.2.2.2.2.2.2.2.2.2.2.2.2.2.2.2.2.2.2.2.2.2.2.1 k0_t1 k0_h7
theorem k0_off65_inb : ∀ (i : grid0.Coords) (v0 : BitVec 32) (k0_hw1 : k0_chk1 i v0) (k0_t1 : Fin (k0_t1_loop v0).trips), ∀ (k0_h7 : k0_cond7 v0 k0_t1 = 1#1), ∀ a, (k0_off65 i v0 k0_t1) a + S1x1x512x512.size a ≤ S2x2x2560x512.size a := fun i v0 k0_hw1 k0_t1 k0_h7 => k0_hw1.2.2.1.2.2.2.2.2.2.2.2.2.2.2.2.2.2.2.2.2.2.2.2.2.2.2.2.2.1 k0_t1 k0_h7
theorem k0_off66_inb : ∀ (i : grid0.Coords) (v0 : BitVec 32) (k0_hw1 : k0_chk1 i v0) (k0_t1 : Fin (k0_t1_loop v0).trips), ∀ (k0_h7 : k0_cond7 v0 k0_t1 = 1#1), ∀ a, (k0_off66 i v0 k0_t1) a + S1x1x512x512.size a ≤ S2x2x2560x512.size a := fun i v0 k0_hw1 k0_t1 k0_h7 => k0_hw1.2.2.1.2.2.2.2.2.2.2.2.2.2.2.2.2.2.2.2.2.2.2.2.2.2.2.2.2.2.1 k0_t1 k0_h7
theorem k0_off67_inb : ∀ (i : grid0.Coords) (v0 : BitVec 32) (k0_hw1 : k0_chk1 i v0) (k0_t1 : Fin (k0_t1_loop v0).trips), ∀ (k0_h7 : k0_cond7 v0 k0_t1 = 1#1), ∀ a, (k0_off67 i v0 k0_t1) a + S1x1x512x512.size a ≤ S2x2x2048x512.size a := fun i v0 k0_hw1 k0_t1 k0_h7 => k0_hw1.2.2.1.2.2.2.2.2.2.2.2.2.2.2.2.2.2.2.2.2.2.2.2.2.2.2.2.2.2.2.1 k0_t1 k0_h7
theorem k0_off68_inb : ∀ (i : grid0.Coords) (v0 : BitVec 32) (k0_hw1 : k0_chk1 i v0) (k0_t1 : Fin (k0_t1_loop v0).trips), ∀ (k0_h7 : k0_cond7 v0 k0_t1 = 1#1), ∀ a, (k0_off68 i v0 k0_t1) a + S1x1x512x512.size a ≤ S2x2x2048x512.size a := fun i v0 k0_hw1 k0_t1 k0_h7 => k0_hw1.2.2.1.2.2.2.2.2.2.2.2.2.2.2.2.2.2.2.2.2.2.2.2.2.2.2.2.2.2.2.2.1 k0_t1 k0_h7
theorem k0_off69_inb : ∀ (i : grid0.Coords) (v0 : BitVec 32) (k0_hw1 : k0_chk1 i v0) (k0_t1 : Fin (k0_t1_loop v0).trips), ∀ (k0_h7 : k0_cond7 v0 k0_t1 = 1#1), ∀ a, (k0_off69 i v0 k0_t1) a + S1x1x512x512.size a ≤ S2x2x2048x512.size a := fun i v0 k0_hw1 k0_t1 k0_h7 => k0_hw1.2.2.1.2.2.2.2.2.2.2.2.2.2.2.2.2.2.2.2.2.2.2.2.2.2.2.2.2.2.2.2.2.1 k0_t1 k0_h7
theorem k0_t2_ok : ∀ (i : grid0.Coords) (v0 : BitVec 32) (k0_hw1 : k0_chk1 i v0), (k0_t2_loop v0).OK := fun i v0 k0_hw1 => k0_hw1.2.2.1.2.2.2.2.2.2.2.2.2.2.2.2.2.2.2.2.2.2.2.2.2.2.2.2.2.2.2.2.2.2.1
theorem k0_mult15_dvd : ∀ (i : grid0.Coords) (v0 : BitVec 32) (k0_hw1 : k0_chk1 i v0) (k0_t2 : Fin (k0_t2_loop v0).trips), ∀ (k0_h8 : k0_cond8 i v0 k0_t2 = 1#1), 512 ∣ (k0_mult15 v0 k0_t2).toNat := fun i v0 k0_hw1 k0_t2 k0_h8 => k0_hw1.2.2.1.2.2.2.2.2.2.2.2.2.2.2.2.2.2.2.2.2.2.2.2.2.2.2.2.2.2.2.2.2.2.2 k0_t2 k0_h8
theorem k0_mult16_dvd : ∀ (i : grid0.Coords) (v0 : BitVec 32) (k0_hw1 : k0_chk1 i v0) (k0_t2 : Fin (k0_t2_loop v0).trips), ∀ (k0_h8 : k0_cond8 i v0 k0_t2 = 1#1), 2048 ∣ (k0_mult16 i v0 k0_t2).toNat := fun i v0 k0_hw1 k0_t2 k0_h8 => k0_hw1.2.2.2.1.1 k0_t2 k0_h8
theorem k0_off70_inb : ∀ (i : grid0.Coords) (v0 : BitVec 32) (k0_hw1 : k0_chk1 i v0) (k0_t2 : Fin (k0_t2_loop v0).trips), ∀ (k0_h8 : k0_cond8 i v0 k0_t2 = 1#1), ∀ a, (k0_off70 i v0 k0_t2) a + S1x1.size a ≤ S2x2.size a := fun i v0 k0_hw1 k0_t2 k0_h8 => k0_hw1.2.2.2.1.2.1 k0_t2 k0_h8
theorem k0_off71_inb : ∀ (i : grid0.Coords) (v0 : BitVec 32) (k0_hw1 : k0_chk1 i v0) (k0_t2 : Fin (k0_t2_loop v0).trips), ∀ (k0_h8 : k0_cond8 i v0 k0_t2 = 1#1), ∀ a, (k0_off71 i v0 k0_t2) a + S1x1x2048x512.size a ≤ S2x2x2048x512.size a := fun i v0 k0_hw1 k0_t2 k0_h8 => k0_hw1.2.2.2.1.2.2.1 k0_t2 k0_h8
theorem k0_off72_inb : ∀ (i : grid0.Coords) (v0 : BitVec 32) (k0_hw1 : k0_chk1 i v0) (k0_t2 : Fin (k0_t2_loop v0).trips), ∀ (k0_h8 : k0_cond8 i v0 k0_t2 = 1#1), ∀ a, (k0_off72 i v0 k0_t2) a + S2048x512.size a ≤ S8192x10240.size a := fun i v0 k0_hw1 k0_t2 k0_h8 => k0_hw1.2.2.2.1.2.2.2.1 k0_t2 k0_h8
theorem k0_off72_wordsfp8e5m2 : ∀ (i : grid0.Coords) (v0 : BitVec 32) (k0_hw1 : k0_chk1 i v0) (k0_t2 : Fin (k0_t2_loop v0).trips), ∀ (k0_h8 : k0_cond8 i v0 k0_t2 = 1#1), (Rect.unit (s := S8192x10240) (k0_off72 i v0 k0_t2) S2048x512.size (k0_off72_inb i v0 k0_hw1 k0_t2 k0_h8)).WholeWords (EltTy.packing .fp8e5m2) := fun i v0 k0_hw1 k0_t2 k0_h8 => k0_hw1.2.2.2.1.2.2.2.2.1 k0_t2 k0_h8 (k0_off72_inb i v0 k0_hw1 k0_t2 k0_h8)
theorem k0_off71_wordsfp8e5m2 : ∀ (i : grid0.Coords) (v0 : BitVec 32) (k0_hw1 : k0_chk1 i v0) (k0_t2 : Fin (k0_t2_loop v0).trips), ∀ (k0_h8 : k0_cond8 i v0 k0_t2 = 1#1), (Rect.unit (s := S2x2x2048x512) (k0_off71 i v0 k0_t2) S1x1x2048x512.size (k0_off71_inb i v0 k0_hw1 k0_t2 k0_h8)).WholeWords (EltTy.packing .fp8e5m2) := fun i v0 k0_hw1 k0_t2 k0_h8 => k0_hw1.2.2.2.1.2.2.2.2.2.1 k0_t2 k0_h8 (k0_off71_inb i v0 k0_hw1 k0_t2 k0_h8)
theorem k0_off73_inb : ∀ (i : grid0.Coords) (v0 : BitVec 32) (k0_hw1 : k0_chk1 i v0) (k0_t2 : Fin (k0_t2_loop v0).trips), ∀ (k0_h8 : k0_cond8 i v0 k0_t2 = 1#1), ∀ a, (k0_off73 i v0 k0_t2) a + S1x1x2560x512.size a ≤ S2x2x2560x512.size a := fun i v0 k0_hw1 k0_t2 k0_h8 => k0_hw1.2.2.2.1.2.2.2.2.2.2.1 k0_t2 k0_h8
theorem k0_off74_inb : ∀ (i : grid0.Coords) (v0 : BitVec 32) (k0_hw1 : k0_chk1 i v0) (k0_t2 : Fin (k0_t2_loop v0).trips), ∀ (k0_h8 : k0_cond8 i v0 k0_t2 = 1#1), ∀ a, (k0_off74 v0 k0_t2) a + S2560x512.size a ≤ S2560x10240.size a := fun i v0 k0_hw1 k0_t2 k0_h8 => k0_hw1.2.2.2.1.2.2.2.2.2.2.2.1 k0_t2 k0_h8
theorem k0_off74_wordsfp8e4m3 : ∀ (i : grid0.Coords) (v0 : BitVec 32) (k0_hw1 : k0_chk1 i v0) (k0_t2 : Fin (k0_t2_loop v0).trips), ∀ (k0_h8 : k0_cond8 i v0 k0_t2 = 1#1), (Rect.unit (s := S2560x10240) (k0_off74 v0 k0_t2) S2560x512.size (k0_off74_inb i v0 k0_hw1 k0_t2 k0_h8)).WholeWords (EltTy.packing .fp8e4m3) := fun i v0 k0_hw1 k0_t2 k0_h8 => k0_hw1.2.2.2.1.2.2.2.2.2.2.2.2.1 k0_t2 k0_h8 (k0_off74_inb i v0 k0_hw1 k0_t2 k0_h8)
theorem k0_off73_wordsfp8e4m3 : ∀ (i : grid0.Coords) (v0 : BitVec 32) (k0_hw1 : k0_chk1 i v0) (k0_t2 : Fin (k0_t2_loop v0).trips), ∀ (k0_h8 : k0_cond8 i v0 k0_t2 = 1#1), (Rect.unit (s := S2x2x2560x512) (k0_off73 i v0 k0_t2) S1x1x2560x512.size (k0_off73_inb i v0 k0_hw1 k0_t2 k0_h8)).WholeWords (EltTy.packing .fp8e4m3) := fun i v0 k0_hw1 k0_t2 k0_h8 => k0_hw1.2.2.2.1.2.2.2.2.2.2.2.2.2.1 k0_t2 k0_h8 (k0_off73_inb i v0 k0_hw1 k0_t2 k0_h8)
theorem k0_mult17_dvd : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), 512 ∣ (k0_mult17 v0 k0_t2).toNat := fun i v0 k0_hw1 k0_t2 k0_h8 k0_h9 => k0_hw1.2.2.2.1.2.2.2.2.2.2.2.2.2.2.1 k0_t2 k0_h8 k0_h9
theorem k0_mult18_dvd : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), 2048 ∣ (k0_mult18 i v0 k0_t2).toNat := fun i v0 k0_hw1 k0_t2 k0_h8 k0_h9 => k0_hw1.2.2.2.1.2.2.2.2.2.2.2.2.2.2.2.1 k0_t2 k0_h8 k0_h9
theorem k0_off75_inb : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), ∀ a, (k0_off75 i v0 k0_t2) a + S1x1.size a ≤ S2x2.size a := fun i v0 k0_hw1 k0_t2 k0_h8 k0_h9 => k0_hw1.2.2.2.1.2.2.2.2.2.2.2.2.2.2.2.2.1 k0_t2 k0_h8 k0_h9
theorem k0_off76_inb : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), ∀ a, (k0_off76 i v0 k0_t2) a + S1x1x2048x512.size a ≤ S2x2x2048x512.size a := fun i v0 k0_hw1 k0_t2 k0_h8 k0_h9 => k0_hw1.2.2.2.1.2.2.2.2.2.2.2.2.2.2.2.2.2.1 k0_t2 k0_h8 k0_h9
theorem k0_off77_inb : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), ∀ a, (k0_off77 i v0 k0_t2) a + S2048x512.size a ≤ S8192x10240.size a := fun i v0 k0_hw1 k0_t2 k0_h8 k0_h9 => k0_hw1.2.2.2.1.2.2.2.2.2.2.2.2.2.2.2.2.2.2.1 k0_t2 k0_h8 k0_h9
theorem k0_off77_wordsfp8e5m2 : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), (Rect.unit (s := S8192x10240) (k0_off77 i v0 k0_t2) S2048x512.size (k0_off77_inb i v0 k0_hw1 k0_t2 k0_h8 k0_h9)).WholeWords (EltTy.packing .fp8e5m2) := fun i v0 k0_hw1 k0_t2 k0_h8 k0_h9 => k0_hw1.2.2.2.1.2.2.2.2.2.2.2.2.2.2.2.2.2.2.2.1 k0_t2 k0_h8 k0_h9 (k0_off77_inb i v0 k0_hw1 k0_t2 k0_h8 k0_h9)
theorem k0_off76_wordsfp8e5m2 : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), (Rect.unit (s := S2x2x2048x512) (k0_off76 i v0 k0_t2) S1x1x2048x512.size (k0_off76_inb i v0 k0_hw1 k0_t2 k0_h8 k0_h9)).WholeWords (EltTy.packing .fp8e5m2) := fun i v0 k0_hw1 k0_t2 k0_h8 k0_h9 => k0_hw1.2.2.2.1.2.2.2.2.2.2.2.2.2.2.2.2.2.2.2.2.1 k0_t2 k0_h8 k0_h9 (k0_off76_inb i v0 k0_hw1 k0_t2 k0_h8 k0_h9)
theorem k0_off78_inb : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), ∀ a, (k0_off78 i v0 k0_t2) a + S1x1x2560x512.size a ≤ S2x2x2560x512.size a := fun i v0 k0_hw1 k0_t2 k0_h8 k0_h9 => k0_hw1.2.2.2.1.2.2.2.2.2.2.2.2.2.2.2.2.2.2.2.2.2.1 k0_t2 k0_h8 k0_h9
theorem k0_off79_inb : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), ∀ a, (k0_off79 v0 k0_t2) a + S2560x512.size a ≤ S2560x10240.size a := fun i v0 k0_hw1 k0_t2 k0_h8 k0_h9 => k0_hw1.2.2.2.1.2.2.2.2.2.2.2.2.2.2.2.2.2.2.2.2.2.2.1 k0_t2 k0_h8 k0_h9
theorem k0_off79_wordsfp8e4m3 : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), (Rect.unit (s := S2560x10240) (k0_off79 v0 k0_t2) S2560x512.size (k0_off79_inb i v0 k0_hw1 k0_t2 k0_h8 k0_h9)).WholeWords (EltTy.packing .fp8e4m3) := fun i v0 k0_hw1 k0_t2 k0_h8 k0_h9 => k0_hw1.2.2.2.1.2.2.2.2.2.2.2.2.2.2.2.2.2.2.2.2.2.2.2.1 k0_t2 k0_h8 k0_h9 (k0_off79_inb i v0 k0_hw1 k0_t2 k0_h8 k0_h9)
theorem k0_off78_wordsfp8e4m3 : ∀ (i : grid0.Coords) (v0 : BitVec 32) (k0_hw1 : k0_chk1 i v0) (k0_t2 : Fin (k0_t2_loop v0).trips), ∀ (k0_h8 : k0_cond8 i v0 k0_t2 = 1#1), ∀ (k0_h9 : k0_cond9 v0 k0_t2 = 1#1), (Rect.unit (s := S2x2x2560x512) (k0_off78 i v0 k0_t2) S1x1x2560x512.size (k0_off78_inb i v0 k0_hw1 k0_t2 k0_h8 k0_h9)).WholeWords (EltTy.packing .fp8e4m3) := fun i v0 k0_hw1 k0_t2 k0_h8 k0_h9 => k0_hw1.2.2.2.1.2.2.2.2.2.2.2.2.2.2.2.2.2.2.2.2.2.2.2.2.1 k0_t2 k0_h8 k0_h9 (k0_off78_inb i v0 k0_hw1 k0_t2 k0_h8 k0_h9)
theorem k0_mult19_dvd : ∀ (i : grid0.Coords) (v0 : BitVec 32) (k0_hw1 : k0_chk1 i v0) (k0_t2 : Fin (k0_t2_loop v0).trips), 512 ∣ (k0_mult19 v0 k0_t2).toNat := fun i v0 k0_hw1 k0_t2 => k0_hw1.2.2.2.1.2.2.2.2.2.2.2.2.2.2.2.2.2.2.2.2.2.2.2.2.2.1 k0_t2
theorem k0_off80_inb : ∀ (i : grid0.Coords) (v0 : BitVec 32) (k0_hw1 : k0_chk1 i v0) (k0_t2 : Fin (k0_t2_loop v0).trips), ∀ a, (k0_off80 i v0 k0_t2) a + S1x1.size a ≤ S2x2.size a := fun i v0 k0_hw1 k0_t2 => k0_hw1.2.2.2.1.2.2.2.2.2.2.2.2.2.2.2.2.2.2.2.2.2.2.2.2.2.2.1 k0_t2
theorem k0_off81_inb : ∀ (i : grid0.Coords) (v0 : BitVec 32) (k0_hw1 : k0_chk1 i v0) (k0_t2 : Fin (k0_t2_loop v0).trips), ∀ a, (k0_off81 i v0 k0_t2) a + S1x1x2048x512.size a ≤ S2x2x2048x512.size a := fun i v0 k0_hw1 k0_t2 => k0_hw1.2.2.2.1.2.2.2.2.2.2.2.2.2.2.2.2.2.2.2.2.2.2.2.2.2.2.2.1 k0_t2
theorem k0_off82_inb : ∀ (i : grid0.Coords) (v0 : BitVec 32) (k0_hw1 : k0_chk1 i v0) (k0_t2 : Fin (k0_t2_loop v0).trips), ∀ a, (k0_off82 i v0 k0_t2) a + S2048x512.size a ≤ S8192x10240.size a := fun i v0 k0_hw1 k0_t2 => k0_hw1.2.2.2.1.2.2.2.2.2.2.2.2.2.2.2.2.2.2.2.2.2.2.2.2.2.2.2.2.1 k0_t2
theorem k0_off82_wordsfp8e5m2 : ∀ (i : grid0.Coords) (v0 : BitVec 32) (k0_hw1 : k0_chk1 i v0) (k0_t2 : Fin (k0_t2_loop v0).trips), (Rect.unit (s := S8192x10240) (k0_off82 i v0 k0_t2) S2048x512.size (k0_off82_inb i v0 k0_hw1 k0_t2)).WholeWords (EltTy.packing .fp8e5m2) := fun i v0 k0_hw1 k0_t2 => k0_hw1.2.2.2.1.2.2.2.2.2.2.2.2.2.2.2.2.2.2.2.2.2.2.2.2.2.2.2.2.2.1 k0_t2 (k0_off82_inb i v0 k0_hw1 k0_t2)
theorem k0_off81_wordsfp8e5m2 : ∀ (i : grid0.Coords) (v0 : BitVec 32) (k0_hw1 : k0_chk1 i v0) (k0_t2 : Fin (k0_t2_loop v0).trips), (Rect.unit (s := S2x2x2048x512) (k0_off81 i v0 k0_t2) S1x1x2048x512.size (k0_off81_inb i v0 k0_hw1 k0_t2)).WholeWords (EltTy.packing .fp8e5m2) := fun i v0 k0_hw1 k0_t2 => k0_hw1.2.2.2.1.2.2.2.2.2.2.2.2.2.2.2.2.2.2.2.2.2.2.2.2.2.2.2.2.2.2.1 k0_t2 (k0_off81_inb i v0 k0_hw1 k0_t2)
theorem k0_off83_inb : ∀ (i : grid0.Coords) (v0 : BitVec 32) (k0_hw1 : k0_chk1 i v0) (k0_t2 : Fin (k0_t2_loop v0).trips), ∀ a, (k0_off83 i v0 k0_t2) a + S1x1x2560x512.size a ≤ S2x2x2560x512.size a := fun i v0 k0_hw1 k0_t2 => k0_hw1.2.2.2.1.2.2.2.2.2.2.2.2.2.2.2.2.2.2.2.2.2.2.2.2.2.2.2.2.2.2.2.1 k0_t2
theorem k0_off84_inb : ∀ (i : grid0.Coords) (v0 : BitVec 32) (k0_hw1 : k0_chk1 i v0) (k0_t2 : Fin (k0_t2_loop v0).trips), ∀ a, (k0_off84 v0 k0_t2) a + S2560x512.size a ≤ S2560x10240.size a := fun i v0 k0_hw1 k0_t2 => k0_hw1.2.2.2.1.2.2.2.2.2.2.2.2.2.2.2.2.2.2.2.2.2.2.2.2.2.2.2.2.2.2.2.2.1 k0_t2
theorem k0_off84_wordsfp8e4m3 : ∀ (i : grid0.Coords) (v0 : BitVec 32) (k0_hw1 : k0_chk1 i v0) (k0_t2 : Fin (k0_t2_loop v0).trips), (Rect.unit (s := S2560x10240) (k0_off84 v0 k0_t2) S2560x512.size (k0_off84_inb i v0 k0_hw1 k0_t2)).WholeWords (EltTy.packing .fp8e4m3) := fun i v0 k0_hw1 k0_t2 => k0_hw1.2.2.2.1.2.2.2.2.2.2.2.2.2.2.2.2.2.2.2.2.2.2.2.2.2.2.2.2.2.2.2.2.2.1 k0_t2 (k0_off84_inb i v0 k0_hw1 k0_t2)
theorem k0_off83_wordsfp8e4m3 : ∀ (i : grid0.Coords) (v0 : BitVec 32) (k0_hw1 : k0_chk1 i v0) (k0_t2 : Fin (k0_t2_loop v0).trips), (Rect.unit (s := S2x2x2560x512) (k0_off83 i v0 k0_t2) S1x1x2560x512.size (k0_off83_inb i v0 k0_hw1 k0_t2)).WholeWords (EltTy.packing .fp8e4m3) := fun i v0 k0_hw1 k0_t2 => k0_hw1.2.2.2.1.2.2.2.2.2.2.2.2.2.2.2.2.2.2.2.2.2.2.2.2.2.2.2.2.2.2.2.2.2.2.1 k0_t2 (k0_off83_inb i v0 k0_hw1 k0_t2)
theorem k0_mult21_dvd : ∀ (i : grid0.Coords) (v0 : BitVec 32) (k0_hw1 : k0_chk1 i v0) (k0_t2 : Fin (k0_t2_loop v0).trips), ∀ (k0_h10 : k0_cond10 v0 k0_t2 = 1#1), 512 ∣ (k0_mult21 v0 k0_t2).toNat := fun i v0 k0_hw1 k0_t2 k0_h10 => k0_hw1.2.2.2.1.2.2.2.2.2.2.2.2.2.2.2.2.2.2.2.2.2.2.2.2.2.2.2.2.2.2.2.2.2.2.2 k0_t2 k0_h10
theorem k0_off85_inb : ∀ (i : grid0.Coords) (v0 : BitVec 32) (k0_hw1 : k0_chk1 i v0) (k0_t2 : Fin (k0_t2_loop v0).trips), ∀ (k0_h10 : k0_cond10 v0 k0_t2 = 1#1), ∀ a, (k0_off85 i v0 k0_t2) a + S1x1.size a ≤ S2x2.size a := fun i v0 k0_hw1 k0_t2 k0_h10 => k0_hw1.2.2.2.2.1.1 k0_t2 k0_h10
theorem k0_off86_inb : ∀ (i : grid0.Coords) (v0 : BitVec 32) (k0_hw1 : k0_chk1 i v0) (k0_t2 : Fin (k0_t2_loop v0).trips), ∀ (k0_h10 : k0_cond10 v0 k0_t2 = 1#1), ∀ a, (k0_off86 i v0 k0_t2) a + S1x1x2048x512.size a ≤ S2x2x2048x512.size a := fun i v0 k0_hw1 k0_t2 k0_h10 => k0_hw1.2.2.2.2.1.2.1 k0_t2 k0_h10
theorem k0_off87_inb : ∀ (i : grid0.Coords) (v0 : BitVec 32) (k0_hw1 : k0_chk1 i v0) (k0_t2 : Fin (k0_t2_loop v0).trips), ∀ (k0_h10 : k0_cond10 v0 k0_t2 = 1#1), ∀ a, (k0_off87 i v0 k0_t2) a + S2048x512.size a ≤ S8192x10240.size a := fun i v0 k0_hw1 k0_t2 k0_h10 => k0_hw1.2.2.2.2.1.2.2.1 k0_t2 k0_h10
theorem k0_off87_wordsfp8e5m2 : ∀ (i : grid0.Coords) (v0 : BitVec 32) (k0_hw1 : k0_chk1 i v0) (k0_t2 : Fin (k0_t2_loop v0).trips), ∀ (k0_h10 : k0_cond10 v0 k0_t2 = 1#1), (Rect.unit (s := S8192x10240) (k0_off87 i v0 k0_t2) S2048x512.size (k0_off87_inb i v0 k0_hw1 k0_t2 k0_h10)).WholeWords (EltTy.packing .fp8e5m2) := fun i v0 k0_hw1 k0_t2 k0_h10 => k0_hw1.2.2.2.2.1.2.2.2.1 k0_t2 k0_h10 (k0_off87_inb i v0 k0_hw1 k0_t2 k0_h10)
theorem k0_off86_wordsfp8e5m2 : ∀ (i : grid0.Coords) (v0 : BitVec 32) (k0_hw1 : k0_chk1 i v0) (k0_t2 : Fin (k0_t2_loop v0).trips), ∀ (k0_h10 : k0_cond10 v0 k0_t2 = 1#1), (Rect.unit (s := S2x2x2048x512) (k0_off86 i v0 k0_t2) S1x1x2048x512.size (k0_off86_inb i v0 k0_hw1 k0_t2 k0_h10)).WholeWords (EltTy.packing .fp8e5m2) := fun i v0 k0_hw1 k0_t2 k0_h10 => k0_hw1.2.2.2.2.1.2.2.2.2.1 k0_t2 k0_h10 (k0_off86_inb i v0 k0_hw1 k0_t2 k0_h10)
theorem k0_off88_inb : ∀ (i : grid0.Coords) (v0 : BitVec 32) (k0_hw1 : k0_chk1 i v0) (k0_t2 : Fin (k0_t2_loop v0).trips), ∀ (k0_h10 : k0_cond10 v0 k0_t2 = 1#1), ∀ a, (k0_off88 i v0 k0_t2) a + S1x1x2560x512.size a ≤ S2x2x2560x512.size a := fun i v0 k0_hw1 k0_t2 k0_h10 => k0_hw1.2.2.2.2.1.2.2.2.2.2.1 k0_t2 k0_h10
theorem k0_off89_inb : ∀ (i : grid0.Coords) (v0 : BitVec 32) (k0_hw1 : k0_chk1 i v0) (k0_t2 : Fin (k0_t2_loop v0).trips), ∀ (k0_h10 : k0_cond10 v0 k0_t2 = 1#1), ∀ a, (k0_off89 v0 k0_t2) a + S2560x512.size a ≤ S2560x10240.size a := fun i v0 k0_hw1 k0_t2 k0_h10 => k0_hw1.2.2.2.2.1.2.2.2.2.2.2.1 k0_t2 k0_h10
theorem k0_off89_wordsfp8e4m3 : ∀ (i : grid0.Coords) (v0 : BitVec 32) (k0_hw1 : k0_chk1 i v0) (k0_t2 : Fin (k0_t2_loop v0).trips), ∀ (k0_h10 : k0_cond10 v0 k0_t2 = 1#1), (Rect.unit (s := S2560x10240) (k0_off89 v0 k0_t2) S2560x512.size (k0_off89_inb i v0 k0_hw1 k0_t2 k0_h10)).WholeWords (EltTy.packing .fp8e4m3) := fun i v0 k0_hw1 k0_t2 k0_h10 => k0_hw1.2.2.2.2.1.2.2.2.2.2.2.2.1 k0_t2 k0_h10 (k0_off89_inb i v0 k0_hw1 k0_t2 k0_h10)
theorem k0_off88_wordsfp8e4m3 : ∀ (i : grid0.Coords) (v0 : BitVec 32) (k0_hw1 : k0_chk1 i v0) (k0_t2 : Fin (k0_t2_loop v0).trips), ∀ (k0_h10 : k0_cond10 v0 k0_t2 = 1#1), (Rect.unit (s := S2x2x2560x512) (k0_off88 i v0 k0_t2) S1x1x2560x512.size (k0_off88_inb i v0 k0_hw1 k0_t2 k0_h10)).WholeWords (EltTy.packing .fp8e4m3) := fun i v0 k0_hw1 k0_t2 k0_h10 => k0_hw1.2.2.2.2.1.2.2.2.2.2.2.2.2.1 k0_t2 k0_h10 (k0_off88_inb i v0 k0_hw1 k0_t2 k0_h10)
theorem k0_off90_inb : ∀ (i : grid0.Coords) (v0 : BitVec 32) (k0_hw1 : k0_chk1 i v0) (k0_t2 : Fin (k0_t2_loop v0).trips), ∀ (k0_h10 : k0_cond10 v0 k0_t2 = 1#1), ∀ a, (k0_off90 v0 k0_t2) a + S1.size a ≤ S20.size a := fun i v0 k0_hw1 k0_t2 k0_h10 => k0_hw1.2.2.2.2.1.2.2.2.2.2.2.2.2.2.1 k0_t2 k0_h10
theorem k0_off91_inb : ∀ (i : grid0.Coords) (v0 : BitVec 32) (k0_hw1 : k0_chk1 i v0) (k0_t2 : Fin (k0_t2_loop v0).trips), ∀ (k0_h10 : k0_cond10 v0 k0_t2 = 1#1), ∀ a, (k0_off91 v0 k0_t2) a + S1.size a ≤ S20.size a := fun i v0 k0_hw1 k0_t2 k0_h10 => k0_hw1.2.2.2.2.1.2.2.2.2.2.2.2.2.2.2.1 k0_t2 k0_h10
theorem k0_off92_inb : ∀ (i : grid0.Coords) (v0 : BitVec 32) (k0_hw1 : k0_chk1 i v0) (k0_t2 : Fin (k0_t2_loop v0).trips), ∀ (k0_h10 : k0_cond10 v0 k0_t2 = 1#1), ∀ a, (k0_off92 i v0 k0_t2) a + S1x1x512x512.size a ≤ S2x2x2048x512.size a := fun i v0 k0_hw1 k0_t2 k0_h10 => k0_hw1.2.2.2.2.1.2.2.2.2.2.2.2.2.2.2.2.1 k0_t2 k0_h10
theorem k0_off93_inb : ∀ (i : grid0.Coords) (v0 : BitVec 32) (k0_hw1 : k0_chk1 i v0) (k0_t2 : Fin (k0_t2_loop v0).trips), ∀ (k0_h10 : k0_cond10 v0 k0_t2 = 1#1), ∀ a, (k0_off93 i v0 k0_t2) a + S1x1x512x512.size a ≤ S2x2x2560x512.size a := fun i v0 k0_hw1 k0_t2 k0_h10 => k0_hw1.2.2.2.2.1.2.2.2.2.2.2.2.2.2.2.2.2.1 k0_t2 k0_h10
theorem k0_off94_inb : ∀ (i : grid0.Coords) (v0 : BitVec 32) (k0_hw1 : k0_chk1 i v0) (k0_t2 : Fin (k0_t2_loop v0).trips), ∀ (k0_h10 : k0_cond10 v0 k0_t2 = 1#1), ∀ a, (k0_off94 i v0 k0_t2) a + S1x1x512x512.size a ≤ S2x2x2048x512.size a := fun i v0 k0_hw1 k0_t2 k0_h10 => k0_hw1.2.2.2.2.1.2.2.2.2.2.2.2.2.2.2.2.2.2.1 k0_t2 k0_h10
theorem k0_off95_inb : ∀ (i : grid0.Coords) (v0 : BitVec 32) (k0_hw1 : k0_chk1 i v0) (k0_t2 : Fin (k0_t2_loop v0).trips), ∀ (k0_h10 : k0_cond10 v0 k0_t2 = 1#1), ∀ a, (k0_off95 i v0 k0_t2) a + S1x1x512x512.size a ≤ S2x2x2560x512.size a := fun i v0 k0_hw1 k0_t2 k0_h10 => k0_hw1.2.2.2.2.1.2.2.2.2.2.2.2.2.2.2.2.2.2.2.1 k0_t2 k0_h10
theorem k0_off96_inb : ∀ (i : grid0.Coords) (v0 : BitVec 32) (k0_hw1 : k0_chk1 i v0) (k0_t2 : Fin (k0_t2_loop v0).trips), ∀ (k0_h10 : k0_cond10 v0 k0_t2 = 1#1), ∀ a, (k0_off96 i v0 k0_t2) a + S1x1x512x512.size a ≤ S2x2x2560x512.size a := fun i v0 k0_hw1 k0_t2 k0_h10 => k0_hw1.2.2.2.2.1.2.2.2.2.2.2.2.2.2.2.2.2.2.2.2.1 k0_t2 k0_h10
theorem k0_off97_inb : ∀ (i : grid0.Coords) (v0 : BitVec 32) (k0_hw1 : k0_chk1 i v0) (k0_t2 : Fin (k0_t2_loop v0).trips), ∀ (k0_h10 : k0_cond10 v0 k0_t2 = 1#1), ∀ a, (k0_off97 i v0 k0_t2) a + S1x1x512x512.size a ≤ S2x2x2560x512.size a := fun i v0 k0_hw1 k0_t2 k0_h10 => k0_hw1.2.2.2.2.1.2.2.2.2.2.2.2.2.2.2.2.2.2.2.2.2.1 k0_t2 k0_h10
theorem k0_off98_inb : ∀ (i : grid0.Coords) (v0 : BitVec 32) (k0_hw1 : k0_chk1 i v0) (k0_t2 : Fin (k0_t2_loop v0).trips), ∀ (k0_h10 : k0_cond10 v0 k0_t2 = 1#1), ∀ a, (k0_off98 i v0 k0_t2) a + S1x1x512x512.size a ≤ S2x2x2560x512.size a := fun i v0 k0_hw1 k0_t2 k0_h10 => k0_hw1.2.2.2.2.1.2.2.2.2.2.2.2.2.2.2.2.2.2.2.2.2.2.1 k0_t2 k0_h10
theorem k0_off99_inb : ∀ (i : grid0.Coords) (v0 : BitVec 32) (k0_hw1 : k0_chk1 i v0) (k0_t2 : Fin (k0_t2_loop v0).trips), ∀ (k0_h10 : k0_cond10 v0 k0_t2 = 1#1), ∀ a, (k0_off99 i v0 k0_t2) a + S1x1x512x512.size a ≤ S2x2x2560x512.size a := fun i v0 k0_hw1 k0_t2 k0_h10 => k0_hw1.2.2.2.2.1.2.2.2.2.2.2.2.2.2.2.2.2.2.2.2.2.2.2.1 k0_t2 k0_h10
theorem k0_off100_inb : ∀ (i : grid0.Coords) (v0 : BitVec 32) (k0_hw1 : k0_chk1 i v0) (k0_t2 : Fin (k0_t2_loop v0).trips), ∀ (k0_h10 : k0_cond10 v0 k0_t2 = 1#1), ∀ a, (k0_off100 i v0 k0_t2) a + S1x1x512x512.size a ≤ S2x2x2560x512.size a := fun i v0 k0_hw1 k0_t2 k0_h10 => k0_hw1.2.2.2.2.1.2.2.2.2.2.2.2.2.2.2.2.2.2.2.2.2.2.2.2.1 k0_t2 k0_h10
theorem k0_off101_inb : ∀ (i : grid0.Coords) (v0 : BitVec 32) (k0_hw1 : k0_chk1 i v0) (k0_t2 : Fin (k0_t2_loop v0).trips), ∀ (k0_h10 : k0_cond10 v0 k0_t2 = 1#1), ∀ a, (k0_off101 i v0 k0_t2) a + S1x1x512x512.size a ≤ S2x2x2560x512.size a := fun i v0 k0_hw1 k0_t2 k0_h10 => k0_hw1.2.2.2.2.1.2.2.2.2.2.2.2.2.2.2.2.2.2.2.2.2.2.2.2.2.1 k0_t2 k0_h10
theorem k0_off102_inb : ∀ (i : grid0.Coords) (v0 : BitVec 32) (k0_hw1 : k0_chk1 i v0) (k0_t2 : Fin (k0_t2_loop v0).trips), ∀ (k0_h10 : k0_cond10 v0 k0_t2 = 1#1), ∀ a, (k0_off102 i v0 k0_t2) a + S1x1x512x512.size a ≤ S2x2x2560x512.size a := fun i v0 k0_hw1 k0_t2 k0_h10 => k0_hw1.2.2.2.2.1.2.2.2.2.2.2.2.2.2.2.2.2.2.2.2.2.2.2.2.2.2.1 k0_t2 k0_h10
theorem k0_off103_inb : ∀ (i : grid0.Coords) (v0 : BitVec 32) (k0_hw1 : k0_chk1 i v0) (k0_t2 : Fin (k0_t2_loop v0).trips), ∀ (k0_h10 : k0_cond10 v0 k0_t2 = 1#1), ∀ a, (k0_off103 i v0 k0_t2) a + S1x1x512x512.size a ≤ S2x2x2560x512.size a := fun i v0 k0_hw1 k0_t2 k0_h10 => k0_hw1.2.2.2.2.1.2.2.2.2.2.2.2.2.2.2.2.2.2.2.2.2.2.2.2.2.2.2.1 k0_t2 k0_h10
theorem k0_off104_inb : ∀ (i : grid0.Coords) (v0 : BitVec 32) (k0_hw1 : k0_chk1 i v0) (k0_t2 : Fin (k0_t2_loop v0).trips), ∀ (k0_h10 : k0_cond10 v0 k0_t2 = 1#1), ∀ a, (k0_off104 i v0 k0_t2) a + S1x1x512x512.size a ≤ S2x2x2048x512.size a := fun i v0 k0_hw1 k0_t2 k0_h10 => k0_hw1.2.2.2.2.1.2.2.2.2.2.2.2.2.2.2.2.2.2.2.2.2.2.2.2.2.2.2.2.1 k0_t2 k0_h10
theorem k0_off105_inb : ∀ (i : grid0.Coords) (v0 : BitVec 32) (k0_hw1 : k0_chk1 i v0) (k0_t2 : Fin (k0_t2_loop v0).trips), ∀ (k0_h10 : k0_cond10 v0 k0_t2 = 1#1), ∀ a, (k0_off105 i v0 k0_t2) a + S1x1x512x512.size a ≤ S2x2x2048x512.size a := fun i v0 k0_hw1 k0_t2 k0_h10 => k0_hw1.2.2.2.2.1.2.2.2.2.2.2.2.2.2.2.2.2.2.2.2.2.2.2.2.2.2.2.2.2.1 k0_t2 k0_h10
theorem k0_off106_inb : ∀ (i : grid0.Coords) (v0 : BitVec 32) (k0_hw1 : k0_chk1 i v0) (k0_t2 : Fin (k0_t2_loop v0).trips), ∀ (k0_h10 : k0_cond10 v0 k0_t2 = 1#1), ∀ a, (k0_off106 i v0 k0_t2) a + S1x1x512x512.size a ≤ S2x2x2048x512.size a := fun i v0 k0_hw1 k0_t2 k0_h10 => k0_hw1.2.2.2.2.1.2.2.2.2.2.2.2.2.2.2.2.2.2.2.2.2.2.2.2.2.2.2.2.2.2.1 k0_t2 k0_h10
theorem k0_off107_inb : ∀ (i : grid0.Coords) (v0 : BitVec 32) (k0_hw1 : k0_chk1 i v0) (k0_t2 : Fin (k0_t2_loop v0).trips), ∀ (k0_h10 : k0_cond10 v0 k0_t2 = 1#1), ∀ a, (k0_off107 i v0 k0_t2) a + S1x1x512x512.size a ≤ S2x2x2048x512.size a := fun i v0 k0_hw1 k0_t2 k0_h10 => k0_hw1.2.2.2.2.1.2.2.2.2.2.2.2.2.2.2.2.2.2.2.2.2.2.2.2.2.2.2.2.2.2.2.1 k0_t2 k0_h10
theorem k0_off108_inb : ∀ (i : grid0.Coords) (v0 : BitVec 32) (k0_hw1 : k0_chk1 i v0) (k0_t2 : Fin (k0_t2_loop v0).trips), ∀ (k0_h10 : k0_cond10 v0 k0_t2 = 1#1), ∀ a, (k0_off108 i v0 k0_t2) a + S1x1x512x512.size a ≤ S2x2x2048x512.size a := fun i v0 k0_hw1 k0_t2 k0_h10 => k0_hw1.2.2.2.2.1.2.2.2.2.2.2.2.2.2.2.2.2.2.2.2.2.2.2.2.2.2.2.2.2.2.2.2.1 k0_t2 k0_h10
theorem k0_off109_inb : ∀ (i : grid0.Coords) (v0 : BitVec 32) (k0_hw1 : k0_chk1 i v0) (k0_t2 : Fin (k0_t2_loop v0).trips), ∀ (k0_h10 : k0_cond10 v0 k0_t2 = 1#1), ∀ a, (k0_off109 i v0 k0_t2) a + S1x1x512x512.size a ≤ S2x2x2048x512.size a := fun i v0 k0_hw1 k0_t2 k0_h10 => k0_hw1.2.2.2.2.1.2.2.2.2.2.2.2.2.2.2.2.2.2.2.2.2.2.2.2.2.2.2.2.2.2.2.2.2.1 k0_t2 k0_h10
theorem k0_off110_inb : ∀ (i : grid0.Coords) (v0 : BitVec 32) (k0_hw1 : k0_chk1 i v0) (k0_t2 : Fin (k0_t2_loop v0).trips), ∀ (k0_h11 : k0_cond11 v0 k0_t2 = 1#1), ∀ a, (k0_off110 v0 k0_t2) a + S1.size a ≤ S20.size a := fun i v0 k0_hw1 k0_t2 k0_h11 => k0_hw1.2.2.2.2.1.2.2.2.2.2.2.2.2.2.2.2.2.2.2.2.2.2.2.2.2.2.2.2.2.2.2.2.2.2.1 k0_t2 k0_h11
theorem k0_off111_inb : ∀ (i : grid0.Coords) (v0 : BitVec 32) (k0_hw1 : k0_chk1 i v0) (k0_t2 : Fin (k0_t2_loop v0).trips), ∀ (k0_h11 : k0_cond11 v0 k0_t2 = 1#1), ∀ a, (k0_off111 i v0 k0_t2) a + S1x1x512x512.size a ≤ S2x2x2048x512.size a := fun i v0 k0_hw1 k0_t2 k0_h11 => k0_hw1.2.2.2.2.1.2.2.2.2.2.2.2.2.2.2.2.2.2.2.2.2.2.2.2.2.2.2.2.2.2.2.2.2.2.2.1 k0_t2 k0_h11
theorem k0_off112_inb : ∀ (i : grid0.Coords) (v0 : BitVec 32) (k0_hw1 : k0_chk1 i v0) (k0_t2 : Fin (k0_t2_loop v0).trips), ∀ (k0_h11 : k0_cond11 v0 k0_t2 = 1#1), ∀ a, (k0_off112 i v0 k0_t2) a + S1x1x512x512.size a ≤ S2x2x2560x512.size a := fun i v0 k0_hw1 k0_t2 k0_h11 => k0_hw1.2.2.2.2.1.2.2.2.2.2.2.2.2.2.2.2.2.2.2.2.2.2.2.2.2.2.2.2.2.2.2.2.2.2.2.2 k0_t2 k0_h11
theorem k0_off113_inb : ∀ (i : grid0.Coords) (v0 : BitVec 32) (k0_hw1 : k0_chk1 i v0) (k0_t2 : Fin (k0_t2_loop v0).trips), ∀ (k0_h11 : k0_cond11 v0 k0_t2 = 1#1), ∀ a, (k0_off113 i v0 k0_t2) a + S1x1x512x512.size a ≤ S2x2x2560x512.size a := fun i v0 k0_hw1 k0_t2 k0_h11 => k0_hw1.2.2.2.2.2.1 k0_t2 k0_h11
theorem k0_off114_inb : ∀ (i : grid0.Coords) (v0 : BitVec 32) (k0_hw1 : k0_chk1 i v0) (k0_t2 : Fin (k0_t2_loop v0).trips), ∀ (k0_h11 : k0_cond11 v0 k0_t2 = 1#1), ∀ a, (k0_off114 i v0 k0_t2) a + S1x1x512x512.size a ≤ S2x2x2560x512.size a := fun i v0 k0_hw1 k0_t2 k0_h11 => k0_hw1.2.2.2.2.2.2.1 k0_t2 k0_h11
theorem k0_off115_inb : ∀ (i : grid0.Coords) (v0 : BitVec 32) (k0_hw1 : k0_chk1 i v0) (k0_t2 : Fin (k0_t2_loop v0).trips), ∀ (k0_h11 : k0_cond11 v0 k0_t2 = 1#1), ∀ a, (k0_off115 i v0 k0_t2) a + S1x1x512x512.size a ≤ S2x2x2560x512.size a := fun i v0 k0_hw1 k0_t2 k0_h11 => k0_hw1.2.2.2.2.2.2.2.1 k0_t2 k0_h11
theorem k0_off116_inb : ∀ (i : grid0.Coords) (v0 : BitVec 32) (k0_hw1 : k0_chk1 i v0) (k0_t2 : Fin (k0_t2_loop v0).trips), ∀ (k0_h11 : k0_cond11 v0 k0_t2 = 1#1), ∀ a, (k0_off116 i v0 k0_t2) a + S1x1x512x512.size a ≤ S2x2x2560x512.size a := fun i v0 k0_hw1 k0_t2 k0_h11 => k0_hw1.2.2.2.2.2.2.2.2.1 k0_t2 k0_h11
theorem k0_off117_inb : ∀ (i : grid0.Coords) (v0 : BitVec 32) (k0_hw1 : k0_chk1 i v0) (k0_t2 : Fin (k0_t2_loop v0).trips), ∀ (k0_h11 : k0_cond11 v0 k0_t2 = 1#1), ∀ a, (k0_off117 i v0 k0_t2) a + S1x1x512x512.size a ≤ S2x2x2048x512.size a := fun i v0 k0_hw1 k0_t2 k0_h11 => k0_hw1.2.2.2.2.2.2.2.2.2.1 k0_t2 k0_h11
theorem k0_off118_inb : ∀ (i : grid0.Coords) (v0 : BitVec 32) (k0_hw1 : k0_chk1 i v0) (k0_t2 : Fin (k0_t2_loop v0).trips), ∀ (k0_h11 : k0_cond11 v0 k0_t2 = 1#1), ∀ a, (k0_off118 i v0 k0_t2) a + S1x1x512x512.size a ≤ S2x2x2048x512.size a := fun i v0 k0_hw1 k0_t2 k0_h11 => k0_hw1.2.2.2.2.2.2.2.2.2.2.1 k0_t2 k0_h11
theorem k0_off119_inb : ∀ (i : grid0.Coords) (v0 : BitVec 32) (k0_hw1 : k0_chk1 i v0) (k0_t2 : Fin (k0_t2_loop v0).trips), ∀ (k0_h11 : k0_cond11 v0 k0_t2 = 1#1), ∀ a, (k0_off119 i v0 k0_t2) a + S1x1x512x512.size a ≤ S2x2x2048x512.size a := fun i v0 k0_hw1 k0_t2 k0_h11 => k0_hw1.2.2.2.2.2.2.2.2.2.2.2.1 k0_t2 k0_h11
theorem k0_mult23_dvd : ∀ (i : grid0.Coords) (v0 : BitVec 32) (k0_hw1 : k0_chk1 i v0) (k0_t2 : Fin (k0_t2_loop v0).trips), ∀ (k0_h12 : k0_cond12 v0 k0_t2 = 1#1), 512 ∣ (k0_mult23 v0 k0_t2).toNat := fun i v0 k0_hw1 k0_t2 k0_h12 => k0_hw1.2.2.2.2.2.2.2.2.2.2.2.2.1 k0_t2 k0_h12
theorem k0_off120_inb : ∀ (i : grid0.Coords) (v0 : BitVec 32) (k0_hw1 : k0_chk1 i v0) (k0_t2 : Fin (k0_t2_loop v0).trips), ∀ (k0_h12 : k0_cond12 v0 k0_t2 = 1#1), ∀ a, (k0_off120 v0 k0_t2) a + S1x512.size a ≤ S1x10240.size a := fun i v0 k0_hw1 k0_t2 k0_h12 => k0_hw1.2.2.2.2.2.2.2.2.2.2.2.2.2.1 k0_t2 k0_h12
theorem k0_off121_inb : ∀ (i : grid0.Coords) (v0 : BitVec 32) (k0_hw1 : k0_chk1 i v0) (k0_t2 : Fin (k0_t2_loop v0).trips), ∀ (k0_h12 : k0_cond12 v0 k0_t2 = 1#1), ∀ a, (k0_off121 i v0 k0_t2) a + S1x1x512x512.size a ≤ S2x2x2048x512.size a := fun i v0 k0_hw1 k0_t2 k0_h12 => k0_hw1.2.2.2.2.2.2.2.2.2.2.2.2.2.2.1 k0_t2 k0_h12
theorem k0_off122_inb : ∀ (i : grid0.Coords) (v0 : BitVec 32) (k0_hw1 : k0_chk1 i v0) (k0_t2 : Fin (k0_t2_loop v0).trips), ∀ (k0_h12 : k0_cond12 v0 k0_t2 = 1#1), ∀ a, (k0_off122 i v0 k0_t2) a + S1x1x512x512.size a ≤ S2x2x2560x512.size a := fun i v0 k0_hw1 k0_t2 k0_h12 => k0_hw1.2.2.2.2.2.2.2.2.2.2.2.2.2.2.2.1 k0_t2 k0_h12
theorem k0_off123_inb : ∀ (i : grid0.Coords) (v0 : BitVec 32) (k0_hw1 : k0_chk1 i v0) (k0_t2 : Fin (k0_t2_loop v0).trips), ∀ (k0_h12 : k0_cond12 v0 k0_t2 = 1#1), ∀ a, (k0_off123 i v0 k0_t2) a + S1x1x512x512.size a ≤ S2x2x2560x512.size a := fun i v0 k0_hw1 k0_t2 k0_h12 => k0_hw1.2.2.2.2.2.2.2.2.2.2.2.2.2.2.2.2.1 k0_t2 k0_h12
theorem k0_off124_inb : ∀ (i : grid0.Coords) (v0 : BitVec 32) (k0_hw1 : k0_chk1 i v0) (k0_t2 : Fin (k0_t2_loop v0).trips), ∀ (k0_h12 : k0_cond12 v0 k0_t2 = 1#1), ∀ a, (k0_off124 i v0 k0_t2) a + S1x1x512x512.size a ≤ S2x2x2560x512.size a := fun i v0 k0_hw1 k0_t2 k0_h12 => k0_hw1.2.2.2.2.2.2.2.2.2.2.2.2.2.2.2.2.2.1 k0_t2 k0_h12
theorem k0_off125_inb : ∀ (i : grid0.Coords) (v0 : BitVec 32) (k0_hw1 : k0_chk1 i v0) (k0_t2 : Fin (k0_t2_loop v0).trips), ∀ (k0_h12 : k0_cond12 v0 k0_t2 = 1#1), ∀ a, (k0_off125 i v0 k0_t2) a + S1x1x512x512.size a ≤ S2x2x2560x512.size a := fun i v0 k0_hw1 k0_t2 k0_h12 => k0_hw1.2.2.2.2.2.2.2.2.2.2.2.2.2.2.2.2.2.2.1 k0_t2 k0_h12
theorem k0_off126_inb : ∀ (i : grid0.Coords) (v0 : BitVec 32) (k0_hw1 : k0_chk1 i v0) (k0_t2 : Fin (k0_t2_loop v0).trips), ∀ (k0_h12 : k0_cond12 v0 k0_t2 = 1#1), ∀ a, (k0_off126 i v0 k0_t2) a + S1x1x512x512.size a ≤ S2x2x2560x512.size a := fun i v0 k0_hw1 k0_t2 k0_h12 => k0_hw1.2.2.2.2.2.2.2.2.2.2.2.2.2.2.2.2.2.2.2.1 k0_t2 k0_h12
theorem k0_off127_inb : ∀ (i : grid0.Coords) (v0 : BitVec 32) (k0_hw1 : k0_chk1 i v0) (k0_t2 : Fin (k0_t2_loop v0).trips), ∀ (k0_h12 : k0_cond12 v0 k0_t2 = 1#1), ∀ a, (k0_off127 i v0 k0_t2) a + S1x1x512x512.size a ≤ S2x2x2048x512.size a := fun i v0 k0_hw1 k0_t2 k0_h12 => k0_hw1.2.2.2.2.2.2.2.2.2.2.2.2.2.2.2.2.2.2.2.2.1 k0_t2 k0_h12
theorem k0_off128_inb : ∀ (i : grid0.Coords) (v0 : BitVec 32) (k0_hw1 : k0_chk1 i v0) (k0_t2 : Fin (k0_t2_loop v0).trips), ∀ (k0_h12 : k0_cond12 v0 k0_t2 = 1#1), ∀ a, (k0_off128 i v0 k0_t2) a + S1x1x512x512.size a ≤ S2x2x2048x512.size a := fun i v0 k0_hw1 k0_t2 k0_h12 => k0_hw1.2.2.2.2.2.2.2.2.2.2.2.2.2.2.2.2.2.2.2.2.2.1 k0_t2 k0_h12
theorem k0_off129_inb : ∀ (i : grid0.Coords) (v0 : BitVec 32) (k0_hw1 : k0_chk1 i v0) (k0_t2 : Fin (k0_t2_loop v0).trips), ∀ (k0_h12 : k0_cond12 v0 k0_t2 = 1#1), ∀ a, (k0_off129 i v0 k0_t2) a + S1x1x512x512.size a ≤ S2x2x2048x512.size a := fun i v0 k0_hw1 k0_t2 k0_h12 => k0_hw1.2.2.2.2.2.2.2.2.2.2.2.2.2.2.2.2.2.2.2.2.2.2 k0_t2 k0_h12

def k0_mult24 (i : grid0.Coords) : BitVec 32 :=
  let arg0 : BitVec 32 := BitVec.ofNat 32 (i 0).val
  let c2048_i32_41 : BitVec 32 := 2048#32
  let v73 : BitVec 32 := Scalar.muli arg0 c2048_i32_41
  v73
def k0_off130 (i : grid0.Coords) : Fin 2 → Nat :=
  let arg0 : BitVec 32 := BitVec.ofNat 32 (i 0).val
  let c2048_i32_41 : BitVec 32 := 2048#32
  let v73 : BitVec 32 := Scalar.muli arg0 c2048_i32_41
  let v74 : BitVec 32 := v73
  let c0_i32_42 : BitVec 32 := 0#32
  ![v74.toNat, 0]
def k0_off131 (i : grid0.Coords) : Fin 1 → Nat :=
  let arg0 : BitVec 32 := BitVec.ofNat 32 (i 0).val
  let c2_i32_43 : BitVec 32 := 2#32
  let v76 : BitVec 32 := Scalar.muli arg0 c2_i32_43
  let c0_i32_44 : BitVec 32 := 0#32
  let v77 : BitVec 32 := Scalar.addi v76 c0_i32_44
  let v78 : Index := Scalar.indexCast v77
  ![v78.toNat]
def k0_off132 (v79 : BitVec 32) : Fin 3 → Nat :=
  let c0_i32_48 : BitVec 32 := 0#32
  let c0_i32_49 : BitVec 32 := 0#32
  ![v79.toNat, 0, 0]

def k0_chk4 (v79 : BitVec 32) : Prop :=
  (∀ a, (k0_off132 v79) a + S1x2560x256.size a ≤ S5x2560x256.size a) ∧
  (∀ (hinb : ∀ a, (k0_off132 v79) a + S1x2560x256.size a ≤ S5x2560x256.size a), (Rect.unit (s := S5x2560x256) (k0_off132 v79) S1x2560x256.size hinb).WholeWords (EltTy.packing .bf16))
theorem k0_off132_inb : ∀ (v79 : BitVec 32) (k0_hw4 : k0_chk4 v79), ∀ a, (k0_off132 v79) a + S1x2560x256.size a ≤ S5x2560x256.size a := fun v79 k0_hw4 => k0_hw4.1
theorem k0_off132_wordsbf16 : ∀ (v79 : BitVec 32) (k0_hw4 : k0_chk4 v79), (Rect.unit (s := S5x2560x256) (k0_off132 v79) S1x2560x256.size (k0_off132_inb v79 k0_hw4)).WholeWords (EltTy.packing .bf16) := fun v79 k0_hw4 => k0_hw4.2 (k0_off132_inb v79 k0_hw4)

def k0_off133 (i : grid0.Coords) : Fin 1 → Nat :=
  let arg0 : BitVec 32 := BitVec.ofNat 32 (i 0).val
  let c2_i32_50 : BitVec 32 := 2#32
  let v84 : BitVec 32 := Scalar.muli arg0 c2_i32_50
  let c1_i32_51 : BitVec 32 := 1#32
  let v85 : BitVec 32 := Scalar.addi v84 c1_i32_51
  let v86 : Index := Scalar.indexCast v85
  ![v86.toNat]
def k0_off134 (v87 : BitVec 32) : Fin 3 → Nat :=
  let c0_i32_55 : BitVec 32 := 0#32
  let c0_i32_56 : BitVec 32 := 0#32
  ![v87.toNat, 0, 0]

def k0_chk5 (v87 : BitVec 32) : Prop :=
  (∀ a, (k0_off134 v87) a + S1x2560x256.size a ≤ S5x2560x256.size a) ∧
  (∀ (hinb : ∀ a, (k0_off134 v87) a + S1x2560x256.size a ≤ S5x2560x256.size a), (Rect.unit (s := S5x2560x256) (k0_off134 v87) S1x2560x256.size hinb).WholeWords (EltTy.packing .bf16))
theorem k0_off134_inb : ∀ (v87 : BitVec 32) (k0_hw5 : k0_chk5 v87), ∀ a, (k0_off134 v87) a + S1x2560x256.size a ≤ S5x2560x256.size a := fun v87 k0_hw5 => k0_hw5.1
theorem k0_off134_wordsbf16 : ∀ (v87 : BitVec 32) (k0_hw5 : k0_chk5 v87), (Rect.unit (s := S5x2560x256) (k0_off134 v87) S1x2560x256.size (k0_off134_inb v87 k0_hw5)).WholeWords (EltTy.packing .bf16) := fun v87 k0_hw5 => k0_hw5.2 (k0_off134_inb v87 k0_hw5)

def k0_cond13 (i : grid0.Coords) : BitVec 1 :=
  let arg0 : BitVec 32 := BitVec.ofNat 32 (i 0).val
  let c0_i32_57 : BitVec 32 := 0#32
  let v92 : BitVec 1 := Scalar.cmpi .sgt arg0 c0_i32_57
  let v93 : BitVec 32 := Scalar.extui v92
  let c0_i32_58 : BitVec 32 := 0#32
  let v94 : BitVec 1 := Scalar.cmpi .ne v93 c0_i32_58
  v94

def k0_mult25 (i : grid0.Coords) : BitVec 32 :=
  let arg0 : BitVec 32 := BitVec.ofNat 32 (i 0).val
  let c1_i32_416 : BitVec 32 := 1#32
  let v461 : BitVec 32 := Scalar.subi arg0 c1_i32_416
  let c2048_i32_417 : BitVec 32 := 2048#32
  let v462 : BitVec 32 := Scalar.muli v461 c2048_i32_417
  v462
def k0_off135 (i : grid0.Coords) : Fin 2 → Nat :=
  let arg0 : BitVec 32 := BitVec.ofNat 32 (i 0).val
  let c1_i32_416 : BitVec 32 := 1#32
  let v461 : BitVec 32 := Scalar.subi arg0 c1_i32_416
  let c2048_i32_417 : BitVec 32 := 2048#32
  let v462 : BitVec 32 := Scalar.muli v461 c2048_i32_417
  let v463 : BitVec 32 := v462
  let c0_i32_418 : BitVec 32 := 0#32
  ![v463.toNat, 0]
def k0_mult26 (i : grid0.Coords) : BitVec 32 :=
  let arg0 : BitVec 32 := BitVec.ofNat 32 (i 0).val
  let c2048_i32_413 : BitVec 32 := 2048#32
  let v455 : BitVec 32 := Scalar.muli arg0 c2048_i32_413
  v455
def k0_off136 (i : grid0.Coords) : Fin 2 → Nat :=
  let arg0 : BitVec 32 := BitVec.ofNat 32 (i 0).val
  let c2048_i32_413 : BitVec 32 := 2048#32
  let v455 : BitVec 32 := Scalar.muli arg0 c2048_i32_413
  let v456 : BitVec 32 := v455
  let c0_i32_414 : BitVec 32 := 0#32
  ![v456.toNat, 0]
def k0_cond14 (i : grid0.Coords) : BitVec 1 :=
  let arg0 : BitVec 32 := BitVec.ofNat 32 (i 0).val
  let c3_i32 : BitVec 32 := 3#32
  let v458 : BitVec 1 := Scalar.cmpi .eq arg0 c3_i32
  let v459 : BitVec 32 := Scalar.extui v458
  let c0_i32_415 : BitVec 32 := 0#32
  let v460 : BitVec 1 := Scalar.cmpi .ne v459 c0_i32_415
  v460

def k0_mult27 (i : grid0.Coords) : BitVec 32 :=
  let arg0 : BitVec 32 := BitVec.ofNat 32 (i 0).val
  let c2048_i32_416 : BitVec 32 := 2048#32
  let v461 : BitVec 32 := Scalar.muli arg0 c2048_i32_416
  v461
def k0_off137 (i : grid0.Coords) : Fin 2 → Nat :=
  let arg0 : BitVec 32 := BitVec.ofNat 32 (i 0).val
  let c2048_i32_416 : BitVec 32 := 2048#32
  let v461 : BitVec 32 := Scalar.muli arg0 c2048_i32_416
  let v462 : BitVec 32 := v461
  let c0_i32_417 : BitVec 32 := 0#32
  ![v462.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x10240 : Shape := ⟨2, ![8192, 10240]⟩
abbrev S2560x10240 : Shape := ⟨2, ![2560, 10240]⟩
abbrev S1 : Shape := ⟨1, ![1]⟩
abbrev S20 : Shape := ⟨1, ![20]⟩
abbrev S1x10240 : Shape := ⟨2, ![1, 10240]⟩
abbrev S8192x384 : Shape := ⟨2, ![8192, 384]⟩
abbrev S5x2560x256 : Shape := ⟨3, ![5, 2560, 256]⟩
abbrev S8192x1 : Shape := ⟨2, ![8192, 1]⟩
abbrev S8 : Shape := ⟨1, ![8]⟩
abbrev S5x2560x128 : Shape := ⟨3, ![5, 2560, 128]⟩
abbrev S_ : Shape := ⟨0, ![]⟩
abbrev S8x1 : Shape := ⟨2, ![8, 1]⟩
abbrev S8x2560x128 : Shape := ⟨3, ![8, 2560, 128]⟩
abbrev S8192x2560 : Shape := ⟨2, ![8192, 2560]⟩
abbrev S8192x128 : Shape := ⟨2, ![8192, 128]⟩
abbrev S1024x128 : Shape := ⟨2, ![1024, 128]⟩
abbrev S1x2560x128 : Shape := ⟨3, ![1, 2560, 128]⟩
abbrev S2560x128 : Shape := ⟨2, ![2560, 128]⟩
abbrev S1024x2560 : Shape := ⟨2, ![1024, 2560]⟩

abbrev nBuf : Space → Nat
  | .hbm => 20
  | .vmem => 7
  | .smem => 0
  | _ => 0

abbrev bufTy : (tb : Table) → Fin (tcTables nBuf tb) → BufTy
  | .hbm, ⟨0, _⟩ => ⟨S8192x10240, .fp8e5m2⟩
  | .hbm, ⟨1, _⟩ => ⟨S2560x10240, .fp8e4m3⟩
  | .hbm, ⟨2, _⟩ => ⟨S1, .i32⟩
  | .hbm, ⟨3, _⟩ => ⟨S20, .f32⟩
  | .hbm, ⟨4, _⟩ => ⟨S1x10240, .f32⟩
  | .hbm, ⟨5, _⟩ => ⟨S8192x384, .bf16⟩
  | .hbm, ⟨6, _⟩ => ⟨S5x2560x256, .bf16⟩
  | .hbm, ⟨7, _⟩ => ⟨S8192x1, .f32⟩
  | .hbm, ⟨8, _⟩ => ⟨S8, .i32⟩
  | .hbm, ⟨9, _⟩ => ⟨S5x2560x128, .bf16⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S8x2560x128, .bf16⟩
  | .hbm, ⟨19, _⟩ => ⟨S8192x2560, .bf16⟩
  | .local _ .vmem, ⟨0, _⟩ => ⟨S8192x10240, .fp8e5m2⟩
  | .local _ .vmem, ⟨1, _⟩ => ⟨S2560x10240, .fp8e4m3⟩
  | .local _ .vmem, ⟨2, _⟩ => ⟨S1x10240, .f32⟩
  | .local _ .vmem, ⟨3, _⟩ => ⟨S8192x384, .bf16⟩
  | .local _ .vmem, ⟨4, _⟩ => ⟨S8x2560x128, .bf16⟩
  | .local _ .vmem, ⟨5, _⟩ => ⟨S8192x1, .f32⟩
  | .local _ .vmem, ⟨6, _⟩ => ⟨S8192x2560, .bf16⟩
  | _, _ => ⟨S8192x10240, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x10240 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2560x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tables.lean ====
/- The precondition on the tables, read as numbers: the number of units is one of 0 to 20 and each adapter is
   one of 0 to 4. -/
module

public import proofs.«01_k».proof.Proof.Gen.Pre_tables_fit
public import Idealize.ShloMosaic.Lib.StableHlo.Predicate

@[expose] public section

namespace Cert.Tables

open Idealize.ShloMosaic

theorem and_one {a b : BitVec 1} (h : IntOp.andi a b = 1#1) : a = 1#1 ∧ b = 1#1 := by
  revert a b; decide

theorem lt_of_words {w : BitVec 32} (k : ℕ) (hk : k < 2 ^ 31) (h0 : IntOp.cmpi .sge w 0#32 = 1#1) (h1 : IntOp.cmpi .slt w (BitVec.ofNat 32 k) = 1#1) : w.toNat < k := by
  have a0 : (0#32).sle w = true := (StableHlo.Predicate.ofBool_eq_one_iff _).1 h0
  have a1 : w.slt (BitVec.ofNat 32 k) = true := (StableHlo.Predicate.ofBool_eq_one_iff _).1 h1
  rw [BitVec.sle_iff_toInt_le] at a0
  rw [BitVec.slt_iff_toInt_lt, StableHlo.Predicate.toInt_ofNat_small k hk] at a1
  have e0 : (0#32).toInt = 0 := rfl
  rw [e0] at a0
  rw [BitVec.toInt_eq_toNat_cond] at a0 a1
  have := w.isLt
  split at a0 <;> omega

theorem le_of_words {w : BitVec 32} (k : ℕ) (hk : k < 2 ^ 31) (h0 : IntOp.cmpi .sge w 0#32 = 1#1) (h1 : IntOp.cmpi .sle w (BitVec.ofNat 32 k) = 1#1) : w.toNat ≤ k := by
  have a0 : (0#32).sle w = true := (StableHlo.Predicate.ofBool_eq_one_iff _).1 h0
  have a1 : w.sle (BitVec.ofNat 32 k) = true := (StableHlo.Predicate.ofBool_eq_one_iff _).1 h1
  rw [BitVec.sle_iff_toInt_le] at a0 a1
  rw [StableHlo.Predicate.toInt_ofNat_small k hk] at a1
  have e0 : (0#32).toInt = 0 := rfl
  rw [e0] at a0
  rw [BitVec.toInt_eq_toNat_cond] at a0 a1
  have := w.isLt
  split at a0 <;> omega

theorem s1_eq (x y : Cert.Pre_tables_fit.S1.Idx) : x = y := by
  funext a; match a with | ⟨0, _⟩ => exact Fin.ext (by have := (x 0).isLt; have := (y 0).isLt; show (x 0).val = (y 0).val; have h : Cert.Pre_tables_fit.S1.size 0 = 1 := rfl; omega)

theorem ofNat_toNat_self (w : BitVec 32) : BitVec.ofNat 32 w.toNat = w := by
  rw [BitVec.ofNat_toNat, BitVec.setWidth_eq]

/-- The entry of number `i` of the adapters. -/
def at8 (i : Fin 8) : Cert.Pre_tables_fit.S8.Idx := Shape.Idx.ofFin i

/-- The tables from the printed predicate. -/
theorem tables {F : FTy → Type} [FloatOps F] {a0 a1 a3 a4 a5 a6 a7} {a2 : IVec Cert.Pre_tables_fit.S1 32} {a8 : IVec Cert.Pre_tables_fit.S8 32}
    (h : Cert.Pre_tables_fit.fn (F := F) a0 a1 a2 a3 a4 a5 a6 a7 a8 = fun _ => 1#1) :
    ∃ (n : Fin 21) (idn : Fin 8 → Fin 5), (∀ x, a2 x = BitVec.ofNat 32 n.val) ∧ ∀ x, a8 x = BitVec.ofNat 32 (idn (x 0)).val := by
  have hx : ∀ x, IntOp.cmpi .sge (a8 x) 0#32 = 1#1 ∧ IntOp.cmpi .slt (a8 x) 5#32 = 1#1 ∧ ∃ y, IntOp.cmpi .sge (a2 y) 0#32 = 1#1 ∧ IntOp.cmpi .sle (a2 y) 20#32 = 1#1 := by
    intro x
    have e := congrFun h x
    obtain ⟨e1, e2⟩ := and_one e
    obtain ⟨e3, e4⟩ := and_one e1
    obtain ⟨e5, e6⟩ := and_one e3
    exact ⟨e5, e6, _, e4, e2⟩
  obtain ⟨-, -, y, hy0, hy1⟩ := hx (fun _ => ⟨0, by decide +revert⟩)
  refine ⟨⟨(a2 y).toNat, Nat.lt_succ_of_le (le_of_words 20 (by decide) hy0 hy1)⟩, fun i => ⟨(a8 (at8 i)).toNat, lt_of_words 5 (by decide) (hx _).1 (hx _).2.1⟩, ?_, ?_⟩
  · intro x
    rw [s1_eq x y]
    exact (ofNat_toNat_self _).symm
  · intro x
    have e : at8 (x 0) = x := by
      funext a; match a with | ⟨0, _⟩ => rfl
    exact (congrArg a8 e).symm.trans (ofNat_toNat_self _).symm

end Cert.Tables
-- ==== Proof.Tiles.lean ====
/- The pieces of the kernel body as programs of their own: the tile of one product added to the
   accumulator, for a pair of units, a single unit and a unit with a scale per column, the tile of
   the result; and each branch of a trip as those pieces in order, by definitional unfolding. -/
module

public import proofs.«01_k».proof.Proof.Gen.KernelIdeal.Skeleton

@[expose] public section

set_option synthInstance.maxSize 4096

noncomputable section

namespace Cert.KernelIdeal.Hand

open Idealize.ShloMosaic Idealize.SL.Sem Cert.KernelIdeal Cert.KernelIdeal.Gen

variable {F : FTy → Type} [FloatOps F]

/-- The programs of the kernel body. -/
abbrev P (F : FTy → Type) [FloatOps F] (α : Type) := Prog (TpuEff nD τ sig (Elt F) Λ₀ .tc) α

/-- One program for each element of a list, in order. -/
def seqP {ι : Type} (f : ι → P F Unit) : List ι → P F Unit
  | [] => pure ⟨⟩
  | a :: l => f a >>= fun _ => seqP f l

/-- The twenty tiles of the accumulator, by rows. -/
def tiles : List (Fin 4 × Fin 5) :=
  [(0,0),(0,1),(0,2),(0,3),(0,4),(1,0),(1,1),(1,2),(1,3),(1,4),
   (2,0),(2,1),(2,2),(2,3),(2,4),(3,0),(3,1),(3,2),(3,3),(3,4)]

/-- The first row of row `r` of tiles. -/
def rowAt : Fin 4 → ℕ := ![0, 512, 1024, 1536]
/-- The first column of column `c` of tiles. -/
def colAt : Fin 5 → ℕ := ![0, 512, 1024, 1536, 2048]

theorem inbAcc : ∀ (r : Fin 4) (c : Fin 5) (a : Fin S2048x2560.rank),
    ![rowAt r, colAt c] a + S512x512.size a ≤ S2048x2560.size a := by decide

/-- The rectangle of tile `(r, c)` of the accumulator. -/
def accR (r : Fin 4) (c : Fin 5) : Rect S2048x2560 :=
  Rect.unit (s := S2048x2560) ![rowAt r, colAt c] S512x512.size (inbAcc r c)

section
variable (a3 : Memref sig .tc .smem S20 .f32) (a6 : Memref sig .tc .vmem S1x10240 .f32)
  (a11 : Memref sig .tc .vmem S2048x2560 .f32)
  (a12 : Memref sig .tc .vmem S2x2x2048x512 .fp8e5m2) (a13 : Memref sig .tc .vmem S2x2x2560x512 .fp8e4m3)

/-- The bounds of a tile of the dy buffer at `o`. -/
abbrev DyIn (o : Fin 4 → ℕ) : Prop := ∀ a : Fin S2x2x2048x512.rank, o a + S1x1x512x512.size a ≤ S2x2x2048x512.size a
/-- The bounds of a tile of the weight buffer at `o`. -/
abbrev WIn (o : Fin 4 → ℕ) : Prop := ∀ a : Fin S2x2x2560x512.rank, o a + S1x1x512x512.size a ≤ S2x2x2560x512.size a

/-- Load a tile of the dy buffer. -/
def ldDy (o : Fin 4 → ℕ) (h : DyIn o) : P F (Vec F S1x1x512x512 .fp8e5m2) :=
  Prog.lift (.load a12 (Rect.unit (s := S2x2x2048x512) o S1x1x512x512.size h).toLoadRect (View.loadsAt_vmem h_S1x1x512x512))
/-- Load a tile of the weight buffer. -/
def ldW (o : Fin 4 → ℕ) (h : WIn o) : P F (Vec F S1x1x512x512 .fp8e4m3) :=
  Prog.lift (.load a13 (Rect.unit (s := S2x2x2560x512) o S1x1x512x512.size h).toLoadRect (View.loadsAt_vmem h_S1x1x512x512))
/-- Load a tile of the accumulator. -/
def ldAcc (r : Fin 4) (c : Fin 5) : P F (Vec F S512x512 .f32) :=
  Prog.lift (.load a11 (Rect.unit (s := S2048x2560) ![rowAt r, colAt c] S512x512.size (inbAcc r c)).toLoadRect (View.loadsAt_vmem h_S512x512))
/-- Store a tile of the accumulator. -/
def stAcc (r : Fin 4) (c : Fin 5) (v : FVec F S512x512 .f32) : P F Unit :=
  Prog.lift (.store a11 (Rect.unit (s := S2048x2560) ![rowAt r, colAt c] S512x512.size (inbAcc r c)) v Finset.univ (View.stores_vmem_bits_univ h_S512x512 rfl) (.inl rfl))

/-- One tile of a pair of units. -/
def pairTile (s0 s1 : Elt F .f32) (od0 od1 : Fin 4 → Fin 4 → ℕ) (ow0 ow1 : Fin 5 → Fin 4 → ℕ)
    (hd0 : ∀ r, DyIn (od0 r)) (hd1 : ∀ r, DyIn (od1 r)) (hw0 : ∀ c, WIn (ow0 c)) (hw1 : ∀ c, WIn (ow1 c))
    (p : Fin 4 × Fin 5) : P F Unit := do
  let d0 ← ldDy a12 (od0 p.1) (hd0 p.1)
  let w0 ← ldW a13 (ow0 p.2) (hw0 p.2)
  let d1 ← ldDy a12 (od1 p.1) (hd1 p.1)
  let w1 ← ldW a13 (ow1 p.2) (hw1 p.2)
  let acc ← ldAcc a11 p.1 p.2
  let _ ← ldAcc (F := F) a11 p.1 p.2
  stAcc a11 p.1 p.2 (k0_pay3 s0 s1 (k0_pay2 d0 w0) d1 w1 acc)

/-- One tile of a single unit. -/
def singleTile (s : Elt F .f32) (od : Fin 4 → Fin 4 → ℕ) (ow : Fin 5 → Fin 4 → ℕ)
    (hd : ∀ r, DyIn (od r)) (hw : ∀ c, WIn (ow c)) (p : Fin 4 × Fin 5) : P F Unit := do
  let acc ← ldAcc a11 p.1 p.2
  let d ← ldDy a12 (od p.1) (hd p.1)
  let w ← ldW a13 (ow p.2) (hw p.2)
  let _ ← ldAcc (F := F) a11 p.1 p.2
  stAcc a11 p.1 p.2 (k0_pay42 s acc d w)

/-- One tile of a unit with a scale per column. -/
def scaledTile (s : Vec F S1x512 .f32) (d : Vec F S1x1x512x512 .fp8e5m2) (ow : Fin 5 → Fin 4 → ℕ)
    (hw : ∀ c, WIn (ow c)) (r : Fin 4) (c : Fin 5) : P F Unit := do
  let acc ← ldAcc a11 r c
  let w ← ldW a13 (ow c) (hw c)
  let _ ← ldAcc (F := F) a11 r c
  stAcc a11 r c (k0_pay67 s d acc w)

/-- One row of tiles of a unit with a scale per column. -/
def scaledRow (s : Vec F S1x512 .f32) (od : Fin 4 → Fin 4 → ℕ) (ow : Fin 5 → Fin 4 → ℕ)
    (hd : ∀ r, DyIn (od r)) (hw : ∀ c, WIn (ow c)) (r : Fin 4) : P F Unit := do
  let d ← ldDy a12 (od r) (hd r)
  seqP (scaledTile a11 a13 s d ow hw r) [0, 1, 2, 3, 4]

end

/-- Offsets of the tiles loaded. -/
def pD0 (i : grid0.Coords) (v0 : BitVec 32) (t : Fin (k0_t1_loop v0).trips) : Fin 4 → Fin 4 → ℕ :=
  ![k0_off32 i v0 t, k0_off44 i v0 t, k0_off46 i v0 t, k0_off48 i v0 t]
theorem pD0_in (i : grid0.Coords) (v0 : BitVec 32) (hw : k0_chk1 i v0) (t : Fin (k0_t1_loop v0).trips) (h : k0_cond5 v0 t = 1#1) : ∀ r, DyIn (pD0 i v0 t r) := by
  intro r; fin_cases r
  · exact k0_off32_inb i v0 hw t h
  · exact k0_off44_inb i v0 hw t h
  · exact k0_off46_inb i v0 hw t h
  · exact k0_off48_inb i v0 hw t h
/-- Offsets of the tiles loaded. -/
def pD1 (i : grid0.Coords) (v0 : BitVec 32) (t : Fin (k0_t1_loop v0).trips) : Fin 4 → Fin 4 → ℕ :=
  ![k0_off34 i v0 t, k0_off45 i v0 t, k0_off47 i v0 t, k0_off49 i v0 t]
theorem pD1_in (i : grid0.Coords) (v0 : BitVec 32) (hw : k0_chk1 i v0) (t : Fin (k0_t1_loop v0).trips) (h : k0_cond5 v0 t = 1#1) : ∀ r, DyIn (pD1 i v0 t r) := by
  intro r; fin_cases r
  · exact k0_off34_inb i v0 hw t h
  · exact k0_off45_inb i v0 hw t h
  · exact k0_off47_inb i v0 hw t h
  · exact k0_off49_inb i v0 hw t h
/-- Offsets of the tiles loaded. -/
def pW0 (i : grid0.Coords) (v0 : BitVec 32) (t : Fin (k0_t1_loop v0).trips) : Fin 5 → Fin 4 → ℕ :=
  ![k0_off33 i v0 t, k0_off36 i v0 t, k0_off38 i v0 t, k0_off40 i v0 t, k0_off42 i v0 t]
theorem pW0_in (i : grid0.Coords) (v0 : BitVec 32) (hw : k0_chk1 i v0) (t : Fin (k0_t1_loop v0).trips) (h : k0_cond5 v0 t = 1#1) : ∀ r, WIn (pW0 i v0 t r) := by
  intro r; fin_cases r
  · exact k0_off33_inb i v0 hw t h
  · exact k0_off36_inb i v0 hw t h
  · exact k0_off38_inb i v0 hw t h
  · exact k0_off40_inb i v0 hw t h
  · exact k0_off42_inb i v0 hw t h
/-- Offsets of the tiles loaded. -/
def pW1 (i : grid0.Coords) (v0 : BitVec 32) (t : Fin (k0_t1_loop v0).trips) : Fin 5 → Fin 4 → ℕ :=
  ![k0_off35 i v0 t, k0_off37 i v0 t, k0_off39 i v0 t, k0_off41 i v0 t, k0_off43 i v0 t]
theorem pW1_in (i : grid0.Coords) (v0 : BitVec 32) (hw : k0_chk1 i v0) (t : Fin (k0_t1_loop v0).trips) (h : k0_cond5 v0 t = 1#1) : ∀ r, WIn (pW1 i v0 t r) := by
  intro r; fin_cases r
  · exact k0_off35_inb i v0 hw t h
  · exact k0_off37_inb i v0 hw t h
  · exact k0_off39_inb i v0 hw t h
  · exact k0_off41_inb i v0 hw t h
  · exact k0_off43_inb i v0 hw t h
/-- Offsets of the tiles loaded. -/
def sD (i : grid0.Coords) (v0 : BitVec 32) (t : Fin (k0_t1_loop v0).trips) : Fin 4 → Fin 4 → ℕ :=
  ![k0_off51 i v0 t, k0_off57 i v0 t, k0_off58 i v0 t, k0_off59 i v0 t]
theorem sD_in (i : grid0.Coords) (v0 : BitVec 32) (hw : k0_chk1 i v0) (t : Fin (k0_t1_loop v0).trips) (h : k0_cond6 v0 t = 1#1) : ∀ r, DyIn (sD i v0 t r) := by
  intro r; fin_cases r
  · exact k0_off51_inb i v0 hw t h
  · exact k0_off57_inb i v0 hw t h
  · exact k0_off58_inb i v0 hw t h
  · exact k0_off59_inb i v0 hw t h
/-- Offsets of the tiles loaded. -/
def sW (i : grid0.Coords) (v0 : BitVec 32) (t : Fin (k0_t1_loop v0).trips) : Fin 5 → Fin 4 → ℕ :=
  ![k0_off52 i v0 t, k0_off53 i v0 t, k0_off54 i v0 t, k0_off55 i v0 t, k0_off56 i v0 t]
theorem sW_in (i : grid0.Coords) (v0 : BitVec 32) (hw : k0_chk1 i v0) (t : Fin (k0_t1_loop v0).trips) (h : k0_cond6 v0 t = 1#1) : ∀ r, WIn (sW i v0 t r) := by
  intro r; fin_cases r
  · exact k0_off52_inb i v0 hw t h
  · exact k0_off53_inb i v0 hw t h
  · exact k0_off54_inb i v0 hw t h
  · exact k0_off55_inb i v0 hw t h
  · exact k0_off56_inb i v0 hw t h
/-- Offsets of the tiles loaded. -/
def bD (i : grid0.Coords) (v0 : BitVec 32) (t : Fin (k0_t1_loop v0).trips) : Fin 4 → Fin 4 → ℕ :=
  ![k0_off61 i v0 t, k0_off67 i v0 t, k0_off68 i v0 t, k0_off69 i v0 t]
theorem bD_in (i : grid0.Coords) (v0 : BitVec 32) (hw : k0_chk1 i v0) (t : Fin (k0_t1_loop v0).trips) (h : k0_cond7 v0 t = 1#1) : ∀ r, DyIn (bD i v0 t r) := by
  intro r; fin_cases r
  · exact k0_off61_inb i v0 hw t h
  · exact k0_off67_inb i v0 hw t h
  · exact k0_off68_inb i v0 hw t h
  · exact k0_off69_inb i v0 hw t h
/-- Offsets of the tiles loaded. -/
def bW (i : grid0.Coords) (v0 : BitVec 32) (t : Fin (k0_t1_loop v0).trips) : Fin 5 → Fin 4 → ℕ :=
  ![k0_off62 i v0 t, k0_off63 i v0 t, k0_off64 i v0 t, k0_off65 i v0 t, k0_off66 i v0 t]
theorem bW_in (i : grid0.Coords) (v0 : BitVec 32) (hw : k0_chk1 i v0) (t : Fin (k0_t1_loop v0).trips) (h : k0_cond7 v0 t = 1#1) : ∀ r, WIn (bW i v0 t r) := by
  intro r; fin_cases r
  · exact k0_off62_inb i v0 hw t h
  · exact k0_off63_inb i v0 hw t h
  · exact k0_off64_inb i v0 hw t h
  · exact k0_off65_inb i v0 hw t h
  · exact k0_off66_inb i v0 hw t h

/-- The branch of a single unit, as printed. -/
def single_prog (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h6 : k0_cond6 v0 k0_t1 = 1#1) : P F Unit := do
      let ⟨v515, v544⟩ : Σ' (v515 : Elt F .f32), Vec F S512x512 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v462 v474 k0_h6
      let ⟨v572, v575⟩ : Σ' (v572 : Vec F S512x512 .f32), FVec F S512x512 .fp8e5m2 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v544
      let v610 : FVec F S512x512 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v572 v575
      k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v610
      let ⟨v670, v673⟩ : Σ' (v670 : Vec F S512x512 .f32), FVec F S512x512 .fp8e5m2 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515
      let ⟨v698, v705, v706⟩ : Σ' (v698 : Vec F S512x512 .f32) (v705 : FVec F S512x512 .f32), FVec F S512x512 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v670 v673
      k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v698 v705 v706
      let ⟨v768, v770⟩ : Σ' (v768 : Vec F S512x512 .f32), Vec F S1x1x512x512 .fp8e5m2 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515
      let v773 : Vec F S1x1x512x512 .fp8e4m3 ← Prog.lift (.load arg13 (Rect.unit (s := S2x2x2560x512) (k0_off55 i v0 k0_t1) S1x1x512x512.size (k0_off55_inb i v0 k0_hw1 k0_t1 k0_h6)).toLoadRect (View.loadsAt_vmem h_S1x1x512x512))
      let v779 : Vec F S512x512 .f32 ← Prog.lift (.load arg11 (Rect.unit (s := S2048x2560) ![1536, 1536] S512x512.size inb_S2048x2560_S512x512_1536_1536).toLoadRect (View.loadsAt_vmem h_S512x512))
      Prog.lift (.store arg11 (Rect.unit (s := S2048x2560) ![1536, 1536] S512x512.size inb_S2048x2560_S512x512_1536_1536) (k0_pay186 v515 v768 v770 v773) Finset.univ (View.stores_vmem_bits_univ h_S512x512 rfl) (.inl rfl))
      let v782 : Vec F S512x512 .f32 ← Prog.lift (.load arg11 (Rect.unit (s := S2048x2560) ![1536, 2048] S512x512.size inb_S2048x2560_S512x512_1536_2048).toLoadRect (View.loadsAt_vmem h_S512x512))
      let v784 : Vec F S1x1x512x512 .fp8e5m2 ← Prog.lift (.load arg12 (Rect.unit (s := S2x2x2048x512) (k0_off59 i v0 k0_t1) S1x1x512x512.size (k0_off59_inb i v0 k0_hw1 k0_t1 k0_h6)).toLoadRect (View.loadsAt_vmem h_S1x1x512x512))
      let v787 : Vec F S1x1x512x512 .fp8e4m3 ← Prog.lift (.load arg13 (Rect.unit (s := S2x2x2560x512) (k0_off56 i v0 k0_t1) S1x1x512x512.size (k0_off56_inb i v0 k0_hw1 k0_t1 k0_h6)).toLoadRect (View.loadsAt_vmem h_S1x1x512x512))
      let v793 : Vec F S512x512 .f32 ← Prog.lift (.load arg11 (Rect.unit (s := S2048x2560) ![1536, 2048] S512x512.size inb_S2048x2560_S512x512_1536_2048).toLoadRect (View.loadsAt_vmem h_S512x512))
      Prog.lift (.store arg11 (Rect.unit (s := S2048x2560) ![1536, 2048] S512x512.size inb_S2048x2560_S512x512_1536_2048) (k0_pay187 v515 v782 v784 v787) Finset.univ (View.stores_vmem_bits_univ h_S512x512 rfl) (.inl rfl))
      pure ⟨⟩

set_option maxRecDepth 65536 in
theorem single_eq (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h6 : k0_cond6 v0 k0_t1 = 1#1) :
    single_prog i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h6 = (do
      let s ← smemLoad arg3 (Rect.unit (s := S20) (k0_off50 v0 k0_t1) S1.size (k0_off50_inb i v0 k0_hw1 k0_t1 k0_h6)) numel1_S1 rfl
      seqP (singleTile arg11 arg12 arg13 s (sD i v0 k0_t1) (sW i v0 k0_t1) (sD_in i v0 k0_hw1 k0_t1 k0_h6) (sW_in i v0 k0_hw1 k0_t1 k0_h6)) tiles) := rfl

/-- The branch of a unit with a scale per column, as printed. -/
def scaled_prog (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h7 : k0_cond7 v0 k0_t1 = 1#1) : P F Unit := do
      let ⟨v522, v528⟩ : Σ' (v522 : FVec F S1x512 .bf16), FVec F S512x512 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 v35 k0_t1 v462 v474 k0_h7
      k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v528
      let ⟨v584, v611, v612⟩ : Σ' (v584 : FVec F S512x512 .bf16) (v611 : FVec F S512x512 .f32), Vec F S512x512 .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v522
      let ⟨v640, v641, v645⟩ : Σ' (v640 : FVec F S512x512 .bf16) (v641 : Vec F S512x512 .f32), FVec F S512x512 .bf16 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v522 v584 v611 v612
      let v677 : FVec F S512x512 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v640 v641 v645
      let ⟨v696, v707⟩ : Σ' (v696 : FVec F S512x512 .bf16), Vec F S512x512 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v522 v640 v677
      let ⟨v737, v741⟩ : Σ' (v737 : Vec F S512x512 .f32), FVec F S512x512 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v696 v707
      let v744 : Vec F S512x512 .f32 ← Prog.lift (.load arg11 (Rect.unit (s := S2048x2560) ![1536, 2048] S512x512.size inb_S2048x2560_S512x512_1536_2048).toLoadRect (View.loadsAt_vmem h_S512x512))
      Prog.lift (.store arg11 (Rect.unit (s := S2048x2560) ![1536, 2048] S512x512.size inb_S2048x2560_S512x512_1536_2048) (k0_pay188 v696 v737 v741) Finset.univ (View.stores_vmem_bits_univ h_S512x512 rfl) (.inl rfl))
      pure ⟨⟩

set_option maxRecDepth 65536 in
theorem scaled_eq (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h7 : k0_cond7 v0 k0_t1 = 1#1) :
    scaled_prog i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h7 = (do
      let s : Vec F S1x512 .f32 ← Prog.lift (.load arg6 (Rect.unit (s := S1x10240) (k0_off60 v0 k0_t1) S1x512.size (k0_off60_inb i v0 k0_hw1 k0_t1 k0_h7)).toLoadRect (View.loadsAt_vmem h_S1x512))
      seqP (scaledRow arg11 arg12 arg13 s (bD i v0 k0_t1) (bW i v0 k0_t1) (bD_in i v0 k0_hw1 k0_t1 k0_h7) (bW_in i v0 k0_hw1 k0_t1 k0_h7)) [0, 1, 2, 3]) := rfl

/-- The branch of a pair of units, as printed. -/
def pair_prog (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h5 : k0_cond5 v0 k0_t1 = 1#1) : P F Unit := do
      let ⟨v535, v539, v546⟩ : Σ' (v535 : Elt F .f32) (v539 : Elt F .f32), FVec F S512x512 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v35 k0_t1 v462 v474 k0_h5
      let ⟨v570, v577, v578, v579⟩ : Σ' (v570 : FVec F S512x512 .f32) (v577 : FVec F S512x512 .f32) (v578 : Vec F S512x512 .f32), FVec F S512x512 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v546
      let v614 : FVec F S512x512 .fp8e5m2 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v570 v577 v578 v579
      let ⟨v642, v645⟩ : Σ' (v642 : FVec F S512x512 .f32), FVec F S512x512 .fp8e5m2 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v614
      let ⟨v680, v681⟩ : Σ' (v680 : FVec F S512x512 .f32), Vec F S512x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v642 v645
      let v714 : FVec F S512x512 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v680 v681
      let ⟨v738, v745, v746⟩ : Σ' (v738 : FVec F S512x512 .f32) (v745 : FVec F S512x512 .f32), Vec F S512x512 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v714
      let v781 : Vec F S1x1x512x512 .fp8e5m2 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v738 v745 v746
      let ⟨v810, v813⟩ : Σ' (v810 : FVec F S512x512 .f32), FVec F S512x512 .fp8e5m2 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v781
      let v848 : FVec F S512x512 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v810 v813
      let ⟨v878, v881, cst_714⟩ : Σ' (v878 : FVec F S512x512 .fp8e5m2) (v881 : FVec F S512x512 .fp8e4m3), FVec F S512x512 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v848
      let ⟨v906, v913⟩ : Σ' (v906 : FVec F S512x512 .f32), FVec F S512x512 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v878 v881 cst_714
      k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v906 v913
      let ⟨v978, v981⟩ : Σ' (v978 : FVec F S512x512 .f32), FVec F S512x512 .fp8e5m2 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539
      let v1016 : FVec F S512x512 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v978 v981
      let v1017 : Vec F S512x512 .f32 ← Prog.lift (.load arg11 (Rect.unit (s := S2048x2560) ![1536, 2048] S512x512.size inb_S2048x2560_S512x512_1536_2048).toLoadRect (View.loadsAt_vmem h_S512x512))
      Prog.lift (.store arg11 (Rect.unit (s := S2048x2560) ![1536, 2048] S512x512.size inb_S2048x2560_S512x512_1536_2048) (k0_pay185 v1016) Finset.univ (View.stores_vmem_bits_univ h_S512x512 rfl) (.inl rfl))
      pure ⟨⟩

set_option maxRecDepth 65536 in
theorem pair_eq (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h5 : k0_cond5 v0 k0_t1 = 1#1) :
    pair_prog i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h5 = (do
      let v524 : DmaSems sig S_ := (arg17.slice (Rect.unit (s := S2x2) (k0_off25 i v0 k0_t1) S1x1.size (k0_off25_inb i v0 k0_hw1 k0_t1 k0_h5))).squeeze S_ squeezes_S1x1_S_
      let v526 : Memref sig .tc .vmem S2048x512 .fp8e5m2 := (arg12.slice (Rect.unit (s := S2x2x2048x512) (k0_off26 i v0 k0_t1) S1x1x2048x512.size (k0_off26_inb i v0 k0_hw1 k0_t1 k0_h5)) (fun _ => rfl)).squeeze S2048x512 squeezes_S1x1x2048x512_S2048x512
      let v527 : Memref sig .tc .hbm S2048x512 .fp8e5m2 := arg4.slice (Rect.unit (s := S8192x10240) (k0_off27 i v0 k0_t1) S2048x512.size (k0_off27_inb i v0 k0_hw1 k0_t1 k0_h5)) (fun _ => rfl)
      Prog.lift (.waitDma2 v524.sem v527 v526 (harg4.wordExact_slice rfl _ (k0_off27_wordsfp8e5m2 i v0 k0_hw1 k0_t1 k0_h5)) ((harg12.wordExact_slice rfl _ (k0_off26_wordsfp8e5m2 i v0 k0_hw1 k0_t1 k0_h5)).reshape _ _))
      let v531 : Memref sig .tc .vmem S2560x512 .fp8e4m3 := (arg13.slice (Rect.unit (s := S2x2x2560x512) (k0_off28 i v0 k0_t1) S1x1x2560x512.size (k0_off28_inb i v0 k0_hw1 k0_t1 k0_h5)) (fun _ => rfl)).squeeze S2560x512 squeezes_S1x1x2560x512_S2560x512
      let v532 : Memref sig .tc .hbm S2560x512 .fp8e4m3 := arg5.slice (Rect.unit (s := S2560x10240) (k0_off29 v0 k0_t1) S2560x512.size (k0_off29_inb i v0 k0_hw1 k0_t1 k0_h5)) (fun _ => rfl)
      Prog.lift (.waitDma2 v524.sem v532 v531 (harg5.wordExact_slice rfl _ (k0_off29_wordsfp8e4m3 i v0 k0_hw1 k0_t1 k0_h5)) ((harg13.wordExact_slice rfl _ (k0_off28_wordsfp8e4m3 i v0 k0_hw1 k0_t1 k0_h5)).reshape _ _))
      let s0 ← smemLoad arg3 (Rect.unit (s := S20) (k0_off30 v0 k0_t1) S1.size (k0_off30_inb i v0 k0_hw1 k0_t1 k0_h5)) numel1_S1 rfl
      let s1 ← smemLoad arg3 (Rect.unit (s := S20) (k0_off31 v0 k0_t1) S1.size (k0_off31_inb i v0 k0_hw1 k0_t1 k0_h5)) numel1_S1 rfl
      seqP (pairTile arg11 arg12 arg13 s0 s1 (pD0 i v0 k0_t1) (pD1 i v0 k0_t1) (pW0 i v0 k0_t1) (pW1 i v0 k0_t1) (pD0_in i v0 k0_hw1 k0_t1 k0_h5) (pD1_in i v0 k0_hw1 k0_t1 k0_h5) (pW0_in i v0 k0_hw1 k0_t1 k0_h5) (pW1_in i v0 k0_hw1 k0_t1 k0_h5)) tiles) := rfl

end Cert.KernelIdeal.Hand
-- ==== Proof.TileRules.lean ====
/- What one tile of the kernel body does to the accumulator: the rules of the loads and the store,
   and of a list of tiles as a fold. -/
module

public import proofs.«01_k».proof.Proof.Gen.KernelIdeal.Launch
public import proofs.«01_k».proof.Proof.Tiles
public import Idealize.ShloMosaic.Lib.Pipeline.FrameBody
public import Idealize.ShloMosaic.Lib.MixedBatch
public import Idealize.ShloMosaic.Lib.Ring
public import Idealize.ShloMosaic.Lib.Tactic

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resources. -/
abbrev MM (F : FTy → Type) := MT nD τ sig Unit (Elt F) ℕ (Pipeline.UD sig nD τ) ℕ

/-- The weakest precondition of a program of the kernel body on core `c`. -/
abbrev WP {α : Type} (c : Dev nD) (p : P F α) (Q : α → sProp (MM F)) : sProp (MM F) :=
  wp frame (wpE (defs₀ (F := F)) Variants.none (c : Thread nD τ) none) Set.univ p Q

/-- The accumulator. -/
abbrev M11 : Memref sig .tc .vmem S2048x2560 .f32 := Memref.whole cc0_scratch0
/-- The dy slots. -/
abbrev M12 : Memref sig .tc .vmem S2x2x2048x512 .fp8e5m2 := Memref.whole cc0_scratch1
/-- The weight slots. -/
abbrev M13 : Memref sig .tc .vmem S2x2x2560x512 .fp8e4m3 := Memref.whole cc0_scratch2
/-- The block of t. -/
abbrev M14 : Memref sig .tc .vmem S2048x384 .bf16 := Memref.whole cc0_scratch3
/-- The two blocks of a2. -/
abbrev M15 : Memref sig .tc .vmem S2x2560x256 .bf16 := Memref.whole cc0_scratch4
/-- The block of the result. -/
abbrev M16 : Memref sig .tc .vmem S2048x2560 .bf16 := Memref.whole cc0_scratch5

/-- Contents of a memref's buffer on core `c`. -/
abbrev B (F : FTy → Type) (c : Dev nD) (b : Ref sig .tc) := Buf (Elt F) ((c : Thread nD τ).loc b)

section
variable (c : Dev nD)

/-- A program followed by another. -/
theorem wpb {α β : Type} (p : P F α) (k : α → P F β) (Q : β → sProp (MM F)) :
    WP c p (fun a => WP c (k a) Q) ⊢ WP c (p >>= k) Q := Entails.of_eq (wp_bind _ _ _ p k Q).symm

/-- A load of a whole memref's rectangle. -/
theorem wp_ld {cs : CoreSpace} {s : Shape} {e : EltTy} (m : Memref sig .tc cs s e) (r : Rect s) (hl : m.view.LoadsAt r.toLoadRect)
    {S : Finset (Idx ((m.access r).loc (c : Thread nD τ)))} {q : PosShare TreeShare} {f : Buf (Elt F) ((m.access r).loc (c : Thread nD τ))}
    (hS : (m.access r).set ⊆ S) (Q : Vec F r.shape e → sProp (MM F)) :
    ((m.access r).loc (c : Thread nD τ) ↦[S]{q} f)
      ⊢ iprop((((m.access r).loc (c : Thread nD τ) ↦[S]{q} f) -∗ Q ((m.access r).read (Elt F) f))
        -∗ WP c (Prog.lift (.load m r.toLoadRect hl)) Q) := by
  iintro H Hk
  iapply (wp_load_rect (defs := defs₀ (F := F)) Variants.none (c : Thread nD τ) none Set.univ hS) $$ H
  iintro H
  iapply (le_wp_ret _ _ _ _ _)
  iapply Hk $$ H

/-- A store to a memref's rectangle. -/
theorem wp_st {cs : CoreSpace} {s : Shape} {e : EltTy} (m : Memref sig .tc cs s e) (r : Rect s) (w : r.shape.Idx → Elt F e)
    (hx : (m.access r).Stores Finset.univ) (hm : (Finset.univ : Finset r.shape.Idx) = Finset.univ ∨ ∀ a, r.stride a = 1)
    {S : Finset (Idx ((m.access r).loc (c : Thread nD τ)))} {f : Buf (Elt F) ((m.access r).loc (c : Thread nD τ))}
    (hS : (m.access r).set ⊆ S) (Q : Unit → sProp (MM F)) :
    ((m.access r).loc (c : Thread nD τ) ↦[S]{fullShare} f)
      ⊢ iprop((((m.access r).loc (c : Thread nD τ) ↦[S]{fullShare} ((m.access r).write (Elt F) f w Finset.univ)) -∗ Q ⟨⟩)
        -∗ WP c (Prog.lift (.store m r w Finset.univ hx hm)) Q) := by
  iintro H Hk
  iapply (wp_store (defs := defs₀ (F := F)) Variants.none (c : Thread nD τ) none Set.univ (Mk := Finset.univ) hS) $$ H
  iintro H
  iapply (le_wp_ret _ _ _ _ _)
  iapply Hk $$ H

/-- One program per element of a list, each taking `R ∗ A f` to `R ∗ A (step a f)`. -/
theorem wp_seqP {ι β : Type} (g : ι → P F Unit) (R : sProp (MM F)) (A : β → sProp (MM F)) (step : β → ι → β)
    (h : ∀ a f (Q : Unit → sProp (MM F)), iprop(R ∗ A f) ⊢ iprop((iprop(R ∗ A (step f a)) -∗ Q ⟨⟩) -∗ WP c (g a) Q))
    (l : List ι) : ∀ (f : β) (Q : Unit → sProp (MM F)),
    iprop(R ∗ A f) ⊢ iprop((iprop(R ∗ A (l.foldl step f)) -∗ Q ⟨⟩) -∗ WP c (seqP g l) Q) := by
  induction l with
  | nil =>
    intro f Q
    iintro H Hk
    iapply (le_wp_ret _ _ _ _ _)
    iapply Hk; iexact H
  | cons a l ih =>
    intro f Q
    iintro H Hk
    unfold seqP
    iapply (wpb c _ _ _)
    iapply (h a f _) $$ H
    iintro H
    iapply (ih (step f a) Q) $$ H
    iexact Hk

end

/-! ## The tiles -/

/-- The accumulator's tile of the contents `f`. -/
def rdAcc {c : Dev nD} (f : B F c cc0_scratch0) (r : Fin 4) (k : Fin 5) : Vec F S512x512 .f32 := (M11.access (accR r k)).read (Elt F) f
/-- The contents `f` with one tile replaced. -/
def wrAcc {c : Dev nD} (f : B F c cc0_scratch0) (r : Fin 4) (k : Fin 5) (v : Vec F S512x512 .f32) : B F c cc0_scratch0 :=
  (M11.access (accR r k)).write (Elt F) f v Finset.univ

/-- The rectangle of a tile of the dy slots. -/
abbrev dyR (o : Fin 4 → ℕ) (h : DyIn o) : Rect S2x2x2048x512 := Rect.unit (s := S2x2x2048x512) o S1x1x512x512.size h
/-- The rectangle of a tile of the weight slots. -/
abbrev wR (o : Fin 4 → ℕ) (h : WIn o) : Rect S2x2x2560x512 := Rect.unit (s := S2x2x2560x512) o S1x1x512x512.size h

/-- A tile read of the dy slots. -/
def rdDy {c : Dev nD} (f : B F c cc0_scratch1) (o : Fin 4 → ℕ) (h : DyIn o) : Vec F S1x1x512x512 .fp8e5m2 :=
  (M12.access (dyR o h)).read (Elt F) f
/-- A tile read of the weight slots. -/
def rdW {c : Dev nD} (f : B F c cc0_scratch2) (o : Fin 4 → ℕ) (h : WIn o) : Vec F S1x1x512x512 .fp8e4m3 :=
  (M13.access (wR o h)).read (Elt F) f

/-- What a single unit's tile leaves in the accumulator. -/
def singleStep {c : Dev nD} (s : Elt F .f32) (fd : B F c cc0_scratch1) (fw : B F c cc0_scratch2)
    (od : Fin 4 → Fin 4 → ℕ) (ow : Fin 5 → Fin 4 → ℕ) (hd : ∀ r, DyIn (od r)) (hw : ∀ k, WIn (ow k))
    (f : B F c cc0_scratch0) (p : Fin 4 × Fin 5) : B F c cc0_scratch0 :=
  wrAcc f p.1 p.2 (k0_pay42 s (rdAcc f p.1 p.2) (rdDy fd (od p.1) (hd p.1)) (rdW fw (ow p.2) (hw p.2)))

/-- What a pair of units' tile leaves in the accumulator. -/
def pairStep {c : Dev nD} (s0 s1 : Elt F .f32) (fd0 fd1 : B F c cc0_scratch1) (fw0 fw1 : B F c cc0_scratch2)
    (od0 od1 : Fin 4 → Fin 4 → ℕ) (ow0 ow1 : Fin 5 → Fin 4 → ℕ)
    (hd0 : ∀ r, DyIn (od0 r)) (hd1 : ∀ r, DyIn (od1 r)) (hw0 : ∀ k, WIn (ow0 k)) (hw1 : ∀ k, WIn (ow1 k))
    (f : B F c cc0_scratch0) (p : Fin 4 × Fin 5) : B F c cc0_scratch0 :=
  wrAcc f p.1 p.2 (k0_pay3 s0 s1 (k0_pay2 (rdDy fd0 (od0 p.1) (hd0 p.1)) (rdW fw0 (ow0 p.2) (hw0 p.2)))
    (rdDy fd1 (od1 p.1) (hd1 p.1)) (rdW fw1 (ow1 p.2) (hw1 p.2)) (rdAcc f p.1 p.2))

/-- What a tile of a unit with a scale per column leaves in the accumulator. -/
def scaledStep {c : Dev nD} (s : Vec F S1x512 .f32) (d : Vec F S1x1x512x512 .fp8e5m2) (fw : B F c cc0_scratch2)
    (ow : Fin 5 → Fin 4 → ℕ) (hw : ∀ k, WIn (ow k)) (r : Fin 4)
    (f : B F c cc0_scratch0) (k : Fin 5) : B F c cc0_scratch0 :=
  wrAcc f r k (k0_pay67 s d (rdAcc f r k) (rdW fw (ow k) (hw k)))

/-- What a row of tiles of a unit with a scale per column leaves in the accumulator. -/
def scaledRowStep {c : Dev nD} (s : Vec F S1x512 .f32) (fd : B F c cc0_scratch1) (fw : B F c cc0_scratch2)
    (od : Fin 4 → Fin 4 → ℕ) (ow : Fin 5 → Fin 4 → ℕ) (hd : ∀ r, DyIn (od r)) (hw : ∀ k, WIn (ow k))
    (f : B F c cc0_scratch0) (r : Fin 4) : B F c cc0_scratch0 :=
  [0, 1, 2, 3, 4].foldl (scaledStep s (rdDy fd (od r) (hd r)) fw ow hw r) f

section
variable (c : Dev nD)

/-- The accumulator at contents `f`. -/
abbrev accPt (f : B F c cc0_scratch0) : sProp (MM F) := ((c : Thread nD τ).loc cc0_scratch0) ↦{fullShare} f

theorem wp_ldAcc (f : B F c cc0_scratch0) (r : Fin 4) (k : Fin 5) (Q) :
    accPt c f ⊢ iprop((accPt c f -∗ Q (rdAcc f r k)) -∗ WP c (ldAcc M11 r k) Q) :=
  wp_ld c M11 (accR r k) _ (Finset.subset_univ _) Q

theorem wp_stAcc (f : B F c cc0_scratch0) (r : Fin 4) (k : Fin 5) (v : Vec F S512x512 .f32) (Q) :
    accPt c f ⊢ iprop((accPt c (wrAcc f r k v) -∗ Q ⟨⟩) -∗ WP c (stAcc M11 r k v) Q) :=
  wp_st c M11 (accR r k) v _ _ (Finset.subset_univ _) Q

theorem wp_ldDy {S : Finset (Idx ((c : Thread nD τ).loc cc0_scratch1))} (f : B F c cc0_scratch1) (o : Fin 4 → ℕ) (h : DyIn o)
    (hS : (M12.access (dyR o h)).set ⊆ S) (Q) :
    (((c : Thread nD τ).loc cc0_scratch1) ↦[S]{fullShare} f)
      ⊢ iprop(((((c : Thread nD τ).loc cc0_scratch1) ↦[S]{fullShare} f) -∗ Q (rdDy f o h)) -∗ WP c (ldDy M12 o h) Q) :=
  wp_ld c M12 (dyR o h) _ hS Q

theorem wp_ldW {S : Finset (Idx ((c : Thread nD τ).loc cc0_scratch2))} (f : B F c cc0_scratch2) (o : Fin 4 → ℕ) (h : WIn o)
    (hS : (M13.access (wR o h)).set ⊆ S) (Q) :
    (((c : Thread nD τ).loc cc0_scratch2) ↦[S]{fullShare} f)
      ⊢ iprop(((((c : Thread nD τ).loc cc0_scratch2) ↦[S]{fullShare} f) -∗ Q (rdW f o h)) -∗ WP c (ldW M13 o h) Q) :=
  wp_ld c M13 (wR o h) _ hS Q

/-- Elements of the dy slots at contents `f`. -/
abbrev dyPt (S : Finset (Idx ((c : Thread nD τ).loc cc0_scratch1))) (f : B F c cc0_scratch1) : sProp (MM F) :=
  ((c : Thread nD τ).loc cc0_scratch1) ↦[S]{fullShare} f
/-- Elements of the weight slots at contents `f`. -/
abbrev wPt (S : Finset (Idx ((c : Thread nD τ).loc cc0_scratch2))) (f : B F c cc0_scratch2) : sProp (MM F) :=
  ((c : Thread nD τ).loc cc0_scratch2) ↦[S]{fullShare} f

theorem wp_singleTile {S T} (s : Elt F .f32) (fd : B F c cc0_scratch1) (fw : B F c cc0_scratch2)
    (od : Fin 4 → Fin 4 → ℕ) (ow : Fin 5 → Fin 4 → ℕ) (hd : ∀ r, DyIn (od r)) (hw : ∀ k, WIn (ow k))
    (hS : ∀ r, (M12.access (dyR (od r) (hd r))).set ⊆ S) (hT : ∀ k, (M13.access (wR (ow k) (hw k))).set ⊆ T)
    (p : Fin 4 × Fin 5) (f : B F c cc0_scratch0) (Q) :
    iprop((dyPt c S fd ∗ wPt c T fw) ∗ accPt c f)
      ⊢ iprop((iprop((dyPt c S fd ∗ wPt c T fw) ∗ accPt c (singleStep s fd fw od ow hd hw f p)) -∗ Q ⟨⟩)
        -∗ WP c (singleTile M11 M12 M13 s od ow hd hw p) Q) := by
  iintro ⟨⟨Hd, Hw⟩, Ha⟩ Hk
  unfold singleTile
  iapply (wpb c _ _ _); iapply (wp_ldAcc c f p.1 p.2 _) $$ Ha; iintro Ha
  iapply (wpb c _ _ _); iapply (wp_ldDy c fd _ _ (hS p.1) _) $$ Hd; iintro Hd
  iapply (wpb c _ _ _); iapply (wp_ldW c fw _ _ (hT p.2) _) $$ Hw; iintro Hw
  iapply (wpb c _ _ _); iapply (wp_ldAcc c f p.1 p.2 _) $$ Ha; iintro Ha
  iapply (wp_stAcc c f p.1 p.2 _ _) $$ Ha; iintro Ha
  iapply Hk
  isplitl [Hd Hw]
  · isplitl [Hd] <;> iassumption
  iexact Ha

theorem wp_pairTile {S0 S1 T0 T1} (s0 s1 : Elt F .f32) (fd0 fd1 : B F c cc0_scratch1) (fw0 fw1 : B F c cc0_scratch2)
    (od0 od1 : Fin 4 → Fin 4 → ℕ) (ow0 ow1 : Fin 5 → Fin 4 → ℕ)
    (hd0 : ∀ r, DyIn (od0 r)) (hd1 : ∀ r, DyIn (od1 r)) (hw0 : ∀ k, WIn (ow0 k)) (hw1 : ∀ k, WIn (ow1 k))
    (hS0 : ∀ r, (M12.access (dyR (od0 r) (hd0 r))).set ⊆ S0) (hT0 : ∀ k, (M13.access (wR (ow0 k) (hw0 k))).set ⊆ T0)
    (hS1 : ∀ r, (M12.access (dyR (od1 r) (hd1 r))).set ⊆ S1) (hT1 : ∀ k, (M13.access (wR (ow1 k) (hw1 k))).set ⊆ T1)
    (p : Fin 4 × Fin 5) (f : B F c cc0_scratch0) (Q) :
    iprop((dyPt c S0 fd0 ∗ wPt c T0 fw0 ∗ dyPt c S1 fd1 ∗ wPt c T1 fw1) ∗ accPt c f)
      ⊢ iprop((iprop((dyPt c S0 fd0 ∗ wPt c T0 fw0 ∗ dyPt c S1 fd1 ∗ wPt c T1 fw1)
            ∗ accPt c (pairStep s0 s1 fd0 fd1 fw0 fw1 od0 od1 ow0 ow1 hd0 hd1 hw0 hw1 f p)) -∗ Q ⟨⟩)
        -∗ WP c (pairTile M11 M12 M13 s0 s1 od0 od1 ow0 ow1 hd0 hd1 hw0 hw1 p) Q) := by
  iintro ⟨⟨Hd, Hw, Hd1, Hw1⟩, Ha⟩ Hk
  unfold pairTile
  iapply (wpb c _ _ _); iapply (wp_ldDy c fd0 _ _ (hS0 p.1) _) $$ Hd; iintro Hd
  iapply (wpb c _ _ _); iapply (wp_ldW c fw0 _ _ (hT0 p.2) _) $$ Hw; iintro Hw
  iapply (wpb c _ _ _); iapply (wp_ldDy c fd1 _ _ (hS1 p.1) _) $$ Hd1; iintro Hd1
  iapply (wpb c _ _ _); iapply (wp_ldW c fw1 _ _ (hT1 p.2) _) $$ Hw1; iintro Hw1
  iapply (wpb c _ _ _); iapply (wp_ldAcc c f p.1 p.2 _) $$ Ha; iintro Ha
  iapply (wpb c _ _ _); iapply (wp_ldAcc c f p.1 p.2 _) $$ Ha; iintro Ha
  iapply (wp_stAcc c f p.1 p.2 _ _) $$ Ha; iintro Ha
  iapply Hk
  isplitl [Hd Hw Hd1 Hw1]
  · isplitl [Hd]; · iexact Hd
    isplitl [Hw]; · iexact Hw
    isplitl [Hd1] <;> iassumption
  iexact Ha

theorem wp_scaledTile {T} (s : Vec F S1x512 .f32) (d : Vec F S1x1x512x512 .fp8e5m2) (fw : B F c cc0_scratch2)
    (ow : Fin 5 → Fin 4 → ℕ) (hw : ∀ k, WIn (ow k)) (hT : ∀ k, (M13.access (wR (ow k) (hw k))).set ⊆ T)
    (r : Fin 4) (k : Fin 5) (f : B F c cc0_scratch0) (Q) :
    iprop(wPt c T fw ∗ accPt c f)
      ⊢ iprop((iprop(wPt c T fw ∗ accPt c (scaledStep s d fw ow hw r f k)) -∗ Q ⟨⟩)
        -∗ WP c (scaledTile M11 M13 s d ow hw r k) Q) := by
  iintro ⟨Hw, Ha⟩ Hk
  unfold scaledTile
  iapply (wpb c _ _ _); iapply (wp_ldAcc c f r k _) $$ Ha; iintro Ha
  iapply (wpb c _ _ _); iapply (wp_ldW c fw _ _ (hT k) _) $$ Hw; iintro Hw
  iapply (wpb c _ _ _); iapply (wp_ldAcc c f r k _) $$ Ha; iintro Ha
  iapply (wp_stAcc c f r k _ _) $$ Ha; iintro Ha
  iapply Hk
  isplitl [Hw]; · iexact Hw
  iexact Ha

theorem wp_scaledRow {S T} (s : Vec F S1x512 .f32) (fd : B F c cc0_scratch1) (fw : B F c cc0_scratch2)
    (od : Fin 4 → Fin 4 → ℕ) (ow : Fin 5 → Fin 4 → ℕ) (hd : ∀ r, DyIn (od r)) (hw : ∀ k, WIn (ow k))
    (hS : ∀ r, (M12.access (dyR (od r) (hd r))).set ⊆ S) (hT : ∀ k, (M13.access (wR (ow k) (hw k))).set ⊆ T)
    (r : Fin 4) (f : B F c cc0_scratch0) (Q) :
    iprop((dyPt c S fd ∗ wPt c T fw) ∗ accPt c f)
      ⊢ iprop((iprop((dyPt c S fd ∗ wPt c T fw) ∗ accPt c (scaledRowStep s fd fw od ow hd hw f r)) -∗ Q ⟨⟩)
        -∗ WP c (scaledRow M11 M12 M13 s od ow hd hw r) Q) := by
  iintro ⟨⟨Hd, Hw⟩, Ha⟩ Hk
  unfold scaledRow
  iapply (wpb c _ _ _); iapply (wp_ldDy c fd _ _ (hS r) _) $$ Hd; iintro Hd
  iapply (wp_seqP c _ (wPt c T fw) (accPt c) (scaledStep s (rdDy fd (od r) (hd r)) fw ow hw r)
    (fun k f Q => wp_scaledTile c s _ fw ow hw hT r k f Q) [0, 1, 2, 3, 4] f Q) $$ [Hw Ha]
  · isplitl [Hw] <;> iassumption
  iintro ⟨Hw, Ha⟩
  iapply Hk
  isplitl [Hd Hw]
  · isplitl [Hd] <;> iassumption
  iexact Ha

end

end Cert.KernelIdeal.Hand

end
-- ==== Proof.Copies.lean ====
/- The copies of the kernel body that bring a unit's dy and weight blocks into a slot: the slots, the
   semaphore cell of each, what lies in a slot after the two copies, and the rules of the two issues
   and the two waits. -/
module

public import proofs.«01_k».proof.Proof.TileRules

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- dy. -/
abbrev M4 : Memref sig .tc .hbm S8192x10240 .fp8e5m2 := Memref.whole main_arg0
/-- The weights. -/
abbrev M5 : Memref sig .tc .hbm S2560x10240 .fp8e4m3 := Memref.whole main_arg1

/-- A cell's bounds. -/
abbrev CellIn (o : Fin 2 → ℕ) : Prop := ∀ a : Fin S2x2.rank, o a + S1x1.size a ≤ S2x2.size a
/-- A dy slot's bounds. -/
abbrev DySlotIn (o : Fin 4 → ℕ) : Prop := ∀ a : Fin S2x2x2048x512.rank, o a + S1x1x2048x512.size a ≤ S2x2x2048x512.size a
/-- A weight slot's bounds. -/
abbrev WSlotIn (o : Fin 4 → ℕ) : Prop := ∀ a : Fin S2x2x2560x512.rank, o a + S1x1x2560x512.size a ≤ S2x2x2560x512.size a
/-- A dy block's bounds. -/
abbrev DySrcIn (o : Fin 2 → ℕ) : Prop := ∀ a : Fin S8192x10240.rank, o a + S2048x512.size a ≤ S8192x10240.size a
/-- A weight block's bounds. -/
abbrev WSrcIn (o : Fin 2 → ℕ) : Prop := ∀ a : Fin S2560x10240.rank, o a + S2560x512.size a ≤ S2560x10240.size a

/-- The cell at an offset. -/
abbrev cellAt (o : Fin 2 → ℕ) (h : ∀ a : Fin S2x2.rank, o a + S1x1.size a ≤ S2x2.size a) : DmaSem sig :=
  ((cc0_scratch6.slice (Rect.unit (s := S2x2) o S1x1.size h)).squeeze S_ squeezes_S1x1_S_).sem
/-- The dy slot at an offset. -/
abbrev dySlotAt (o : Fin 4 → ℕ) (h : ∀ a : Fin S2x2x2048x512.rank, o a + S1x1x2048x512.size a ≤ S2x2x2048x512.size a) :
    Memref sig .tc .vmem S2048x512 .fp8e5m2 :=
  (M12.slice (Rect.unit (s := S2x2x2048x512) o S1x1x2048x512.size h) (fun _ => rfl)).squeeze S2048x512 squeezes_S1x1x2048x512_S2048x512
/-- The weight slot at an offset. -/
abbrev wSlotAt (o : Fin 4 → ℕ) (h : ∀ a : Fin S2x2x2560x512.rank, o a + S1x1x2560x512.size a ≤ S2x2x2560x512.size a) :
    Memref sig .tc .vmem S2560x512 .fp8e4m3 :=
  (M13.slice (Rect.unit (s := S2x2x2560x512) o S1x1x2560x512.size h) (fun _ => rfl)).squeeze S2560x512 squeezes_S1x1x2560x512_S2560x512
/-- The block of dy at an offset. -/
abbrev dySrcAt (o : Fin 2 → ℕ) (h : ∀ a : Fin S8192x10240.rank, o a + S2048x512.size a ≤ S8192x10240.size a) :
    Memref sig .tc .hbm S2048x512 .fp8e5m2 :=
  M4.slice (Rect.unit (s := S8192x10240) o S2048x512.size h) (fun _ => rfl)
/-- The block of the weights at an offset. -/
abbrev wSrcAt (o : Fin 2 → ℕ) (h : ∀ a : Fin S2560x10240.rank, o a + S2560x512.size a ≤ S2560x10240.size a) :
    Memref sig .tc .hbm S2560x512 .fp8e4m3 :=
  M5.slice (Rect.unit (s := S2560x10240) o S2560x512.size h) (fun _ => rfl)

theorem cell_in (σ h : Fin 2) : ∀ a : Fin S2x2.rank, (![σ.val, h.val] : Fin 2 → ℕ) a + S1x1.size a ≤ S2x2.size a := by
  revert σ h; decide
theorem dySlot_in (σ h : Fin 2) : ∀ a : Fin S2x2x2048x512.rank, (![σ.val, h.val, 0, 0] : Fin 4 → ℕ) a + S1x1x2048x512.size a ≤ S2x2x2048x512.size a := by
  revert σ h; decide
theorem wSlot_in (σ h : Fin 2) : ∀ a : Fin S2x2x2560x512.rank, (![σ.val, h.val, 0, 0] : Fin 4 → ℕ) a + S1x1x2560x512.size a ≤ S2x2x2560x512.size a := by
  revert σ h; decide
theorem dySrc_in (j u : ℕ) : ∀ a : Fin S8192x10240.rank, (![2048 * (j % 4), 512 * (u % 20)] : Fin 2 → ℕ) a + S2048x512.size a ≤ S8192x10240.size a := by
  intro a
  have h1 := Nat.mod_lt j (show 0 < 4 by decide)
  have h2 := Nat.mod_lt u (show 0 < 20 by decide)
  match a with
  | ⟨0, _⟩ => show 2048 * (j % 4) + 2048 ≤ 8192; omega
  | ⟨1, _⟩ => show 512 * (u % 20) + 512 ≤ 10240; omega
theorem wSrc_in (u : ℕ) : ∀ a : Fin S2560x10240.rank, (![0, 512 * (u % 20)] : Fin 2 → ℕ) a + S2560x512.size a ≤ S2560x10240.size a := by
  intro a
  have h2 := Nat.mod_lt u (show 0 < 20 by decide)
  match a with
  | ⟨0, _⟩ => show 0 + 2560 ≤ 2560; omega
  | ⟨1, _⟩ => show 512 * (u % 20) + 512 ≤ 10240; omega

/-- The cell of slot `σ`, half `h`. -/
abbrev cellS (σ h : Fin 2) : DmaSem sig := cellAt ![σ.val, h.val] (cell_in σ h)
/-- The dy slot. -/
abbrev dySlot (σ h : Fin 2) := dySlotAt ![σ.val, h.val, 0, 0] (dySlot_in σ h)
/-- The weight slot. -/
abbrev wSlot (σ h : Fin 2) := wSlotAt ![σ.val, h.val, 0, 0] (wSlot_in σ h)
/-- Block `(j, u)` of dy. -/
abbrev dySrc (j u : ℕ) := dySrcAt ![2048 * (j % 4), 512 * (u % 20)] (dySrc_in j u)
/-- Block `u` of the weights. -/
abbrev wSrc (u : ℕ) := wSrcAt ![0, 512 * (u % 20)] (wSrc_in u)

/-- The elements of a dy slot. -/
abbrev dySet (c : Dev nD) (σ h : Fin 2) : Finset (Idx ((c : Thread nD τ).loc cc0_scratch1)) := (dySlot σ h).view.set
/-- The elements of a weight slot. -/
abbrev wSet (c : Dev nD) (σ h : Fin 2) : Finset (Idx ((c : Thread nD τ).loc cc0_scratch2)) := (wSlot σ h).view.set

/-- What a dy slot holds once block `(j, u)` of dy has arrived. -/
def dyLand {c : Dev nD} (dyp : B F c main_arg0) (σ h : Fin 2) (j u : ℕ) : B F c cc0_scratch1 :=
  (dySlot σ h).view.write (Elt F) (fun _ => default) ((dySrc j u).view.read (Elt F) dyp) Finset.univ
/-- What a weight slot holds once block `u` of the weights has arrived. -/
def wLand {c : Dev nD} (wp : B F c main_arg1) (σ h : Fin 2) (u : ℕ) : B F c cc0_scratch2 :=
  (wSlot σ h).view.write (Elt F) (fun _ => default) ((wSrc u).view.read (Elt F) wp) Finset.univ

/-- The share of dy and of the weights that slot `σ`, half `h` is filled from. -/
abbrev tok (σ h : Fin 2) : PosShare TreeShare := Transfers.shareTokN fullShare (2 * σ.val + h.val)

section
variable (c : Dev nD)

/-- Elements of dy. -/
abbrev aPt (q : PosShare TreeShare) (S : Finset (Idx ((c : Thread nD τ).loc main_arg0))) (f : B F c main_arg0) : sProp (MM F) :=
  ((c : Thread nD τ).loc main_arg0) ↦[S]{q} f
/-- Elements of the weights. -/
abbrev bPt (q : PosShare TreeShare) (S : Finset (Idx ((c : Thread nD τ).loc main_arg1))) (f : B F c main_arg1) : sProp (MM F) :=
  ((c : Thread nD τ).loc main_arg1) ↦[S]{q} f

variable (dyp : B F c main_arg0) (wp' : B F c main_arg1)

/-- What the two copies into a slot deliver. -/
def dlv (σ h : Fin 2) (j u : ℕ) : Fin 2 → sProp (MM F) :=
  ![iprop(dyPt c (dySet c σ h) (dyLand dyp σ h j u) ∗ aPt c (tok σ h) (dySrc j u).view.set dyp),
    iprop(wPt c (wSet c σ h) (wLand wp' σ h u) ∗ bPt c (tok σ h) (wSrc u).view.set wp')]

instance dlv_storable (σ h : Fin 2) (j u : ℕ) (t : Fin 2) : Storable (upEmb : UEmb _ (MM F)) (dlv c dyp wp' σ h j u t) := by
  fin_cases t
  · show Storable _ iprop(dyPt c (dySet c σ h) (dyLand dyp σ h j u) ∗ aPt c (tok σ h) (dySrc j u).view.set dyp); infer_instance
  · show Storable _ iprop(wPt c (wSet c σ h) (wLand wp' σ h u) ∗ bPt c (tok σ h) (wSrc u).view.set wp'); infer_instance

/-- The amounts of the two copies. -/
def amt : Fin 2 → ℕ := ![(dySlot 0 0).view.dmaCredit, (wSlot 0 0).view.dmaCredit]

theorem amt_pos : ∀ t, 0 < amt t := by
  intro t; fin_cases t
  · exact View.dmaCredit_pos _ (by decide)
  · exact View.dmaCredit_pos _ (by decide)

theorem dyCredit (o h) : (dySlotAt o h).view.dmaCredit = (dySlot 0 0).view.dmaCredit := rfl
theorem wCredit (o h) : (wSlotAt o h).view.dmaCredit = (wSlot 0 0).view.dmaCredit := rfl

theorem amt0 (σ h : Fin 2) : (dySlot σ h).view.amount (.dma (cellS σ h)) = amt ⟨0, Nat.two_pos⟩ := rfl
theorem amt1 (σ h : Fin 2) : (wSlot σ h).view.amount (.dma (cellS σ h)) = amt ⟨1, Nat.one_lt_two⟩ := rfl

theorem amt_sum : amt 0 + amt 1 = Transfers.sumTo amt 2 := rfl

/-- The transfers' counters. -/
abbrev EC : UEmb Counters (MM F) := countersEmb (U := Pipeline.UD sig nD τ)

/-- The batch of the two copies, `k` of them issued and `u₀` units waited for. -/
abbrev batch (σ h : Fin 2) (j u k u₀ : ℕ) : sProp (MM F) :=
  Transfers.MixedBatch EC (c : Thread nD τ) (.dma (cellS σ h)) () amt (dlv c dyp wp' σ h j u) k u₀

/-- A slot with nothing on the way. -/
def freeS (σ h : Fin 2) : sProp (MM F) :=
  iprop(semVal ((c : Thread nD τ), .dma (cellS σ h)) 0 ∗ (∃ f, dyPt c (dySet c σ h) f) ∗ (∃ f, wPt c (wSet c σ h) f)
    ∗ aPt c (tok σ h) Finset.univ dyp ∗ bPt c (tok σ h) Finset.univ wp')

/-- A slot with unit `u` of rows `j` on the way, `k` units waited for. -/
def flyS (σ h : Fin 2) (j u k : ℕ) : sProp (MM F) :=
  iprop(batch c dyp wp' σ h j u 2 k
    ∗ aPt c (tok σ h) (Finset.univ \ (dySrc j u).view.set) dyp ∗ bPt c (tok σ h) (Finset.univ \ (wSrc u).view.set) wp')

/-- A slot with unit `u` of rows `j` in it. -/
def hereS (σ h : Fin 2) (j u : ℕ) : sProp (MM F) :=
  iprop(semVal ((c : Thread nD τ), .dma (cellS σ h)) 0 ∗ dyPt c (dySet c σ h) (dyLand dyp σ h j u) ∗ wPt c (wSet c σ h) (wLand wp' σ h u)
    ∗ aPt c (tok σ h) Finset.univ dyp ∗ bPt c (tok σ h) Finset.univ wp')

theorem here_free (σ h : Fin 2) (j u : ℕ) : hereS c dyp wp' σ h j u ⊢ freeS c dyp wp' σ h := by
  unfold hereS freeS
  iintro ⟨Hs, Hd, Hw, Ha, Hb⟩
  isplitl [Hs]; · iexact Hs
  isplitl [Hd]; · iexists _; iexact Hd
  isplitl [Hw]; · iexists _; iexact Hw
  isplitl [Ha] <;> iassumption

/-- The issue of the dy copy. -/
def dyEnq (oc : Fin 2 → ℕ) (hoc : CellIn oc) (od : Fin 4 → ℕ) (hod : DySlotIn od) (os : Fin 2 → ℕ) (hos : DySrcIn os) (h1 : (dySrcAt os hos).view.WordExact)
    (h2 : (dySlotAt od hod).view.WordExact) : P F Unit :=
  Prog.lift (.enqueueDma (dySrcAt os hos) (.here (dySlotAt od hod)) (.dma (cellAt oc hoc)) h1 h2 ⟨Or.inl rfl, trivial⟩)
/-- The issue of the weight copy. -/
def wEnq (oc : Fin 2 → ℕ) (hoc : CellIn oc) (od : Fin 4 → ℕ) (hod : WSlotIn od) (os : Fin 2 → ℕ) (hos : WSrcIn os) (h1 : (wSrcAt os hos).view.WordExact)
    (h2 : (wSlotAt od hod).view.WordExact) : P F Unit :=
  Prog.lift (.enqueueDma (wSrcAt os hos) (.here (wSlotAt od hod)) (.dma (cellAt oc hoc)) h1 h2 ⟨Or.inl rfl, trivial⟩)
/-- The wait for the dy copy. -/
def dyWait (oc : Fin 2 → ℕ) (hoc : CellIn oc) (od : Fin 4 → ℕ) (hod : DySlotIn od) (os : Fin 2 → ℕ) (hos : DySrcIn os) (h1 : (dySrcAt os hos).view.WordExact)
    (h2 : (dySlotAt od hod).view.WordExact) : P F Unit :=
  Prog.lift (.waitDma2 (cellAt oc hoc) (dySrcAt os hos) (dySlotAt od hod) h1 h2)
/-- The wait for the weight copy. -/
def wWait (oc : Fin 2 → ℕ) (hoc : CellIn oc) (od : Fin 4 → ℕ) (hod : WSlotIn od) (os : Fin 2 → ℕ) (hos : WSrcIn os) (h1 : (wSrcAt os hos).view.WordExact)
    (h2 : (wSlotAt od hod).view.WordExact) : P F Unit :=
  Prog.lift (.waitDma2 (cellAt oc hoc) (wSrcAt os hos) (wSlotAt od hod) h1 h2)

/-- The core owes nothing. -/
def idle : sProp (MM F) := iprop(∃ W, owes (c : Thread nD τ) 0 W)

theorem wp_dyEnq (σ h : Fin 2) (j u : ℕ) (oc : Fin 2 → ℕ) (hoc : CellIn oc) (od : Fin 4 → ℕ) (hod : DySlotIn od) (os : Fin 2 → ℕ) (hos : DySrcIn os) (h1) (h2)
    (ec : oc = ![σ.val, h.val]) (ed : od = ![σ.val, h.val, 0, 0]) (es : os = ![2048 * (j % 4), 512 * (u % 20)])
    (Q : Unit → sProp (MM F)) :
    iprop(aPt c (tok σ h) (dySrc j u).view.set dyp ∗ (∃ f, dyPt c (dySet c σ h) f) ∗ batch c dyp wp' σ h j u 0 0)
      ⊢ iprop((batch c dyp wp' σ h j u 1 0 -∗ Q ⟨⟩) -∗ WP c (dyEnq oc hoc od hod os hos h1 h2) Q) := by
  subst ec ed es
  iintro ⟨Hs, ⟨%f, Hd⟩, Hb⟩ Hk
  iapply (Transfers.wp_dmaMixedBatch EC (defs := defs₀ (F := F)) Variants.none (c : Thread nD τ) none (n := 2) (via := .same)
    (src := dySrc j u) (dst := dySlot σ h) (fs := dyp) (fd := f) (q := tok σ h) () amt (Finset.Subset.refl _) Nat.two_pos (amt0 σ h) (Nat.zero_le _)
    (D := dlv c dyp wp' σ h j u) (j := 0) (u := 0)
    (by
      show iprop(_ ∗ _) ⊢ iprop(dyPt c (dySet c σ h) (dyLand dyp σ h j u) ∗ aPt c (tok σ h) (dySrc j u).view.set dyp)
      iintro ⟨Hd, Hs⟩
      isplitl [Hd]
      · iapply (Entails.of_eq (View.pointsTo_write_univ_congr (c := (c : Thread nD τ)) (dySlot σ h).view fullShare f (fun _ => default) _)) $$ Hd
      · iexact Hs)) $$ [Hs Hd Hb]
  · isplitl [Hs]; · iexact Hs
    isplitl [Hd] <;> iassumption
  iintro Hb
  iapply (le_wp_ret _ _ _ _ _)
  iapply Hk $$ Hb

theorem wp_wEnq (σ h : Fin 2) (j u : ℕ) (oc : Fin 2 → ℕ) (hoc : CellIn oc) (od : Fin 4 → ℕ) (hod : WSlotIn od) (os : Fin 2 → ℕ) (hos : WSrcIn os) (h1) (h2)
    (ec : oc = ![σ.val, h.val]) (ed : od = ![σ.val, h.val, 0, 0]) (es : os = ![0, 512 * (u % 20)])
    (Q : Unit → sProp (MM F)) :
    iprop(bPt c (tok σ h) (wSrc u).view.set wp' ∗ (∃ f, wPt c (wSet c σ h) f) ∗ batch c dyp wp' σ h j u 1 0)
      ⊢ iprop((batch c dyp wp' σ h j u 2 0 -∗ Q ⟨⟩) -∗ WP c (wEnq oc hoc od hod os hos h1 h2) Q) := by
  subst ec ed es
  iintro ⟨Hs, ⟨%f, Hd⟩, Hb⟩ Hk
  iapply (Transfers.wp_dmaMixedBatch EC (defs := defs₀ (F := F)) Variants.none (c : Thread nD τ) none (n := 2) (via := .same)
    (src := wSrc u) (dst := wSlot σ h) (fs := wp') (fd := f) (q := tok σ h) () amt (Finset.Subset.refl _) Nat.one_lt_two (amt1 σ h) (Nat.zero_le _)
    (D := dlv c dyp wp' σ h j u) (j := 1) (u := 0)
    (by
      show iprop(_ ∗ _) ⊢ iprop(wPt c (wSet c σ h) (wLand wp' σ h u) ∗ bPt c (tok σ h) (wSrc u).view.set wp')
      iintro ⟨Hd, Hs⟩
      isplitl [Hd]
      · iapply (Entails.of_eq (View.pointsTo_write_univ_congr (c := (c : Thread nD τ)) (wSlot σ h).view fullShare f (fun _ => default) _)) $$ Hd
      · iexact Hs)) $$ [Hs Hd Hb]
  · isplitl [Hs]; · iexact Hs
    isplitl [Hd] <;> iassumption
  iintro Hb
  iapply (le_wp_ret _ _ _ _ _)
  iapply Hk $$ Hb

/-- A slot is filled: both copies issued. -/
theorem wp_fetch (σ h : Fin 2) (j u : ℕ) (oc : Fin 2 → ℕ) (hoc : CellIn oc) (od : Fin 4 → ℕ) (hod : DySlotIn od) (os : Fin 2 → ℕ) (hos : DySrcIn os) (h1) (h2)
    (oc' : Fin 2 → ℕ) (hoc' : CellIn oc') (od' : Fin 4 → ℕ) (hod' : WSlotIn od') (os' : Fin 2 → ℕ) (hos' : WSrcIn os') (h1') (h2')
    (ec : oc = ![σ.val, h.val]) (ed : od = ![σ.val, h.val, 0, 0]) (es : os = ![2048 * (j % 4), 512 * (u % 20)])
    (ec' : oc' = ![σ.val, h.val]) (ed' : od' = ![σ.val, h.val, 0, 0]) (es' : os' = ![0, 512 * (u % 20)])
    {α : Type} (k : P F α) (Q : α → sProp (MM F)) :
    freeS c dyp wp' σ h
      ⊢ iprop((flyS c dyp wp' σ h j u 0 -∗ WP c k Q)
        -∗ WP c (dyEnq oc hoc od hod os hos h1 h2 >>= fun _ => wEnq oc' hoc' od' hod' os' hos' h1' h2' >>= fun _ => k) Q) := by
  unfold freeS
  iintro ⟨Hs, Hd, Hw, Ha, Hb⟩ Hk
  imod (Transfers.mixedBatch_alloc' (Lvl := ℕ) (EC (F := F)) (c : Thread nD τ) () amt (dlv c dyp wp' σ h j u) (sm := .dma (cellS σ h)) (E := Set.univ)) $$ Hs with HB
  ihave Ha' := (pointsTo_split_subset (Finset.subset_univ (dySrc j u).view.set)).1 $$ Ha
  icases Ha' with ⟨Ha, Har⟩
  ihave Hb' := (pointsTo_split_subset (Finset.subset_univ (wSrc u).view.set)).1 $$ Hb
  icases Hb' with ⟨Hb, Hbr⟩
  iapply (wpb c _ _ _)
  iapply (wp_dyEnq c dyp wp' σ h j u oc hoc od hod os hos h1 h2 ec ed es _) $$ [Ha Hd HB]
  · isplitl [Ha]; · iexact Ha
    isplitl [Hd] <;> iassumption
  iintro HB
  iapply (wpb c _ _ _)
  iapply (wp_wEnq c dyp wp' σ h j u oc' hoc' od' hod' os' hos' h1' h2' ec' ed' es' _) $$ [Hb Hw HB]
  · isplitl [Hb]; · iexact Hb
    isplitl [Hw] <;> iassumption
  iintro HB
  iapply Hk
  unfold flyS
  isplitl [HB]; · iexact HB
  isplitl [Har] <;> iassumption

/-- The wait for the dy copy. -/
theorem wp_dyWait (σ h : Fin 2) (j u : ℕ) (oc : Fin 2 → ℕ) (hoc : CellIn oc) (od : Fin 4 → ℕ) (hod : DySlotIn od) (os : Fin 2 → ℕ) (hos : DySrcIn os) (h1) (h2)
    (ec : oc = ![σ.val, h.val]) (Q : Unit → sProp (MM F)) :
    iprop(flyS c dyp wp' σ h j u 0 ∗ idle c)
      ⊢ iprop((iprop(flyS c dyp wp' σ h j u (amt 0) ∗ idle c) -∗ Q ⟨⟩) -∗ WP c (dyWait oc hoc od hod os hos h1 h2) Q) := by
  subst ec
  unfold flyS idle
  iintro ⟨⟨HB, Hr⟩, ⟨%W, HO⟩⟩ Hk
  iapply (Transfers.wp_waitMixedBatch EC (defs := defs₀ (F := F)) Variants.none (c : Thread nD τ) none (sem := cellS σ h) () (A := amt) (J := amt 0)
    (dyCredit od hod) (D := dlv c dyp wp' σ h j u) (j := 2) (u := 0) (by rw [Nat.zero_add]; exact Nat.le_add_right _ _) (W := W)) $$ [HB HO]
  · isplitl [HB] <;> iassumption
  rw [Nat.zero_add]
  iintro ⟨HB, HO⟩
  iapply (le_wp_ret _ _ _ _ _)
  iapply Hk
  isplitl [HB Hr]
  · isplitl [HB] <;> iassumption
  iexists _; iexact HO

/-- The wait for the weight copy, after which both blocks are in the slot. -/
theorem wp_wWait (σ h : Fin 2) (j u : ℕ) (oc : Fin 2 → ℕ) (hoc : CellIn oc) (od : Fin 4 → ℕ) (hod : WSlotIn od) (os : Fin 2 → ℕ) (hos : WSrcIn os) (h1) (h2)
    (ec : oc = ![σ.val, h.val]) (Q : Unit → sProp (MM F)) :
    iprop(flyS c dyp wp' σ h j u (amt 0) ∗ idle c)
      ⊢ iprop((iprop(hereS c dyp wp' σ h j u ∗ idle c) -∗ Q ⟨⟩) -∗ WP c (wWait oc hoc od hod os hos h1 h2) Q) := by
  subst ec
  unfold flyS idle
  iintro ⟨⟨HB, Har, Hbr⟩, ⟨%W, HO⟩⟩ Hk
  iapply (Transfers.wp_waitMixedBatchAll EC (defs := defs₀ (F := F)) Variants.none (c : Thread nD τ) none (sem := cellS σ h) () (A := amt) (J := amt 1)
    (wCredit od hod) amt_pos (D := dlv c dyp wp' σ h j u) (u := amt 0) amt_sum (W := W)) $$ [HB HO]
  · isplitl [HB] <;> iassumption
  iintro ⟨HD, Hs, HO⟩
  iapply (le_wp_ret _ _ _ _ _)
  iapply Hk
  ihave HD' := (Entails.of_eq ((BI.bigSep_fin_two (dlv c dyp wp' σ h j u)).trans (show _ = iprop(
      (dyPt c (dySet c σ h) (dyLand dyp σ h j u) ∗ aPt c (tok σ h) (dySrc j u).view.set dyp)
      ∗ (wPt c (wSet c σ h) (wLand wp' σ h u) ∗ bPt c (tok σ h) (wSrc u).view.set wp')) from rfl))) $$ HD
  icases HD' with ⟨⟨Hd, Ha⟩, ⟨Hw, Hb⟩⟩
  isplitr [HO]
  · unfold hereS
    isplitl [Hs]; · iexact Hs
    isplitl [Hd]; · iexact Hd
    isplitl [Hw]; · iexact Hw
    isplitl [Ha Har]
    · iapply (pointsTo_split_subset (Finset.subset_univ (dySrc j u).view.set)).2
      isplitl [Ha] <;> iassumption
    · iapply (pointsTo_split_subset (Finset.subset_univ (wSrc u).view.set)).2
      isplitl [Hb] <;> iassumption
  iexists _; iexact HO

end

end Cert.KernelIdeal.Hand

end
-- ==== Proof.Slots.lean ====
/- Where the slots lie in their buffers: the four slots of each buffer are disjoint and cover it, and
   every tile read of a unit lies in the unit's slot. -/
module

public import proofs.«01_k».proof.Proof.Copies

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The element under a slot's rectangle. -/
theorem dySet_eq (c : Dev nD) (σ h : Fin 2) : dySet c σ h = (Rect.unit (s := S2x2x2048x512) ![σ.val, h.val, 0, 0] S1x1x2048x512.size (dySlot_in σ h)).set := by
  show ((M12.view.slice _).reshape _ _).set = _
  rw [View.set_reshape, View.set_slice_whole]
theorem wSet_eq (c : Dev nD) (σ h : Fin 2) : wSet c σ h = (Rect.unit (s := S2x2x2560x512) ![σ.val, h.val, 0, 0] S1x1x2560x512.size (wSlot_in σ h)).set := by
  show ((M13.view.slice _).reshape _ _).set = _
  rw [View.set_reshape, View.set_slice_whole]

theorem mem_dySet (c : Dev nD) (σ h : Fin 2) (i : S2x2x2048x512.Idx) : i ∈ dySet c σ h ↔ (i 0).val = σ.val ∧ (i 1).val = h.val := by
  rw [dySet_eq, Rect.mem_set_unit]
  constructor
  · intro H
    have h0 : σ.val ≤ (i 0).val ∧ (i 0).val < σ.val + 1 := H 0
    have h1 : h.val ≤ (i 1).val ∧ (i 1).val < h.val + 1 := H 1
    omega
  · rintro ⟨e0, e1⟩ a
    match a with
    | ⟨0, _⟩ => show σ.val ≤ (i 0).val ∧ (i 0).val < σ.val + 1; omega
    | ⟨1, _⟩ => show h.val ≤ (i 1).val ∧ (i 1).val < h.val + 1; omega
    | ⟨2, _⟩ => exact ⟨Nat.zero_le _, by have := (i 2).isLt; show (i 2).val < 0 + 2048; exact (Nat.zero_add 2048).symm ▸ this⟩
    | ⟨3, _⟩ => exact ⟨Nat.zero_le _, by have := (i 3).isLt; show (i 3).val < 0 + 512; exact (Nat.zero_add 512).symm ▸ this⟩

theorem mem_wSet (c : Dev nD) (σ h : Fin 2) (i : S2x2x2560x512.Idx) : i ∈ wSet c σ h ↔ (i 0).val = σ.val ∧ (i 1).val = h.val := by
  rw [wSet_eq, Rect.mem_set_unit]
  constructor
  · intro H
    have h0 : σ.val ≤ (i 0).val ∧ (i 0).val < σ.val + 1 := H 0
    have h1 : h.val ≤ (i 1).val ∧ (i 1).val < h.val + 1 := H 1
    omega
  · rintro ⟨e0, e1⟩ a
    match a with
    | ⟨0, _⟩ => show σ.val ≤ (i 0).val ∧ (i 0).val < σ.val + 1; omega
    | ⟨1, _⟩ => show h.val ≤ (i 1).val ∧ (i 1).val < h.val + 1; omega
    | ⟨2, _⟩ => exact ⟨Nat.zero_le _, by have := (i 2).isLt; show (i 2).val < 0 + 2560; exact (Nat.zero_add 2560).symm ▸ this⟩
    | ⟨3, _⟩ => exact ⟨Nat.zero_le _, by have := (i 3).isLt; show (i 3).val < 0 + 512; exact (Nat.zero_add 512).symm ▸ this⟩

/-- The offset of a tile of a dy slot. -/
abbrev dyO (σ h : Fin 2) (r : Fin 4) : Fin 4 → ℕ := ![σ.val, h.val, rowAt r, 0]
/-- The offset of a tile of a weight slot. -/
abbrev wO (σ h : Fin 2) (k : Fin 5) : Fin 4 → ℕ := ![σ.val, h.val, colAt k, 0]
theorem dyO_in (σ h : Fin 2) (r : Fin 4) : DyIn (dyO σ h r) := by revert σ h r; decide
theorem wO_in (σ h : Fin 2) (k : Fin 5) : WIn (wO σ h k) := by revert σ h k; decide

theorem dyTile_sub (c : Dev nD) (σ h : Fin 2) (r : Fin 4) (hh : DyIn (dyO σ h r)) : (M12.access (dyR (dyO σ h r) hh)).set ⊆ dySet c σ h := by
  intro i hi
  rw [show (M12.access (dyR (dyO σ h r) hh)).set = (dyR (dyO σ h r) hh).set from View.set_slice_whole _ _] at hi
  rw [Rect.mem_set_unit] at hi
  refine (mem_dySet c σ h i).2 ?_
  have h0 : σ.val ≤ (i 0).val ∧ (i 0).val < σ.val + 1 := hi 0
  have h1 : h.val ≤ (i 1).val ∧ (i 1).val < h.val + 1 := hi 1
  omega
theorem wTile_sub (c : Dev nD) (σ h : Fin 2) (k : Fin 5) (hh : WIn (wO σ h k)) : (M13.access (wR (wO σ h k) hh)).set ⊆ wSet c σ h := by
  intro i hi
  rw [show (M13.access (wR (wO σ h k) hh)).set = (wR (wO σ h k) hh).set from View.set_slice_whole _ _] at hi
  rw [Rect.mem_set_unit] at hi
  refine (mem_wSet c σ h i).2 ?_
  have h0 : σ.val ≤ (i 0).val ∧ (i 0).val < σ.val + 1 := hi 0
  have h1 : h.val ≤ (i 1).val ∧ (i 1).val < h.val + 1 := hi 1
  omega

/-- The four slots of the dy buffer. -/
abbrev dyI (c : Dev nD) (b : Fin 2 × Fin 2) := dySet c b.1 b.2
/-- The four slots of the weight buffer. -/
abbrev wI (c : Dev nD) (b : Fin 2 × Fin 2) := wSet c b.1 b.2

theorem dyI_disj (c : Dev nD) : ∀ b b' : Fin 2 × Fin 2, b ≠ b' → Disjoint (dyI c b) (dyI c b') := by
  intro b b' hne
  rw [Finset.disjoint_left]
  intro i hi hi'
  obtain ⟨e0, e1⟩ := (mem_dySet c b.1 b.2 i).1 hi
  obtain ⟨e0', e1'⟩ := (mem_dySet c b'.1 b'.2 i).1 hi'
  exact hne (Prod.ext (Fin.ext (e0.symm.trans e0')) (Fin.ext (e1.symm.trans e1')))
theorem wI_disj (c : Dev nD) : ∀ b b' : Fin 2 × Fin 2, b ≠ b' → Disjoint (wI c b) (wI c b') := by
  intro b b' hne
  rw [Finset.disjoint_left]
  intro i hi hi'
  obtain ⟨e0, e1⟩ := (mem_wSet c b.1 b.2 i).1 hi
  obtain ⟨e0', e1'⟩ := (mem_wSet c b'.1 b'.2 i).1 hi'
  exact hne (Prod.ext (Fin.ext (e0.symm.trans e0')) (Fin.ext (e1.symm.trans e1')))

theorem dyI_cover (c : Dev nD) : Finset.univ.biUnion (dyI c) = Finset.univ := by
  refine Finset.eq_univ_iff_forall.2 fun i => Finset.mem_biUnion.2 ⟨(⟨(i 0).val, (i 0).isLt⟩, ⟨(i 1).val, (i 1).isLt⟩), Finset.mem_univ _, ?_⟩
  exact (mem_dySet c _ _ i).2 ⟨rfl, rfl⟩
theorem wI_cover (c : Dev nD) : Finset.univ.biUnion (wI c) = Finset.univ := by
  refine Finset.eq_univ_iff_forall.2 fun i => Finset.mem_biUnion.2 ⟨(⟨(i 0).val, (i 0).isLt⟩, ⟨(i 1).val, (i 1).isLt⟩), Finset.mem_univ _, ?_⟩
  exact (mem_wSet c _ _ i).2 ⟨rfl, rfl⟩

end Cert.KernelIdeal.Hand

end
-- ==== Proof.Offsets.lean ====
/- The control words of the kernel body in closed form. The table word `n_units` has 21 admissible
   values and the grid has four points, so each offset and condition of the printed body is settled
   by evaluation at every one of them, once. -/
module

public import proofs.«01_k».proof.Proof.Gen.KernelIdeal

@[expose] public section

set_option maxRecDepth 100000

namespace Cert.KernelIdeal.Hand

open Idealize.ShloMosaic Cert.KernelIdeal Cert.KernelIdeal.Gen

theorem bnd (a : Fin grid0.rank) : grid0.bound a = 4 := by revert a; decide

/-- Point `j` of the grid, as coordinates. -/
def crd (j : Fin 4) : grid0.Coords := fun a => ⟨j.val, by rw [bnd]; exact j.isLt⟩

theorem coords_eq : ∀ t : Fin grid0.N, ∃ j : Fin 4, t.val = j.val ∧ grid0.coords t = crd j := by decide +kernel

/-- The table word for `n` units. -/
abbrev wd (n : Fin 21) : BitVec 32 := BitVec.ofNat 32 n.val

/-- The number of trips that take units of one scale each, two at a time. -/
abbrev nf (n : Fin 21) : ℕ := (n.val + 1) / 2
/-- The number of trips of one grid point. -/
abbrev nT (n : Fin 21) : ℕ := nf n + (20 - n.val)
/-- The first unit of trip `t`. -/
abbrev uo (n : Fin 21) (t : ℕ) : ℕ := if t < nf n then 2 * t else n.val + t - nf n
/-- The trip takes two units. -/
abbrev pr (n : Fin 21) (t : ℕ) : Prop := t < n.val / 2
/-- Step `s` of the whole grid: the grid point it is in. -/
abbrev ptOf (n : Fin 21) (s : ℕ) : ℕ := s / nT n
/-- Step `s` of the whole grid: the trip of its grid point it is. -/
abbrev trOf (n : Fin 21) (s : ℕ) : ℕ := s % nT n

abbrev Trip (n : Fin 21) := Fin (k0_t1_loop (wd n)).trips

theorem trips1 : ∀ n : Fin 21, (k0_t1_loop (wd n)).trips = nT n := by decide +kernel
theorem trips2 : ∀ n : Fin 21, (k0_t2_loop (wd n)).trips = 0 := by decide +kernel
theorem chk1_all : ∀ (j : Fin 4) (n : Fin 21), k0_chk1 (crd j) (wd n) := by decide +kernel

theorem cond1_iff : ∀ j : Fin 4, (k0_cond1 (crd j) = 1#1 ↔ j.val = 0) := by decide +kernel
theorem cond2_iff : ∀ n : Fin 21, (k0_cond2 (wd n) = 1#1 ↔ pr n 0) := by decide +kernel
theorem cond3_iff : ∀ j : Fin 4, ∀ n : Fin 21, ∀ k : Trip n, (k0_cond3 (crd j) (wd n) k = 1#1 ↔ (j.val * nT n + k.val + 1) < 4 * nT n) := by decide +kernel
theorem cond4_iff : ∀ j : Fin 4, ∀ n : Fin 21, ∀ k : Trip n, (k0_cond4 (wd n) k = 1#1 ↔ pr n (trOf n (j.val * nT n + k.val + 1))) := by decide +kernel
theorem cond5_iff : ∀ n : Fin 21, ∀ k : Trip n, (k0_cond5 (wd n) k = 1#1 ↔ pr n k.val) := by decide +kernel
theorem cond6_iff : ∀ n : Fin 21, ∀ k : Trip n, (k0_cond6 (wd n) k = 1#1 ↔ (¬ pr n k.val ∧ k.val < nf n)) := by decide +kernel
theorem cond7_iff : ∀ n : Fin 21, ∀ k : Trip n, (k0_cond7 (wd n) k = 1#1 ↔ nf n ≤ k.val) := by decide +kernel
theorem cond13_iff : ∀ j : Fin 4, (k0_cond13 (crd j) = 1#1 ↔ j.val ≠ 0) := by decide +kernel
theorem cond14_iff : ∀ j : Fin 4, (k0_cond14 (crd j) = 1#1 ↔ j.val = 3) := by decide +kernel
theorem off1_eq : ∀ n : Fin 21, k0_off1 (wd n) = ![0, 512 * uo n 0] := by decide +kernel
theorem off2_eq : ∀ n : Fin 21, k0_off2 (wd n) = ![0, 512 * uo n 0] := by decide +kernel
theorem off3_eq : ∀ n : Fin 21, k0_off3 (wd n) = ![0, 512 * (uo n 0 + 1)] := by decide +kernel
theorem off4_eq : ∀ n : Fin 21, k0_off4 (wd n) = ![0, 512 * (uo n 0 + 1)] := by decide +kernel
theorem off5_eq : ∀ j : Fin 4, k0_off5 (crd j) = ![2048 * j.val, 0] := by decide +kernel
theorem off6_eq : ∀ j : Fin 4, k0_off6 (crd j) = ![2 * j.val] := by decide +kernel
theorem off8_eq : ∀ j : Fin 4, k0_off8 (crd j) = ![2 * j.val + 1] := by decide +kernel
theorem off131_eq : ∀ j : Fin 4, k0_off131 (crd j) = ![2 * j.val] := by decide +kernel
theorem off133_eq : ∀ j : Fin 4, k0_off133 (crd j) = ![2 * j.val + 1] := by decide +kernel
theorem off136_eq : ∀ j : Fin 4, k0_off136 (crd j) = ![2048 * j.val, 0] := by decide +kernel
theorem off7_eq : ∀ a : Fin 5, k0_off7 (BitVec.ofNat 32 a.val) = ![a.val, 0, 0] := by decide +kernel
theorem off9_eq : ∀ a : Fin 5, k0_off9 (BitVec.ofNat 32 a.val) = ![a.val, 0, 0] := by decide +kernel
theorem chk2_all : ∀ a : Fin 5, k0_chk2 (BitVec.ofNat 32 a.val) := by decide +kernel
theorem chk3_all : ∀ a : Fin 5, k0_chk3 (BitVec.ofNat 32 a.val) := by decide +kernel
theorem chk4_all : ∀ a : Fin 5, k0_chk4 (BitVec.ofNat 32 a.val) := by decide +kernel
theorem chk5_all : ∀ a : Fin 5, k0_chk5 (BitVec.ofNat 32 a.val) := by decide +kernel
theorem off10_eq : ∀ j : Fin 4, ∀ n : Fin 21, ∀ k : Trip n, k0_off10 (crd j) (wd n) k = ![(j.val * nT n + k.val + 1) % 2, 0] := by decide +kernel
theorem off15_eq : ∀ j : Fin 4, ∀ n : Fin 21, ∀ k : Trip n, k0_off15 (crd j) (wd n) k = ![(j.val * nT n + k.val + 1) % 2, 1] := by decide +kernel
theorem off11_eq : ∀ j : Fin 4, ∀ n : Fin 21, ∀ k : Trip n, k0_off11 (crd j) (wd n) k = ![(j.val * nT n + k.val + 1) % 2, 0, 0, 0] := by decide +kernel
theorem off13_eq : ∀ j : Fin 4, ∀ n : Fin 21, ∀ k : Trip n, k0_off13 (crd j) (wd n) k = ![(j.val * nT n + k.val + 1) % 2, 0, 0, 0] := by decide +kernel
theorem off16_eq : ∀ j : Fin 4, ∀ n : Fin 21, ∀ k : Trip n, k0_off16 (crd j) (wd n) k = ![(j.val * nT n + k.val + 1) % 2, 1, 0, 0] := by decide +kernel
theorem off18_eq : ∀ j : Fin 4, ∀ n : Fin 21, ∀ k : Trip n, k0_off18 (crd j) (wd n) k = ![(j.val * nT n + k.val + 1) % 2, 1, 0, 0] := by decide +kernel
theorem off12_eq : ∀ j : Fin 4, ∀ n : Fin 21, ∀ k : Trip n, (j.val * nT n + k.val + 1) < 4 * nT n → k0_off12 (crd j) (wd n) k = ![2048 * ptOf n (j.val * nT n + k.val + 1), 512 * uo n (trOf n (j.val * nT n + k.val + 1))] := by decide +kernel
theorem off14_eq : ∀ j : Fin 4, ∀ n : Fin 21, ∀ k : Trip n, k0_off14 (wd n) k = ![0, 512 * uo n (trOf n (j.val * nT n + k.val + 1))] := by decide +kernel
theorem off17_eq : ∀ j : Fin 4, ∀ n : Fin 21, ∀ k : Trip n, (j.val * nT n + k.val + 1) < 4 * nT n → pr n (trOf n (j.val * nT n + k.val + 1)) → k0_off17 (crd j) (wd n) k = ![2048 * ptOf n (j.val * nT n + k.val + 1), 512 * (uo n (trOf n (j.val * nT n + k.val + 1)) + 1)] := by decide +kernel
theorem off19_eq : ∀ j : Fin 4, ∀ n : Fin 21, ∀ k : Trip n, pr n (trOf n (j.val * nT n + k.val + 1)) → k0_off19 (wd n) k = ![0, 512 * (uo n (trOf n (j.val * nT n + k.val + 1)) + 1)] := by decide +kernel
theorem off20_eq : ∀ j : Fin 4, ∀ n : Fin 21, ∀ k : Trip n, k0_off20 (crd j) (wd n) k = ![(j.val * nT n + k.val) % 2, 0] := by decide +kernel
theorem off21_eq : ∀ j : Fin 4, ∀ n : Fin 21, ∀ k : Trip n, k0_off21 (crd j) (wd n) k = ![(j.val * nT n + k.val) % 2, 0, 0, 0] := by decide +kernel
theorem off23_eq : ∀ j : Fin 4, ∀ n : Fin 21, ∀ k : Trip n, k0_off23 (crd j) (wd n) k = ![(j.val * nT n + k.val) % 2, 0, 0, 0] := by decide +kernel
theorem off25_eq : ∀ j : Fin 4, ∀ n : Fin 21, ∀ k : Trip n, k0_off25 (crd j) (wd n) k = ![(j.val * nT n + k.val) % 2, 1] := by decide +kernel
theorem off26_eq : ∀ j : Fin 4, ∀ n : Fin 21, ∀ k : Trip n, k0_off26 (crd j) (wd n) k = ![(j.val * nT n + k.val) % 2, 1, 0, 0] := by decide +kernel
theorem off28_eq : ∀ j : Fin 4, ∀ n : Fin 21, ∀ k : Trip n, k0_off28 (crd j) (wd n) k = ![(j.val * nT n + k.val) % 2, 1, 0, 0] := by decide +kernel
theorem off30_eq : ∀ n : Fin 21, ∀ k : Trip n, pr n k.val → k0_off30 (wd n) k = ![uo n k.val] := by decide +kernel
theorem off31_eq : ∀ n : Fin 21, ∀ k : Trip n, pr n k.val → k0_off31 (wd n) k = ![uo n k.val + 1] := by decide +kernel
theorem off50_eq : ∀ n : Fin 21, ∀ k : Trip n, k.val < nf n → k0_off50 (wd n) k = ![uo n k.val] := by decide +kernel
theorem off60_eq : ∀ n : Fin 21, ∀ k : Trip n, nf n ≤ k.val → k0_off60 (wd n) k = ![0, 512 * uo n k.val] := by decide +kernel
theorem off32_eq : ∀ j : Fin 4, ∀ n : Fin 21, ∀ k : Trip n, k0_off32 (crd j) (wd n) k = ![(j.val * nT n + k.val) % 2, 0, 0, 0] := by decide +kernel
theorem off44_eq : ∀ j : Fin 4, ∀ n : Fin 21, ∀ k : Trip n, k0_off44 (crd j) (wd n) k = ![(j.val * nT n + k.val) % 2, 0, 512, 0] := by decide +kernel
theorem off46_eq : ∀ j : Fin 4, ∀ n : Fin 21, ∀ k : Trip n, k0_off46 (crd j) (wd n) k = ![(j.val * nT n + k.val) % 2, 0, 1024, 0] := by decide +kernel
theorem off48_eq : ∀ j : Fin 4, ∀ n : Fin 21, ∀ k : Trip n, k0_off48 (crd j) (wd n) k = ![(j.val * nT n + k.val) % 2, 0, 1536, 0] := by decide +kernel
theorem off34_eq : ∀ j : Fin 4, ∀ n : Fin 21, ∀ k : Trip n, k0_off34 (crd j) (wd n) k = ![(j.val * nT n + k.val) % 2, 1, 0, 0] := by decide +kernel
theorem off45_eq : ∀ j : Fin 4, ∀ n : Fin 21, ∀ k : Trip n, k0_off45 (crd j) (wd n) k = ![(j.val * nT n + k.val) % 2, 1, 512, 0] := by decide +kernel
theorem off47_eq : ∀ j : Fin 4, ∀ n : Fin 21, ∀ k : Trip n, k0_off47 (crd j) (wd n) k = ![(j.val * nT n + k.val) % 2, 1, 1024, 0] := by decide +kernel
theorem off49_eq : ∀ j : Fin 4, ∀ n : Fin 21, ∀ k : Trip n, k0_off49 (crd j) (wd n) k = ![(j.val * nT n + k.val) % 2, 1, 1536, 0] := by decide +kernel
theorem off51_eq : ∀ j : Fin 4, ∀ n : Fin 21, ∀ k : Trip n, k0_off51 (crd j) (wd n) k = ![(j.val * nT n + k.val) % 2, 0, 0, 0] := by decide +kernel
theorem off57_eq : ∀ j : Fin 4, ∀ n : Fin 21, ∀ k : Trip n, k0_off57 (crd j) (wd n) k = ![(j.val * nT n + k.val) % 2, 0, 512, 0] := by decide +kernel
theorem off58_eq : ∀ j : Fin 4, ∀ n : Fin 21, ∀ k : Trip n, k0_off58 (crd j) (wd n) k = ![(j.val * nT n + k.val) % 2, 0, 1024, 0] := by decide +kernel
theorem off59_eq : ∀ j : Fin 4, ∀ n : Fin 21, ∀ k : Trip n, k0_off59 (crd j) (wd n) k = ![(j.val * nT n + k.val) % 2, 0, 1536, 0] := by decide +kernel
theorem off61_eq : ∀ j : Fin 4, ∀ n : Fin 21, ∀ k : Trip n, k0_off61 (crd j) (wd n) k = ![(j.val * nT n + k.val) % 2, 0, 0, 0] := by decide +kernel
theorem off67_eq : ∀ j : Fin 4, ∀ n : Fin 21, ∀ k : Trip n, k0_off67 (crd j) (wd n) k = ![(j.val * nT n + k.val) % 2, 0, 512, 0] := by decide +kernel
theorem off68_eq : ∀ j : Fin 4, ∀ n : Fin 21, ∀ k : Trip n, k0_off68 (crd j) (wd n) k = ![(j.val * nT n + k.val) % 2, 0, 1024, 0] := by decide +kernel
theorem off69_eq : ∀ j : Fin 4, ∀ n : Fin 21, ∀ k : Trip n, k0_off69 (crd j) (wd n) k = ![(j.val * nT n + k.val) % 2, 0, 1536, 0] := by decide +kernel
theorem off33_eq : ∀ j : Fin 4, ∀ n : Fin 21, ∀ k : Trip n, k0_off33 (crd j) (wd n) k = ![(j.val * nT n + k.val) % 2, 0, 0, 0] := by decide +kernel
theorem off36_eq : ∀ j : Fin 4, ∀ n : Fin 21, ∀ k : Trip n, k0_off36 (crd j) (wd n) k = ![(j.val * nT n + k.val) % 2, 0, 512, 0] := by decide +kernel
theorem off38_eq : ∀ j : Fin 4, ∀ n : Fin 21, ∀ k : Trip n, k0_off38 (crd j) (wd n) k = ![(j.val * nT n + k.val) % 2, 0, 1024, 0] := by decide +kernel
theorem off40_eq : ∀ j : Fin 4, ∀ n : Fin 21, ∀ k : Trip n, k0_off40 (crd j) (wd n) k = ![(j.val * nT n + k.val) % 2, 0, 1536, 0] := by decide +kernel
theorem off42_eq : ∀ j : Fin 4, ∀ n : Fin 21, ∀ k : Trip n, k0_off42 (crd j) (wd n) k = ![(j.val * nT n + k.val) % 2, 0, 2048, 0] := by decide +kernel
theorem off35_eq : ∀ j : Fin 4, ∀ n : Fin 21, ∀ k : Trip n, k0_off35 (crd j) (wd n) k = ![(j.val * nT n + k.val) % 2, 1, 0, 0] := by decide +kernel
theorem off37_eq : ∀ j : Fin 4, ∀ n : Fin 21, ∀ k : Trip n, k0_off37 (crd j) (wd n) k = ![(j.val * nT n + k.val) % 2, 1, 512, 0] := by decide +kernel
theorem off39_eq : ∀ j : Fin 4, ∀ n : Fin 21, ∀ k : Trip n, k0_off39 (crd j) (wd n) k = ![(j.val * nT n + k.val) % 2, 1, 1024, 0] := by decide +kernel
theorem off41_eq : ∀ j : Fin 4, ∀ n : Fin 21, ∀ k : Trip n, k0_off41 (crd j) (wd n) k = ![(j.val * nT n + k.val) % 2, 1, 1536, 0] := by decide +kernel
theorem off43_eq : ∀ j : Fin 4, ∀ n : Fin 21, ∀ k : Trip n, k0_off43 (crd j) (wd n) k = ![(j.val * nT n + k.val) % 2, 1, 2048, 0] := by decide +kernel
theorem off52_eq : ∀ j : Fin 4, ∀ n : Fin 21, ∀ k : Trip n, k0_off52 (crd j) (wd n) k = ![(j.val * nT n + k.val) % 2, 0, 0, 0] := by decide +kernel
theorem off53_eq : ∀ j : Fin 4, ∀ n : Fin 21, ∀ k : Trip n, k0_off53 (crd j) (wd n) k = ![(j.val * nT n + k.val) % 2, 0, 512, 0] := by decide +kernel
theorem off54_eq : ∀ j : Fin 4, ∀ n : Fin 21, ∀ k : Trip n, k0_off54 (crd j) (wd n) k = ![(j.val * nT n + k.val) % 2, 0, 1024, 0] := by decide +kernel
theorem off55_eq : ∀ j : Fin 4, ∀ n : Fin 21, ∀ k : Trip n, k0_off55 (crd j) (wd n) k = ![(j.val * nT n + k.val) % 2, 0, 1536, 0] := by decide +kernel
theorem off56_eq : ∀ j : Fin 4, ∀ n : Fin 21, ∀ k : Trip n, k0_off56 (crd j) (wd n) k = ![(j.val * nT n + k.val) % 2, 0, 2048, 0] := by decide +kernel
theorem off62_eq : ∀ j : Fin 4, ∀ n : Fin 21, ∀ k : Trip n, k0_off62 (crd j) (wd n) k = ![(j.val * nT n + k.val) % 2, 0, 0, 0] := by decide +kernel
theorem off63_eq : ∀ j : Fin 4, ∀ n : Fin 21, ∀ k : Trip n, k0_off63 (crd j) (wd n) k = ![(j.val * nT n + k.val) % 2, 0, 512, 0] := by decide +kernel
theorem off64_eq : ∀ j : Fin 4, ∀ n : Fin 21, ∀ k : Trip n, k0_off64 (crd j) (wd n) k = ![(j.val * nT n + k.val) % 2, 0, 1024, 0] := by decide +kernel
theorem off65_eq : ∀ j : Fin 4, ∀ n : Fin 21, ∀ k : Trip n, k0_off65 (crd j) (wd n) k = ![(j.val * nT n + k.val) % 2, 0, 1536, 0] := by decide +kernel
theorem off66_eq : ∀ j : Fin 4, ∀ n : Fin 21, ∀ k : Trip n, k0_off66 (crd j) (wd n) k = ![(j.val * nT n + k.val) % 2, 0, 2048, 0] := by decide +kernel

/-- The number of trips is positive and no unit lies past the twentieth. -/
theorem nT_pos : ∀ n : Fin 21, 0 < nT n := by decide +kernel
theorem uo_lt : ∀ n : Fin 21, ∀ t : Fin (nT n), uo n t.val < 20 := by decide +kernel
theorem uo_succ_lt : ∀ n : Fin 21, ∀ t : Fin (nT n), pr n t.val → uo n t.val + 1 < 20 := by decide +kernel

end Cert.KernelIdeal.Hand
-- ==== Proof.Branches.lean ====
/- What each branch of a trip does to the accumulator, from the blocks its slots hold. -/
module

public import proofs.«01_k».proof.Proof.Slots
public import proofs.«01_k».proof.Proof.Offsets

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ids. -/
abbrev M1 : Memref sig .tc .smem S8 .i32 := Memref.whole main_arg8
/-- The number of units. -/
abbrev M2 : Memref sig .tc .smem S1 .i32 := Memref.whole main_arg2
/-- The blocks of t3. -/
abbrev M7 : Memref sig .tc .hbm S8192x384 .bf16 := Memref.whole main_arg5
/-- a2. -/
abbrev M8 : Memref sig .tc .hbm S5x2560x256 .bf16 := Memref.whole main_arg6
/-- The result. -/
abbrev M10 : Memref sig .tc .hbm S8192x2560 .bf16 := Memref.whole main_v0

theorem us_in (u : ℕ) : ∀ a : Fin S20.rank, (![u % 20] : Fin 1 → ℕ) a + S1.size a ≤ S20.size a := by
  intro a
  have h2 := Nat.mod_lt u (show 0 < 20 by decide)
  match a with
  | ⟨0, _⟩ => show u % 20 + 1 ≤ 20; omega
theorem row_in (u : ℕ) : ∀ a : Fin S1x10240.rank, (![0, 512 * (u % 20)] : Fin 2 → ℕ) a + S1x512.size a ≤ S1x10240.size a := by
  intro a
  have h2 := Nat.mod_lt u (show 0 < 20 by decide)
  match a with
  | ⟨0, _⟩ => show 0 + 1 ≤ 1; omega
  | ⟨1, _⟩ => show 512 * (u % 20) + 512 ≤ 10240; omega

/-- The scale of unit `u`. -/
def us (d3 : Vec F S20 .f32) (u : ℕ) : Elt F .f32 :=
  d3 ((Rect.unit (s := S20) ![u % 20] S1.size (us_in u)).emb (Shape.Idx.first (numel1_S1.symm ▸ Nat.one_pos)))
/-- The scales of the columns of unit `u`. -/
def row (d6 : Vec F S1x10240 .f32) (u : ℕ) : Vec F S1x512 .f32 :=
  fun x => d6 ((Rect.unit (s := S1x10240) ![0, 512 * (u % 20)] S1x512.size (row_in u)).emb x)

section
variable (c : Dev nD)

/-- The accumulator after a single unit. -/
def singleF (s : Elt F .f32) (dyp : B F c main_arg0) (wp' : B F c main_arg1) (σ : Fin 2) (j u : ℕ) (f : B F c cc0_scratch0) : B F c cc0_scratch0 :=
  tiles.foldl (singleStep s (dyLand dyp σ 0 j u) (wLand wp' σ 0 u) (dyO σ 0) (wO σ 0) (dyO_in σ 0) (wO_in σ 0)) f
/-- The accumulator after a pair of units. -/
def pairF (s0 s1 : Elt F .f32) (dyp : B F c main_arg0) (wp' : B F c main_arg1) (σ : Fin 2) (j u : ℕ) (f : B F c cc0_scratch0) : B F c cc0_scratch0 :=
  tiles.foldl (pairStep s0 s1 (dyLand dyp σ 0 j u) (dyLand dyp σ 1 j (u + 1)) (wLand wp' σ 0 u) (wLand wp' σ 1 (u + 1))
    (dyO σ 0) (dyO σ 1) (wO σ 0) (wO σ 1) (dyO_in σ 0) (dyO_in σ 1) (wO_in σ 0) (wO_in σ 1)) f
/-- The accumulator after a unit with a scale per column. -/
def scaledF (s : Vec F S1x512 .f32) (dyp : B F c main_arg0) (wp' : B F c main_arg1) (σ : Fin 2) (j u : ℕ) (f : B F c cc0_scratch0) : B F c cc0_scratch0 :=
  [0, 1, 2, 3].foldl (scaledRowStep s (dyLand dyp σ 0 j u) (wLand wp' σ 0 u) (dyO σ 0) (wO σ 0) (dyO_in σ 0) (wO_in σ 0)) f

/-- A scalar read of a window. -/
theorem wp_us (a3 : Memref sig .tc .smem S20 .f32) (q : PosShare TreeShare) (d3 : Vec F S20 .f32) (u : ℕ) (o : Fin 1 → ℕ) (h) (h1) (hp)
    (eo : o = ![u % 20]) (Q : Elt F .f32 → sProp (MM F)) :
    owns (c : Thread nD τ) a3 q d3
      ⊢ iprop((owns (c : Thread nD τ) a3 q d3 -∗ Q (us d3 u))
        -∗ WP c (smemLoad (p := .tc) a3 (Rect.unit (s := S20) o S1.size h) h1 hp) Q) := by
  subst eo
  unfold owns smemLoad
  iintro ⟨%f, %hf, H⟩ Hk
  iapply (wp_smemLoadElt (defs := defs₀ (F := F)) Variants.none (c : Thread nD τ) none Set.univ (m := a3) (r := Rect.unit (s := S20) ![u % 20] S1.size h)
    (hw := View.loads_smem_one hp h1) (x := Shape.Idx.first (h1.symm ▸ Nat.one_pos)) (k := .ret) (View.set_slice_subset _ _)) $$ H
  iintro H
  iapply (le_wp_ret _ _ _ _ _)
  have e : (a3.access (Rect.unit (s := S20) ![u % 20] S1.size h)).read (Elt F) f (Shape.Idx.first (h1.symm ▸ Nat.one_pos)) = us d3 u := by
    subst hf; rfl
  rw [e]
  iapply Hk
  iexists f
  isplitr
  · ipureintro; exact hf
  iexact H

/-- A read of a row of a window. -/
theorem wp_row (a6 : Memref sig .tc .vmem S1x10240 .f32) (q : PosShare TreeShare) (d6 : Vec F S1x10240 .f32) (u : ℕ) (o : Fin 2 → ℕ) (h) (hl)
    (eo : o = ![0, 512 * (u % 20)]) (Q : Vec F S1x512 .f32 → sProp (MM F)) :
    owns (c : Thread nD τ) a6 q d6
      ⊢ iprop((owns (c : Thread nD τ) a6 q d6 -∗ Q (row d6 u))
        -∗ WP c (Prog.lift (.load a6 (Rect.unit (s := S1x10240) o S1x512.size h).toLoadRect hl)) Q) := by
  subst eo
  unfold owns
  iintro ⟨%f, %hf, H⟩ Hk
  iapply (wp_ld c a6 (Rect.unit (s := S1x10240) ![0, 512 * (u % 20)] S1x512.size h) hl (View.set_slice_subset _ _) _) $$ H
  iintro H
  have e : (a6.access (Rect.unit (s := S1x10240) ![0, 512 * (u % 20)] S1x512.size h)).read (Elt F) f = row d6 u := by
    subst hf; rfl
  rw [e]
  iapply Hk
  iexists f
  isplitr
  · ipureintro; exact hf
  iexact H

variable (dyp : B F c main_arg0) (wp' : B F c main_arg1)

theorem wp_singleSeq (s : Elt F .f32) (σ : Fin 2) (j u : ℕ) (od ow hd hw) (ed : od = dyO σ 0) (ew : ow = wO σ 0) (f) (Q : Unit → sProp (MM F)) :
    iprop(hereS c dyp wp' σ 0 j u ∗ accPt c f)
      ⊢ iprop((iprop(hereS c dyp wp' σ 0 j u ∗ accPt c (singleF c s dyp wp' σ j u f)) -∗ Q ⟨⟩)
        -∗ WP c (seqP (singleTile M11 M12 M13 s od ow hd hw) tiles) Q) := by
  subst ed ew
  unfold hereS
  iintro ⟨⟨Hs, Hd, Hw, Hr⟩, Ha⟩ Hk
  iapply (wp_seqP c _ iprop(dyPt c (dySet c σ 0) (dyLand dyp σ 0 j u) ∗ wPt c (wSet c σ 0) (wLand wp' σ 0 u)) (accPt c) _
    (fun p f Q => wp_singleTile c s _ _ (dyO σ 0) (wO σ 0) hd hw (fun r => dyTile_sub c σ 0 r _) (fun k => wTile_sub c σ 0 k _) p f Q) tiles f Q) $$ [Hd Hw Ha]
  · isplitl [Hd Hw]
    · isplitl [Hd] <;> iassumption
    iexact Ha
  iintro ⟨⟨Hd, Hw⟩, Ha⟩
  iapply Hk
  isplitr [Ha]
  · isplitl [Hs]; · iexact Hs
    isplitl [Hd]; · iexact Hd
    isplitl [Hw] <;> iassumption
  iexact Ha

theorem wp_scaledSeq (s : Vec F S1x512 .f32) (σ : Fin 2) (j u : ℕ) (od ow hd hw) (ed : od = dyO σ 0) (ew : ow = wO σ 0) (f) (Q : Unit → sProp (MM F)) :
    iprop(hereS c dyp wp' σ 0 j u ∗ accPt c f)
      ⊢ iprop((iprop(hereS c dyp wp' σ 0 j u ∗ accPt c (scaledF c s dyp wp' σ j u f)) -∗ Q ⟨⟩)
        -∗ WP c (seqP (scaledRow M11 M12 M13 s od ow hd hw) [0, 1, 2, 3]) Q) := by
  subst ed ew
  unfold hereS
  iintro ⟨⟨Hs, Hd, Hw, Hr⟩, Ha⟩ Hk
  iapply (wp_seqP c _ iprop(dyPt c (dySet c σ 0) (dyLand dyp σ 0 j u) ∗ wPt c (wSet c σ 0) (wLand wp' σ 0 u)) (accPt c) _
    (fun p f Q => wp_scaledRow c s _ _ (dyO σ 0) (wO σ 0) hd hw (fun r => dyTile_sub c σ 0 r _) (fun k => wTile_sub c σ 0 k _) p f Q) [0, 1, 2, 3] f Q) $$ [Hd Hw Ha]
  · isplitl [Hd Hw]
    · isplitl [Hd] <;> iassumption
    iexact Ha
  iintro ⟨⟨Hd, Hw⟩, Ha⟩
  iapply Hk
  isplitr [Ha]
  · isplitl [Hs]; · iexact Hs
    isplitl [Hd]; · iexact Hd
    isplitl [Hw] <;> iassumption
  iexact Ha

theorem wp_pairSeq (s0 s1 : Elt F .f32) (σ : Fin 2) (j u : ℕ) (od od1 ow ow1 hd hd1 hw hw1) (ed : od = dyO σ 0) (ed1 : od1 = dyO σ 1) (ew : ow = wO σ 0) (ew1 : ow1 = wO σ 1)
    (f) (Q : Unit → sProp (MM F)) :
    iprop(hereS c dyp wp' σ 0 j u ∗ hereS c dyp wp' σ 1 j (u + 1) ∗ accPt c f)
      ⊢ iprop((iprop(hereS c dyp wp' σ 0 j u ∗ hereS c dyp wp' σ 1 j (u + 1) ∗ accPt c (pairF c s0 s1 dyp wp' σ j u f)) -∗ Q ⟨⟩)
        -∗ WP c (seqP (pairTile M11 M12 M13 s0 s1 od od1 ow ow1 hd hd1 hw hw1) tiles) Q) := by
  subst ed ed1 ew ew1
  unfold hereS
  iintro ⟨⟨Hs, Hd, Hw, Hr⟩, ⟨Hs1, Hd1, Hw1, Hr1⟩, Ha⟩ Hk
  iapply (wp_seqP c _ iprop(dyPt c (dySet c σ 0) (dyLand dyp σ 0 j u) ∗ wPt c (wSet c σ 0) (wLand wp' σ 0 u)
      ∗ dyPt c (dySet c σ 1) (dyLand dyp σ 1 j (u + 1)) ∗ wPt c (wSet c σ 1) (wLand wp' σ 1 (u + 1))) (accPt c) _
    (fun p f Q => wp_pairTile c s0 s1 _ _ _ _ (dyO σ 0) (dyO σ 1) (wO σ 0) (wO σ 1) hd hd1 hw hw1 (fun r => dyTile_sub c σ 0 r _) (fun k => wTile_sub c σ 0 k _)
      (fun r => dyTile_sub c σ 1 r _) (fun k => wTile_sub c σ 1 k _) p f Q) tiles f Q) $$ [Hd Hw Hd1 Hw1 Ha]
  · isplitr [Ha]
    · isplitl [Hd]; · iexact Hd
      isplitl [Hw]; · iexact Hw
      isplitl [Hd1] <;> iassumption
    iexact Ha
  iintro ⟨⟨Hd, Hw, Hd1, Hw1⟩, Ha⟩
  iapply Hk
  isplitl [Hs Hd Hw Hr]
  · isplitl [Hs]; · iexact Hs
    isplitl [Hd]; · iexact Hd
    isplitl [Hw] <;> iassumption
  isplitr [Ha]
  · isplitl [Hs1]; · iexact Hs1
    isplitl [Hd1]; · iexact Hd1
    isplitl [Hw1] <;> iassumption
  iexact Ha

end

/-! ## The offsets of the branches -/

/-- The slot of step `s`. -/
def sl (s : ℕ) : Fin 2 := ⟨s % 2, Nat.mod_lt s Nat.two_pos⟩
theorem sl_two (s : ℕ) : sl (s + 2) = sl s := Fin.ext (Nat.add_mod_right s 2)

theorem pD0_eq (j : Fin 4) (n : Fin 21) (k : Trip n) : pD0 (crd j) (wd n) k = dyO (sl (j.val * nT n + k.val)) 0 := by
  funext r
  fin_cases r
  · exact off32_eq j n k
  · exact off44_eq j n k
  · exact off46_eq j n k
  · exact off48_eq j n k

theorem pD1_eq (j : Fin 4) (n : Fin 21) (k : Trip n) : pD1 (crd j) (wd n) k = dyO (sl (j.val * nT n + k.val)) 1 := by
  funext r
  fin_cases r
  · exact off34_eq j n k
  · exact off45_eq j n k
  · exact off47_eq j n k
  · exact off49_eq j n k

theorem sD_eq (j : Fin 4) (n : Fin 21) (k : Trip n) : sD (crd j) (wd n) k = dyO (sl (j.val * nT n + k.val)) 0 := by
  funext r
  fin_cases r
  · exact off51_eq j n k
  · exact off57_eq j n k
  · exact off58_eq j n k
  · exact off59_eq j n k

theorem bD_eq (j : Fin 4) (n : Fin 21) (k : Trip n) : bD (crd j) (wd n) k = dyO (sl (j.val * nT n + k.val)) 0 := by
  funext r
  fin_cases r
  · exact off61_eq j n k
  · exact off67_eq j n k
  · exact off68_eq j n k
  · exact off69_eq j n k

theorem pW0_eq (j : Fin 4) (n : Fin 21) (k : Trip n) : pW0 (crd j) (wd n) k = wO (sl (j.val * nT n + k.val)) 0 := by
  funext r
  fin_cases r
  · exact off33_eq j n k
  · exact off36_eq j n k
  · exact off38_eq j n k
  · exact off40_eq j n k
  · exact off42_eq j n k

theorem pW1_eq (j : Fin 4) (n : Fin 21) (k : Trip n) : pW1 (crd j) (wd n) k = wO (sl (j.val * nT n + k.val)) 1 := by
  funext r
  fin_cases r
  · exact off35_eq j n k
  · exact off37_eq j n k
  · exact off39_eq j n k
  · exact off41_eq j n k
  · exact off43_eq j n k

theorem sW_eq (j : Fin 4) (n : Fin 21) (k : Trip n) : sW (crd j) (wd n) k = wO (sl (j.val * nT n + k.val)) 0 := by
  funext r
  fin_cases r
  · exact off52_eq j n k
  · exact off53_eq j n k
  · exact off54_eq j n k
  · exact off55_eq j n k
  · exact off56_eq j n k

theorem bW_eq (j : Fin 4) (n : Fin 21) (k : Trip n) : bW (crd j) (wd n) k = wO (sl (j.val * nT n + k.val)) 0 := by
  funext r
  fin_cases r
  · exact off62_eq j n k
  · exact off63_eq j n k
  · exact off64_eq j n k
  · exact off65_eq j n k
  · exact off66_eq j n k

end Cert.KernelIdeal.Hand

end
-- ==== Proof.TripProg.lean ====
/- One trip of the loop over the units: the next step's slot is filled, this step's is waited for and
   its units are added to the accumulator. -/
module

public import proofs.«01_k».proof.Proof.Branches

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The trip in its pieces -/

/-- The filling of the next step's slot, then `K`. -/
def fetchP {α : Type} (i : grid0.Coords) (v0 : Elt F .i32) (k0_hw1 : k0_chk1 i v0) (k0_t1 : Fin (k0_t1_loop v0).trips) (K : P F α) : P F α :=
  if k0_h3 : k0_cond3 i v0 k0_t1 = 1#1 then
    dyEnq (k0_off10 i v0 k0_t1) (k0_off10_inb i v0 k0_hw1 k0_t1 k0_h3) (k0_off11 i v0 k0_t1) (k0_off11_inb i v0 k0_hw1 k0_t1 k0_h3) (k0_off12 i v0 k0_t1) (k0_off12_inb i v0 k0_hw1 k0_t1 k0_h3)
      ((Memref.isWhole_whole _).wordExact_slice rfl _ (k0_off12_wordsfp8e5m2 i v0 k0_hw1 k0_t1 k0_h3)) (((Memref.isWhole_whole _).wordExact_slice rfl _ (k0_off11_wordsfp8e5m2 i v0 k0_hw1 k0_t1 k0_h3)).reshape _ _) >>= fun _ =>
    wEnq (k0_off10 i v0 k0_t1) (k0_off10_inb i v0 k0_hw1 k0_t1 k0_h3) (k0_off13 i v0 k0_t1) (k0_off13_inb i v0 k0_hw1 k0_t1 k0_h3) (k0_off14 v0 k0_t1) (k0_off14_inb i v0 k0_hw1 k0_t1 k0_h3)
      ((Memref.isWhole_whole _).wordExact_slice rfl _ (k0_off14_wordsfp8e4m3 i v0 k0_hw1 k0_t1 k0_h3)) (((Memref.isWhole_whole _).wordExact_slice rfl _ (k0_off13_wordsfp8e4m3 i v0 k0_hw1 k0_t1 k0_h3)).reshape _ _) >>= fun _ =>
    (if k0_h4 : k0_cond4 v0 k0_t1 = 1#1 then
      dyEnq (k0_off15 i v0 k0_t1) (k0_off15_inb i v0 k0_hw1 k0_t1 k0_h3 k0_h4) (k0_off16 i v0 k0_t1) (k0_off16_inb i v0 k0_hw1 k0_t1 k0_h3 k0_h4) (k0_off17 i v0 k0_t1) (k0_off17_inb i v0 k0_hw1 k0_t1 k0_h3 k0_h4)
      ((Memref.isWhole_whole _).wordExact_slice rfl _ (k0_off17_wordsfp8e5m2 i v0 k0_hw1 k0_t1 k0_h3 k0_h4)) (((Memref.isWhole_whole _).wordExact_slice rfl _ (k0_off16_wordsfp8e5m2 i v0 k0_hw1 k0_t1 k0_h3 k0_h4)).reshape _ _) >>= fun _ =>
      wEnq (k0_off15 i v0 k0_t1) (k0_off15_inb i v0 k0_hw1 k0_t1 k0_h3 k0_h4) (k0_off18 i v0 k0_t1) (k0_off18_inb i v0 k0_hw1 k0_t1 k0_h3 k0_h4) (k0_off19 v0 k0_t1) (k0_off19_inb i v0 k0_hw1 k0_t1 k0_h3 k0_h4)
      ((Memref.isWhole_whole _).wordExact_slice rfl _ (k0_off19_wordsfp8e4m3 i v0 k0_hw1 k0_t1 k0_h3 k0_h4)) (((Memref.isWhole_whole _).wordExact_slice rfl _ (k0_off18_wordsfp8e4m3 i v0 k0_hw1 k0_t1 k0_h3 k0_h4)).reshape _ _) >>= fun _ => K
    else K)
  else K

/-- The wait for the first half's block of dy. -/
def wait0 (i : grid0.Coords) (v0 : Elt F .i32) (k0_hw1 : k0_chk1 i v0) (k0_t1 : Fin (k0_t1_loop v0).trips) : P F PUnit :=
  dyWait (k0_off20 i v0 k0_t1) (k0_off20_inb i v0 k0_hw1 k0_t1) (k0_off21 i v0 k0_t1) (k0_off21_inb i v0 k0_hw1 k0_t1) (k0_off22 i v0 k0_t1) (k0_off22_inb i v0 k0_hw1 k0_t1)
      ((Memref.isWhole_whole _).wordExact_slice rfl _ (k0_off22_wordsfp8e5m2 i v0 k0_hw1 k0_t1)) (((Memref.isWhole_whole _).wordExact_slice rfl _ (k0_off21_wordsfp8e5m2 i v0 k0_hw1 k0_t1)).reshape _ _)
/-- The wait for the first half's block of the weights. -/
def wait1 (i : grid0.Coords) (v0 : Elt F .i32) (k0_hw1 : k0_chk1 i v0) (k0_t1 : Fin (k0_t1_loop v0).trips) : P F PUnit :=
  wWait (k0_off20 i v0 k0_t1) (k0_off20_inb i v0 k0_hw1 k0_t1) (k0_off23 i v0 k0_t1) (k0_off23_inb i v0 k0_hw1 k0_t1) (k0_off24 v0 k0_t1) (k0_off24_inb i v0 k0_hw1 k0_t1)
      ((Memref.isWhole_whole _).wordExact_slice rfl _ (k0_off24_wordsfp8e4m3 i v0 k0_hw1 k0_t1)) (((Memref.isWhole_whole _).wordExact_slice rfl _ (k0_off23_wordsfp8e4m3 i v0 k0_hw1 k0_t1)).reshape _ _)

/-- Two words the trip computes for its branches. -/
def words31 (arg0 v37 c0_i32_36 c1_i32_35 c0_i32_37 c1_i32_39 v0 : BitVec 32) (k0_t1 : Fin (k0_t1_loop v0).trips) : Σ' (v462 : BitVec 32), BitVec 32 :=
  let arg20 : BitVec 32 := Scf.iv c0_i32_37 c1_i32_39 k0_t1
  let v461 : BitVec 32 := Scalar.muli arg20 c1_i32_35
  let v462 : BitVec 32 := Scalar.addi c0_i32_36 v461
  let v463 : BitVec 32 := Scalar.muli arg0 v37
  let v464 : BitVec 32 := Scalar.addi v463 v462
  let v465 : BitVec 1 := Scalar.cmpi .eq 2#32 0#32
  let v466 : BitVec 32 := Scalar.select v465 1#32 2#32
  let v467 : BitVec 32 := Scalar.remsi v464 v466
  let v468 : BitVec 1 := Scalar.cmpi .ne v467 0#32
  let v469 : BitVec 1 := Scalar.cmpi .slt v467 0#32
  let v470 : BitVec 1 := Scalar.cmpi .slt v466 0#32
  let v471 : BitVec 1 := Scalar.xori v469 v470
  let v472 : BitVec 1 := Scalar.andi v471 v468
  let v473 : BitVec 32 := Scalar.addi v467 v466
  let v474 : BitVec 32 := Scalar.select v472 v473 v467
  ⟨v462, v474⟩

/-- The first part of a trip. -/
def part31P (arg0 v37 c1_i32_35 c0_i32_36 c0_i32_37 c1_i32_39 : BitVec 32) (i : grid0.Coords) (v0 : Elt F .i32) (k0_hw1 : k0_chk1 i v0) (k0_t1 : Fin (k0_t1_loop v0).trips) : P F (Σ' (v462 : BitVec 32), BitVec 32) :=
  fetchP i v0 k0_hw1 k0_t1 (wait0 i v0 k0_hw1 k0_t1 >>= fun _ => pure (words31 arg0 v37 c0_i32_36 c1_i32_35 c0_i32_37 c1_i32_39 v0 k0_t1))

set_option maxRecDepth 65536 in
theorem part31_eq (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 : BitVec 32) (v0 : Elt F .i32) (k0_hw1 : k0_chk1 i v0) (v17 v35 v37 c1_i32_35 c0_i32_36 c0_i32_37 c1_i32_39 : BitVec 32) (k0_t1 : Fin (k0_t1_loop v0).trips) :
    k0_part31 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 c1_i32_35 c0_i32_36 c0_i32_37 c1_i32_39 k0_t1
      = part31P arg0 v37 c1_i32_35 c0_i32_36 c0_i32_37 c1_i32_39 i v0 k0_hw1 k0_t1 := rfl

/-- The branch, then `K`. -/
def singleJ {α : Type} (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h6 : k0_cond6 v0 k0_t1 = 1#1) (K : P F α) : P F α := do
      let ⟨v515, v544⟩ : Σ' (v515 : Elt F .f32), Vec F S512x512 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v462 v474 k0_h6
      let ⟨v572, v575⟩ : Σ' (v572 : Vec F S512x512 .f32), FVec F S512x512 .fp8e5m2 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v544
      let v610 : FVec F S512x512 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v572 v575
      k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v610
      let ⟨v670, v673⟩ : Σ' (v670 : Vec F S512x512 .f32), FVec F S512x512 .fp8e5m2 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515
      let ⟨v698, v705, v706⟩ : Σ' (v698 : Vec F S512x512 .f32) (v705 : FVec F S512x512 .f32), FVec F S512x512 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v670 v673
      k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515 v698 v705 v706
      let ⟨v768, v770⟩ : Σ' (v768 : Vec F S512x512 .f32), Vec F S1x1x512x512 .fp8e5m2 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h6 v515
      let v773 : Vec F S1x1x512x512 .fp8e4m3 ← Prog.lift (.load arg13 (Rect.unit (s := S2x2x2560x512) (k0_off55 i v0 k0_t1) S1x1x512x512.size (k0_off55_inb i v0 k0_hw1 k0_t1 k0_h6)).toLoadRect (View.loadsAt_vmem h_S1x1x512x512))
      let v779 : Vec F S512x512 .f32 ← Prog.lift (.load arg11 (Rect.unit (s := S2048x2560) ![1536, 1536] S512x512.size inb_S2048x2560_S512x512_1536_1536).toLoadRect (View.loadsAt_vmem h_S512x512))
      Prog.lift (.store arg11 (Rect.unit (s := S2048x2560) ![1536, 1536] S512x512.size inb_S2048x2560_S512x512_1536_1536) (k0_pay186 v515 v768 v770 v773) Finset.univ (View.stores_vmem_bits_univ h_S512x512 rfl) (.inl rfl))
      let v782 : Vec F S512x512 .f32 ← Prog.lift (.load arg11 (Rect.unit (s := S2048x2560) ![1536, 2048] S512x512.size inb_S2048x2560_S512x512_1536_2048).toLoadRect (View.loadsAt_vmem h_S512x512))
      let v784 : Vec F S1x1x512x512 .fp8e5m2 ← Prog.lift (.load arg12 (Rect.unit (s := S2x2x2048x512) (k0_off59 i v0 k0_t1) S1x1x512x512.size (k0_off59_inb i v0 k0_hw1 k0_t1 k0_h6)).toLoadRect (View.loadsAt_vmem h_S1x1x512x512))
      let v787 : Vec F S1x1x512x512 .fp8e4m3 ← Prog.lift (.load arg13 (Rect.unit (s := S2x2x2560x512) (k0_off56 i v0 k0_t1) S1x1x512x512.size (k0_off56_inb i v0 k0_hw1 k0_t1 k0_h6)).toLoadRect (View.loadsAt_vmem h_S1x1x512x512))
      let v793 : Vec F S512x512 .f32 ← Prog.lift (.load arg11 (Rect.unit (s := S2048x2560) ![1536, 2048] S512x512.size inb_S2048x2560_S512x512_1536_2048).toLoadRect (View.loadsAt_vmem h_S512x512))
      Prog.lift (.store arg11 (Rect.unit (s := S2048x2560) ![1536, 2048] S512x512.size inb_S2048x2560_S512x512_1536_2048) (k0_pay187 v515 v782 v784 v787) Finset.univ (View.stores_vmem_bits_univ h_S512x512 rfl) (.inl rfl))
      K

set_option maxRecDepth 65536 in
theorem singleJ_eq {α : Type} (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h6 : k0_cond6 v0 k0_t1 = 1#1) (K : P F α) :
    singleJ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h6 K = (single_prog i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h6 >>= fun _ => K) := rfl

/-- The branch, then `K`. -/
def scaledJ {α : Type} (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h7 : k0_cond7 v0 k0_t1 = 1#1) (K : P F α) : P F α := do
      let ⟨v522, v528⟩ : Σ' (v522 : FVec F S1x512 .bf16), FVec F S512x512 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 v35 k0_t1 v462 v474 k0_h7
      k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v528
      let ⟨v584, v611, v612⟩ : Σ' (v584 : FVec F S512x512 .bf16) (v611 : FVec F S512x512 .f32), Vec F S512x512 .f32 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v522
      let ⟨v640, v641, v645⟩ : Σ' (v640 : FVec F S512x512 .bf16) (v641 : Vec F S512x512 .f32), FVec F S512x512 .bf16 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v522 v584 v611 v612
      let v677 : FVec F S512x512 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v640 v641 v645
      let ⟨v696, v707⟩ : Σ' (v696 : FVec F S512x512 .bf16), Vec F S512x512 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v522 v640 v677
      let ⟨v737, v741⟩ : Σ' (v737 : Vec F S512x512 .f32), FVec F S512x512 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h7 v696 v707
      let v744 : Vec F S512x512 .f32 ← Prog.lift (.load arg11 (Rect.unit (s := S2048x2560) ![1536, 2048] S512x512.size inb_S2048x2560_S512x512_1536_2048).toLoadRect (View.loadsAt_vmem h_S512x512))
      Prog.lift (.store arg11 (Rect.unit (s := S2048x2560) ![1536, 2048] S512x512.size inb_S2048x2560_S512x512_1536_2048) (k0_pay188 v696 v737 v741) Finset.univ (View.stores_vmem_bits_univ h_S512x512 rfl) (.inl rfl))
      K

set_option maxRecDepth 65536 in
theorem scaledJ_eq {α : Type} (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h7 : k0_cond7 v0 k0_t1 = 1#1) (K : P F α) :
    scaledJ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h7 K = (scaled_prog i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h7 >>= fun _ => K) := rfl

/-- The branch, then `K`. -/
def pairJ {α : Type} (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h5 : k0_cond5 v0 k0_t1 = 1#1) (K : P F α) : P F α := do
      let ⟨v535, v539, v546⟩ : Σ' (v535 : Elt F .f32) (v539 : Elt F .f32), FVec F S512x512 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v35 k0_t1 v462 v474 k0_h5
      let ⟨v570, v577, v578, v579⟩ : Σ' (v570 : FVec F S512x512 .f32) (v577 : FVec F S512x512 .f32) (v578 : Vec F S512x512 .f32), FVec F S512x512 .f32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v546
      let v614 : FVec F S512x512 .fp8e5m2 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v570 v577 v578 v579
      let ⟨v642, v645⟩ : Σ' (v642 : FVec F S512x512 .f32), FVec F S512x512 .fp8e5m2 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v614
      let ⟨v680, v681⟩ : Σ' (v680 : FVec F S512x512 .f32), Vec F S512x512 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v642 v645
      let v714 : FVec F S512x512 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v680 v681
      let ⟨v738, v745, v746⟩ : Σ' (v738 : FVec F S512x512 .f32) (v745 : FVec F S512x512 .f32), Vec F S512x512 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v714
      let v781 : Vec F S1x1x512x512 .fp8e5m2 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v738 v745 v746
      let ⟨v810, v813⟩ : Σ' (v810 : FVec F S512x512 .f32), FVec F S512x512 .fp8e5m2 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v781
      let v848 : FVec F S512x512 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v810 v813
      let ⟨v878, v881, cst_714⟩ : Σ' (v878 : FVec F S512x512 .fp8e5m2) (v881 : FVec F S512x512 .fp8e4m3), FVec F S512x512 .f32 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v848
      let ⟨v906, v913⟩ : Σ' (v906 : FVec F S512x512 .f32), FVec F S512x512 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v878 v881 cst_714
      k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v906 v913
      let ⟨v978, v981⟩ : Σ' (v978 : FVec F S512x512 .f32), FVec F S512x512 .fp8e5m2 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539
      let v1016 : FVec F S512x512 .f32 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v0 k0_hw1 k0_t1 v474 k0_h5 v535 v539 v978 v981
      let v1017 : Vec F S512x512 .f32 ← Prog.lift (.load arg11 (Rect.unit (s := S2048x2560) ![1536, 2048] S512x512.size inb_S2048x2560_S512x512_1536_2048).toLoadRect (View.loadsAt_vmem h_S512x512))
      Prog.lift (.store arg11 (Rect.unit (s := S2048x2560) ![1536, 2048] S512x512.size inb_S2048x2560_S512x512_1536_2048) (k0_pay185 v1016) Finset.univ (View.stores_vmem_bits_univ h_S512x512 rfl) (.inl rfl))
      K

set_option maxRecDepth 65536 in
theorem pairJ_eq {α : Type} (i : grid0.Coords) (arg1 : Memref sig .tc .smem S8 .i32) (harg1 : arg1.IsWhole) (arg2 : Memref sig .tc .smem S1 .i32) (harg2 : arg2.IsWhole) (arg3 : Memref sig .tc .smem S20 .f32) (harg3 : arg3.IsWhole) (arg4 : Memref sig .tc .hbm S8192x10240 .fp8e5m2) (harg4 : arg4.IsWhole) (arg5 : Memref sig .tc .hbm S2560x10240 .fp8e4m3) (harg5 : arg5.IsWhole) (arg6 : Memref sig .tc .vmem S1x10240 .f32) (harg6 : arg6.IsWhole) (arg7 : Memref sig .tc .hbm S8192x384 .bf16) (harg7 : arg7.IsWhole) (arg8 : Memref sig .tc .hbm S5x2560x256 .bf16) (harg8 : arg8.IsWhole) (arg9 : Memref sig .tc .vmem S2048x1 .f32) (harg9 : arg9.IsWhole) (arg10 : Memref sig .tc .hbm S8192x2560 .bf16) (harg10 : arg10.IsWhole) (arg11 : Memref sig .tc .vmem S2048x2560 .f32) (harg11 : arg11.IsWhole) (arg12 : Memref sig .tc .vmem S2x2x2048x512 .fp8e5m2) (harg12 : arg12.IsWhole) (arg13 : Memref sig .tc .vmem S2x2x2560x512 .fp8e4m3) (harg13 : arg13.IsWhole) (arg14 : Memref sig .tc .vmem S2048x384 .bf16) (harg14 : arg14.IsWhole) (arg15 : Memref sig .tc .vmem S2x2560x256 .bf16) (harg15 : arg15.IsWhole) (arg16 : Memref sig .tc .vmem S2048x2560 .bf16) (harg16 : arg16.IsWhole) (arg17 : DmaSems sig S2x2) (arg18 : DmaSems sig S_) (arg19 : DmaSems sig S_) (arg0 : BitVec 32) (v0 : Elt F .i32) (k0_hw1 : k0_chk1 i v0) (v17 : BitVec 32) (v35 : BitVec 32) (v37 : BitVec 32) (k0_t1 : Fin (k0_t1_loop v0).trips) (v462 v474 : BitVec 32) (k0_h5 : k0_cond5 v0 k0_t1 = 1#1) (K : P F α) :
    pairJ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h5 K = (pair_prog i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg0 v0 k0_hw1 v17 v35 v37 k0_t1 v462 v474 k0_h5 >>= fun _ => K) := rfl

/-- The branches of a trip. -/
def branches (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 : BitVec 32) (v0 : Elt F .i32) (k0_hw1 : k0_chk1 i v0) (v17 v35 v37 : BitVec 32) (k0_t1 : Fin (k0_t1_loop v0).trips) (p : Σ' (v462 : BitVec 32), BitVec 32) : P F Unit :=
  have K7 : Unit → P F Unit := fun _ => pure ⟨⟩
  have K6 : Unit → P F Unit := fun _ => if k0_h7 : k0_cond7 v0 k0_t1 = 1#1 then scaledJ i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 k0_t1 p.1 p.2 k0_h7 (K7 ⟨⟩) else K7 ⟨⟩
  have K5 : Unit → P F Unit := fun _ => if k0_h6 : k0_cond6 v0 k0_t1 = 1#1 then singleJ i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 k0_t1 p.1 p.2 k0_h6 (K6 ⟨⟩) else K6 ⟨⟩
  if k0_h5 : k0_cond5 v0 k0_t1 = 1#1 then pairJ i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 k0_t1 p.1 p.2 k0_h5 (K5 ⟨⟩) else K5 ⟨⟩

set_option maxRecDepth 65536 in
theorem trip_eq (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 : BitVec 32) (v0 : Elt F .i32) (k0_hw1 : k0_chk1 i v0) (v17 v35 v37 v67 c1_i32_35 : BitVec 32) (k0_t1 : Fin (k0_t1_loop v0).trips) (x : Unit) :
    k0_t1_body i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 v67 c1_i32_35 k0_t1 x
      = (k0_part31 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 c1_i32_35 0#32 0#32 1#32 k0_t1 >>= fun p => wait1 i v0 k0_hw1 k0_t1 >>= fun _ => branches i a3 ha3 a6 ha6 a9 ha9 arg0 v0 k0_hw1 v17 v35 v37 k0_t1 p) := rfl

end Cert.KernelIdeal.Hand

end
-- ==== Proof.Trip.lean ====
/- The proof of one trip: it keeps the slots as the next step wants them and leaves the accumulator with
   the trip's units added. -/
module

public import proofs.«01_k».proof.Proof.TripProg

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD) (dyp : B F c main_arg0) (wp' : B F c main_arg1) (n : Fin 21)

/-- The first half of the slot of step `s`, before it. -/
def half0 (s : ℕ) : sProp (MM F) :=
  if s < 4 * nT n then flyS c dyp wp' (sl s) 0 (ptOf n s) (uo n (trOf n s)) 0 else freeS c dyp wp' (sl s) 0
/-- The second half of the slot of step `s`, before it. -/
def half1 (s : ℕ) : sProp (MM F) :=
  if s < 4 * nT n ∧ pr n (trOf n s) then flyS c dyp wp' (sl s) 1 (ptOf n s) (uo n (trOf n s) + 1) 0 else freeS c dyp wp' (sl s) 1

/-- The slots before step `s`. -/
def St (s : ℕ) : sProp (MM F) :=
  iprop(half0 c dyp wp' n s ∗ half1 c dyp wp' n s ∗ freeS c dyp wp' (sl (s + 1)) 0 ∗ freeS c dyp wp' (sl (s + 1)) 1)

/-- The accumulator after step `s`, from the accumulator before it. -/
def tripF (d3 : Vec F S20 .f32) (d6 : Vec F S1x10240 .f32) (s : ℕ) (f : B F c cc0_scratch0) : B F c cc0_scratch0 :=
  if pr n (trOf n s) then
    pairF c (us d3 (uo n (trOf n s))) (us d3 (uo n (trOf n s) + 1)) dyp wp' (sl s) (ptOf n s) (uo n (trOf n s)) f
  else if trOf n s < nf n then
    singleF c (us d3 (uo n (trOf n s))) dyp wp' (sl s) (ptOf n s) (uo n (trOf n s)) f
  else scaledF c (row d6 (uo n (trOf n s))) dyp wp' (sl s) (ptOf n s) (uo n (trOf n s)) f

theorem ptOf_mod (s : ℕ) (h : s < 4 * nT n) : ptOf n s % 4 = ptOf n s :=
  Nat.mod_eq_of_lt (Nat.div_lt_of_lt_mul (Nat.mul_comm 4 _ ▸ h))
theorem uo_mod (s : ℕ) : uo n (trOf n s) % 20 = uo n (trOf n s) :=
  Nat.mod_eq_of_lt (uo_lt n ⟨s % nT n, Nat.mod_lt _ (nT_pos n)⟩)
theorem uo1_mod (s : ℕ) (h : pr n (trOf n s)) : (uo n (trOf n s) + 1) % 20 = uo n (trOf n s) + 1 :=
  Nat.mod_eq_of_lt (uo_succ_lt n ⟨s % nT n, Nat.mod_lt _ (nT_pos n)⟩ h)

theorem trip_lt (k : Trip n) : k.val < nT n := lt_of_lt_of_eq k.isLt (trips1 n)
theorem pt_at (j : Fin 4) (k : Trip n) : ptOf n (j.val * nT n + k.val) = j.val := by
  show (j.val * nT n + k.val) / nT n = j.val
  rw [Nat.mul_comm, Nat.mul_add_div (nT_pos n), Nat.div_eq_of_lt (trip_lt n k), Nat.add_zero]
theorem tr_at (j : Fin 4) (k : Trip n) : trOf n (j.val * nT n + k.val) = k.val := by
  show (j.val * nT n + k.val) % nT n = k.val
  rw [Nat.mul_comm, Nat.mul_add_mod, Nat.mod_eq_of_lt (trip_lt n k)]
theorem step_lt (j : Fin 4) (k : Trip n) : j.val * nT n + k.val < 4 * nT n := by
  have h := trip_lt n k
  have hj : j.val * nT n ≤ 3 * nT n := Nat.mul_le_mul_right _ (by omega)
  omega

/-- The filling of the next step's slot. -/
theorem wp_fetchP (j : Fin 4) (k : Trip n) (hw : k0_chk1 (crd j) (wd n)) {α : Type} (K : P F α) (Q : α → sProp (MM F)) :
    iprop(freeS c dyp wp' (sl (j.val * nT n + k.val + 1)) 0 ∗ freeS c dyp wp' (sl (j.val * nT n + k.val + 1)) 1)
      ⊢ iprop((iprop(half0 c dyp wp' n (j.val * nT n + k.val + 1) ∗ half1 c dyp wp' n (j.val * nT n + k.val + 1)) -∗ WP c K Q)
        -∗ WP c (fetchP (crd j) (wd n) hw k K) Q) := by
  unfold fetchP
  iintro ⟨H0, H1⟩ Hk
  by_cases h3 : k0_cond3 (crd j) (wd n) k = 1#1
  · have hs := (cond3_iff j n k).1 h3
    rw [dif_pos h3]
    iapply (wp_fetch c dyp wp' (sl (j.val * nT n + k.val + 1)) 0 (ptOf n (j.val * nT n + k.val + 1)) (uo n (trOf n (j.val * nT n + k.val + 1)))
      _ _ _ _ _ _ _ _ _ _ _ _ _ _ _ _ (off10_eq j n k) (off11_eq j n k)
      ((off12_eq j n k hs).trans (by rw [ptOf_mod n _ hs, uo_mod n])) (off10_eq j n k) (off13_eq j n k)
      ((off14_eq j n k).trans (by rw [uo_mod n])) _ Q) $$ H0
    iintro H0
    by_cases h4 : k0_cond4 (wd n) k = 1#1
    · have hp := (cond4_iff j n k).1 h4
      rw [dif_pos h4]
      iapply (wp_fetch c dyp wp' (sl (j.val * nT n + k.val + 1)) 1 (ptOf n (j.val * nT n + k.val + 1)) (uo n (trOf n (j.val * nT n + k.val + 1)) + 1)
        _ _ _ _ _ _ _ _ _ _ _ _ _ _ _ _ (off15_eq j n k) (off16_eq j n k)
        ((off17_eq j n k hs hp).trans (by rw [ptOf_mod n _ hs, uo1_mod n _ hp])) (off15_eq j n k) (off18_eq j n k)
        ((off19_eq j n k hp).trans (by rw [uo1_mod n _ hp])) _ Q) $$ H1
      iintro H1
      iapply Hk
      unfold half0 half1
      rw [if_pos hs, if_pos (show _ ∧ _ from ⟨hs, hp⟩)]
      isplitl [H0] <;> iassumption
    · rw [dif_neg h4]
      have hp : ¬ pr n (trOf n (j.val * nT n + k.val + 1)) := fun h => h4 ((cond4_iff j n k).2 h)
      iapply Hk
      unfold half0 half1
      rw [if_pos hs, if_neg (fun h : _ ∧ _ => hp h.2)]
      isplitl [H0] <;> iassumption
  · rw [dif_neg h3]
    have hs : ¬ j.val * nT n + k.val + 1 < 4 * nT n := fun h => h3 ((cond3_iff j n k).2 h)
    iapply Hk
    unfold half0 half1
    rw [if_neg hs, if_neg (fun h : _ ∧ _ => hs h.1)]
    isplitl [H0] <;> iassumption

/-- The first part of a trip. -/
theorem wp_part31P (j : Fin 4) (k : Trip n) (hw : k0_chk1 (crd j) (wd n)) (a b d e f g : BitVec 32) (Q) :
    iprop(freeS c dyp wp' (sl (j.val * nT n + k.val + 1)) 0 ∗ freeS c dyp wp' (sl (j.val * nT n + k.val + 1)) 1
        ∗ flyS c dyp wp' (sl (j.val * nT n + k.val)) 0 j.val (uo n k.val) 0 ∗ idle c)
      ⊢ iprop((∀ p, iprop((half0 c dyp wp' n (j.val * nT n + k.val + 1) ∗ half1 c dyp wp' n (j.val * nT n + k.val + 1))
          ∗ flyS c dyp wp' (sl (j.val * nT n + k.val)) 0 j.val (uo n k.val) (amt 0) ∗ idle c) -∗ Q p)
        -∗ WP c (part31P a b d e f g (crd j) (wd n) hw k) Q) := by
  unfold part31P
  iintro ⟨H0, H1, Hf, Hi⟩ Hk
  iapply (wp_fetchP c dyp wp' n j k hw _ Q) $$ [H0 H1]
  · isplitl [H0] <;> iassumption
  iintro Hh
  iapply (wpb c _ _ _)
  unfold wait0
  iapply (wp_dyWait c dyp wp' (sl (j.val * nT n + k.val)) 0 j.val (uo n k.val) _ _ _ _ _ _ _ _ (off20_eq j n k) _) $$ [Hf Hi]
  · isplitl [Hf] <;> iassumption
  iintro ⟨Hf, Hi⟩
  iapply (le_wp_ret _ _ _ _ _)
  iapply Hk
  isplitl [Hh]; · iexact Hh
  isplitl [Hf] <;> iassumption

theorem wp_neg {P : Prop} [Decidable P] {α : Type} (hP : ¬ P) (p : P → Hand.P F α) (K : Hand.P F α) (Q : α → sProp (MM F)) :
    WP c K Q ⊢ WP c (if h : P then p h else K) Q := by rw [dif_neg hP]
theorem wp_pos {P : Prop} [Decidable P] {α : Type} (hP : P) (p : P → Hand.P F α) (K : Hand.P F α) (Q : α → sProp (MM F)) :
    WP c (p hP) Q ⊢ WP c (if h : P then p h else K) Q := by rw [dif_pos hP]

set_option maxRecDepth 65536 in
/-- The branch of a pair of units by its waits, its scales and its tiles. -/
theorem pair_eq' (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 : BitVec 32) (v0 : Elt F .i32) (k0_hw1 : k0_chk1 i v0) (v17 v35 v37 : BitVec 32) (k0_t1 : Fin (k0_t1_loop v0).trips) (v462 v474 : BitVec 32) (k0_h5 : k0_cond5 v0 k0_t1 = 1#1) :
    pair_prog i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 k0_t1 v462 v474 k0_h5
      = (dyWait (k0_off25 i v0 k0_t1) (k0_off25_inb i v0 k0_hw1 k0_t1 k0_h5) (k0_off26 i v0 k0_t1) (k0_off26_inb i v0 k0_hw1 k0_t1 k0_h5) (k0_off27 i v0 k0_t1) (k0_off27_inb i v0 k0_hw1 k0_t1 k0_h5)
      ((Memref.isWhole_whole _).wordExact_slice rfl _ (k0_off27_wordsfp8e5m2 i v0 k0_hw1 k0_t1 k0_h5)) (((Memref.isWhole_whole _).wordExact_slice rfl _ (k0_off26_wordsfp8e5m2 i v0 k0_hw1 k0_t1 k0_h5)).reshape _ _) >>= fun _ =>
        wWait (k0_off25 i v0 k0_t1) (k0_off25_inb i v0 k0_hw1 k0_t1 k0_h5) (k0_off28 i v0 k0_t1) (k0_off28_inb i v0 k0_hw1 k0_t1 k0_h5) (k0_off29 v0 k0_t1) (k0_off29_inb i v0 k0_hw1 k0_t1 k0_h5)
      ((Memref.isWhole_whole _).wordExact_slice rfl _ (k0_off29_wordsfp8e4m3 i v0 k0_hw1 k0_t1 k0_h5)) (((Memref.isWhole_whole _).wordExact_slice rfl _ (k0_off28_wordsfp8e4m3 i v0 k0_hw1 k0_t1 k0_h5)).reshape _ _) >>= fun _ =>
        smemLoad (p := .tc) a3 (Rect.unit (s := S20) (k0_off30 v0 k0_t1) S1.size (k0_off30_inb i v0 k0_hw1 k0_t1 k0_h5)) numel1_S1 rfl >>= fun s0 =>
        smemLoad (p := .tc) a3 (Rect.unit (s := S20) (k0_off31 v0 k0_t1) S1.size (k0_off31_inb i v0 k0_hw1 k0_t1 k0_h5)) numel1_S1 rfl >>= fun s1 =>
        seqP (pairTile M11 M12 M13 s0 s1 (pD0 i v0 k0_t1) (pD1 i v0 k0_t1) (pW0 i v0 k0_t1) (pW1 i v0 k0_t1) (pD0_in i v0 k0_hw1 k0_t1 k0_h5) (pD1_in i v0 k0_hw1 k0_t1 k0_h5) (pW0_in i v0 k0_hw1 k0_t1 k0_h5) (pW1_in i v0 k0_hw1 k0_t1 k0_h5)) tiles) :=
  (pair_eq i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 k0_t1 v462 v474 k0_h5).trans rfl

/-- One trip. -/
theorem wp_trip (j : Fin 4) (k : Trip n) (hw : k0_chk1 (crd j) (wd n)) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 v17 v35 v37 v67 one : BitVec 32) (x : Unit)
    (q3 q6 : PosShare TreeShare) (d3 : Vec F S20 .f32) (d6 : Vec F S1x10240 .f32) (f : B F c cc0_scratch0) (Q : Unit → sProp (MM F)) :
    iprop(St c dyp wp' n (j.val * nT n + k.val) ∗ idle c ∗ owns (c : Thread nD τ) a3 q3 d3 ∗ owns (c : Thread nD τ) a6 q6 d6 ∗ accPt c f)
      ⊢ iprop((iprop(St c dyp wp' n (j.val * nT n + k.val + 1) ∗ idle c ∗ owns (c : Thread nD τ) a3 q3 d3 ∗ owns (c : Thread nD τ) a6 q6 d6
            ∗ accPt c (tripF c dyp wp' n d3 d6 (j.val * nT n + k.val) f)) -∗ Q ⟨⟩)
        -∗ WP c (k0_t1_body (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 (wd n) hw v17 v35 v37 v67 one k x) Q) := by
  rw [trip_eq, part31_eq]
  unfold St
  iintro ⟨⟨H0, H1, Hf0, Hf1⟩, Hi, H3, H6, Ha⟩ Hk
  have hs := step_lt n j k
  have ept := pt_at n j k
  have etr := tr_at n j k
  iapply (wpb c _ _ _)
  have ehalf0 : half0 c dyp wp' n (j.val * nT n + k.val) = flyS c dyp wp' (sl (j.val * nT n + k.val)) 0 j.val (uo n k.val) 0 := by
    unfold half0; rw [if_pos hs, ept, etr]
  ihave H0 := (Entails.of_eq ehalf0) $$ H0
  iapply (wp_part31P c dyp wp' n j k hw _ _ _ _ _ _ _) $$ [H0 Hf0 Hf1 Hi]
  · isplitl [Hf0]; · iexact Hf0
    isplitl [Hf1]; · iexact Hf1
    isplitl [H0] <;> iassumption
  iintro %p ⟨⟨G0, G1⟩, Hf, Hi⟩
  iapply (wpb c _ _ _)
  unfold wait1
  iapply (wp_wWait c dyp wp' (sl (j.val * nT n + k.val)) 0 j.val (uo n k.val) _ _ _ _ _ _ _ _ (off20_eq j n k) _) $$ [Hf Hi]
  · isplitl [Hf] <;> iassumption
  iintro ⟨Hh, Hi⟩
  have uo1 := uo_mod n (j.val * nT n + k.val)
  rw [etr] at uo1
  unfold branches
  by_cases hp : pr n k.val
  · -- a pair of units
    have hlt : k.val < nf n := by
      have h : k.val < n.val / 2 := hp
      show k.val < (n.val + 1) / 2
      omega
    have h5 := (cond5_iff n k).2 hp
    have h6 : ¬ k0_cond6 (wd n) k = 1#1 := fun h => ((cond6_iff n k).1 h).1 hp
    have h7 : ¬ k0_cond7 (wd n) k = 1#1 := fun h => absurd ((cond7_iff n k).1 h) (Nat.not_le.2 hlt)
    have uo2 := uo1_mod n (j.val * nT n + k.val) (by rw [etr]; exact hp)
    rw [etr] at uo2
    have ehalf1 : half1 c dyp wp' n (j.val * nT n + k.val) = flyS c dyp wp' (sl (j.val * nT n + k.val)) 1 j.val (uo n k.val + 1) 0 := by
      unfold half1; rw [if_pos ⟨hs, by rw [etr]; exact hp⟩, ept, etr]
    ihave H1 := (Entails.of_eq ehalf1) $$ H1
    iapply (wp_pos c h5 _ _ _)
    rw [pairJ_eq, pair_eq']
    iapply (wpb c _ _ _)
    iapply (wpb c _ _ _)
    iapply (wp_dyWait c dyp wp' (sl (j.val * nT n + k.val)) 1 j.val (uo n k.val + 1) _ _ _ _ _ _ _ _ (off25_eq j n k) _) $$ [H1 Hi]
    · isplitl [H1] <;> iassumption
    iintro ⟨H1, Hi⟩
    iapply (wpb c _ _ _)
    iapply (wp_wWait c dyp wp' (sl (j.val * nT n + k.val)) 1 j.val (uo n k.val + 1) _ _ _ _ _ _ _ _ (off25_eq j n k) _) $$ [H1 Hi]
    · isplitl [H1] <;> iassumption
    iintro ⟨H1, Hi⟩
    iapply (wpb c _ _ _)
    iapply (wp_us c a3 q3 d3 (uo n k.val) _ _ _ _ ((off30_eq n k hp).trans (by rw [uo1])) _) $$ H3
    iintro H3
    iapply (wpb c _ _ _)
    iapply (wp_us c a3 q3 d3 (uo n k.val + 1) _ _ _ _ ((off31_eq n k hp).trans (by rw [uo2])) _) $$ H3
    iintro H3
    iapply (wp_pairSeq c dyp wp' _ _ (sl (j.val * nT n + k.val)) j.val (uo n k.val) _ _ _ _ _ _ _ _ (pD0_eq j n k) (pD1_eq j n k) (pW0_eq j n k) (pW1_eq j n k) f _) $$ [Hh H1 Ha]
    · isplitl [Hh]; · iexact Hh
      isplitl [H1] <;> iassumption
    iintro ⟨Hh, H1, Ha⟩
    iapply (wp_neg c h6 _ _ _)
    iapply (wp_neg c h7 _ _ _)
    iapply (le_wp_ret _ _ _ _ _)
    iapply Hk
    rw [show tripF c dyp wp' n d3 d6 (j.val * nT n + k.val) f = pairF c (us d3 (uo n k.val)) (us d3 (uo n k.val + 1)) dyp wp' (sl (j.val * nT n + k.val)) j.val (uo n k.val) f from by
      unfold tripF; rw [ept, etr, if_pos hp]]
    isplitl [G0 G1 Hh H1]
    · rw [show sl (j.val * nT n + k.val + 1 + 1) = sl (j.val * nT n + k.val) from sl_two _]
      isplitl [G0]; · iexact G0
      isplitl [G1]; · iexact G1
      isplitl [Hh]
      · iapply (here_free c dyp wp' _ _ _ _) $$ Hh
      · iapply (here_free c dyp wp' _ _ _ _) $$ H1
    isplitl [Hi]; · iexact Hi
    isplitl [H3]; · iexact H3
    isplitl [H6] <;> iassumption
  · have h5 : ¬ k0_cond5 (wd n) k = 1#1 := fun h => hp ((cond5_iff n k).1 h)
    have ehalf1 : half1 c dyp wp' n (j.val * nT n + k.val) = freeS c dyp wp' (sl (j.val * nT n + k.val)) 1 := by
      unfold half1; rw [if_neg (fun h : _ ∧ _ => hp (etr ▸ h.2))]
    ihave H1 := (Entails.of_eq ehalf1) $$ H1
    iapply (wp_neg c h5 _ _ _)
    by_cases hlt : k.val < nf n
    · -- a single unit
      have h6 := (cond6_iff n k).2 ⟨hp, hlt⟩
      have h7 : ¬ k0_cond7 (wd n) k = 1#1 := fun h => absurd ((cond7_iff n k).1 h) (Nat.not_le.2 hlt)
      iapply (wp_pos c h6 _ _ _)
      rw [singleJ_eq, single_eq]
      iapply (wpb c _ _ _)
      iapply (wpb c _ _ _)
      iapply (wp_us c a3 q3 d3 (uo n k.val) _ _ _ _ ((off50_eq n k hlt).trans (by rw [uo1])) _) $$ H3
      iintro H3
      iapply (wp_singleSeq c dyp wp' _ (sl (j.val * nT n + k.val)) j.val (uo n k.val) _ _ _ _ (sD_eq j n k) (sW_eq j n k) f _) $$ [Hh Ha]
      · isplitl [Hh] <;> iassumption
      iintro ⟨Hh, Ha⟩
      iapply (wp_neg c h7 _ _ _)
      iapply (le_wp_ret _ _ _ _ _)
      iapply Hk
      rw [show tripF c dyp wp' n d3 d6 (j.val * nT n + k.val) f = singleF c (us d3 (uo n k.val)) dyp wp' (sl (j.val * nT n + k.val)) j.val (uo n k.val) f from by
        unfold tripF; rw [ept, etr, if_neg hp, if_pos hlt]]
      isplitl [G0 G1 Hh H1]
      · rw [show sl (j.val * nT n + k.val + 1 + 1) = sl (j.val * nT n + k.val) from sl_two _]
        isplitl [G0]; · iexact G0
        isplitl [G1]; · iexact G1
        isplitl [Hh]
        · iapply (here_free c dyp wp' _ _ _ _) $$ Hh
        · iexact H1
      isplitl [Hi]; · iexact Hi
      isplitl [H3]; · iexact H3
      isplitl [H6] <;> iassumption
    · -- a unit with a scale per column
      have h6 : ¬ k0_cond6 (wd n) k = 1#1 := fun h => hlt ((cond6_iff n k).1 h).2
      have h7 := (cond7_iff n k).2 (Nat.not_lt.1 hlt)
      iapply (wp_neg c h6 _ _ _)
      iapply (wp_pos c h7 _ _ _)
      rw [scaledJ_eq, scaled_eq]
      iapply (wpb c _ _ _)
      iapply (wpb c _ _ _)
      iapply (wp_row c a6 q6 d6 (uo n k.val) _ _ _ ((off60_eq n k (Nat.not_lt.1 hlt)).trans (by rw [uo1])) _) $$ H6
      iintro H6
      iapply (wp_scaledSeq c dyp wp' _ (sl (j.val * nT n + k.val)) j.val (uo n k.val) _ _ _ _ (bD_eq j n k) (bW_eq j n k) f _) $$ [Hh Ha]
      · isplitl [Hh] <;> iassumption
      iintro ⟨Hh, Ha⟩
      iapply (le_wp_ret _ _ _ _ _)
      iapply Hk
      rw [show tripF c dyp wp' n d3 d6 (j.val * nT n + k.val) f = scaledF c (row d6 (uo n k.val)) dyp wp' (sl (j.val * nT n + k.val)) j.val (uo n k.val) f from by
        unfold tripF; rw [ept, etr, if_neg hp, if_neg hlt]]
      isplitl [G0 G1 Hh H1]
      · rw [show sl (j.val * nT n + k.val + 1 + 1) = sl (j.val * nT n + k.val) from sl_two _]
        isplitl [G0]; · iexact G0
        isplitl [G1]; · iexact G1
        isplitl [Hh]
        · iapply (here_free c dyp wp' _ _ _ _) $$ Hh
        · iexact H1
      isplitl [Hi]; · iexact Hi
      isplitl [H3]; · iexact H3
      isplitl [H6] <;> iassumption

end

end Cert.KernelIdeal.Hand

end
-- ==== Proof.BodyProg.lean ====
/- The kernel body in its pieces: the first filling of a slot, the copies of the blocks of t3 and a2, the
   loops over the units, the twenty tiles of the result, and the copy of the result out. -/
module

public import proofs.«01_k».proof.Proof.Trip

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The elements `o, o + 2560 × 256` of a2. -/
abbrev A2In (o : Fin 3 → ℕ) : Prop := ∀ a : Fin S5x2560x256.rank, o a + S1x2560x256.size a ≤ S5x2560x256.size a

theorem a2Dst_in (b : Fin 2) : ∀ a : Fin S2x2560x256.rank, (![b.val, 0, 0] : Fin 3 → ℕ) a + S1x2560x256.size a ≤ S2x2560x256.size a := by
  revert b; decide

/-- The block of a2 at an offset. -/
abbrev a2SrcAt (o : Fin 3 → ℕ) (h : ∀ a : Fin S5x2560x256.rank, o a + S1x2560x256.size a ≤ S5x2560x256.size a) : Memref sig .tc .hbm S2560x256 .bf16 :=
  (M8.slice (Rect.unit (s := S5x2560x256) o S1x2560x256.size h) (fun _ => rfl)).squeeze S2560x256 squeezes_S1x2560x256_S2560x256
/-- The place of a block of a2. -/
abbrev a2Dst (b : Fin 2) : Memref sig .tc .vmem S2560x256 .bf16 :=
  (M15.slice (Rect.unit (s := S2x2560x256) ![b.val, 0, 0] S1x2560x256.size (a2Dst_in b)) (fun _ => rfl)).squeeze S2560x256 squeezes_S1x2560x256_S2560x256

theorem a2Dst_words (b : Fin 2) : (a2Dst b).view.WordExact := by
  revert b; intro b
  match b with
  | 0 => exact ((Memref.isWhole_whole _).wordExact_slice rfl _ wordsbf16_S2x2560x256_S1x2560x256_0_0_0).reshape _ _
  | 1 => exact ((Memref.isWhole_whole _).wordExact_slice rfl _ wordsbf16_S2x2560x256_S1x2560x256_1_0_0).reshape _ _

/-- The block of t3 at an offset. -/
abbrev t3SrcAt (o : Fin 2 → ℕ) (h : ∀ a : Fin S8192x384.rank, o a + S2048x384.size a ≤ S8192x384.size a) : Memref sig .tc .hbm S2048x384 .bf16 :=
  M7.slice (Rect.unit (s := S8192x384) o S2048x384.size h) (fun _ => rfl)
/-- The block of the result at an offset. -/
abbrev dxDstAt (o : Fin 2 → ℕ) (h : ∀ a : Fin S8192x2560.rank, o a + S2048x2560.size a ≤ S8192x2560.size a) : Memref sig .tc .hbm S2048x2560 .bf16 :=
  M10.slice (Rect.unit (s := S8192x2560) o S2048x2560.size h) (fun _ => rfl)
/-- The semaphore of the copies of t3 and a2. -/
abbrev upSem : DmaSem sig := cc0_scratch7.sem
/-- The semaphore of the copy of the result. -/
abbrev outSem : DmaSem sig := cc0_scratch8.sem

/-- The issue of the copy of a block of a2. -/
def a2Enq (b : Fin 2) (o : Fin 3 → ℕ) (h : A2In o) (h1 : (a2SrcAt o h).view.WordExact) : P F Unit :=
  Prog.lift (.enqueueDma (a2SrcAt o h) (.here (a2Dst b)) (.dma upSem) h1 (a2Dst_words b) ⟨Or.inl rfl, trivial⟩)
/-- The wait for the copy of a block of a2. -/
def a2Wait (b : Fin 2) (o : Fin 3 → ℕ) (h : A2In o) (h1 : (a2SrcAt o h).view.WordExact) : P F Unit :=
  Prog.lift (.waitDma2 upSem (a2SrcAt o h) (a2Dst b) h1 (a2Dst_words b))
/-- The issue of the copy of a block of t3. -/
def t3Enq (o : Fin 2 → ℕ) (h) (h1 : (t3SrcAt o h).view.WordExact) : P F Unit :=
  Prog.lift (.enqueueDma (t3SrcAt o h) (.here M14) (.dma upSem) h1 (Memref.isWhole_whole _).wordExact ⟨Or.inl rfl, trivial⟩)
/-- The wait for the copy of a block of t3. -/
def t3Wait (o : Fin 2 → ℕ) (h) (h1 : (t3SrcAt o h).view.WordExact) : P F Unit :=
  Prog.lift (.waitDma2 upSem (t3SrcAt o h) M14 h1 (Memref.isWhole_whole _).wordExact)
/-- The issue of the copy of the result. -/
def outEnq (o : Fin 2 → ℕ) (h) (h1 : (dxDstAt o h).view.WordExact) : P F Unit :=
  Prog.lift (.enqueueDma M16 (.here (dxDstAt o h)) (.dma outSem) (Memref.isWhole_whole _).wordExact h1 ⟨Or.inl rfl, trivial⟩)
/-- The wait for the copy of the result. -/
def outWait (o : Fin 2 → ℕ) (h) (h1 : (dxDstAt o h).view.WordExact) : P F Unit :=
  Prog.lift (.waitDma2 outSem M16 (dxDstAt o h) (Memref.isWhole_whole _).wordExact h1)

/-! ## The tiles of the result -/

theorem t3A_in : ∀ (r : Fin 4) (a : Fin S2048x384.rank), (![rowAt r, 0] : Fin 2 → ℕ) a + S512x256.size a ≤ S2048x384.size a := by decide
theorem t3B_in : ∀ (r : Fin 4) (a : Fin S2048x384.rank), (![rowAt r, 256] : Fin 2 → ℕ) a + S512x128.size a ≤ S2048x384.size a := by decide
theorem a2A_in : ∀ (b : Fin 2) (k : Fin 5) (a : Fin S2x2560x256.rank), (![b.val, colAt k, 0] : Fin 3 → ℕ) a + S1x512x256.size a ≤ S2x2560x256.size a := by decide
theorem a2B_in : ∀ (b : Fin 2) (k : Fin 5) (a : Fin S2x2560x256.rank), (![b.val, colAt k, 0] : Fin 3 → ℕ) a + S1x512x128.size a ≤ S2x2560x256.size a := by decide
theorem dys_in : ∀ (r : Fin 4) (a : Fin S2048x1.rank), (![rowAt r, 0] : Fin 2 → ℕ) a + S512x1.size a ≤ S2048x1.size a := by decide

/-- Which of the two blocks of a2 a row of tiles uses. -/
def bAt : Fin 4 → Fin 2 := ![0, 0, 1, 1]

/-- The rectangles of one tile's operands. -/
abbrev t3A (r : Fin 4) : Rect S2048x384 := Rect.unit (s := S2048x384) ![rowAt r, 0] S512x256.size (t3A_in r)
abbrev t3B (r : Fin 4) : Rect S2048x384 := Rect.unit (s := S2048x384) ![rowAt r, 256] S512x128.size (t3B_in r)
abbrev a2A (r : Fin 4) (k : Fin 5) : Rect S2x2560x256 := Rect.unit (s := S2x2560x256) ![(bAt r).val, colAt k, 0] S1x512x256.size (a2A_in (bAt r) k)
abbrev a2B (r : Fin 4) (k : Fin 5) : Rect S2x2560x256 := Rect.unit (s := S2x2560x256) ![(bAt r).val, colAt k, 0] S1x512x128.size (a2B_in (bAt r) k)
abbrev dysR (r : Fin 4) : Rect S2048x1 := Rect.unit (s := S2048x1) ![rowAt r, 0] S512x1.size (dys_in r)
abbrev outR (r : Fin 4) (k : Fin 5) : Rect S2048x2560 := Rect.unit (s := S2048x2560) ![rowAt r, colAt k] S512x512.size (inbAcc r k)

theorem out_stores (r : Fin 4) (k : Fin 5) : (M16.access (outR r k)).Stores Finset.univ := by
  fin_cases r <;> fin_cases k
  · exact View.stores_vmem h_S512x512 ((Memref.isWhole_whole _).storeExact_slice rfl _ packedbf16_S2048x2560_S512x512_0_0) (fun _ => rfl)
  · exact View.stores_vmem h_S512x512 ((Memref.isWhole_whole _).storeExact_slice rfl _ packedbf16_S2048x2560_S512x512_0_512) (fun _ => rfl)
  · exact View.stores_vmem h_S512x512 ((Memref.isWhole_whole _).storeExact_slice rfl _ packedbf16_S2048x2560_S512x512_0_1024) (fun _ => rfl)
  · exact View.stores_vmem h_S512x512 ((Memref.isWhole_whole _).storeExact_slice rfl _ packedbf16_S2048x2560_S512x512_0_1536) (fun _ => rfl)
  · exact View.stores_vmem h_S512x512 ((Memref.isWhole_whole _).storeExact_slice rfl _ packedbf16_S2048x2560_S512x512_0_2048) (fun _ => rfl)
  · exact View.stores_vmem h_S512x512 ((Memref.isWhole_whole _).storeExact_slice rfl _ packedbf16_S2048x2560_S512x512_512_0) (fun _ => rfl)
  · exact View.stores_vmem h_S512x512 ((Memref.isWhole_whole _).storeExact_slice rfl _ packedbf16_S2048x2560_S512x512_512_512) (fun _ => rfl)
  · exact View.stores_vmem h_S512x512 ((Memref.isWhole_whole _).storeExact_slice rfl _ packedbf16_S2048x2560_S512x512_512_1024) (fun _ => rfl)
  · exact View.stores_vmem h_S512x512 ((Memref.isWhole_whole _).storeExact_slice rfl _ packedbf16_S2048x2560_S512x512_512_1536) (fun _ => rfl)
  · exact View.stores_vmem h_S512x512 ((Memref.isWhole_whole _).storeExact_slice rfl _ packedbf16_S2048x2560_S512x512_512_2048) (fun _ => rfl)
  · exact View.stores_vmem h_S512x512 ((Memref.isWhole_whole _).storeExact_slice rfl _ packedbf16_S2048x2560_S512x512_1024_0) (fun _ => rfl)
  · exact View.stores_vmem h_S512x512 ((Memref.isWhole_whole _).storeExact_slice rfl _ packedbf16_S2048x2560_S512x512_1024_512) (fun _ => rfl)
  · exact View.stores_vmem h_S512x512 ((Memref.isWhole_whole _).storeExact_slice rfl _ packedbf16_S2048x2560_S512x512_1024_1024) (fun _ => rfl)
  · exact View.stores_vmem h_S512x512 ((Memref.isWhole_whole _).storeExact_slice rfl _ packedbf16_S2048x2560_S512x512_1024_1536) (fun _ => rfl)
  · exact View.stores_vmem h_S512x512 ((Memref.isWhole_whole _).storeExact_slice rfl _ packedbf16_S2048x2560_S512x512_1024_2048) (fun _ => rfl)
  · exact View.stores_vmem h_S512x512 ((Memref.isWhole_whole _).storeExact_slice rfl _ packedbf16_S2048x2560_S512x512_1536_0) (fun _ => rfl)
  · exact View.stores_vmem h_S512x512 ((Memref.isWhole_whole _).storeExact_slice rfl _ packedbf16_S2048x2560_S512x512_1536_512) (fun _ => rfl)
  · exact View.stores_vmem h_S512x512 ((Memref.isWhole_whole _).storeExact_slice rfl _ packedbf16_S2048x2560_S512x512_1536_1024) (fun _ => rfl)
  · exact View.stores_vmem h_S512x512 ((Memref.isWhole_whole _).storeExact_slice rfl _ packedbf16_S2048x2560_S512x512_1536_1536) (fun _ => rfl)
  · exact View.stores_vmem h_S512x512 ((Memref.isWhole_whole _).storeExact_slice rfl _ packedbf16_S2048x2560_S512x512_1536_2048) (fun _ => rfl)

/-- One tile of the result. -/
def outTile (a9 : Memref sig .tc .vmem S2048x1 .f32) (p : Fin 4 × Fin 5) : P F Unit := do
  let x0 : Vec F S512x256 .bf16 ← Prog.lift (.load M14 (t3A p.1).toLoadRect (View.loadsAt_vmem h_S512x256))
  let x1 : Vec F S1x512x256 .bf16 ← Prog.lift (.load M15 (a2A p.1 p.2).toLoadRect (View.loadsAt_vmem h_S1x512x256))
  let x2 : Vec F S512x128 .bf16 ← Prog.lift (.load M14 (t3B p.1).toLoadRect (View.loadsAt_vmem h_S512x128))
  let x3 : Vec F S1x512x128 .bf16 ← Prog.lift (.load M15 (a2B p.1 p.2).toLoadRect (View.loadsAt_vmem h_S1x512x128))
  let x4 : Vec F S512x512 .f32 ← ldAcc M11 p.1 p.2
  let x5 : Vec F S512x1 .f32 ← Prog.lift (.load a9 (dysR p.1).toLoadRect (View.loadsAt_vmem h_S512x1))
  let _ : Vec F S512x512 .bf16 ← Prog.lift (.load M16 (outR p.1 p.2).toLoadRect (View.loadsAt_vmem h_S512x512))
  Prog.lift (.store M16 (outR p.1 p.2) (k0_pay193 x0 x1 x2 x3 x4 x5) Finset.univ (out_stores p.1 p.2) (.inl rfl))

/-- The tiles of the result as printed, then `K`. -/
def outJ {α : Type} (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (K : P F α) : P F α := do
    let v123 : FVec F S512x512 .f32 ← k0_part66 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8
    let v152 : FVec F S512x512 .f32 ← k0_part67 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v123
    let ⟨v181, v182⟩ : Σ' (v181 : FVec F S512x512 .bf16), Vec F S512x512 .bf16 ← k0_part68 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v152
    let ⟨v206, v210⟩ : Σ' (v206 : FVec F S512x512 .f32), FVec F S512x512 .f32 ← k0_part69 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v181 v182
    let v239 : Vec F S512x256 .bf16 ← k0_part70 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v206 v210
    let ⟨v267, v269⟩ : Σ' (v267 : FVec F S512x512 .f32), FVec F S512x512 .f32 ← k0_part71 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v239
    let ⟨v296, v297⟩ : Σ' (v296 : FVec F S512x512 .f32), Vec F S512x128 .bf16 ← k0_part72 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v267 v269
    k0_part73 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v296 v297
    let ⟨v355, v356⟩ : Σ' (v355 : Vec F S512x512 .f32), FVec F S512x512 .f32 ← k0_part74 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8
    let v386 : FVec F S512x512 .f32 ← k0_part75 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v355 v356
    let v415 : FVec F S512x512 .bf16 ← k0_part76 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v386
    let ⟨v440, v441, v443, cst_406⟩ : Σ' (v440 : FVec F S512x512 .f32) (v441 : Vec F S512x128 .bf16) (v443 : FVec F S512x128 .bf16), FVec F S512x512 .f32 ← k0_part77 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 v415
    let v445 : Vec F S512x512 .f32 ← Prog.lift (.load M11 (Rect.unit (s := S2048x2560) ![1536, 2048] S512x512.size inb_S2048x2560_S512x512_1536_2048).toLoadRect (View.loadsAt_vmem h_S512x512))
    let v448 : Vec F S512x1 .f32 ← Prog.lift (.load a9 (Rect.unit (s := S2048x1) ![1536, 0] S512x1.size inb_S2048x1_S512x1_1536_0).toLoadRect (View.loadsAt_vmem h_S512x1))
    let v452 : Vec F S512x512 .bf16 ← Prog.lift (.load M16 (Rect.unit (s := S2048x2560) ![1536, 2048] S512x512.size inb_S2048x2560_S512x512_1536_2048).toLoadRect (View.loadsAt_vmem h_S512x512))
    Prog.lift (.store M16 (Rect.unit (s := S2048x2560) ![1536, 2048] S512x512.size inb_S2048x2560_S512x512_1536_2048) (k0_pay1 v440 v441 v443 cst_406 v445 v448) Finset.univ (View.stores_vmem h_S512x512 ((Memref.isWhole_whole _).storeExact_slice rfl _ packedbf16_S2048x2560_S512x512_1536_2048) (fun _ => rfl)) (.inl rfl))
    K

set_option maxRecDepth 65536 in
theorem outJ_eq {α : Type} (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (K : P F α) :
    outJ i a3 ha3 a6 ha6 a9 ha9 K = (seqP (outTile a9) tiles >>= fun _ => K) := rfl

/-! ## The parts -/

/-- The first filling of a slot, then `K`. -/
def firstP {α : Type} (i : grid0.Coords) (v0 : Elt F .i32) (k0_hw1 : k0_chk1 i v0) (K : P F α) : P F α :=
  if k0_h1 : k0_cond1 i = 1#1 then
    dyEnq ![0, 0] inb_S2x2_S1x1_0_0 ![0, 0, 0, 0] inb_S2x2x2048x512_S1x1x2048x512_0_0_0_0 (k0_off1 v0) (k0_off1_inb i v0 k0_hw1 k0_h1)
      ((Memref.isWhole_whole _).wordExact_slice rfl _ (k0_off1_wordsfp8e5m2 i v0 k0_hw1 k0_h1)) (((Memref.isWhole_whole _).wordExact_slice rfl _ wordsfp8e5m2_S2x2x2048x512_S1x1x2048x512_0_0_0_0).reshape _ _) >>= fun _ =>
    wEnq ![0, 0] inb_S2x2_S1x1_0_0 ![0, 0, 0, 0] inb_S2x2x2560x512_S1x1x2560x512_0_0_0_0 (k0_off2 v0) (k0_off2_inb i v0 k0_hw1 k0_h1)
      ((Memref.isWhole_whole _).wordExact_slice rfl _ (k0_off2_wordsfp8e4m3 i v0 k0_hw1 k0_h1)) (((Memref.isWhole_whole _).wordExact_slice rfl _ wordsfp8e4m3_S2x2x2560x512_S1x1x2560x512_0_0_0_0).reshape _ _) >>= fun _ =>
    (if k0_h2 : k0_cond2 v0 = 1#1 then
      dyEnq ![0, 1] inb_S2x2_S1x1_0_1 ![0, 1, 0, 0] inb_S2x2x2048x512_S1x1x2048x512_0_1_0_0 (k0_off3 v0) (k0_off3_inb i v0 k0_hw1 k0_h1 k0_h2)
      ((Memref.isWhole_whole _).wordExact_slice rfl _ (k0_off3_wordsfp8e5m2 i v0 k0_hw1 k0_h1 k0_h2)) (((Memref.isWhole_whole _).wordExact_slice rfl _ wordsfp8e5m2_S2x2x2048x512_S1x1x2048x512_0_1_0_0).reshape _ _) >>= fun _ =>
      wEnq ![0, 1] inb_S2x2_S1x1_0_1 ![0, 1, 0, 0] inb_S2x2x2560x512_S1x1x2560x512_0_1_0_0 (k0_off4 v0) (k0_off4_inb i v0 k0_hw1 k0_h1 k0_h2)
      ((Memref.isWhole_whole _).wordExact_slice rfl _ (k0_off4_wordsfp8e4m3 i v0 k0_hw1 k0_h1 k0_h2)) (((Memref.isWhole_whole _).wordExact_slice rfl _ wordsfp8e4m3_S2x2x2560x512_S1x1x2560x512_0_1_0_0).reshape _ _) >>= fun _ => K
    else K)
  else K

/-- The issues of the copies of t3 and a2 and the accumulator's clearing, then `K`. -/
def upP {α : Type} (i : grid0.Coords) (K : P F α) : P F α :=
  t3Enq (k0_off5 i) (k0_off5_inb i) ((Memref.isWhole_whole _).wordExact_slice rfl _ (k0_off5_wordsbf16 i)) >>= fun _ =>
  smemLoad (p := .tc) M1 (Rect.unit (s := S8) (k0_off6 i) S1.size (k0_off6_inb i)) numel1_S1 rfl >>= fun v47 => Prog.lift (TpuEff.assume (k0_chk2 v47) (k0_chk2.dec v47)) >>= fun h2 =>
  a2Enq 0 (k0_off7 v47) (k0_off7_inb v47 h2.down) (((Memref.isWhole_whole _).wordExact_slice rfl _ (k0_off7_wordsbf16 v47 h2.down)).reshape _ _) >>= fun _ =>
  smemLoad (p := .tc) M1 (Rect.unit (s := S8) (k0_off8 i) S1.size (k0_off8_inb i)) numel1_S1 rfl >>= fun v55 => Prog.lift (TpuEff.assume (k0_chk3 v55) (k0_chk3.dec v55)) >>= fun h3 =>
  a2Enq 1 (k0_off9 v55) (k0_off9_inb v55 h3.down) (((Memref.isWhole_whole _).wordExact_slice rfl _ (k0_off9_wordsbf16 v55 h3.down)).reshape _ _) >>= fun _ =>
  Prog.lift (.load M11 (Rect.unit (s := S2048x2560) ![0, 0] S2048x2560.size inb_S2048x2560_S2048x2560_0_0).toLoadRect (View.loadsAt_vmem h_S2048x2560)) >>= fun (_ : Vec F S2048x2560 .f32) =>
  Prog.lift (.store M11 (Rect.unit (s := S2048x2560) ![0, 0] S2048x2560.size inb_S2048x2560_S2048x2560_0_0) (k0_pay184 (F := F)) Finset.univ (View.stores_vmem_bits_univ h_S2048x2560 rfl) (.inl rfl)) >>= fun _ => K

/-- The waits for the copies of t3 and a2, then `K`. -/
def upWaitP {α : Type} (i : grid0.Coords) (K : P F α) : P F α :=
  t3Wait (k0_off130 i) (k0_off130_inb i) ((Memref.isWhole_whole _).wordExact_slice rfl _ (k0_off130_wordsbf16 i)) >>= fun _ =>
  smemLoad (p := .tc) M1 (Rect.unit (s := S8) (k0_off131 i) S1.size (k0_off131_inb i)) numel1_S1 rfl >>= fun v47 => Prog.lift (TpuEff.assume (k0_chk4 v47) (k0_chk4.dec v47)) >>= fun h2 =>
  a2Wait 0 (k0_off132 v47) (k0_off132_inb v47 h2.down) (((Memref.isWhole_whole _).wordExact_slice rfl _ (k0_off132_wordsbf16 v47 h2.down)).reshape _ _) >>= fun _ =>
  smemLoad (p := .tc) M1 (Rect.unit (s := S8) (k0_off133 i) S1.size (k0_off133_inb i)) numel1_S1 rfl >>= fun v55 => Prog.lift (TpuEff.assume (k0_chk5 v55) (k0_chk5.dec v55)) >>= fun h3 =>
  a2Wait 1 (k0_off134 v55) (k0_off134_inb v55 h3.down) (((Memref.isWhole_whole _).wordExact_slice rfl _ (k0_off134_wordsbf16 v55 h3.down)).reshape _ _) >>= fun _ => K

/-- The wait for the last point's copy of the result, then `K`. -/
def outWaitP {α : Type} (i : grid0.Coords) (K : P F α) : P F α :=
  if k0_h13 : k0_cond13 i = 1#1 then
    outWait (k0_off135 i) (k0_off135_inb i k0_h13) ((Memref.isWhole_whole _).wordExact_slice rfl _ (k0_off135_wordsbf16 i k0_h13)) >>= fun _ => K
  else K

/-- The issue of the copy of the result, and at the last point the wait for it. -/
def outP (i : grid0.Coords) : P F PUnit :=
  outEnq (k0_off136 i) (k0_off136_inb i) ((Memref.isWhole_whole _).wordExact_slice rfl _ (k0_off136_wordsbf16 i)) >>= fun _ =>
  if k0_h14 : k0_cond14 i = 1#1 then
    outWait (k0_off137 i) (k0_off137_inb i k0_h14) ((Memref.isWhole_whole _).wordExact_slice rfl _ (k0_off137_wordsbf16 i k0_h14)) >>= fun _ => pure ⟨⟩
  else pure ⟨⟩

/-- The word the body computes before the loop. -/
def word64 (v37 : BitVec 32) : Σ' (v67 : BitVec 32), BitVec 32 :=
  let v64 : BitVec 32 := Scalar.subi v37 0#32
  let v65 : BitVec 32 := Scalar.subi 1#32 1#32
  let v66 : BitVec 32 := Scalar.addi v64 v65
  let v67 : BitVec 32 := Scalar.divsi v66 1#32
  ⟨v67, 1#32⟩

set_option maxRecDepth 65536 in
theorem part64_eq (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 : BitVec 32) (v0 : Elt F .i32) (k0_hw1 : k0_chk1 i v0) (v17 v35 v37 v39 : BitVec 32) :
    k0_part64 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 v39 = firstP i v0 k0_hw1 (upP i (pure (word64 v37))) := rfl

/-- The word the body computes for the second loop. -/
def word72 (v67 : BitVec 32) : BitVec 32 :=
  let v68 : BitVec 32 := Scalar.subi v67 0#32
  let v70 : BitVec 32 := Scalar.divsi v68 1#32
  let v71 : BitVec 32 := Scalar.muli v70 1#32
  Scalar.addi 0#32 v71

set_option maxRecDepth 65536 in
theorem part65_eq (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 : BitVec 32) (v0 : Elt F .i32) (k0_hw1 : k0_chk1 i v0) (v17 v35 v37 v67 c1_i32_35 : BitVec 32) :
    k0_part65 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 v67 c1_i32_35 =
      (Scf.Loop.for (k0_t1_loop v0) (k0_t1_ok i v0 k0_hw1) ⟨⟩ (k0_t1_body i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 v67 c1_i32_35) >>= fun _ =>
       Scf.Loop.for (k0_t2_loop v0) (k0_t2_ok i v0 k0_hw1) ⟨⟩ (k0_t2_body i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 v0 k0_hw1 v17 v35 v37 v67 c1_i32_35 (word72 v67)) >>= fun _ =>
       upWaitP i (outWaitP i (pure ⟨⟩))) := rfl

set_option maxRecDepth 65536 in
theorem body_eq (i : grid0.Coords) (a3 : Memref sig .tc .smem S20 .f32) (ha3 : a3.IsWhole) (a6 : Memref sig .tc .vmem S1x10240 .f32) (ha6 : a6.IsWhole) (a9 : Memref sig .tc .vmem S2048x1 .f32) (ha9 : a9.IsWhole) :
    cc0_data_grad (F := F) i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 =
      (k0_part63 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 >>= fun p =>
       k0_part64 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 p.1 p.2.1 p.2.2.1 p.2.2.2.1 p.2.2.2.2.1 p.2.2.2.2.2.1 p.2.2.2.2.2.2 >>= fun q =>
       k0_part65 i M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 p.1 p.2.1 p.2.2.1 p.2.2.2.1 p.2.2.2.2.1 p.2.2.2.2.2.1 q.1 q.2 >>= fun _ =>
       outJ i a3 ha3 a6 ha6 a9 ha9 (outP i)) := rfl

end Cert.KernelIdeal.Hand

end
-- ==== Proof.Up.lean ====
/- The copies of the blocks of t3 and a2 of one grid point: three on one semaphore, waited for in order. -/
module

public import proofs.«01_k».proof.Proof.BodyProg

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem t3Src_in (j : ℕ) : ∀ a : Fin S8192x384.rank, (![2048 * (j % 4), 0] : Fin 2 → ℕ) a + S2048x384.size a ≤ S8192x384.size a := by
  intro a
  have h1 := Nat.mod_lt j (show 0 < 4 by decide)
  match a with
  | ⟨0, _⟩ => show 2048 * (j % 4) + 2048 ≤ 8192; omega
  | ⟨1, _⟩ => show 0 + 384 ≤ 384; omega
theorem a2Src_in (a : Fin 5) : A2In ![a.val, 0, 0] := by revert a; decide

/-- Block `j` of t3. -/
abbrev t3Src (j : ℕ) := t3SrcAt ![2048 * (j % 4), 0] (t3Src_in j)
/-- Block `a` of a2. -/
abbrev a2Src (a : Fin 5) := a2SrcAt ![a.val, 0, 0] (a2Src_in a)

/-- What the place of t3 holds once block `j` has arrived. -/
def t3Land {c : Dev nD} (t3 : B F c main_arg5) (j : ℕ) : B F c cc0_scratch3 :=
  M14.view.write (Elt F) (fun _ => default) ((t3Src j).view.read (Elt F) t3) Finset.univ
/-- What a place of a2 holds once block `a` has arrived. -/
def a2Land {c : Dev nD} (a2 : B F c main_arg6) (b : Fin 2) (a : Fin 5) : B F c cc0_scratch4 :=
  (a2Dst b).view.write (Elt F) (fun _ => default) ((a2Src a).view.read (Elt F) a2) Finset.univ

/-- The share of a2 a copy of it reads with. -/
abbrev tok6 (b : Fin 2) : PosShare TreeShare := Transfers.shareTokN fullShare b.val

section
variable (c : Dev nD)

/-- Elements of the place of t3. -/
abbrev tPt (S : Finset (Idx ((c : Thread nD τ).loc cc0_scratch3))) (f : B F c cc0_scratch3) : sProp (MM F) := ((c : Thread nD τ).loc cc0_scratch3) ↦[S]{fullShare} f
/-- Elements of the places of a2. -/
abbrev lPt (S : Finset (Idx ((c : Thread nD τ).loc cc0_scratch4))) (f : B F c cc0_scratch4) : sProp (MM F) := ((c : Thread nD τ).loc cc0_scratch4) ↦[S]{fullShare} f
/-- Elements of t3. -/
abbrev a5Pt (S : Finset (Idx ((c : Thread nD τ).loc main_arg5))) (f : B F c main_arg5) : sProp (MM F) := ((c : Thread nD τ).loc main_arg5) ↦[S]{fullShare} f
/-- Elements of a2. -/
abbrev a6Pt (q : PosShare TreeShare) (S : Finset (Idx ((c : Thread nD τ).loc main_arg6))) (f : B F c main_arg6) : sProp (MM F) := ((c : Thread nD τ).loc main_arg6) ↦[S]{q} f

/-- The elements of a place of a2. -/
abbrev a2Set (b : Fin 2) : Finset (Idx ((c : Thread nD τ).loc cc0_scratch4)) := (a2Dst b).view.set
/-- The elements of the place of t3. -/
abbrev t3Set : Finset (Idx ((c : Thread nD τ).loc cc0_scratch3)) := M14.view.set

variable (t3 : B F c main_arg5) (a2 : B F c main_arg6)

/-- What the three copies deliver. -/
def dlvU (j : ℕ) (a0 a1 : Fin 5) : Fin 3 → sProp (MM F) :=
  ![iprop(tPt c (t3Set c) (t3Land t3 j) ∗ a5Pt c (t3Src j).view.set t3),
    iprop(lPt c (a2Set c 0) (a2Land a2 0 a0) ∗ a6Pt c (tok6 0) (a2Src a0).view.set a2),
    iprop(lPt c (a2Set c 1) (a2Land a2 1 a1) ∗ a6Pt c (tok6 1) (a2Src a1).view.set a2)]

instance dlvU_storable (j : ℕ) (a0 a1 : Fin 5) (t : Fin 3) : Storable (upEmb : UEmb _ (MM F)) (dlvU c t3 a2 j a0 a1 t) := by
  fin_cases t
  · show Storable _ iprop(tPt c (t3Set c) (t3Land t3 j) ∗ a5Pt c (t3Src j).view.set t3); infer_instance
  · show Storable _ iprop(lPt c (a2Set c 0) (a2Land a2 0 a0) ∗ a6Pt c (tok6 0) (a2Src a0).view.set a2); infer_instance
  · show Storable _ iprop(lPt c (a2Set c 1) (a2Land a2 1 a1) ∗ a6Pt c (tok6 1) (a2Src a1).view.set a2); infer_instance

/-- The amounts of the three copies. -/
def amtU : Fin 3 → ℕ := ![M14.view.dmaCredit, (a2Dst 0).view.dmaCredit, (a2Dst 0).view.dmaCredit]

theorem amtU_pos : ∀ t, 0 < amtU t := by
  intro t; fin_cases t
  · exact View.dmaCredit_pos _ (by decide)
  · exact View.dmaCredit_pos _ (by decide)
  · exact View.dmaCredit_pos _ (by decide)

theorem a2Credit (b : Fin 2) : (a2Dst b).view.dmaCredit = (a2Dst 0).view.dmaCredit := rfl

/-- The batch of the three copies, `k` issued and `u` units waited for. -/
abbrev batchU (j : ℕ) (a0 a1 : Fin 5) (k u : ℕ) : sProp (MM F) :=
  Transfers.MixedBatch EC (c : Thread nD τ) (.dma upSem) () amtU (dlvU c t3 a2 j a0 a1) k u

/-- Nothing on the way. -/
def upFree : sProp (MM F) :=
  iprop(semVal ((c : Thread nD τ), .dma upSem) 0 ∗ (∃ f, tPt c (t3Set c) f) ∗ (∃ f, lPt c (a2Set c 0) f) ∗ (∃ f, lPt c (a2Set c 1) f)
    ∗ a5Pt c Finset.univ t3 ∗ a6Pt c (tok6 0) Finset.univ a2 ∗ a6Pt c (tok6 1) Finset.univ a2)

/-- What is not on the way while the copies are. -/
def upRest (j : ℕ) (a0 a1 : Fin 5) : sProp (MM F) :=
  iprop(a5Pt c (Finset.univ \ (t3Src j).view.set) t3 ∗ a6Pt c (tok6 0) (Finset.univ \ (a2Src a0).view.set) a2 ∗ a6Pt c (tok6 1) (Finset.univ \ (a2Src a1).view.set) a2)

/-- The three copies on the way. -/
def upFly (j : ℕ) (a0 a1 : Fin 5) : sProp (MM F) := iprop(batchU c t3 a2 j a0 a1 3 0 ∗ upRest c t3 a2 j a0 a1)

/-- The three blocks in place. -/
def upHere (j : ℕ) (a0 a1 : Fin 5) : sProp (MM F) :=
  iprop(semVal ((c : Thread nD τ), .dma upSem) 0 ∗ tPt c (t3Set c) (t3Land t3 j) ∗ lPt c (a2Set c 0) (a2Land a2 0 a0) ∗ lPt c (a2Set c 1) (a2Land a2 1 a1)
    ∗ a5Pt c Finset.univ t3 ∗ a6Pt c (tok6 0) Finset.univ a2 ∗ a6Pt c (tok6 1) Finset.univ a2)

theorem upHere_free (j : ℕ) (a0 a1 : Fin 5) : upHere c t3 a2 j a0 a1 ⊢ upFree c t3 a2 := by
  unfold upHere upFree
  iintro ⟨Hs, Ht, H0, H1, H5, H6, H7⟩
  isplitl [Hs]; · iexact Hs
  isplitl [Ht]; · iexists _; iexact Ht
  isplitl [H0]; · iexists _; iexact H0
  isplitl [H1]; · iexists _; iexact H1
  isplitl [H5]; · iexact H5
  isplitl [H6] <;> iassumption

theorem wp_t3Enq (j : ℕ) (a0 a1 : Fin 5) (o : Fin 2 → ℕ) (h) (h1) (e : o = ![2048 * (j % 4), 0]) (Q : Unit → sProp (MM F)) :
    iprop(a5Pt c (t3Src j).view.set t3 ∗ (∃ f, tPt c (t3Set c) f) ∗ batchU c t3 a2 j a0 a1 0 0)
      ⊢ iprop((batchU c t3 a2 j a0 a1 1 0 -∗ Q ⟨⟩) -∗ WP c (t3Enq o h h1) Q) := by
  subst e
  iintro ⟨Hs, ⟨%f, Hd⟩, Hb⟩ Hk
  iapply (Transfers.wp_dmaMixedBatch EC (defs := defs₀ (F := F)) Variants.none (c : Thread nD τ) none (n := 3) (via := .same)
    (src := t3Src j) (dst := M14) (fs := t3) (fd := f) (q := fullShare) () amtU (Finset.Subset.refl _) (show 0 < 3 by decide) rfl (Nat.zero_le _)
    (D := dlvU c t3 a2 j a0 a1) (j := 0) (u := 0)
    (by
      show iprop(_ ∗ _) ⊢ iprop(tPt c (t3Set c) (t3Land t3 j) ∗ a5Pt c (t3Src j).view.set t3)
      iintro ⟨Hd, Hs⟩
      isplitl [Hd]
      · iapply (Entails.of_eq (View.pointsTo_write_univ_congr (c := (c : Thread nD τ)) M14.view fullShare f (fun _ => default) _)) $$ Hd
      · iexact Hs)) $$ [Hs Hd Hb]
  · isplitl [Hs]; · iexact Hs
    isplitl [Hd] <;> iassumption
  iintro Hb
  iapply (le_wp_ret _ _ _ _ _)
  iapply Hk $$ Hb

theorem wp_a2Enq0 (j : ℕ) (a0 a1 : Fin 5) (o : Fin 3 → ℕ) (h) (h1) (e : o = ![a0.val, 0, 0]) (Q : Unit → sProp (MM F)) :
    iprop(a6Pt c (tok6 0) (a2Src a0).view.set a2 ∗ (∃ f, lPt c (a2Set c 0) f) ∗ batchU c t3 a2 j a0 a1 1 0)
      ⊢ iprop((batchU c t3 a2 j a0 a1 2 0 -∗ Q ⟨⟩) -∗ WP c (a2Enq 0 o h h1) Q) := by
  subst e
  iintro ⟨Hs, ⟨%f, Hd⟩, Hb⟩ Hk
  iapply (Transfers.wp_dmaMixedBatch EC (defs := defs₀ (F := F)) Variants.none (c : Thread nD τ) none (n := 3) (via := .same)
    (src := a2Src a0) (dst := a2Dst 0) (fs := a2) (fd := f) (q := tok6 0) () amtU (Finset.Subset.refl _) (show 1 < 3 by decide) rfl (Nat.zero_le _)
    (D := dlvU c t3 a2 j a0 a1) (j := 1) (u := 0)
    (by
      show iprop(_ ∗ _) ⊢ iprop(lPt c (a2Set c 0) (a2Land a2 0 a0) ∗ a6Pt c (tok6 0) (a2Src a0).view.set a2)
      iintro ⟨Hd, Hs⟩
      isplitl [Hd]
      · iapply (Entails.of_eq (View.pointsTo_write_univ_congr (c := (c : Thread nD τ)) (a2Dst 0).view fullShare f (fun _ => default) _)) $$ Hd
      · iexact Hs)) $$ [Hs Hd Hb]
  · isplitl [Hs]; · iexact Hs
    isplitl [Hd] <;> iassumption
  iintro Hb
  iapply (le_wp_ret _ _ _ _ _)
  iapply Hk $$ Hb

theorem wp_a2Enq1 (j : ℕ) (a0 a1 : Fin 5) (o : Fin 3 → ℕ) (h) (h1) (e : o = ![a1.val, 0, 0]) (Q : Unit → sProp (MM F)) :
    iprop(a6Pt c (tok6 1) (a2Src a1).view.set a2 ∗ (∃ f, lPt c (a2Set c 1) f) ∗ batchU c t3 a2 j a0 a1 2 0)
      ⊢ iprop((batchU c t3 a2 j a0 a1 3 0 -∗ Q ⟨⟩) -∗ WP c (a2Enq 1 o h h1) Q) := by
  subst e
  iintro ⟨Hs, ⟨%f, Hd⟩, Hb⟩ Hk
  iapply (Transfers.wp_dmaMixedBatch EC (defs := defs₀ (F := F)) Variants.none (c : Thread nD τ) none (n := 3) (via := .same)
    (src := a2Src a1) (dst := a2Dst 1) (fs := a2) (fd := f) (q := tok6 1) () amtU (Finset.Subset.refl _) (show 2 < 3 by decide) rfl (Nat.zero_le _)
    (D := dlvU c t3 a2 j a0 a1) (j := 2) (u := 0)
    (by
      show iprop(_ ∗ _) ⊢ iprop(lPt c (a2Set c 1) (a2Land a2 1 a1) ∗ a6Pt c (tok6 1) (a2Src a1).view.set a2)
      iintro ⟨Hd, Hs⟩
      isplitl [Hd]
      · iapply (Entails.of_eq (View.pointsTo_write_univ_congr (c := (c : Thread nD τ)) (a2Dst 1).view fullShare f (fun _ => default) _)) $$ Hd
      · iexact Hs)) $$ [Hs Hd Hb]
  · isplitl [Hs]; · iexact Hs
    isplitl [Hd] <;> iassumption
  iintro Hb
  iapply (le_wp_ret _ _ _ _ _)
  iapply Hk $$ Hb

theorem wp_t3Wait (j : ℕ) (a0 a1 : Fin 5) (o : Fin 2 → ℕ) (h) (h1) (Q : Unit → sProp (MM F)) :
    iprop(batchU c t3 a2 j a0 a1 3 0 ∗ idle c)
      ⊢ iprop((iprop(batchU c t3 a2 j a0 a1 3 (amtU 0) ∗ idle c) -∗ Q ⟨⟩) -∗ WP c (t3Wait o h h1) Q) := by
  unfold idle
  iintro ⟨HB, ⟨%W, HO⟩⟩ Hk
  iapply (Transfers.wp_waitMixedBatch EC (defs := defs₀ (F := F)) Variants.none (c : Thread nD τ) none (sem := upSem) () (A := amtU) (J := amtU 0)
    (dstw := M14) (srcw := t3SrcAt o h) rfl (D := dlvU c t3 a2 j a0 a1) (j := 3) (u := 0) (by rw [Nat.zero_add]; exact (Nat.le_add_right _ _).trans (Nat.le_add_right _ _)) (W := W)) $$ [HB HO]
  · isplitl [HB] <;> iassumption
  rw [Nat.zero_add]
  iintro ⟨HB, HO⟩
  iapply (le_wp_ret _ _ _ _ _)
  iapply Hk
  isplitl [HB]; · iexact HB
  iexists _; iexact HO

theorem wp_a2Wait0 (j : ℕ) (a0 a1 : Fin 5) (o : Fin 3 → ℕ) (h) (h1) (Q : Unit → sProp (MM F)) :
    iprop(batchU c t3 a2 j a0 a1 3 (amtU 0) ∗ idle c)
      ⊢ iprop((iprop(batchU c t3 a2 j a0 a1 3 (amtU 0 + amtU 1) ∗ idle c) -∗ Q ⟨⟩) -∗ WP c (a2Wait 0 o h h1) Q) := by
  unfold idle
  iintro ⟨HB, ⟨%W, HO⟩⟩ Hk
  iapply (Transfers.wp_waitMixedBatch EC (defs := defs₀ (F := F)) Variants.none (c : Thread nD τ) none (sem := upSem) () (A := amtU) (J := amtU 1)
    (dstw := a2Dst 0) (srcw := a2SrcAt o h) rfl (D := dlvU c t3 a2 j a0 a1) (j := 3) (u := amtU 0) (Nat.le_add_right _ _) (W := W)) $$ [HB HO]
  · isplitl [HB] <;> iassumption
  iintro ⟨HB, HO⟩
  iapply (le_wp_ret _ _ _ _ _)
  iapply Hk
  isplitl [HB]; · iexact HB
  iexists _; iexact HO

theorem bigSep_fin_three (f : Fin 3 → sProp (MM F)) : bigSep Finset.univ f = iprop(f 0 ∗ f 1 ∗ f 2) := by
  rw [BI.bigSep_eq_bigSepL_of_eq [0, 1, 2] (by decide) (by decide)]; rfl

theorem wp_a2Wait1 (j : ℕ) (a0 a1 : Fin 5) (o : Fin 3 → ℕ) (h) (h1) (Q : Unit → sProp (MM F)) :
    iprop(batchU c t3 a2 j a0 a1 3 (amtU 0 + amtU 1) ∗ upRest c t3 a2 j a0 a1 ∗ idle c)
      ⊢ iprop((iprop(upHere c t3 a2 j a0 a1 ∗ idle c) -∗ Q ⟨⟩) -∗ WP c (a2Wait 1 o h h1) Q) := by
  unfold idle upRest
  iintro ⟨HB, ⟨Hr5, Hr6, Hr7⟩, ⟨%W, HO⟩⟩ Hk
  iapply (Transfers.wp_waitMixedBatchAll EC (defs := defs₀ (F := F)) Variants.none (c : Thread nD τ) none (sem := upSem) () (A := amtU) (J := amtU 2)
    (dstw := a2Dst 1) (srcw := a2SrcAt o h) rfl amtU_pos (D := dlvU c t3 a2 j a0 a1) (u := amtU 0 + amtU 1) rfl (W := W)) $$ [HB HO]
  · isplitl [HB] <;> iassumption
  iintro ⟨HD, Hs, HO⟩
  iapply (le_wp_ret _ _ _ _ _)
  iapply Hk
  ihave HD' := (Entails.of_eq ((bigSep_fin_three (dlvU c t3 a2 j a0 a1)).trans (show _ = iprop(
      (tPt c (t3Set c) (t3Land t3 j) ∗ a5Pt c (t3Src j).view.set t3)
      ∗ (lPt c (a2Set c 0) (a2Land a2 0 a0) ∗ a6Pt c (tok6 0) (a2Src a0).view.set a2)
      ∗ (lPt c (a2Set c 1) (a2Land a2 1 a1) ∗ a6Pt c (tok6 1) (a2Src a1).view.set a2)) from rfl))) $$ HD
  icases HD' with ⟨⟨Ht, H5⟩, ⟨H0, H6⟩, ⟨H1, H7⟩⟩
  isplitr [HO]
  · unfold upHere
    isplitl [Hs]; · iexact Hs
    isplitl [Ht]; · iexact Ht
    isplitl [H0]; · iexact H0
    isplitl [H1]; · iexact H1
    isplitl [H5 Hr5]
    · iapply (pointsTo_split_subset (Finset.subset_univ (t3Src j).view.set)).2
      isplitl [H5] <;> iassumption
    isplitl [H6 Hr6]
    · iapply (pointsTo_split_subset (Finset.subset_univ (a2Src a0).view.set)).2
      isplitl [H6] <;> iassumption
    · iapply (pointsTo_split_subset (Finset.subset_univ (a2Src a1).view.set)).2
      isplitl [H7] <;> iassumption
  iexists _; iexact HO

/-! ## The tables -/

/-- The table of the adapters at `idn`. -/
def idsPt (q : PosShare TreeShare) (idn : Fin 8 → Fin 5) : sProp (MM F) :=
  iprop(∃ f : B F c main_arg8, ⌜∀ x : S8.Idx, M1.view.read (Elt F) f x = BitVec.ofNat 32 (idn (x 0)).val⌝ ∗ (((c : Thread nD τ).loc main_arg8) ↦{q} f))

/-- A read of the table of the adapters. -/
theorem wp_id (q : PosShare TreeShare) (idn : Fin 8 → Fin 5) (x : Fin 8) (o : Fin 1 → ℕ) (h) (h1) (hp) (eo : o = ![x.val])
    (Q : Elt F .i32 → sProp (MM F)) :
    idsPt c q idn
      ⊢ iprop((idsPt c q idn -∗ Q (BitVec.ofNat 32 (idn x).val))
        -∗ WP c (smemLoad (p := .tc) M1 (Rect.unit (s := S8) o S1.size h) h1 hp) Q) := by
  subst eo
  unfold idsPt smemLoad
  iintro ⟨%f, %hf, H⟩ Hk
  iapply (wp_smemLoadElt (defs := defs₀ (F := F)) Variants.none (c : Thread nD τ) none Set.univ (m := M1) (r := Rect.unit (s := S8) ![x.val] S1.size h)
    (hw := View.loads_smem_one hp h1) (x := Shape.Idx.first (h1.symm ▸ Nat.one_pos)) (k := .ret) (Finset.subset_univ _)) $$ H
  iintro H
  iapply (le_wp_ret _ _ _ _ _)
  have e : (M1.access (Rect.unit (s := S8) ![x.val] S1.size h)).read (Elt F) f (Shape.Idx.first (h1.symm ▸ Nat.one_pos)) = BitVec.ofNat 32 (idn x).val := by
    refine (hf _).trans ?_
    rfl
  rw [e]
  iapply Hk
  iexists f
  isplitr
  · ipureintro; exact hf
  iexact H

/-- The table of the number of single-scale units at `n`. -/
def nPt (q : PosShare TreeShare) (n : Fin 21) : sProp (MM F) :=
  iprop(∃ f : B F c main_arg2, ⌜∀ x : S1.Idx, M2.view.read (Elt F) f x = wd n⌝ ∗ (((c : Thread nD τ).loc main_arg2) ↦{q} f))

/-- A read of that table. -/
theorem wp_n (q : PosShare TreeShare) (n : Fin 21) (o : Fin 1 → ℕ) (h) (h1) (hp)
    (Q : Elt F .i32 → sProp (MM F)) :
    nPt c q n
      ⊢ iprop((nPt c q n -∗ Q (wd n))
        -∗ WP c (smemLoad (p := .tc) M2 (Rect.unit (s := S1) o S1.size h) h1 hp) Q) := by
  unfold nPt smemLoad
  iintro ⟨%f, %hf, H⟩ Hk
  iapply (wp_smemLoadElt (defs := defs₀ (F := F)) Variants.none (c : Thread nD τ) none Set.univ (m := M2) (r := Rect.unit (s := S1) o S1.size h)
    (hw := View.loads_smem_one hp h1) (x := Shape.Idx.first (h1.symm ▸ Nat.one_pos)) (k := .ret) (Finset.subset_univ _)) $$ H
  iintro H
  iapply (le_wp_ret _ _ _ _ _)
  have e : (M2.access (Rect.unit (s := S1) o S1.size h)).read (Elt F) f (Shape.Idx.first (h1.symm ▸ Nat.one_pos)) = wd n := hf _
  rw [e]
  iapply Hk
  iexists f
  isplitr
  · ipureintro; exact hf
  iexact H

/-- An assumption that holds. -/
theorem wp_as {P : Prop} {d : Decidable P} (h : P) (Q : PLift P → sProp (MM F)) : Q ⟨h⟩ ⊢ WP c (Prog.lift (TpuEff.assume P d)) Q := by
  refine BI.Entails.trans ?_ (wp_assume (defs := defs₀ (F := F)) Variants.none (c : Thread nD τ) none Set.univ h)
  exact le_wp_ret _ _ _ _ _

/-- The table's entries of a grid point. -/
def idx0 (j : Fin 4) : Fin 8 := ⟨2 * j.val, by omega⟩
def idx1 (j : Fin 4) : Fin 8 := ⟨2 * j.val + 1, by omega⟩

/-! ## The accumulator cleared -/

/-- The accumulator after it is cleared. -/
def acc0 : B F c cc0_scratch0 := k0_pay184 (F := F)

/-- The three copies are issued and the accumulator is cleared. -/
theorem wp_upP (j : Fin 4) (q : PosShare TreeShare) (idn : Fin 8 → Fin 5) (f : B F c cc0_scratch0) {α : Type} (K : P F α) (Q : α → sProp (MM F)) :
    iprop(upFree c t3 a2 ∗ idsPt c q idn ∗ accPt c f)
      ⊢ iprop((iprop(upFly c t3 a2 j.val (idn (idx0 j)) (idn (idx1 j)) ∗ idsPt c q idn ∗ accPt c (acc0 c)) -∗ WP c K Q)
        -∗ WP c (upP (crd j) K) Q) := by
  have hj : j.val % 4 = j.val := Nat.mod_eq_of_lt j.isLt
  unfold upFree upP
  iintro ⟨⟨Hs, Ht, H0, H1, H5, H6, H7⟩, Hi, Ha⟩ Hk
  imod (Transfers.mixedBatch_alloc' (Lvl := ℕ) (EC (F := F)) (c : Thread nD τ) () amtU (dlvU c t3 a2 j.val (idn (idx0 j)) (idn (idx1 j))) (sm := .dma upSem) (E := Set.univ)) $$ Hs with HB
  ihave H5' := (pointsTo_split_subset (Finset.subset_univ (t3Src j.val).view.set)).1 $$ H5
  icases H5' with ⟨H5, Hr5⟩
  ihave H6' := (pointsTo_split_subset (Finset.subset_univ (a2Src (idn (idx0 j))).view.set)).1 $$ H6
  icases H6' with ⟨H6, Hr6⟩
  ihave H7' := (pointsTo_split_subset (Finset.subset_univ (a2Src (idn (idx1 j))).view.set)).1 $$ H7
  icases H7' with ⟨H7, Hr7⟩
  iapply (wpb c _ _ _)
  iapply (wp_t3Enq c t3 a2 j.val (idn (idx0 j)) (idn (idx1 j)) _ _ _ ((off5_eq j).trans (by rw [hj])) _) $$ [H5 Ht HB]
  · isplitl [H5]; · iexact H5
    isplitl [Ht] <;> iassumption
  iintro HB
  iapply (wpb c _ _ _)
  iapply (wp_id c q idn (idx0 j) _ _ _ _ (off6_eq j) _) $$ Hi
  iintro Hi
  iapply (wpb c _ _ _)
  iapply (wp_as c (chk2_all _) _)
  iapply (wpb c _ _ _)
  iapply (wp_a2Enq0 c t3 a2 j.val (idn (idx0 j)) (idn (idx1 j)) _ _ _ (off7_eq _) _) $$ [H6 H0 HB]
  · isplitl [H6]; · iexact H6
    isplitl [H0] <;> iassumption
  iintro HB
  iapply (wpb c _ _ _)
  iapply (wp_id c q idn (idx1 j) _ _ _ _ (off8_eq j) _) $$ Hi
  iintro Hi
  iapply (wpb c _ _ _)
  iapply (wp_as c (chk3_all _) _)
  iapply (wpb c _ _ _)
  iapply (wp_a2Enq1 c t3 a2 j.val (idn (idx0 j)) (idn (idx1 j)) _ _ _ (off9_eq _) _) $$ [H7 H1 HB]
  · isplitl [H7]; · iexact H7
    isplitl [H1] <;> iassumption
  iintro HB
  iapply (wpb c _ _ _)
  iapply (wp_ld c M11 (Rect.unit (s := S2048x2560) ![0, 0] S2048x2560.size inb_S2048x2560_S2048x2560_0_0) _ (q := fullShare) (f := f) (Finset.subset_univ _) _) $$ Ha
  iintro Ha
  iapply (wpb c _ _ _)
  iapply (wp_st c M11 (Rect.unit (s := S2048x2560) ![0, 0] S2048x2560.size inb_S2048x2560_S2048x2560_0_0) _ _ _ (f := f) (Finset.subset_univ _) _) $$ Ha
  iintro Ha
  iapply Hk
  isplitr [Hi Ha]
  · unfold upFly upRest
    isplitl [HB]; · iexact HB
    isplitl [Hr5]; · iexact Hr5
    isplitl [Hr6] <;> iassumption
  isplitl [Hi]; · iexact Hi
  have e : (M11.access (Rect.unit (s := S2048x2560) ![0, 0] S2048x2560.size inb_S2048x2560_S2048x2560_0_0)).write (Elt F) f (k0_pay184 (F := F)) Finset.univ = acc0 c := by
    exact Memref.write_access_unit_zero_univ (Elt F) cc0_scratch0 (by decide) _ f _
  ihave Ha := (Entails.of_eq (congrArg (fun g => accPt c g) e)) $$ Ha
  iexact Ha

/-- The three copies are waited for. -/
theorem wp_upWaitP (j : Fin 4) (q : PosShare TreeShare) (idn : Fin 8 → Fin 5) {α : Type} (K : P F α) (Q : α → sProp (MM F)) :
    iprop(upFly c t3 a2 j.val (idn (idx0 j)) (idn (idx1 j)) ∗ idsPt c q idn ∗ idle c)
      ⊢ iprop((iprop(upHere c t3 a2 j.val (idn (idx0 j)) (idn (idx1 j)) ∗ idsPt c q idn ∗ idle c) -∗ WP c K Q)
        -∗ WP c (upWaitP (crd j) K) Q) := by
  unfold upFly upWaitP
  iintro ⟨⟨HB, Hr⟩, Hi, HO⟩ Hk
  iapply (wpb c _ _ _)
  iapply (wp_t3Wait c t3 a2 j.val (idn (idx0 j)) (idn (idx1 j)) _ _ _ _) $$ [HB HO]
  · isplitl [HB] <;> iassumption
  iintro ⟨HB, HO⟩
  iapply (wpb c _ _ _)
  iapply (wp_id c q idn (idx0 j) _ _ _ _ (off131_eq j) _) $$ Hi
  iintro Hi
  iapply (wpb c _ _ _)
  iapply (wp_as c (chk4_all _) _)
  iapply (wpb c _ _ _)
  iapply (wp_a2Wait0 c t3 a2 j.val (idn (idx0 j)) (idn (idx1 j)) _ _ _ _) $$ [HB HO]
  · isplitl [HB] <;> iassumption
  iintro ⟨HB, HO⟩
  iapply (wpb c _ _ _)
  iapply (wp_id c q idn (idx1 j) _ _ _ _ (off133_eq j) _) $$ Hi
  iintro Hi
  iapply (wpb c _ _ _)
  iapply (wp_as c (chk5_all _) _)
  iapply (wpb c _ _ _)
  iapply (wp_a2Wait1 c t3 a2 j.val (idn (idx0 j)) (idn (idx1 j)) _ _ _ _) $$ [HB HO Hr]
  · isplitl [HB]; · iexact HB
    isplitl [Hr] <;> iassumption
  iintro ⟨HH, HO⟩
  iapply Hk
  isplitl [HH]; · iexact HH
  isplitl [Hi] <;> iassumption

end

end Cert.KernelIdeal.Hand

end
-- ==== Proof.OutCopy.lean ====
/- The copy of the block of the result of one grid point, which is on its way while the next one runs. -/
module

public import proofs.«01_k».proof.Proof.Up

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-- Elements of the block of the result. -/
abbrev oPt (S : Finset (Idx ((c : Thread nD τ).loc cc0_scratch5))) (f : B F c cc0_scratch5) : sProp (MM F) := ((c : Thread nD τ).loc cc0_scratch5) ↦[S]{fullShare} f

/-! ## The copy out -/

theorem dxDst_in (j : ℕ) : ∀ a : Fin S8192x2560.rank, (![2048 * (j % 4), 0] : Fin 2 → ℕ) a + S2048x2560.size a ≤ S8192x2560.size a := by
  intro a
  have h1 := Nat.mod_lt j (show 0 < 4 by decide)
  match a with
  | ⟨0, _⟩ => show 2048 * (j % 4) + 2048 ≤ 8192; omega
  | ⟨1, _⟩ => show 0 + 2560 ≤ 2560; omega

/-- Block `j` of the result. -/
abbrev dxDst (j : ℕ) := dxDstAt ![2048 * (j % 4), 0] (dxDst_in j)

/-- Elements of the result. -/
abbrev xPt (S : Finset (Idx ((c : Thread nD τ).loc main_v0))) (f : B F c main_v0) : sProp (MM F) := ((c : Thread nD τ).loc main_v0) ↦[S]{fullShare} f
/-- The elements of a block of the result. -/
abbrev xSet (j : ℕ) : Finset (Idx ((c : Thread nD τ).loc main_v0)) := (dxDst j).view.set

/-- The result with block `j` replaced. -/
def dxPut {c : Dev nD} (j : ℕ) (o : B F c cc0_scratch5) (G : B F c main_v0) : B F c main_v0 :=
  (dxDst j).view.write (Elt F) G (M16.view.read (Elt F) o) Finset.univ

/-- What the copy delivers. -/
def dlvO (j : ℕ) (o : B F c cc0_scratch5) (G : B F c main_v0) : Fin 1 → sProp (MM F) :=
  fun _ => iprop(xPt c (xSet c j) G ∗ oPt c M16.view.set o)

instance dlvO_storable (j : ℕ) (o : B F c cc0_scratch5) (G : B F c main_v0) (t : Fin 1) : Storable (upEmb : UEmb _ (MM F)) (dlvO c j o G t) := by
  unfold dlvO; infer_instance

/-- The amount of the copy. -/
def amtO : Fin 1 → ℕ := fun _ => (dxDst 0).view.dmaCredit
theorem blk_pos : 0 < S2048x2560.numel := Shape.numel_pos (by decide)
theorem const_pos (x : ℕ) (h : 0 < x) : ∀ t : Fin 1, 0 < (fun _ => x : Fin 1 → ℕ) t := fun _ => h
theorem amtO_pos : ∀ t, 0 < amtO t := const_pos _ (View.dmaCredit_pos (dxDst 0).view blk_pos)

/-- The batch of the one copy. -/
abbrev batchO (j : ℕ) (o : B F c cc0_scratch5) (G : B F c main_v0) (k u : ℕ) : sProp (MM F) :=
  Transfers.MixedBatch EC (c : Thread nD τ) (.dma outSem) () amtO (dlvO c j o G) k u

/-- No copy on the way, the result at `G`. -/
def outIdle (G : B F c main_v0) : sProp (MM F) :=
  iprop(semVal ((c : Thread nD τ), .dma outSem) 0 ∗ (∃ f, oPt c Finset.univ f) ∗ xPt c Finset.univ G)
/-- The copy of block `j` on the way, after which the result is `G`. -/
def outFly (j : ℕ) (G : B F c main_v0) : sProp (MM F) :=
  iprop(∃ o, batchO c j o G 1 0 ∗ xPt c (Finset.univ \ xSet c j) G)
/-- Before grid point `j`. -/
def outSt (j : ℕ) (G : B F c main_v0) : sProp (MM F) := if 1 ≤ j ∧ j ≤ 3 then outFly c (j - 1) G else outIdle c G

theorem oPt_whole (f : B F c cc0_scratch5) : oPt c M16.view.set f = oPt c Finset.univ f := by
  have e : (M16.view.set : Finset S2048x2560.Idx) = Finset.univ := View.set_whole cc0_scratch5
  exact congrArg (fun S : Finset S2048x2560.Idx => oPt c S f) e

theorem wp_outEnq (j : ℕ) (f : B F c cc0_scratch5) (G : B F c main_v0) (o : Fin 2 → ℕ) (h) (h1) (e : o = ![2048 * (j % 4), 0]) (Q : Unit → sProp (MM F)) :
    iprop(semVal ((c : Thread nD τ), .dma outSem) 0 ∗ oPt c Finset.univ f ∗ xPt c Finset.univ G)
      ⊢ iprop((outFly c j (dxPut j f G) -∗ Q ⟨⟩) -∗ WP c (outEnq o h h1) Q) := by
  subst e
  iintro ⟨Hs, Ho, Hx⟩ Hk
  imod (Transfers.mixedBatch_alloc' (Lvl := ℕ) (EC (F := F)) (c : Thread nD τ) () amtO (dlvO c j f (dxPut j f G)) (sm := .dma outSem) (E := Set.univ)) $$ Hs with HB
  ihave Hx' := (pointsTo_split_subset (Finset.subset_univ (xSet c j))).1 $$ Hx
  icases Hx' with ⟨Hx, Hr⟩
  ihave Ho := (Entails.of_eq (oPt_whole c f).symm) $$ Ho
  iapply (Transfers.wp_dmaMixedBatch EC (defs := defs₀ (F := F)) Variants.none (c : Thread nD τ) none (n := 1) (via := .same)
    (src := M16) (dst := dxDst j) (fs := f) (fd := G) (q := fullShare) () amtO (Finset.Subset.refl _) (show 0 < 1 by decide) rfl (Nat.zero_le _)
    (D := dlvO c j f (dxPut j f G)) (j := 0) (u := 0)
    (by
      show iprop(_ ∗ _) ⊢ iprop(xPt c (xSet c j) (dxPut j f G) ∗ oPt c M16.view.set f)
      iintro ⟨Hd, Hs⟩
      isplitl [Hd]
      · iexact Hd
      · iexact Hs)) $$ [Hx Ho HB]
  · isplitl [Ho]; · iexact Ho
    isplitl [Hx] <;> iassumption
  iintro HB
  iapply (le_wp_ret _ _ _ _ _)
  iapply Hk
  unfold outFly
  iexists f
  isplitl [HB]; · iexact HB
  have e : xPt c (Finset.univ \ xSet c j) G = xPt c (Finset.univ \ xSet c j) (dxPut j f G) :=
    pointsTo_congr fun i hi => (View.write_of_not_mem _ _ _ (Finset.mem_sdiff.1 hi).2).symm
  ihave Hr := (Entails.of_eq e) $$ Hr
  iexact Hr

theorem wp_outWait (j : ℕ) (G : B F c main_v0) (o : Fin 2 → ℕ) (h) (h1) (Q : Unit → sProp (MM F)) :
    iprop(outFly c j G ∗ idle c)
      ⊢ iprop((iprop(outIdle c G ∗ idle c) -∗ Q ⟨⟩) -∗ WP c (outWait o h h1) Q) := by
  unfold outFly idle outIdle
  iintro ⟨⟨%f, HB, Hr⟩, ⟨%W, HO⟩⟩ Hk
  iapply (Transfers.wp_waitMixedBatchAll EC (defs := defs₀ (F := F)) Variants.none (c : Thread nD τ) none (sem := outSem) () (A := amtO) (J := amtO 0)
    (dstw := dxDstAt o h) (srcw := M16) rfl amtO_pos (D := dlvO c j f G) (u := 0) rfl (W := W)) $$ [HB HO]
  · isplitl [HB] <;> iassumption
  iintro ⟨HD, Hs, HO⟩
  iapply (le_wp_ret _ _ _ _ _)
  iapply Hk
  have e1 : bigSep Finset.univ (dlvO c j f G) = iprop(xPt c (xSet c j) G ∗ oPt c M16.view.set f) := by
    rw [BI.bigSep_eq_bigSepL_of_eq [0] (by decide) (by decide)]; rfl
  ihave HD' := (Entails.of_eq e1) $$ HD
  icases HD' with ⟨Hx, Ho⟩
  isplitr [HO]
  · isplitl [Hs]; · iexact Hs
    isplitl [Ho]
    · iexists f
      iapply (Entails.of_eq (oPt_whole c f)) $$ Ho
    · iapply (pointsTo_split_subset (Finset.subset_univ (xSet c j))).2
      isplitl [Hx] <;> iassumption
  iexists _; iexact HO

/-- The wait for the copy of the grid point before. -/
theorem wp_outWaitP (j : Fin 4) (G : B F c main_v0) {α : Type} (K : P F α) (Q : α → sProp (MM F)) :
    iprop(outSt c j.val G ∗ idle c)
      ⊢ iprop((iprop(outIdle c G ∗ idle c) -∗ WP c K Q) -∗ WP c (outWaitP (crd j) K) Q) := by
  unfold outSt outWaitP
  by_cases hj : j.val ≠ 0
  · have h13 := (cond13_iff j).2 hj
    rw [if_pos (show 1 ≤ j.val ∧ j.val ≤ 3 by omega), dif_pos h13]
    iintro H Hk
    iapply (wpb c _ _ _)
    iapply (wp_outWait c (j.val - 1) G _ _ _ _) $$ H
    iexact Hk
  · have h13 : ¬ k0_cond13 (crd j) = 1#1 := fun h => hj ((cond13_iff j).1 h)
    rw [if_neg (show ¬ (1 ≤ j.val ∧ j.val ≤ 3) by omega), dif_neg h13]
    iintro H Hk
    iapply Hk $$ H

/-- The copy out, waited for at the last grid point. -/
theorem wp_outP (j : Fin 4) (f : B F c cc0_scratch5) (G : B F c main_v0) (Q : PUnit → sProp (MM F)) :
    iprop((semVal ((c : Thread nD τ), .dma outSem) 0 ∗ oPt c Finset.univ f ∗ xPt c Finset.univ G) ∗ idle c)
      ⊢ iprop((iprop(outSt c (j.val + 1) (dxPut j.val f G) ∗ idle c) -∗ Q ⟨⟩) -∗ WP c (outP (crd j)) Q) := by
  have hj : j.val % 4 = j.val := Nat.mod_eq_of_lt j.isLt
  unfold outSt outP
  iintro ⟨H, HO⟩ Hk
  iapply (wpb c _ _ _)
  iapply (wp_outEnq c j.val f G _ _ _ ((off136_eq j).trans (by rw [hj])) _) $$ H
  iintro H
  by_cases h3 : j.val = 3
  · have h14 := (cond14_iff j).2 h3
    iapply (wp_pos c h14 _ _ _)
    iapply (wpb c _ _ _)
    iapply (wp_outWait c j.val (dxPut j.val f G) _ _ _ _) $$ [H HO]
    · isplitl [H] <;> iassumption
    iintro H
    iapply (le_wp_ret _ _ _ _ _)
    rw [if_neg (show ¬ (1 ≤ j.val + 1 ∧ j.val + 1 ≤ 3) by omega)]
    iapply Hk $$ H
  · have h14 : ¬ k0_cond14 (crd j) = 1#1 := fun h => h3 ((cond14_iff j).1 h)
    iapply (wp_neg c h14 _ _ _)
    iapply (le_wp_ret _ _ _ _ _)
    rw [if_pos (show 1 ≤ j.val + 1 ∧ j.val + 1 ≤ 3 by omega)]
    iapply Hk
    isplitl [H]
    · iexact H
    · iexact HO

end

end Cert.KernelIdeal.Hand

end
-- ==== Proof.OutTiles.lean ====
/- The tiles of the result of one grid point. -/
module

public import proofs.«01_k».proof.Proof.OutCopy

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The tiles -/

theorem a2Set_eq (c : Dev nD) (b : Fin 2) : a2Set c b = (Rect.unit (s := S2x2560x256) ![b.val, 0, 0] S1x2560x256.size (a2Dst_in b)).set := by
  show ((M15.view.slice _).reshape _ _).set = _
  rw [View.set_reshape, View.set_slice_whole]

theorem mem_a2Set (c : Dev nD) (b : Fin 2) (i : S2x2560x256.Idx) : i ∈ a2Set c b ↔ (i 0).val = b.val := by
  rw [a2Set_eq, Rect.mem_set_unit]
  constructor
  · intro H
    have h0 : b.val ≤ (i 0).val ∧ (i 0).val < b.val + 1 := H 0
    omega
  · rintro e0 a
    match a with
    | ⟨0, _⟩ => show b.val ≤ (i 0).val ∧ (i 0).val < b.val + 1; omega
    | ⟨1, _⟩ => exact ⟨Nat.zero_le _, by have := (i 1).isLt; show (i 1).val < 0 + 2560; exact (Nat.zero_add 2560).symm ▸ this⟩
    | ⟨2, _⟩ => exact ⟨Nat.zero_le _, by have := (i 2).isLt; show (i 2).val < 0 + 256; exact (Nat.zero_add 256).symm ▸ this⟩

theorem a2A_sub (c : Dev nD) (r : Fin 4) (k : Fin 5) : (M15.access (a2A r k)).set ⊆ a2Set c (bAt r) := by
  intro i hi
  rw [show (M15.access (a2A r k)).set = (a2A r k).set from View.set_slice_whole _ _] at hi
  rw [Rect.mem_set_unit] at hi
  refine (mem_a2Set c (bAt r) i).2 ?_
  have h0 : (bAt r).val ≤ (i 0).val ∧ (i 0).val < (bAt r).val + 1 := hi 0
  omega
theorem a2B_sub (c : Dev nD) (r : Fin 4) (k : Fin 5) : (M15.access (a2B r k)).set ⊆ a2Set c (bAt r) := by
  intro i hi
  rw [show (M15.access (a2B r k)).set = (a2B r k).set from View.set_slice_whole _ _] at hi
  rw [Rect.mem_set_unit] at hi
  refine (mem_a2Set c (bAt r) i).2 ?_
  have h0 : (bAt r).val ≤ (i 0).val ∧ (i 0).val < (bAt r).val + 1 := hi 0
  omega

/-- The row scales of a tile. -/
def rowD (d9 : Vec F S2048x1 .f32) (r : Fin 4) : Vec F S512x1 .f32 := fun x => d9 ((dysR r).emb x)

/-- A tile of the result from the blocks of t3, a2, the accumulator and the row scales. -/
def outVal {c : Dev nD} (f3 : B F c cc0_scratch3) (g : Fin 2 → B F c cc0_scratch4) (fa : B F c cc0_scratch0) (d9 : Vec F S2048x1 .f32)
    (p : Fin 4 × Fin 5) : Vec F S512x512 .bf16 :=
  k0_pay193 ((M14.access (t3A p.1)).read (Elt F) f3) ((M15.access (a2A p.1 p.2)).read (Elt F) (g (bAt p.1)))
    ((M14.access (t3B p.1)).read (Elt F) f3) ((M15.access (a2B p.1 p.2)).read (Elt F) (g (bAt p.1))) (rdAcc fa p.1 p.2) (rowD d9 p.1)

/-- What a tile leaves in the block of the result. -/
def outStep {c : Dev nD} (f3 : B F c cc0_scratch3) (g : Fin 2 → B F c cc0_scratch4) (fa : B F c cc0_scratch0) (d9 : Vec F S2048x1 .f32)
    (f : B F c cc0_scratch5) (p : Fin 4 × Fin 5) : B F c cc0_scratch5 :=
  (M16.access (outR p.1 p.2)).write (Elt F) f (outVal f3 g fa d9 p) Finset.univ

/-- The block of the result. -/
def outBlk {c : Dev nD} (f3 : B F c cc0_scratch3) (g : Fin 2 → B F c cc0_scratch4) (fa : B F c cc0_scratch0) (d9 : Vec F S2048x1 .f32) : B F c cc0_scratch5 :=
  tiles.foldl (outStep f3 g fa d9) (fun _ => default)

theorem write_at {s : Shape} {e : EltTy} {κ : Kind} {sp : Space} (v : View sig κ sp s e) (f g : v.ref.ty.Contents (Elt F)) (w : s.Idx → Elt F e) (i : v.ref.ty.shape.Idx)
    (h : i ∈ v.set ∨ f i = g i) : v.write (Elt F) f w Finset.univ i = v.write (Elt F) g w Finset.univ i := by
  by_cases hi : i ∈ v.set
  · obtain ⟨k, -, rfl⟩ := Finset.mem_map.1 hi
    rw [View.write_emb_of_mem _ _ (Finset.mem_univ k), View.write_emb_of_mem _ _ (Finset.mem_univ k)]
  · rw [View.write_of_not_mem _ _ _ hi, View.write_of_not_mem _ _ _ hi]
    exact h.resolve_left hi

theorem foldl_at {c : Dev nD} (f3 : B F c cc0_scratch3) (g : Fin 2 → B F c cc0_scratch4) (fa : B F c cc0_scratch0) (d9 : Vec F S2048x1 .f32)
    (i : S2048x2560.Idx) (l : List (Fin 4 × Fin 5)) : ∀ (f f' : B F c cc0_scratch5),
    ((∃ p ∈ l, i ∈ (M16.access (outR p.1 p.2)).set) ∨ f i = f' i) →
    l.foldl (outStep f3 g fa d9) f i = l.foldl (outStep f3 g fa d9) f' i := by
  induction l with
  | nil =>
    rintro f f' (⟨p, hp, -⟩ | h)
    · cases hp
    · exact h
  | cons q l ih =>
    intro f f' h
    refine ih _ _ ?_
    by_cases hq : ∃ p ∈ l, i ∈ (M16.access (outR p.1 p.2)).set
    · exact Or.inl hq
    · right
      refine write_at _ _ _ _ _ ?_
      rcases h with ⟨p, hp, hi⟩ | h
      · rcases List.mem_cons.1 hp with rfl | hp
        · exact Or.inl hi
        · exact absurd ⟨p, hp, hi⟩ hq
      · exact Or.inr h

/-- The tile an element of the block of the result is in. -/
theorem mem_tile (i : S2048x2560.Idx) : ∃ p ∈ tiles, i ∈ (M16.access (outR p.1 p.2)).set := by
  have h0 : (i 0).val < 2048 := (i 0).isLt
  have h1 : (i 1).val < 2560 := (i 1).isLt
  have hall : ∀ p : Fin 4 × Fin 5, p ∈ tiles := by decide
  have hr : ∀ r : Fin 4, rowAt r = 512 * r.val := by decide
  have hc : ∀ k : Fin 5, colAt k = 512 * k.val := by decide
  have b0 : (i 0).val / 512 < 4 := by omega
  have b1 : (i 1).val / 512 < 5 := by omega
  refine ⟨(⟨(i 0).val / 512, b0⟩, ⟨(i 1).val / 512, b1⟩), hall _, ?_⟩
  have e : (M16.access (outR ⟨(i 0).val / 512, b0⟩ ⟨(i 1).val / 512, b1⟩)).set = (outR ⟨(i 0).val / 512, b0⟩ ⟨(i 1).val / 512, b1⟩).set := View.set_slice_whole _ _
  show i ∈ (M16.access (outR ⟨(i 0).val / 512, b0⟩ ⟨(i 1).val / 512, b1⟩)).set
  rw [e]
  refine Rect.mem_set_unit.2 ?_
  intro a
  match a with
  | ⟨0, _⟩ =>
    show rowAt ⟨(i 0).val / 512, b0⟩ ≤ (i 0).val ∧ (i 0).val < rowAt ⟨(i 0).val / 512, b0⟩ + 512
    rw [hr]; show 512 * ((i 0).val / 512) ≤ _ ∧ _ < 512 * ((i 0).val / 512) + 512; omega
  | ⟨1, _⟩ =>
    show colAt ⟨(i 1).val / 512, b1⟩ ≤ (i 1).val ∧ (i 1).val < colAt ⟨(i 1).val / 512, b1⟩ + 512
    rw [hc]; show 512 * ((i 1).val / 512) ≤ _ ∧ _ < 512 * ((i 1).val / 512) + 512; omega

theorem outBlk_eq {c : Dev nD} (f3 : B F c cc0_scratch3) (g : Fin 2 → B F c cc0_scratch4) (fa : B F c cc0_scratch0) (d9 : Vec F S2048x1 .f32) (f : B F c cc0_scratch5) :
    tiles.foldl (outStep f3 g fa d9) f = outBlk f3 g fa d9 := funext fun i => foldl_at f3 g fa d9 i tiles _ _ (Or.inl (mem_tile i))

section
variable (c : Dev nD)

/-- What the tiles of the result read. -/
def outIn (f3 : B F c cc0_scratch3) (g : Fin 2 → B F c cc0_scratch4) (fa : B F c cc0_scratch0) (a9 : Memref sig .tc .vmem S2048x1 .f32) (q9 : PosShare TreeShare) (d9 : Vec F S2048x1 .f32) : sProp (MM F) :=
  iprop(tPt c Finset.univ f3 ∗ (lPt c (a2Set c 0) (g 0) ∗ lPt c (a2Set c 1) (g 1)) ∗ accPt c fa ∗ owns (c : Thread nD τ) a9 q9 d9)

theorem wp_ldA2 (g : Fin 2 → B F c cc0_scratch4) (b : Fin 2) (R : Rect S2x2560x256) (hl) (hS : (M15.access R).set ⊆ a2Set c b) (Q) :
    iprop(lPt c (a2Set c 0) (g 0) ∗ lPt c (a2Set c 1) (g 1))
      ⊢ iprop((iprop(lPt c (a2Set c 0) (g 0) ∗ lPt c (a2Set c 1) (g 1)) -∗ Q ((M15.access R).read (Elt F) (g b)))
        -∗ WP c (Prog.lift (.load M15 R.toLoadRect hl)) Q) := by
  match b with
  | 0 =>
    iintro ⟨H0, H1⟩ Hk
    iapply (wp_ld c M15 R hl hS (q := fullShare) (f := g 0) _) $$ H0
    iintro H0
    iapply Hk
    isplitl [H0]
    · iexact H0
    · iexact H1
  | 1 =>
    iintro ⟨H0, H1⟩ Hk
    iapply (wp_ld c M15 R hl hS (q := fullShare) (f := g 1) _) $$ H1
    iintro H1
    iapply Hk
    isplitl [H0]
    · iexact H0
    · iexact H1

theorem wp_dys (a9 : Memref sig .tc .vmem S2048x1 .f32) (q : PosShare TreeShare) (d9 : Vec F S2048x1 .f32) (r : Fin 4) (hl) (Q : Vec F S512x1 .f32 → sProp (MM F)) :
    owns (c : Thread nD τ) a9 q d9
      ⊢ iprop((owns (c : Thread nD τ) a9 q d9 -∗ Q (rowD d9 r))
        -∗ WP c (Prog.lift (.load a9 (dysR r).toLoadRect hl)) Q) := by
  unfold owns
  iintro ⟨%f, %hf, H⟩ Hk
  iapply (wp_ld c a9 (dysR r) hl (View.set_slice_subset _ _) _) $$ H
  iintro H
  have e : (a9.access (dysR r)).read (Elt F) f = rowD d9 r := by
    subst hf; rfl
  rw [e]
  iapply Hk
  iexists f
  isplitr
  · ipureintro; exact hf
  iexact H

theorem wp_outTile (f3 : B F c cc0_scratch3) (g : Fin 2 → B F c cc0_scratch4) (fa : B F c cc0_scratch0) (a9 : Memref sig .tc .vmem S2048x1 .f32) (q9 : PosShare TreeShare) (d9 : Vec F S2048x1 .f32)
    (p : Fin 4 × Fin 5) (f : B F c cc0_scratch5) (Q : Unit → sProp (MM F)) :
    iprop(outIn c f3 g fa a9 q9 d9 ∗ oPt c Finset.univ f)
      ⊢ iprop((iprop(outIn c f3 g fa a9 q9 d9 ∗ oPt c Finset.univ (outStep f3 g fa d9 f p)) -∗ Q ⟨⟩) -∗ WP c (outTile a9 p) Q) := by
  unfold outIn outTile
  iintro ⟨⟨Ht, Hg, Ha, H9⟩, Ho⟩ Hk
  iapply (wpb c _ _ _); iapply (wp_ld c M14 (t3A p.1) _ (q := fullShare) (f := f3) (Finset.subset_univ _) _) $$ Ht; iintro Ht
  iapply (wpb c _ _ _); iapply (wp_ldA2 c g (bAt p.1) (a2A p.1 p.2) _ (a2A_sub c p.1 p.2) _) $$ Hg; iintro Hg
  iapply (wpb c _ _ _); iapply (wp_ld c M14 (t3B p.1) _ (q := fullShare) (f := f3) (Finset.subset_univ _) _) $$ Ht; iintro Ht
  iapply (wpb c _ _ _); iapply (wp_ldA2 c g (bAt p.1) (a2B p.1 p.2) _ (a2B_sub c p.1 p.2) _) $$ Hg; iintro Hg
  iapply (wpb c _ _ _); iapply (wp_ldAcc c fa p.1 p.2 _) $$ Ha; iintro Ha
  iapply (wpb c _ _ _); iapply (wp_dys c a9 q9 d9 p.1 _ _) $$ H9; iintro H9
  iapply (wpb c _ _ _); iapply (wp_ld c M16 (outR p.1 p.2) _ (q := fullShare) (f := f) (Finset.subset_univ _) _) $$ Ho; iintro Ho
  iapply (wp_st c M16 (outR p.1 p.2) _ _ _ (f := f) (Finset.subset_univ _) _) $$ Ho; iintro Ho
  iapply Hk
  isplitr [Ho]
  · isplitl [Ht]; · iexact Ht
    isplitl [Hg]; · iexact Hg
    isplitl [Ha] <;> iassumption
  iexact Ho

theorem wp_outTiles (f3 : B F c cc0_scratch3) (g : Fin 2 → B F c cc0_scratch4) (fa : B F c cc0_scratch0) (a9 : Memref sig .tc .vmem S2048x1 .f32) (q9 : PosShare TreeShare) (d9 : Vec F S2048x1 .f32)
    (f : B F c cc0_scratch5) (Q : Unit → sProp (MM F)) :
    iprop(outIn c f3 g fa a9 q9 d9 ∗ oPt c Finset.univ f)
      ⊢ iprop((iprop(outIn c f3 g fa a9 q9 d9 ∗ oPt c Finset.univ (outBlk f3 g fa d9)) -∗ Q ⟨⟩) -∗ WP c (seqP (outTile a9) tiles) Q) := by
  rw [← outBlk_eq f3 g fa d9 f]
  exact wp_seqP c _ _ (oPt c Finset.univ) _ (fun p f Q => wp_outTile c f3 g fa a9 q9 d9 p f Q) tiles f Q

end

end Cert.KernelIdeal.Hand

end
-- ==== Proof.Body.lean ====
/- The kernel body at one grid point: from the state before it to the state after it. -/
module

public import proofs.«01_k».proof.Proof.OutTiles

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD) (dyp : B F c main_arg0) (wp' : B F c main_arg1) (t3 : B F c main_arg5) (a2 : B F c main_arg6) (n : Fin 21)

/-! ## The loop -/

/-- The accumulator after `t` trips of grid point `j`. -/
def accAt (d3 : Vec F S20 .f32) (d6 : Vec F S1x10240 .f32) (j : ℕ) : ℕ → B F c cc0_scratch0
  | 0 => acc0 c
  | t + 1 => tripF c dyp wp' n d3 d6 (j * nT n + t) (accAt d3 d6 j t)

/-- Before trip `t`. -/
def loopI (a3 : Memref sig .tc .smem S20 .f32) (a6 : Memref sig .tc .vmem S1x10240 .f32) (q3 q6 : PosShare TreeShare) (d3 : Vec F S20 .f32) (d6 : Vec F S1x10240 .f32) (j t : ℕ) : sProp (MM F) :=
  iprop(St c dyp wp' n (j * nT n + t) ∗ idle c ∗ owns (c : Thread nD τ) a3 q3 d3 ∗ owns (c : Thread nD τ) a6 q6 d6 ∗ accPt c (accAt c dyp wp' n d3 d6 j t))

theorem wp_loops (j : Fin 4) (hw : k0_chk1 (crd j) (wd n)) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 v17 v35 v37 v67 one w : BitVec 32)
    (q3 q6 : PosShare TreeShare) (d3 : Vec F S20 .f32) (d6 : Vec F S1x10240 .f32) {α : Type} (K : P F α) (Q : α → sProp (MM F)) :
    loopI c dyp wp' n a3 a6 q3 q6 d3 d6 j.val 0
      ⊢ iprop((loopI c dyp wp' n a3 a6 q3 q6 d3 d6 j.val (nT n) -∗ WP c K Q)
        -∗ WP c (Scf.Loop.for (k0_t1_loop (wd n)) (k0_t1_ok (crd j) (wd n) hw) ⟨⟩ (k0_t1_body (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 (wd n) hw v17 v35 v37 v67 one) >>= fun _ =>
          Scf.Loop.for (k0_t2_loop (wd n)) (k0_t2_ok (crd j) (wd n) hw) ⟨⟩ (k0_t2_body (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 (wd n) hw v17 v35 v37 v67 one w) >>= fun _ => K) Q) := by
  unfold Scf.Loop.for
  iintro H Hk
  iapply (Scf.wp_for_bind frame (wpE (defs₀ (F := F)) Variants.none (c : Thread nD τ) none) Set.univ _ _ _ _ _ _
    (fun t _ => loopI c dyp wp' n a3 a6 q3 q6 d3 d6 j.val t)
    (fun k acc => by
      unfold loopI
      iintro H
      iapply (wp_trip c dyp wp' n j k hw a3 ha3 a6 ha6 a9 ha9 arg0 v17 v35 v37 v67 one acc q3 q6 d3 d6 _ _) $$ H
      iintro H
      iexact H)) $$ H
  iintro %acc H
  iapply (Scf.wp_for_bind frame (wpE (defs₀ (F := F)) Variants.none (c : Thread nD τ) none) Set.univ _ _ _ _ _ _
    (fun _ _ => loopI c dyp wp' n a3 a6 q3 q6 d3 d6 j.val (k0_t1_loop (wd n)).trips)
    (fun k acc => absurd (Nat.lt_of_lt_of_eq k.isLt (trips2 n)) (Nat.not_lt_zero _))) $$ H
  iintro %acc' H
  rw [trips1 n]
  iapply Hk $$ H

/-! ## The first copies -/

/-- The slots before grid point `j`. -/
def slotSt (j : ℕ) : sProp (MM F) :=
  if j = 0 then iprop(freeS c dyp wp' 0 0 ∗ freeS c dyp wp' 0 1 ∗ freeS c dyp wp' 1 0 ∗ freeS c dyp wp' 1 1) else St c dyp wp' n (j * nT n)

theorem wp_firstP (j : Fin 4) (hw : k0_chk1 (crd j) (wd n)) {α : Type} (K : P F α) (Q : α → sProp (MM F)) :
    slotSt c dyp wp' n j.val
      ⊢ iprop((St c dyp wp' n (j.val * nT n) -∗ WP c K Q) -∗ WP c (firstP (crd j) (wd n) hw K) Q) := by
  unfold slotSt firstP
  by_cases hj : j.val = 0
  · have h1 := (cond1_iff j).2 hj
    have hT := nT_pos n
    have u0 := uo_lt n ⟨0, hT⟩
    have e0 : uo n 0 % 20 = uo n 0 := Nat.mod_eq_of_lt u0
    have ept : ptOf n 0 = 0 := Nat.zero_div _
    have etr : trOf n 0 = 0 := Nat.zero_mod _
    rw [if_pos hj, dif_pos h1, hj, Nat.zero_mul]
    have ehalf0 : half0 c dyp wp' n 0 = flyS c dyp wp' 0 0 0 (uo n 0) 0 := by
      unfold half0; rw [if_pos (show 0 < 4 * nT n by omega), ept, etr]; rfl
    iintro ⟨H0, H1, H2, H3⟩ Hk
    iapply (wp_fetch c dyp wp' 0 0 0 (uo n 0) _ _ _ _ _ _ _ _ _ _ _ _ _ _ _ _ rfl rfl ((off1_eq n).trans (by rw [e0])) rfl rfl ((off2_eq n).trans (by rw [e0])) _ _) $$ H0
    iintro H0
    by_cases hp : pr n 0
    · have h2 := (cond2_iff n).2 hp
      have u1 := uo_succ_lt n ⟨0, hT⟩ hp
      have e1 : (uo n 0 + 1) % 20 = uo n 0 + 1 := Nat.mod_eq_of_lt u1
      have ehalf1 : half1 c dyp wp' n 0 = flyS c dyp wp' 0 1 0 (uo n 0 + 1) 0 := by
        unfold half1; rw [ept, etr, if_pos ⟨show 0 < 4 * nT n by omega, hp⟩]; rfl
      rw [dif_pos h2]
      iapply (wp_fetch c dyp wp' 0 1 0 (uo n 0 + 1) _ _ _ _ _ _ _ _ _ _ _ _ _ _ _ _ rfl rfl ((off3_eq n).trans (by rw [e1])) rfl rfl ((off4_eq n).trans (by rw [e1])) _ _) $$ H1
      iintro H1
      iapply Hk
      unfold St
      rw [ehalf0, ehalf1]
      isplitl [H0]; · iexact H0
      isplitl [H1]; · iexact H1
      isplitl [H2]
      · iexact H2
      · iexact H3
    · have h2 : ¬ k0_cond2 (wd n) = 1#1 := fun h => hp ((cond2_iff n).1 h)
      have ehalf1 : half1 c dyp wp' n 0 = freeS c dyp wp' 0 1 := by
        unfold half1; rw [ept, etr, if_neg (fun h : _ ∧ _ => hp h.2)]; rfl
      rw [dif_neg h2]
      iapply Hk
      unfold St
      rw [ehalf0, ehalf1]
      isplitl [H0]; · iexact H0
      isplitl [H1]; · iexact H1
      isplitl [H2]
      · iexact H2
      · iexact H3
  · have h1 : ¬ k0_cond1 (crd j) = 1#1 := fun h => hj ((cond1_iff j).1 h)
    rw [if_neg hj, dif_neg h1]
    iintro H Hk
    iapply Hk $$ H

/-! ## The body -/

/-- The two blocks of a2 of a grid point. -/
def aAt (idn : Fin 8 → Fin 5) (j : Fin 4) : Fin 2 → Fin 5 := fun b => match b with
  | 0 => idn (idx0 j)
  | 1 => idn (idx1 j)

/-- The block of the result of grid point `j`. -/
def outAt (idn : Fin 8 → Fin 5) (d3 : Vec F S20 .f32) (d6 : Vec F S1x10240 .f32) (d9 : Vec F S2048x1 .f32) (j : Fin 4) : B F c cc0_scratch5 :=
  outBlk (t3Land t3 j.val) (fun b => a2Land a2 b (aAt idn j b)) (accAt c dyp wp' n d3 d6 j.val (nT n)) d9

/-- The state before grid point `j`, the result at `G`. -/
def pointSt (q : PosShare TreeShare) (idn : Fin 8 → Fin 5) (j : ℕ) (G : B F c main_v0) : sProp (MM F) :=
  iprop(slotSt c dyp wp' n j ∗ (∃ f, accPt c f) ∗ upFree c t3 a2 ∗ nPt c q n ∗ idsPt c q idn ∗ outSt c j G)

theorem tPt_whole (f : B F c cc0_scratch3) : tPt c (t3Set c) f = tPt c Finset.univ f := by
  have e : (M14.view.set : Finset S2048x384.Idx) = Finset.univ := View.set_whole cc0_scratch3
  exact congrArg (fun S : Finset S2048x384.Idx => tPt c S f) e

/-- What a grid point reads from its windows. -/
def winIn (a3 : Memref sig .tc .smem S20 .f32) (a6 : Memref sig .tc .vmem S1x10240 .f32) (a9 : Memref sig .tc .vmem S2048x1 .f32)
    (q3 q6 q9 : PosShare TreeShare) (d3 : Vec F S20 .f32) (d6 : Vec F S1x10240 .f32) (d9 : Vec F S2048x1 .f32) : sProp (MM F) :=
  iprop(owns (c : Thread nD τ) a3 q3 d3 ∗ owns (c : Thread nD τ) a6 q6 d6 ∗ owns (c : Thread nD τ) a9 q9 d9)

set_option maxRecDepth 65536 in
/-- The body after its first words. -/
theorem wp_rest (q : PosShare TreeShare) (idn : Fin 8 → Fin 5) (j : Fin 4) (G : B F c main_v0) (hw : k0_chk1 (crd j) (wd n)) (a3 : Memref sig .tc .smem S20 .f32) (ha3 : a3.IsWhole) (a6 : Memref sig .tc .vmem S1x10240 .f32) (ha6 : a6.IsWhole) (a9 : Memref sig .tc .vmem S2048x1 .f32) (ha9 : a9.IsWhole) (arg0 v17 v35 v37 v39 : BitVec 32)
    (q3 q6 q9 : PosShare TreeShare) (d3 : Vec F S20 .f32) (d6 : Vec F S1x10240 .f32) (d9 : Vec F S2048x1 .f32) (Q : PUnit → sProp (MM F)) :
    iprop(pointSt c dyp wp' t3 a2 n q idn j.val G ∗ idle c ∗ winIn c a3 a6 a9 q3 q6 q9 d3 d6 d9)
      ⊢ iprop((iprop(pointSt c dyp wp' t3 a2 n q idn (j.val + 1) (dxPut j.val (outAt c dyp wp' t3 a2 n idn d3 d6 d9 j) G) ∗ idle c ∗ winIn c a3 a6 a9 q3 q6 q9 d3 d6 d9) -∗ Q ⟨⟩)
        -∗ WP c (k0_part64 (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 (wd n) hw v17 v35 v37 v39 >>= fun q =>
          k0_part65 (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8 arg0 (wd n) hw v17 v35 v37 q.1 q.2 >>= fun _ => outJ (crd j) a3 ha3 a6 ha6 a9 ha9 (outP (crd j))) Q) := by
  unfold pointSt winIn
  rw [part64_eq]
  iintro ⟨⟨HS, ⟨%fa, Ha⟩, HU, Hn, Hi, HX⟩, HO, H3, H6, H9⟩ Hk
  iapply (wpb c _ _ _)
  iapply (wp_firstP c dyp wp' n j hw _ _) $$ HS
  iintro HS
  iapply (wp_upP c t3 a2 j q idn fa _ _) $$ [HU Hi Ha]
  · isplitl [HU]; · iexact HU
    isplitl [Hi] <;> iassumption
  iintro ⟨HU, Hi, Ha⟩
  iapply (le_wp_ret _ _ _ _ _)
  rw [part65_eq]
  iapply (wpb c _ _ _)
  iapply (wp_loops c dyp wp' n j hw a3 ha3 a6 ha6 a9 ha9 _ _ _ _ _ _ _ q3 q6 d3 d6 _ _) $$ [HS HO H3 H6 Ha]
  · unfold loopI
    isplitl [HS]; · iexact HS
    isplitl [HO]; · iexact HO
    isplitl [H3]; · iexact H3
    isplitl [H6]; · iexact H6
    iexact Ha
  unfold loopI
  iintro ⟨HS, HO, H3, H6, Ha⟩
  iapply (wp_upWaitP c t3 a2 j q idn _ _) $$ [HU Hi HO]
  · isplitl [HU]; · iexact HU
    isplitl [Hi] <;> iassumption
  iintro ⟨HU, Hi, HO⟩
  iapply (wp_outWaitP c j G _ _) $$ [HX HO]
  · isplitl [HX] <;> iassumption
  unfold outIdle
  iintro ⟨⟨Hs, ⟨%fo, Ho⟩, HX⟩, HO⟩
  iapply (le_wp_ret _ _ _ _ _)
  rw [outJ_eq]
  iapply (wpb c _ _ _)
  unfold upHere
  icases HU with ⟨HUs, Ht, Hg0, Hg1, HU⟩
  ihave Ht := (Entails.of_eq (tPt_whole c (t3Land t3 j.val))) $$ Ht
  iapply (wp_outTiles c (t3Land t3 j.val) (fun b => a2Land a2 b (aAt idn j b)) (accAt c dyp wp' n d3 d6 j.val (nT n)) a9 q9 d9 fo _) $$ [Ht Hg0 Hg1 Ha H9 Ho]
  · unfold outIn
    isplitr [Ho]
    · isplitl [Ht]; · iexact Ht
      isplitl [Hg0 Hg1]
      · isplitl [Hg0]
        · iexact Hg0
        · iexact Hg1
      isplitl [Ha]
      · iexact Ha
      · iexact H9
    iexact Ho
  unfold outIn
  iintro ⟨⟨Ht, ⟨Hg0, Hg1⟩, Ha, H9⟩, Ho⟩
  iapply (wp_outP c j (outAt c dyp wp' t3 a2 n idn d3 d6 d9 j) G _) $$ [Hs Ho HX HO]
  · isplitr [HO]
    · isplitl [Hs]; · iexact Hs
      isplitl [Ho]
      · iexact Ho
      · iexact HX
    iexact HO
  iintro ⟨HX, HO⟩
  iapply Hk
  isplitr [HO H3 H6 H9]
  · isplitl [HS]
    · unfold slotSt
      rw [if_neg (Nat.succ_ne_zero _), Nat.succ_mul]
      iexact HS
    isplitl [Ha]; · iexists _; iexact Ha
    isplitl [HUs Ht Hg0 Hg1 HU]
    · ihave Ht := (Entails.of_eq (tPt_whole c (t3Land t3 j.val)).symm) $$ Ht
      unfold upFree
      isplitl [HUs]; · iexact HUs
      isplitl [Ht]; · iexists _; iexact Ht
      isplitl [Hg0]; · iexists _; iexact Hg0
      isplitl [Hg1]; · iexists _; iexact Hg1
      iexact HU
    isplitl [Hn]; · iexact Hn
    isplitl [Hi]; · iexact Hi
    iexact HX
  isplitl [HO]; · iexact HO
  isplitl [H3]; · iexact H3
  isplitl [H6] <;> iassumption

set_option maxRecDepth 65536 in
/-- The first words of the body, of which only the number of units matters. -/
theorem wp_part63 (q : PosShare TreeShare) (j : Fin 4) (a3 : Memref sig .tc .smem S20 .f32) (ha3 : a3.IsWhole) (a6 : Memref sig .tc .vmem S1x10240 .f32) (ha6 : a6.IsWhole) (a9 : Memref sig .tc .vmem S2048x1 .f32) (ha9 : a9.IsWhole) (Q : (Σ' (arg0 : BitVec 32) (v0 : Elt F .i32) (k0_hw1 : k0_chk1 (crd j) v0) (v17 : BitVec 32) (v35 : BitVec 32) (v37 : BitVec 32), BitVec 32) → sProp (MM F)) :
    nPt c q n ⊢ iprop((∀ p, ⌜p.2.1 = wd n⌝ -∗ nPt c q n -∗ Q p) -∗ WP c (k0_part63 (F := F) (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8) Q) := by
  unfold k0_part63
  iintro Hn Hk
  iapply (wpb c _ _ _)
  iapply (wp_n c q n _ _ _ _ _) $$ Hn
  iintro Hn
  iapply (wpb c _ _ _)
  iapply (wp_as c (chk1_all j n) _)
  iapply (le_wp_ret _ _ _ _ _)
  iapply Hk
  · ipureintro; rfl
  iexact Hn

set_option maxRecDepth 65536 in
/-- The body. -/
theorem wp_body (q : PosShare TreeShare) (idn : Fin 8 → Fin 5) (j : Fin 4) (G : B F c main_v0) (a3 : Memref sig .tc .smem S20 .f32) (ha3 : a3.IsWhole) (a6 : Memref sig .tc .vmem S1x10240 .f32) (ha6 : a6.IsWhole) (a9 : Memref sig .tc .vmem S2048x1 .f32) (ha9 : a9.IsWhole)
    (q3 q6 q9 : PosShare TreeShare) (d3 : Vec F S20 .f32) (d6 : Vec F S1x10240 .f32) (d9 : Vec F S2048x1 .f32) (Q : PUnit → sProp (MM F)) :
    iprop(pointSt c dyp wp' t3 a2 n q idn j.val G ∗ idle c ∗ winIn c a3 a6 a9 q3 q6 q9 d3 d6 d9)
      ⊢ iprop((iprop(pointSt c dyp wp' t3 a2 n q idn (j.val + 1) (dxPut j.val (outAt c dyp wp' t3 a2 n idn d3 d6 d9 j) G) ∗ idle c ∗ winIn c a3 a6 a9 q3 q6 q9 d3 d6 d9) -∗ Q ⟨⟩)
        -∗ WP c (cc0_data_grad (F := F) (crd j) M1 (Memref.isWhole_whole _) M2 (Memref.isWhole_whole _) a3 ha3 M4 (Memref.isWhole_whole _) M5 (Memref.isWhole_whole _) a6 ha6 M7 (Memref.isWhole_whole _) M8 (Memref.isWhole_whole _) a9 ha9 M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8) Q) := by
  rw [body_eq]
  iintro ⟨HP, HO, HW⟩ Hk
  unfold pointSt
  icases HP with ⟨HS, Ha, HU, Hn, Hr⟩
  iapply (wpb c _ _ _)
  iapply (wp_part63 c n q j a3 ha3 a6 ha6 a9 ha9 _) $$ Hn
  iintro %p %hp Hn
  obtain ⟨w0, v0, hw, w17, w35, w37, w39⟩ := p
  cases hp
  iapply (wp_rest c dyp wp' t3 a2 n q idn j G hw a3 ha3 a6 ha6 a9 ha9 w0 w17 w35 w37 w39 q3 q6 q9 d3 d6 d9 Q) $$ [HS Ha HU Hn Hr HO HW]
  · unfold pointSt
    isplitr [HO HW]
    · isplitl [HS]; · iexact HS
      isplitl [Ha]; · iexact Ha
      isplitl [HU]; · iexact HU
      isplitl [Hn] <;> iassumption
    isplitl [HO] <;> iassumption
  unfold pointSt
  iexact Hk

end

end Cert.KernelIdeal.Hand

end
-- ==== Proof.Hold.lean ====
/- The state before the first grid point from the buffers as the launch hands them over, and those buffers
   from the state after the last. -/
module

public import proofs.«01_k».proof.Proof.Body

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-! ## A buffer in its slots -/

theorem slots_list (Ψ : Fin 2 × Fin 2 → sProp (MM F)) : bigSep Finset.univ Ψ = iprop(Ψ (0, 0) ∗ Ψ (0, 1) ∗ Ψ (1, 0) ∗ Ψ (1, 1)) := by
  rw [BI.bigSep_eq_bigSepL_of_eq [(0, 0), (0, 1), (1, 0), (1, 1)] (by decide) (by decide)]; rfl

theorem dy_split : iprop(∃ f : B F c cc0_scratch1, ((c : Thread nD τ).loc cc0_scratch1) ↦{fullShare} f)
    ⊢ (iprop((∃ f, dyPt c (dySet c 0 0) f) ∗ (∃ f, dyPt c (dySet c 0 1) f) ∗ (∃ f, dyPt c (dySet c 1 0) f) ∗ (∃ f, dyPt c (dySet c 1 1) f)) : sProp (MM F)) := by
  iintro ⟨%f, H⟩
  ihave H := (Entails.of_eq ((Ring.pointsTo_blocks (dyI c) (dyI_disj c) (dyI_cover c) f).trans (slots_list _))) $$ H
  icases H with ⟨H0, H1, H2, H3⟩
  isplitl [H0]; · iexists f; iexact H0
  isplitl [H1]; · iexists f; iexact H1
  isplitl [H2]; · iexists f; iexact H2
  iexists f; iexact H3

theorem dy_join (f₀ : B F c cc0_scratch1) : iprop((∃ f, dyPt c (dySet c 0 0) f) ∗ (∃ f, dyPt c (dySet c 0 1) f) ∗ (∃ f, dyPt c (dySet c 1 0) f) ∗ (∃ f, dyPt c (dySet c 1 1) f))
    ⊢ (iprop(∃ f : B F c cc0_scratch1, ((c : Thread nD τ).loc cc0_scratch1) ↦{fullShare} f) : sProp (MM F)) :=
  (Entails.of_eq (slots_list (fun b => iprop(∃ f, dyPt c (dyI c b) f))).symm).trans (Ring.pointsTo_blocks_join_exists (dyI c) (dyI_disj c) (dyI_cover c) f₀)

theorem w_split : iprop(∃ f : B F c cc0_scratch2, ((c : Thread nD τ).loc cc0_scratch2) ↦{fullShare} f)
    ⊢ (iprop((∃ f, wPt c (wSet c 0 0) f) ∗ (∃ f, wPt c (wSet c 0 1) f) ∗ (∃ f, wPt c (wSet c 1 0) f) ∗ (∃ f, wPt c (wSet c 1 1) f)) : sProp (MM F)) := by
  iintro ⟨%f, H⟩
  ihave H := (Entails.of_eq ((Ring.pointsTo_blocks (wI c) (wI_disj c) (wI_cover c) f).trans (slots_list _))) $$ H
  icases H with ⟨H0, H1, H2, H3⟩
  isplitl [H0]; · iexists f; iexact H0
  isplitl [H1]; · iexists f; iexact H1
  isplitl [H2]; · iexists f; iexact H2
  iexists f; iexact H3

theorem w_join (f₀ : B F c cc0_scratch2) : iprop((∃ f, wPt c (wSet c 0 0) f) ∗ (∃ f, wPt c (wSet c 0 1) f) ∗ (∃ f, wPt c (wSet c 1 0) f) ∗ (∃ f, wPt c (wSet c 1 1) f))
    ⊢ (iprop(∃ f : B F c cc0_scratch2, ((c : Thread nD τ).loc cc0_scratch2) ↦{fullShare} f) : sProp (MM F)) :=
  (Entails.of_eq (slots_list (fun b => iprop(∃ f, wPt c (wI c b) f))).symm).trans (Ring.pointsTo_blocks_join_exists (wI c) (wI_disj c) (wI_cover c) f₀)

/-- The two halves of the second operand's buffer. -/
abbrev lI (b : Fin 2) := a2Set c b

theorem lI_disj : ∀ b b' : Fin 2, b ≠ b' → Disjoint (lI c b) (lI c b') := by
  intro b b' hne
  rw [Finset.disjoint_left]
  intro i hi hi'
  exact hne (Fin.ext (((mem_a2Set c b i).1 hi).symm.trans ((mem_a2Set c b' i).1 hi')))
theorem lI_cover : Finset.univ.biUnion (lI c) = Finset.univ := by
  refine Finset.eq_univ_iff_forall.2 fun i => Finset.mem_biUnion.2 ⟨⟨(i 0).val, (i 0).isLt⟩, Finset.mem_univ _, ?_⟩
  exact (mem_a2Set c _ i).2 rfl

theorem halves_list (Ψ : Fin 2 → sProp (MM F)) : bigSep Finset.univ Ψ = iprop(Ψ 0 ∗ Ψ 1) := by
  rw [BI.bigSep_eq_bigSepL_of_eq [0, 1] (by decide) (by decide)]; rfl

theorem l_split : iprop(∃ f : B F c cc0_scratch4, ((c : Thread nD τ).loc cc0_scratch4) ↦{fullShare} f)
    ⊢ (iprop((∃ f, lPt c (a2Set c 0) f) ∗ (∃ f, lPt c (a2Set c 1) f)) : sProp (MM F)) := by
  iintro ⟨%f, H⟩
  ihave H := (Entails.of_eq ((Ring.pointsTo_blocks (lI c) (lI_disj c) (lI_cover c) f).trans (halves_list _))) $$ H
  icases H with ⟨H0, H1⟩
  isplitl [H0]; · iexists f; iexact H0
  iexists f; iexact H1

theorem l_join (f₀ : B F c cc0_scratch4) : iprop((∃ f, lPt c (a2Set c 0) f) ∗ (∃ f, lPt c (a2Set c 1) f))
    ⊢ (iprop(∃ f : B F c cc0_scratch4, ((c : Thread nD τ).loc cc0_scratch4) ↦{fullShare} f) : sProp (MM F)) :=
  (Entails.of_eq (halves_list (fun b => iprop(∃ f, lPt c (lI c b) f))).symm).trans (Ring.pointsTo_blocks_join_exists (lI c) (lI_disj c) (lI_cover c) f₀)

/-! ## An argument in its shares -/

theorem toks4 {ℓ : Loc nD τ sig} (f : Buf (Elt F) ℓ) :
    (ℓ ↦{fullShare} f : sProp (MM F)) = iprop((ℓ ↦{Transfers.shareDrop fullShare 4} f) ∗ (ℓ ↦{tok 0 0} f) ∗ (ℓ ↦{tok 0 1} f) ∗ (ℓ ↦{tok 1 0} f) ∗ (ℓ ↦{tok 1 1} f)) := by
  have e := Entails.antisymm (Transfers.pointsTo_toks (ℓ := ℓ) (S := Finset.univ) (f := f) fullShare 4 (Val := Elt F) (Ix := Unit) (Name := ℕ) (U := Pipeline.UD sig nD τ) (Lvl := ℕ)).1 (Transfers.pointsTo_toks fullShare 4).2
  rw [BI.bigSep_eq_bigSepL_of_eq [0, 1, 2, 3] (by decide) (by decide)] at e
  exact e
theorem toks2 {ℓ : Loc nD τ sig} (f : Buf (Elt F) ℓ) :
    (ℓ ↦{fullShare} f : sProp (MM F)) = iprop((ℓ ↦{Transfers.shareDrop fullShare 2} f) ∗ (ℓ ↦{tok6 0} f) ∗ (ℓ ↦{tok6 1} f)) := by
  have e := Entails.antisymm (Transfers.pointsTo_toks (ℓ := ℓ) (S := Finset.univ) (f := f) fullShare 2 (Val := Elt F) (Ix := Unit) (Name := ℕ) (U := Pipeline.UD sig nD τ) (Lvl := ℕ)).1 (Transfers.pointsTo_toks fullShare 2).2
  rw [halves_list] at e
  exact e

/-! ## The state before the first grid point and after the last -/

/-- What the body holds besides the windows, conjunct by conjunct. -/
def parts (dyp : B F c main_arg0) (wp' : B F c main_arg1) (t3 : B F c main_arg5) (a2 : B F c main_arg6) (G : B F c main_v0) : sProp (MM F) :=
  iprop(((∃ f : B F c cc0_scratch0, ((c : Thread nD τ).loc cc0_scratch0) ↦{fullShare} f) ∗ (∃ f : B F c cc0_scratch1, ((c : Thread nD τ).loc cc0_scratch1) ↦{fullShare} f) ∗ (∃ f : B F c cc0_scratch2, ((c : Thread nD τ).loc cc0_scratch2) ↦{fullShare} f) ∗ (∃ f : B F c cc0_scratch3, ((c : Thread nD τ).loc cc0_scratch3) ↦{fullShare} f) ∗ (∃ f : B F c cc0_scratch4, ((c : Thread nD τ).loc cc0_scratch4) ↦{fullShare} f) ∗ (∃ f : B F c cc0_scratch5, ((c : Thread nD τ).loc cc0_scratch5) ↦{fullShare} f))
    ∗ (semVal ((c : Thread nD τ), .dma (cellS 0 0)) 0 ∗ semVal ((c : Thread nD τ), .dma (cellS 0 1)) 0 ∗ semVal ((c : Thread nD τ), .dma (cellS 1 0)) 0 ∗ semVal ((c : Thread nD τ), .dma (cellS 1 1)) 0 ∗ semVal ((c : Thread nD τ), .dma upSem) 0 ∗ semVal ((c : Thread nD τ), .dma outSem) 0)
    ∗ ((((c : Thread nD τ).loc main_arg0) ↦{fullShare} dyp) ∗ (((c : Thread nD τ).loc main_arg1) ↦{fullShare} wp') ∗ (((c : Thread nD τ).loc main_arg5) ↦{fullShare} t3) ∗ (((c : Thread nD τ).loc main_arg6) ↦{fullShare} a2))
    ∗ (((c : Thread nD τ).loc main_v0) ↦{fullShare} G))

variable (dyp : B F c main_arg0) (wp' : B F c main_arg1) (t3 : B F c main_arg5) (a2 : B F c main_arg6) (n : Fin 21)

/-- The shares no copy uses. -/
def spare : sProp (MM F) :=
  iprop((((c : Thread nD τ).loc main_arg0) ↦{Transfers.shareDrop fullShare 4} dyp) ∗ (((c : Thread nD τ).loc main_arg1) ↦{Transfers.shareDrop fullShare 4} wp') ∗ (((c : Thread nD τ).loc main_arg6) ↦{Transfers.shareDrop fullShare 2} a2))

theorem outSt_zero (G : B F c main_v0) : outSt c 0 G = outIdle c G := if_neg fun h => absurd h.1 (by decide)
theorem outSt_four (G : B F c main_v0) : outSt c 4 G = outIdle c G := if_neg fun h => absurd h.2 (by decide)

/-- All four slots free. -/
def slots4 : sProp (MM F) := iprop(freeS c dyp wp' 0 0 ∗ freeS c dyp wp' 0 1 ∗ freeS c dyp wp' 1 0 ∗ freeS c dyp wp' 1 1)

theorem slotSt_zero : slotSt c dyp wp' n 0 = slots4 c dyp wp' := if_pos rfl

theorem St_end : St c dyp wp' n (4 * nT n) ⊢ slots4 c dyp wp' := by
  have e0 : half0 c dyp wp' n (4 * nT n) = freeS c dyp wp' (sl (4 * nT n)) 0 := if_neg (Nat.lt_irrefl _)
  have e1 : half1 c dyp wp' n (4 * nT n) = freeS c dyp wp' (sl (4 * nT n)) 1 := if_neg fun h => Nat.lt_irrefl _ h.1
  unfold St slots4
  rw [e0, e1]
  have h0 : sl (4 * nT n) = 0 := Fin.ext (by show (4 * nT n) % 2 = 0; omega)
  have h1 : sl (4 * nT n + 1) = 1 := Fin.ext (by show (4 * nT n + 1) % 2 = 1; omega)
  rw [h0, h1]

theorem parts_in (q : PosShare TreeShare) (idn : Fin 8 → Fin 5) (G : B F c main_v0) :
    iprop(parts c dyp wp' t3 a2 G ∗ nPt c q n ∗ idsPt c q idn) ⊢ iprop(pointSt c dyp wp' t3 a2 n q idn 0 G ∗ spare c dyp wp' a2) := by
  unfold parts pointSt spare
  rw [outSt_zero, slotSt_zero, toks4 dyp, toks4 wp', toks2 a2]
  unfold slots4 freeS upFree outIdle
  iintro ⟨⟨⟨⟨%f0, H0⟩, H1, H2, ⟨%f3, H3⟩, H4, H5⟩, ⟨S0, S1, S2, S3, S4, S5⟩, ⟨⟨A, A0, A1, A2, A3⟩, ⟨W, W0, W1, W2, W3⟩, T, ⟨L, L0, L1⟩⟩, X⟩, Hn, Hi⟩
  ihave H1 := (dy_split c) $$ H1
  ihave H2 := (w_split c) $$ H2
  ihave H4 := (l_split c) $$ H4
  ihave H3 := (Entails.of_eq (tPt_whole c f3).symm) $$ H3
  icases H1 with ⟨D0, D1, D2, D3⟩
  icases H2 with ⟨E0, E1, E2, E3⟩
  icases H4 with ⟨M0, M1⟩
  isplitr [A W L]
  · isplitl [S0 S1 S2 S3 D0 D1 D2 D3 E0 E1 E2 E3 A0 A1 A2 A3 W0 W1 W2 W3]
    · isplitl [S0 D0 E0 A0 W0]
      · isplitl [S0]; · iexact S0
        isplitl [D0]; · iexact D0
        isplitl [E0]; · iexact E0
        isplitl [A0]; · iexact A0
        iexact W0
      isplitl [S1 D1 E1 A1 W1]
      · isplitl [S1]; · iexact S1
        isplitl [D1]; · iexact D1
        isplitl [E1]; · iexact E1
        isplitl [A1]; · iexact A1
        iexact W1
      isplitl [S2 D2 E2 A2 W2]
      · isplitl [S2]; · iexact S2
        isplitl [D2]; · iexact D2
        isplitl [E2]; · iexact E2
        isplitl [A2]; · iexact A2
        iexact W2
      · isplitl [S3]; · iexact S3
        isplitl [D3]; · iexact D3
        isplitl [E3]; · iexact E3
        isplitl [A3]; · iexact A3
        iexact W3
    isplitl [H0]; · iexists f0; iexact H0
    isplitl [S4 H3 M0 M1 T L0 L1]
    · isplitl [S4]; · iexact S4
      isplitl [H3]; · iexists f3; iexact H3
      isplitl [M0]; · iexact M0
      isplitl [M1]; · iexact M1
      isplitl [T]; · iexact T
      isplitl [L0]; · iexact L0
      iexact L1
    isplitl [Hn]; · iexact Hn
    isplitl [Hi]; · iexact Hi
    isplitl [S5]; · iexact S5
    isplitl [H5]; · iexact H5
    iexact X
  isplitl [A]; · iexact A
  isplitl [W]; · iexact W
  iexact L

theorem parts_out (f1 : B F c cc0_scratch1) (f2 : B F c cc0_scratch2) (f4 : B F c cc0_scratch4) (q : PosShare TreeShare) (idn : Fin 8 → Fin 5) (G : B F c main_v0) :
    iprop(pointSt c dyp wp' t3 a2 n q idn 4 G ∗ spare c dyp wp' a2) ⊢ iprop(parts c dyp wp' t3 a2 G) := by
  unfold parts pointSt spare
  rw [outSt_four, show slotSt c dyp wp' n 4 = St c dyp wp' n (4 * nT n) from if_neg (by decide), toks4 dyp, toks4 wp', toks2 a2]
  iintro ⟨⟨HS, ⟨%f0, H0⟩, HU, Hn, Hi, HX⟩, ⟨A, W, L⟩⟩
  ihave HS := (St_end c dyp wp' n) $$ HS
  unfold slots4 freeS upFree outIdle
  icases HS with ⟨⟨S0, D0, E0, A0, W0⟩, ⟨S1, D1, E1, A1, W1⟩, ⟨S2, D2, E2, A2, W2⟩, ⟨S3, D3, E3, A3, W3⟩⟩
  icases HU with ⟨S4, ⟨%f3, H3⟩, M0, M1, T, L0, L1⟩
  icases HX with ⟨S5, H5, X⟩
  ihave H3 := (Entails.of_eq (tPt_whole c f3)) $$ H3
  isplitr [S0 S1 S2 S3 S4 S5 A A0 A1 A2 A3 W W0 W1 W2 W3 T L L0 L1 X]
  · isplitl [H0]; · iexists f0; iexact H0
    isplitl [D0 D1 D2 D3]
    · iapply (dy_join c f1)
      isplitl [D0]; · iexact D0
      isplitl [D1]; · iexact D1
      isplitl [D2]; · iexact D2
      iexact D3
    isplitl [E0 E1 E2 E3]
    · iapply (w_join c f2)
      isplitl [E0]; · iexact E0
      isplitl [E1]; · iexact E1
      isplitl [E2]; · iexact E2
      iexact E3
    isplitl [H3]; · iexists f3; iexact H3
    isplitl [M0 M1]
    · iapply (l_join c f4)
      isplitl [M0]; · iexact M0
      iexact M1
    iexact H5
  isplitl [S0 S1 S2 S3 S4 S5]
  · isplitl [S0]; · iexact S0
    isplitl [S1]; · iexact S1
    isplitl [S2]; · iexact S2
    isplitl [S3]; · iexact S3
    isplitl [S4]; · iexact S4
    iexact S5
  isplitr [X]
  · isplitl [A A0 A1 A2 A3]
    · isplitl [A]; · iexact A
      isplitl [A0]; · iexact A0
      isplitl [A1]; · iexact A1
      isplitl [A2]; · iexact A2
      iexact A3
    isplitl [W W0 W1 W2 W3]
    · isplitl [W]; · iexact W
      isplitl [W0]; · iexact W0
      isplitl [W1]; · iexact W1
      isplitl [W2]; · iexact W2
      iexact W3
    isplitl [T]; · iexact T
    isplitl [L]; · iexact L
    isplitl [L0]; · iexact L0
    iexact L1
  iexact X

end

end Cert.KernelIdeal.Hand

end
-- ==== Proof.Frame.lean ====
/- The launch of the kernel: the body at every grid point, from the arguments to the result. -/
module

public import proofs.«01_k».proof.Proof.Hold
public import Idealize.ShloMosaic.Lib.Pipeline.FrameValue

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The launch memory -/

abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The tables' contents; there is one device. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
theorem ok_tbl : ok0 (F := F) (tbl m) := trivial
abbrev adm : (pcfg0 (F := F)).Adm := ⟨tbl m, ok_tbl m⟩
abbrev cfgM : Pipeline.Cfg sig Λ₀ := cfg0 (adm m)

/-- The tables hold the number of units `n` and the adapters `idn`. -/
def Tab (n : Fin 21) (idn : Fin 8 → Fin 5) : Prop :=
  ∀ c : Dev nD, (∀ x : S1.Idx, M2.view.read (Elt F) (V m c main_arg2) x = wd n) ∧ ∀ x : S8.Idx, M1.view.read (Elt F) (V m c main_arg8) x = BitVec.ofNat 32 (idn (x 0)).val

theorem PhiT_eq (c : Dev nD) : (Pipeline.ΦT pre0 (tbl m) c : sProp (MM F))
    = iprop((((c : Thread nD τ).loc main_arg8) ↦{fullShare.right} tbl m 0) ∗ (((c : Thread nD τ).loc main_arg2) ↦{fullShare.right} tbl m 1)) := by
  unfold Pipeline.ΦT Pipeline.prefHeld
  rw [halves_list]
  rfl

/-! ## The body's own cells and buffers -/

def osem0 : Fin 6 → SemLoc sig := fun j => (![SemLoc.dma 4, SemLoc.dma 5, SemLoc.dma 6, SemLoc.dma 7, SemLoc.dma 8, SemLoc.dma 9]) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), .dma (cellS 0 0)) 0 ∗ semVal ((c : Thread nD τ), .dma (cellS 0 1)) 0 ∗ semVal ((c : Thread nD τ), .dma (cellS 1 0)) 0 ∗ semVal ((c : Thread nD τ), .dma (cellS 1 1)) 0 ∗ semVal ((c : Thread nD τ), .dma upSem) 0 ∗ semVal ((c : Thread nD τ), .dma outSem) 0) := by
  rw [Pipeline.ownSems0_eq_of_list c osem0 [0, 1, 2, 3, 4, 5] (by decide) (by decide)]; rfl

def H0 : Finset (Ref sig .tc) := {main_arg0, main_arg1, main_arg5, main_arg6}
def R0 : Finset (Ref sig .tc) := {main_v0}
theorem H0_sub : H0 ⊆ Pipeline.restRefsP sig pre0 spec0 := by decide
theorem R0_sub : R0 ⊆ Pipeline.restRefsP sig pre0 spec0 \ H0 := by decide
theorem hbmPts0_eq (c : Dev nD) : (bigSep H0 (fun b => ((c.tc : Thread nD τ).loc b) ↦{fullShare} V m c b) : sProp (MM F))
    = iprop((((c : Thread nD τ).loc main_arg0) ↦{fullShare} V m c main_arg0) ∗ (((c : Thread nD τ).loc main_arg1) ↦{fullShare} V m c main_arg1) ∗ (((c : Thread nD τ).loc main_arg5) ↦{fullShare} V m c main_arg5) ∗ (((c : Thread nD τ).loc main_arg6) ↦{fullShare} V m c main_arg6)) := by
  rw [BI.bigSep_eq_bigSepL_of_eq [main_arg0, main_arg1, main_arg5, main_arg6] (by decide) (by decide)]; rfl
theorem routed0_eq (c : Dev nD) (G : (b : Ref sig .tc) → Buf (Elt F) ((c.tc : Thread nD τ).loc b)) : (Pipeline.routed R0 c G : sProp (MM F))
    = iprop(((c : Thread nD τ).loc main_v0) ↦{fullShare} G main_v0) := by
  unfold Pipeline.routed R0
  exact BI.bigSep_singleton

/-! ## What the windows hold and what the result holds -/

/-- The block of window `w` at a grid point. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))
abbrev blk0 (c : Dev nD) (t : Fin (cfgM m).N) : Vec F S20 .f32 := iblk m c 0 t
abbrev blk1 (c : Dev nD) (t : Fin (cfgM m).N) : Vec F S1x10240 .f32 := iblk m c 1 t
abbrev blk2 (c : Dev nD) (t : Fin (cfgM m).N) : Vec F S2048x1 .f32 := iblk m c 2 t

/-- The grid point of number `j`. -/
def pt (j : Fin 4) : Fin (cfgM m).N := ⟨j.val, Nat.lt_of_lt_of_eq j.isLt N_0.symm⟩

variable (n : Fin 21) (idn : Fin 8 → Fin 5)

/-- The block of the result of grid point `j`. -/
def res (c : Dev nD) (j : Fin 4) : B F c cc0_scratch5 :=
  outAt c (V m c main_arg0) (V m c main_arg1) (V m c main_arg5) (V m c main_arg6) n idn (blk0 m c (pt m j)) (blk1 m c (pt m j)) (blk2 m c (pt m j)) j

/-- The result after `j` grid points. -/
def RS (c : Dev nD) : ℕ → B F c main_v0
  | 0 => V m c main_v0
  | j + 1 => if h : j < 4 then dxPut j (res m n idn c ⟨j, h⟩) (RS c j) else RS c j

/-- The unscoped buffers after the run. -/
def G (c : Dev nD) (b : Ref sig .tc) : Buf (Elt F) ((c.tc : Thread nD τ).loc b) :=
  if h : b = main_v0 then h ▸ RS m n idn c 4 else V m c b
theorem G_v0 (c : Dev nD) : G m n idn c main_v0 = RS m n idn c 4 := dif_pos rfl

/-- The state before grid point `j`. -/
def Ph (c : Dev nD) (j : ℕ) : sProp (MM F) :=
  iprop(pointSt c (V m c main_arg0) (V m c main_arg1) (V m c main_arg5) (V m c main_arg6) n fullShare.right idn j (RS m n idn c j)
    ∗ spare c (V m c main_arg0) (V m c main_arg1) (V m c main_arg6) ∗ ∃ r, prngReg c r)

/-- The proof data of the pipeline. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
  Φ t := Ph m n idn c t.val
  q _ := fullShare
  owed _ := 0

theorem A_eq (c : Dev nD) (w : Fin (cfgM m).W) : (dats m n idn 0 c).A w = V m c (Pipeline.arrRef spec0 w) := by
  dsimp only [dats]
theorem after0 (c : Dev nD) (t : Fin (cfgM m).N) : (dats m n idn 0 c).after 0 t = iblk m c 0 t := by dsimp only [dats]; rfl
theorem after1 (c : Dev nD) (t : Fin (cfgM m).N) : (dats m n idn 0 c).after 1 t = iblk m c 1 t := by dsimp only [dats]; rfl
theorem after2 (c : Dev nD) (t : Fin (cfgM m).N) : (dats m n idn 0 c).after 2 t = iblk m c 2 t := by dsimp only [dats]; rfl
theorem before0 (c : Dev nD) (t : Fin (cfgM m).N) (d) : (dats m n idn 0 c).before 0 t d = iblk m c 0 t :=
  ((dats m n idn 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m n idn 0 c).before 1 t d = iblk m c 1 t :=
  ((dats m n idn 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m n idn 0 c).before 2 t d = iblk m c 2 t :=
  ((dats m n idn 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation -/

abbrev ms0 (t : Fin (cfgM m).N) : Memref sig .tc .smem S20 .f32 := ((cfgM m).win 0).stage ((cfgM m).slots t 0)
abbrev ms1 (t : Fin (cfgM m).N) : Memref sig .tc .vmem S1x10240 .f32 := ((cfgM m).win 1).stage ((cfgM m).slots t 1)
abbrev ms2 (t : Fin (cfgM m).N) : Memref sig .tc .vmem S2048x1 .f32 := ((cfgM m).win 2).stage ((cfgM m).slots t 2)

/-- The body at a grid point. -/
def bodyAt (t : Fin (cfgM m).N) : P F PUnit :=
  cc0_data_grad (F := F) (grid0.coords t) M1 (Memref.isWhole_whole _) M2 (Memref.isWhole_whole _) (ms0 m t) (hstage0_0 (((cfgM m).slots t 0).cast nbuf0_0)) M4 (Memref.isWhole_whole _) M5 (Memref.isWhole_whole _) (ms1 m t) (hstage0_1 (((cfgM m).slots t 1).cast nbuf0_1)) M7 (Memref.isWhole_whole _) M8 (Memref.isWhole_whole _) (ms2 m t) (hstage0_2 (((cfgM m).slots t 2).cast nbuf0_2)) M10 (Memref.isWhole_whole _) M11 (Memref.isWhole_whole _) M12 (Memref.isWhole_whole _) M13 (Memref.isWhole_whole _) M14 (Memref.isWhole_whole _) M15 (Memref.isWhole_whole _) M16 (Memref.isWhole_whole _) cc0_scratch6 cc0_scratch7 cc0_scratch8

def bodyPre (c : Dev nD) (t : Fin (cfgM m).N) : sProp (MM F) :=
  iprop((dats m n idn 0 c).Φ t.castSucc ∗ (dats m n idn 0 c).owesAt () t.castSucc
    ∗ (∃ d, owns (c : Thread nD τ) (ms0 m t) fullShare ((dats m n idn 0 c).before 0 t d))
    ∗ (∃ d, owns (c : Thread nD τ) (ms1 m t) fullShare ((dats m n idn 0 c).before 1 t d))
    ∗ (∃ d, owns (c : Thread nD τ) (ms2 m t) fullShare ((dats m n idn 0 c).before 2 t d)))
def bodyPost (c : Dev nD) (t : Fin (cfgM m).N) : sProp (MM F) :=
  iprop((dats m n idn 0 c).Φ t.succ ∗ (dats m n idn 0 c).owesAt () t.succ
    ∗ owns (c : Thread nD τ) (ms0 m t) fullShare ((dats m n idn 0 c).after 0 t)
    ∗ owns (c : Thread nD τ) (ms1 m t) fullShare ((dats m n idn 0 c).after 1 t)
    ∗ owns (c : Thread nD τ) (ms2 m t) fullShare ((dats m n idn 0 c).after 2 t))

theorem RS_succ (c : Dev nD) (j : Fin 4) : RS m n idn c (j.val + 1) = dxPut j.val (res m n idn c j) (RS m n idn c j.val) := by
  show (if h : j.val < 4 then _ else _) = _
  rw [dif_pos j.isLt]

theorem sound_body (c : Dev nD) (t : Fin (cfgM m).N) :
    bodyPre m n idn c t ⊢ wp frame (wpE (defs₀ (F := F)) Variants.none (c : Thread nD τ) none) Set.univ (bodyAt m t) (fun _ => bodyPost m n idn c t) := by
  obtain ⟨j, hj, hc⟩ := coords_eq t
  have ht : t = pt m j := Fin.ext hj
  unfold bodyPre bodyPost bodyAt
  rw [after0, after1, after2]
  rw [show (dats m n idn 0 c).Φ t.castSucc = Ph m n idn c t.val from rfl, show (dats m n idn 0 c).Φ t.succ = Ph m n idn c (t.val + 1) from rfl]
  unfold Dat.owesAt Pipeline.owesWithin
  rw [show (dats m n idn 0 c).owed t.castSucc = 0 from rfl, show (dats m n idn 0 c).owed t.succ = 0 from rfl]
  rw [hc, hj]
  unfold Ph
  iintro ⟨⟨HP, Hsp, Hg⟩, ⟨%W, -, HW⟩, ⟨%d0, H0⟩, ⟨%d1, H1⟩, ⟨%d2, H2⟩⟩
  ihave H0 := (Entails.of_eq (congrArg (fun d => owns (c : Thread nD τ) (ms0 m t) fullShare d) (before0 m n idn c t d0))) $$ H0
  ihave H1 := (Entails.of_eq (congrArg (fun d => owns (c : Thread nD τ) (ms1 m t) fullShare d) (before1 m n idn c t d1))) $$ H1
  ihave H2 := (Entails.of_eq (congrArg (fun d => owns (c : Thread nD τ) (ms2 m t) fullShare d) (before2 m n idn c t d2))) $$ H2
  iapply (wp_body c (V m c main_arg0) (V m c main_arg1) (V m c main_arg5) (V m c main_arg6) n fullShare.right idn j (RS m n idn c j.val) (ms0 m t) _ (ms1 m t) _ (ms2 m t) _
    fullShare fullShare fullShare (blk0 m c t) (blk1 m c t) (blk2 m c t) _) $$ [HP HW H0 H1 H2]
  · isplitl [HP]; · iexact HP
    isplitl [HW]; · unfold idle; iexists W; iexact HW
    unfold winIn
    isplitl [H0]; · iexact H0
    isplitl [H1]; · iexact H1
    iexact H2
  unfold idle winIn
  iintro ⟨HP, ⟨%W', HW⟩, H0, H1, H2⟩
  have e : dxPut j.val (outAt c (V m c main_arg0) (V m c main_arg1) (V m c main_arg5) (V m c main_arg6) n idn (blk0 m c t) (blk1 m c t) (blk2 m c t) j) (RS m n idn c j.val) = RS m n idn c (j.val + 1) := by
    rw [RS_succ, ht]; rfl
  rw [← e]
  isplitl [HP Hsp Hg]
  · isplitl [HP]; · iexact HP
    isplitl [Hsp]; · iexact Hsp
    iexact Hg
  isplitl [HW]
  · iexists W'; isplitr; · ipureintro; exact fun _ _ => Or.inl trivial
    iexact HW
  isplitl [H0]; · iexact H0
  isplitl [H1]; · iexact H1
  iexact H2

theorem defs₀_row (t : Fin (cfgM m).N) :
    defs₀ (F := F) .tc (cfgM m).body ((cfgM m).bodyArgs t ((cfgM m).slots t)) = bodyAt m t := by
  unfold defs₀; rw [Defs.onTc_tc]; rfl

theorem body_obligation (c : Dev nD) : BodyObligation (dats (F := F) m n idn 0 c) (defs₀ (F := F)) Variants.none () Set.univ := fun t => by
  rw [bigSep_W0, bigSep_W0, defs₀_row]
  exact triple_restated (sound_body m n idn c t) rfl .rfl fun _ => .rfl

/-! ## The launch -/

theorem hin (hT : Tab m n idn) (c : Dev nD) : iprop(Pipeline.ΦDRG osem0 spec0 H0 R0 (V m) (V m) c ∗ Pipeline.ΦT pre0 (tbl m) c) ⊢ Ph m n idn c 0 := by
  rw [Pipeline.ΦDRG_eq, PhiT_eq, scopedRest0_eq, ownSems00_eq, hbmPts0_eq, routed0_eq]
  unfold Ph
  iintro ⟨⟨HS, Hg, Hq, HH, HR⟩, H8, H2⟩
  ihave HP := (parts_in c (V m c main_arg0) (V m c main_arg1) (V m c main_arg5) (V m c main_arg6) n fullShare.right idn (V m c main_v0)) $$ [HS Hq HH HR H8 H2]
  · unfold parts nPt idsPt
    isplitl [HS Hq HH HR]
    · isplitl [HS]; · iexact HS
      isplitl [Hq]; · iexact Hq
      isplitl [HH]; · iexact HH
      iexact HR
    isplitl [H2]
    · iexists (V m c main_arg2)
      isplitr; · ipureintro; exact (hT c).1
      ihave H2 := (Entails.of_eq (congrArg (fun f => (((c : Thread nD τ).loc main_arg2) ↦{fullShare.right} f : sProp (MM F))) (V_pre m c 1).symm)) $$ H2
      iexact H2
    iexists (V m c main_arg8)
    isplitr; · ipureintro; exact (hT c).2
    ihave H8 := (Entails.of_eq (congrArg (fun f => (((c : Thread nD τ).loc main_arg8) ↦{fullShare.right} f : sProp (MM F))) (V_pre m c 0).symm)) $$ H8
    iexact H8
  icases HP with ⟨HP, Hsp⟩
  isplitl [HP]; · iexact HP
  isplitl [Hsp]; · iexact Hsp
  iexact Hg

theorem hout (c : Dev nD) : Ph m n idn c 4 ⊢ Pipeline.ΦDRG osem0 spec0 H0 R0 (V m) (G m n idn) c := by
  rw [Pipeline.ΦDRG_eq, scopedRest0_eq, ownSems00_eq, hbmPts0_eq, routed0_eq, G_v0]
  unfold Ph
  iintro ⟨HP, Hsp, Hg⟩
  ihave HP := (parts_out c (V m c main_arg0) (V m c main_arg1) (V m c main_arg5) (V m c main_arg6) n (fun i => m ((c : Thread nD τ).loc cc0_scratch1) i) (fun i => m ((c : Thread nD τ).loc cc0_scratch2) i) (fun i => m ((c : Thread nD τ).loc cc0_scratch4) i) fullShare.right idn (RS m n idn c 4)) $$ [HP Hsp]
  · isplitl [HP]; · iexact HP
    iexact Hsp
  unfold parts
  icases HP with ⟨HS, Hq, HH, HR⟩
  isplitl [HS]; · iexact HS
  isplitl [Hg]; · iexact Hg
  isplitl [Hq]; · iexact Hq
  isplitl [HH]; · iexact HH
  iexact HR

set_option backward.isDefEq.respectTransparency.types false in
theorem run_main (hT : Tab m n idn) : θ_run defs (onTc (τ := τ) (main (F := F))) (s₀ m ρ)
    (fun r => Pipeline.FramePostRG (Pipeline.pin pcfgs fun _ => adm m) (dats m n idn) 0 R0 (V m) (G m n idn) r ∧ r.2.sem = fun _ => 0) :=
  Pipeline.θ_run_frameP_dmaRG (Q' := _) pcfgs (fun _ => adm m) (dats m n idn) (0 : Fin 1) launch0 osem0 defs₀ Variants.none ownSemFacts0 H0 R0 H0_sub R0_sub m ρ main
    (hbody := fun c => (body_obligation m n idn c).loose) (hshare := fun c => (dats m n idn 0 c).share_full fun _ => rfl)
    (howed := fun _ _ => rfl) (V := V m) (hmain := hmain m Variants.none) (hA := A_eq m n idn) (hpf := V_pre m) (G := G m n idn)
    (hin := fun c => hin m n idn hT c) (hout := fun c => hout m n idn c)

/-- The run: the arguments as they were, the result at `RS 4`, every semaphore at zero. -/
theorem run (hT : Tab m n idn) : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_v0) = RS m n idn c 4)
      ∧ r.2.sem = fun _ => 0) :=
  (θ_run defs _ _).mono (fun _ h => ⟨fun c => ⟨
      ((h.1.1 c).2 main_arg0 (Finset.mem_sdiff.mpr ⟨Pipeline.mem_restRefs_of main_arg0 (by decide) (show ∀ w : Fin 3, (spec0 w).arr.view.ref ≠ main_arg0 from by decide), by decide⟩)),
      ((h.1.1 c).2 main_arg1 (Finset.mem_sdiff.mpr ⟨Pipeline.mem_restRefs_of main_arg1 (by decide) (show ∀ w : Fin 3, (spec0 w).arr.view.ref ≠ main_arg1 from by decide), by decide⟩)),
      ((h.1.1 c).2 main_arg2 (Finset.mem_sdiff.mpr ⟨Pipeline.mem_restRefs_of main_arg2 (by decide) (show ∀ w : Fin 3, (spec0 w).arr.view.ref ≠ main_arg2 from by decide), by decide⟩)),
      ((h.1.1 c).1 0).trans (((dats m n idn 0 c).arrAt_in 0 rfl _).trans (A_eq m n idn c 0)),
      ((h.1.1 c).1 1).trans (((dats m n idn 0 c).arrAt_in 1 rfl _).trans (A_eq m n idn c 1)),
      ((h.1.1 c).2 main_arg5 (Finset.mem_sdiff.mpr ⟨Pipeline.mem_restRefs_of main_arg5 (by decide) (show ∀ w : Fin 3, (spec0 w).arr.view.ref ≠ main_arg5 from by decide), by decide⟩)),
      ((h.1.1 c).2 main_arg6 (Finset.mem_sdiff.mpr ⟨Pipeline.mem_restRefs_of main_arg6 (by decide) (show ∀ w : Fin 3, (spec0 w).arr.view.ref ≠ main_arg6 from by decide), by decide⟩)),
      ((h.1.1 c).1 2).trans (((dats m n idn 0 c).arrAt_in 2 rfl _).trans (A_eq m n idn c 2)),
      ((h.1.1 c).2 main_arg8 (Finset.mem_sdiff.mpr ⟨Pipeline.mem_restRefs_of main_arg8 (by decide) (show ∀ w : Fin 3, (spec0 w).arr.view.ref ≠ main_arg8 from by decide), by decide⟩)),
      (h.1.2 c main_v0 (by decide)).trans (G_v0 m n idn c)⟩, h.2⟩) (run_main m ρ n idn hT)

end Cert.KernelIdeal.Hand

end
-- ==== Proof.Quiet.lean ====
/- The kernel's frame: under the table precondition it runs, leaves its arguments and ends with every
   semaphore at zero. -/
module

public import proofs.«01_k».proof.Defs
public import proofs.«01_k».proof.Proof.Tables
public import proofs.«01_k».proof.Proof.Frame

@[expose] public section

namespace Cert.KernelIdeal.Hand

open Idealize.ShloMosaic Idealize.SL.Sem Cert.KernelIdeal Cert.KernelIdeal.Gen

/-- The tables of a memory at which the printed table predicate is all ones. -/
theorem tab_of_fit {F : FTy → Type} [FloatOps F] (m : (ℓ : Loc nD τ sig) → Buf (Elt F) ℓ)
    (h : ∀ c : Dev nD, Cert.Pre_tables_fit.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) = fun _ => 1#1) : ∃ n idn, Tab m n idn := by
  obtain ⟨n, idn, h2, h8⟩ := Cert.Tables.tables (h 0)
  refine ⟨n, idn, fun c => ?_⟩
  rw [Subsingleton.elim c 0]
  exact ⟨h2, h8⟩

/-- The frame, at any reading of the floats. -/
theorem frame_of {F : FTy → Type} [FloatOps F] (m : (ℓ : Loc nD τ sig) → Buf (Elt F) ℓ) (g : Dev nD → PrngReg)
    (h : ∀ c : Dev nD, Cert.Pre_tables_fit.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) = fun _ => 1#1) :
    θ_run defs (onTc (τ := τ) (main (F := F))) ⟨m, fun _ => 0, g⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8)) ∧ r.2.sem = fun _ => 0) := by
  obtain ⟨n, idn, hT⟩ := tab_of_fit m h
  exact (θ_run _ _ _).mono (fun r h => ⟨fun c => ⟨(h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩, h.2⟩) (run m g n idn hT)

theorem frame : Cert.quiescent_KernelIdeal := fun m g hp => frame_of m g hp

end Cert.KernelIdeal.Hand
-- ==== Proof.Same.lean ====
/- The kernel as printed and its idealization are the same program: no operation was rewritten, so read
   over bits the two body tables and the two main functions are equal, and the frame of the one is the frame of
   the other. -/
module

public import proofs.«01_k».proof.Defs
public import proofs.«01_k».proof.Proof.Gen.Kernel
public import proofs.«01_k».proof.Proof.Gen.KernelIdeal
public import proofs.«01_k».proof.Proof.Quiet

@[expose] public section

set_option maxRecDepth 100000
set_option maxHeartbeats 4000000

noncomputable section

namespace Cert.Same

open Idealize.ShloMosaic Idealize.SL.Sem

section
variable [Cert.Kernel.Facts] [Cert.KernelIdeal.Facts]

/-- The kernel's body is the same. -/
theorem bodies_same : Cert.Kernel.defs₀ (F := Bits) = Cert.KernelIdeal.defs₀ (F := Bits) :=
  congrArg Defs.onTc (funext fun l => funext fun x => match l, x with
    | 0, (_, _) => rfl
    | ⟨_ + 1, h⟩, _ => absurd h (Nat.not_lt.2 (Nat.le_add_left _ _)))

/-- So are the body and the call around it. -/
theorem defs_same : Cert.Kernel.defs (F := Bits) = Cert.KernelIdeal.defs (F := Bits) :=
  congrArg (Pipeline.defs (Cert.Kernel.pcfgs (F := Bits))) bodies_same

/-- So is the main function. -/
theorem main_same : Cert.Kernel.main (F := Bits) = Cert.KernelIdeal.main (F := Bits) := rfl

end

/-- The kernel's frame over bits: the frame at any reading, read over bits, of the equal program. -/
theorem frame : Cert.quiescent_Kernel := by
  intro m g hp
  have h := Cert.KernelIdeal.Hand.frame_of (F := Bits) m g hp
  rw [← defs_same, ← main_same] at h
  exact h

end Cert.Same
end
end
-- ==== Proof.Fold.lean ====
/- The accumulator element by element: each element lies in one tile, so a pass over the tiles
   updates it once, and what a tile's step adds to it is a sum over the 512 columns of its units. -/
module

public import proofs.«01_k».proof.Proof.TileRules
public import Idealize.ShloMosaic.Lib.MatmulPlain
public import Idealize.ShloMosaic.Lib.ValueIdx
public import Idealize.ShloMosaic.Lib.Pipeline.Value
public import Idealize.ShloMosaic.Lib.Pipeline.ValueKit.Geometry

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx

/-- Steps that each change only the indices with their own key, folded over keys that do not repeat. -/
theorem foldl_key {ι I α : Type} [DecidableEq ι] (key : I → ι) (h : I → α → α) (step : (I → α) → ι → I → α)
    (hs : ∀ f p i, step f p i = if key i = p then h i (f i) else f i) :
    ∀ (l : List ι), l.Nodup → ∀ (f : I → α) (i : I), l.foldl step f i = if key i ∈ l then h i (f i) else f i
  | [], _, f, i => by simp
  | q :: l, hl, f, i => by
    rw [List.foldl_cons, foldl_key key h step hs l (List.nodup_cons.1 hl).2, hs]
    have hq := (List.nodup_cons.1 hl).1
    by_cases e : key i = q
    · have : key i ∉ l := e ▸ hq
      simp [e, hq]
    · simp [e]

/-- The row of tiles an element is in. -/
def tr (i : S2048x2560.Idx) : Fin 4 := ⟨(i 0).val / 512, by have : (i 0).val < 2048 := (i 0).isLt; omega⟩
/-- The column of tiles an element is in. -/
def tc (i : S2048x2560.Idx) : Fin 5 := ⟨(i 1).val / 512, by have : (i 1).val < 2560 := (i 1).isLt; omega⟩
/-- Its row in the tile. -/
def lr (i : S2048x2560.Idx) : Fin 512 := ⟨(i 0).val % 512, Nat.mod_lt _ (by decide)⟩
/-- Its column in the tile. -/
def lc (i : S2048x2560.Idx) : Fin 512 := ⟨(i 1).val % 512, Nat.mod_lt _ (by decide)⟩

theorem rowAt_eq : ∀ r : Fin 4, rowAt r = 512 * r.val := by decide
theorem colAt_eq : ∀ k : Fin 5, colAt k = 512 * k.val := by decide

theorem accR_emb (r : Fin 4) (k : Fin 5) (a b : Fin 512) :
    (accR r k).emb (ix2 a b) = ix2 ⟨512 * r.val + a.val, by omega⟩ ⟨512 * k.val + b.val, by omega⟩ := by
  funext x
  apply Fin.ext
  match x with
  | ⟨0, _⟩ => exact (ValueKit.rect_emb_unit_val (s := S2048x2560) _ _ (inbAcc r k) (ix2 a b) 0).trans (congrArg (· + a.val) (rowAt_eq r))
  | ⟨1, _⟩ => exact (ValueKit.rect_emb_unit_val (s := S2048x2560) _ _ (inbAcc r k) (ix2 a b) 1).trans (congrArg (· + b.val) (colAt_eq k))

theorem accR_at (i : S2048x2560.Idx) : (accR (tr i) (tc i)).emb (ix2 (lr i) (lc i)) = i := by
  rw [accR_emb]
  funext x
  apply Fin.ext
  match x with
  | ⟨0, _⟩ => exact Nat.div_add_mod (i 0).val 512
  | ⟨1, _⟩ => exact Nat.div_add_mod (i 1).val 512

theorem accR_mem (r : Fin 4) (k : Fin 5) (i : S2048x2560.Idx) (h : i ∈ (accR r k).set) : tr i = r ∧ tc i = k := by
  rw [accR, Rect.mem_set_unit] at h
  have h0 := h 0
  have h1 := h 1
  have a0 : rowAt r ≤ (i 0).val ∧ (i 0).val < rowAt r + 512 := h0
  have a1 : colAt k ≤ (i 1).val ∧ (i 1).val < colAt k + 512 := h1
  rw [rowAt_eq] at a0
  rw [colAt_eq] at a1
  exact ⟨Fin.ext (show (i 0).val / 512 = r.val by omega), Fin.ext (show (i 1).val / 512 = k.val by omega)⟩

section
variable {F : FTy → Type} [FloatOps F] {c : Dev nD}

/-- One tile replaced, at an element. -/
theorem wrAcc_apply (f : B F c cc0_scratch0) (r : Fin 4) (k : Fin 5) (v : Vec F S512x512 .f32) (i : S2048x2560.Idx) :
    (wrAcc f r k v : S2048x2560.Idx → Elt F .f32) i = if (tr i, tc i) = (r, k) then v (ix2 (lr i) (lc i)) else f i := by
  split
  · next h =>
    obtain ⟨rfl, rfl⟩ := Prod.mk.inj h
    have e : (M11.access (accR (tr i) (tc i))).emb (ix2 (lr i) (lc i)) = i := accR_at i
    have := View.write_emb_of_mem (Val := Elt F) (v := M11.access (accR (tr i) (tc i))) f v (Finset.mem_univ (ix2 (lr i) (lc i)))
    rw [e] at this
    exact this
  · next h =>
    refine View.write_of_not_mem (Val := Elt F) (v := M11.access (accR r k)) f v Finset.univ (i := i) fun hi => h ?_
    replace hi : i ∈ (accR r k).set := (View.set_slice_whole cc0_scratch0 (accR r k)) ▸ hi
    exact Prod.ext (accR_mem r k i hi).1 (accR_mem r k i hi).2

/-- A tile read, at an element's own place. -/
theorem rdAcc_apply (f : B F c cc0_scratch0) (i : S2048x2560.Idx) : rdAcc f (tr i) (tc i) (ix2 (lr i) (lc i)) = f i :=
  congrArg f (accR_at i)
end

/-! ## What the steps compute at an element -/

/-- The zero a product starts from. -/
theorem zero32 : Ideal.ofBits .f32 0x00000000#32 = 0 := by simp [Ideal.ofBits, Ideal.ieee]

/-- A product of two 512×512 tiles, over their columns. -/
theorem mm512 {φ₁ φ₂ : FTy} (x : FVec Ideal S512x512 φ₁) (y : FVec Ideal S512x512 φ₂) (a b : Fin 512) :
    matmul dot_S512x512_S512x512_S512x512_1_1_0_0_n_n none x y (constant S512x512 .f32 0x00000000#32) (ix2 a b)
      = ∑ κ : Fin 512, x (ix2 a κ) * y (ix2 b κ) := by
  have h := Ideal.matmul_transposedRhs_apply (M := 512) (K := 512) (N := 512) none x y (constant S512x512 .f32 0x00000000#32) a b
  refine h.trans ?_
  rw [show (constant S512x512 .f32 0x00000000#32 : FVec Ideal S512x512 .f32) (ix2 a b) = 0 from zero32, zero_add]

/-- A 1×1×512×512 tile as 512×512, at an element. -/
theorem cast4 {α : Type} (x : S1x1x512x512.Idx → α) (a b : Fin 512) :
    shapeCast S512x512 x shapeCasts_S1x1x512x512_S512x512 (ix2 a b) = x (ix4 0 0 a b) :=
  shapeCast_apply x _ _ _ (by
    rw [Shape.rowMajor_val_four, Shape.rowMajor_val_two]
    simp)

theorem pay42_apply (s : Elt Ideal .f32) (acc : Vec Ideal S512x512 .f32) (d : Vec Ideal S1x1x512x512 .fp8e5m2) (w : Vec Ideal S1x1x512x512 .fp8e4m3) (a b : Fin 512) :
    k0_pay42 s acc d w (ix2 a b) = acc (ix2 a b) + (∑ κ : Fin 512, d (ix4 0 0 a κ) * w (ix4 0 0 b κ)) * s := by
  unfold k0_pay42
  rw [shapeCast_self, addf_apply, mulf_apply, mm512]
  simp only [cast4]
  rfl

theorem pay3_apply (s0 s1 : Elt Ideal .f32) (acc : Vec Ideal S512x512 .f32) (d0 d1 : Vec Ideal S1x1x512x512 .fp8e5m2) (w0 w1 : Vec Ideal S1x1x512x512 .fp8e4m3) (a b : Fin 512) :
    k0_pay3 s0 s1 (k0_pay2 d0 w0) d1 w1 acc (ix2 a b)
      = acc (ix2 a b) + ((∑ κ : Fin 512, d0 (ix4 0 0 a κ) * w0 (ix4 0 0 b κ)) * s0 + (∑ κ : Fin 512, d1 (ix4 0 0 a κ) * w1 (ix4 0 0 b κ)) * s1) := by
  unfold k0_pay3 k0_pay2
  rw [shapeCast_self, addf_apply, addf_apply, mulf_apply, mulf_apply, mm512, mm512]
  simp only [cast4]
  rfl

theorem pay67_apply (s : Vec Ideal S1x512 .f32) (acc : Vec Ideal S512x512 .f32) (d : Vec Ideal S1x1x512x512 .fp8e5m2) (w : Vec Ideal S1x1x512x512 .fp8e4m3) (a b : Fin 512) :
    k0_pay67 s d acc w (ix2 a b) = acc (ix2 a b) + ∑ κ : Fin 512, (d (ix4 0 0 a κ) * s (ix2 0 κ)) * w (ix4 0 0 b κ) := by
  unfold k0_pay67 k0_pay66 k0_pay65
  rw [shapeCast_self, addf_apply, mm512]
  refine congrArg (acc (ix2 a b) + ·) (Finset.sum_congr rfl fun κ _ => ?_)
  rw [mulf_apply, extf_apply, extf_apply, cast4, cast4,
    broadcastTo_apply _ broadcasts_S1x512_S512x512 (ix2 a κ) (ix2 0 κ) (fun x => by
      match x with
      | ⟨0, _⟩ => rfl
      | ⟨1, _⟩ => rfl), truncf_apply]

end Cert.KernelIdeal.Hand
end
end
-- ==== Proof.Land.lean ====
/- What the slots hold, element by element: a tile read of a slot is a tile of the block that was
   copied there. -/
module

public import proofs.«01_k».proof.Proof.Slots
public import Idealize.ShloMosaic.Lib.ValueIdx
public import Idealize.ShloMosaic.Lib.Pipeline.Value
public import Idealize.ShloMosaic.Lib.Pipeline.ValueKit.Geometry

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F] {c : Dev nD}

theorem rowAt_le : ∀ r : Fin 4, rowAt r ≤ 1536 := by decide
theorem colAt_le : ∀ k : Fin 5, colAt k ≤ 2048 := by decide

/-- A slot of dy, read as a matrix, sits at its place in the buffer. -/
theorem dySlot_emb (σ h : Fin 2) (a : Fin 2048) (b : Fin 512) : (dySlot σ h).view.emb (ix2 a b) = ix4 σ h a b := by
  have e : Shape.reshapeEquiv (s := S1x1x2048x512) (s' := S2048x512) (Shape.Squeezes.numel_eq squeezes_S1x1x2048x512_S2048x512) (ix2 a b) = ix4 0 0 a b :=
    Shape.reshapeEquiv_eq_of_rowMajor _ (by
      rw [Shape.rowMajor_val_four, Shape.rowMajor_val_two]
      simp)
  have e2 : (dySlot σ h).view.emb (ix2 a b) = (Rect.unit (s := S2x2x2048x512) ![σ.val, h.val, 0, 0] S1x1x2048x512.size (dySlot_in σ h)).emb (ix4 0 0 a b) :=
    congrArg (Rect.unit (s := S2x2x2048x512) ![σ.val, h.val, 0, 0] S1x1x2048x512.size (dySlot_in σ h)).emb e
  rw [e2]
  funext x
  apply Fin.ext
  have g := ValueKit.rect_emb_unit_val (s := S2x2x2048x512) ![σ.val, h.val, 0, 0] S1x1x2048x512.size (dySlot_in σ h) (ix4 0 0 a b)
  match x with
  | ⟨0, _⟩ => exact (g 0)
  | ⟨1, _⟩ => exact (g 1)
  | ⟨2, _⟩ => exact (g 2).trans (Nat.zero_add _)
  | ⟨3, _⟩ => exact (g 3).trans (Nat.zero_add _)

/-- A slot of the weights, read as a matrix, sits at its place in the buffer. -/
theorem wSlot_emb (σ h : Fin 2) (a : Fin 2560) (b : Fin 512) : (wSlot σ h).view.emb (ix2 a b) = ix4 σ h a b := by
  have e : Shape.reshapeEquiv (s := S1x1x2560x512) (s' := S2560x512) (Shape.Squeezes.numel_eq squeezes_S1x1x2560x512_S2560x512) (ix2 a b) = ix4 0 0 a b :=
    Shape.reshapeEquiv_eq_of_rowMajor _ (by
      rw [Shape.rowMajor_val_four, Shape.rowMajor_val_two]
      simp)
  have e2 : (wSlot σ h).view.emb (ix2 a b) = (Rect.unit (s := S2x2x2560x512) ![σ.val, h.val, 0, 0] S1x1x2560x512.size (wSlot_in σ h)).emb (ix4 0 0 a b) :=
    congrArg (Rect.unit (s := S2x2x2560x512) ![σ.val, h.val, 0, 0] S1x1x2560x512.size (wSlot_in σ h)).emb e
  rw [e2]
  funext x
  apply Fin.ext
  have g := ValueKit.rect_emb_unit_val (s := S2x2x2560x512) ![σ.val, h.val, 0, 0] S1x1x2560x512.size (wSlot_in σ h) (ix4 0 0 a b)
  match x with
  | ⟨0, _⟩ => exact (g 0)
  | ⟨1, _⟩ => exact (g 1)
  | ⟨2, _⟩ => exact (g 2).trans (Nat.zero_add _)
  | ⟨3, _⟩ => exact (g 3).trans (Nat.zero_add _)

/-- A slot holding a block of dy. -/
theorem dyLand_apply (dyp : B F c main_arg0) (σ h : Fin 2) (j u : ℕ) (a : Fin 2048) (b : Fin 512) :
    (dyLand dyp σ h j u : S2x2x2048x512.Idx → Elt F .fp8e5m2) (ix4 σ h a b) = dyp (ix2 ⟨2048 * (j % 4) + a.val, by have := Nat.mod_lt j (show 0 < 4 by decide); omega⟩ ⟨512 * (u % 20) + b.val, by have := Nat.mod_lt u (show 0 < 20 by decide); omega⟩) := by
  have w := View.write_emb_of_mem (Val := Elt F) (v := (dySlot σ h).view) (fun _ => default) ((dySrc j u).view.read (Elt F) dyp) (Finset.mem_univ (ix2 a b))
  rw [dySlot_emb] at w
  refine w.trans (congrArg dyp ?_)
  funext x
  apply Fin.ext
  have g := ValueKit.rect_emb_unit_val (s := S8192x10240) ![2048 * (j % 4), 512 * (u % 20)] S2048x512.size (dySrc_in j u) (ix2 a b)
  match x with
  | ⟨0, _⟩ => exact (g 0)
  | ⟨1, _⟩ => exact (g 1)

/-- A slot holding a block of the weights. -/
theorem wLand_apply (wp : B F c main_arg1) (σ h : Fin 2) (u : ℕ) (a : Fin 2560) (b : Fin 512) :
    (wLand wp σ h u : S2x2x2560x512.Idx → Elt F .fp8e4m3) (ix4 σ h a b) = wp (ix2 a ⟨512 * (u % 20) + b.val, by have := Nat.mod_lt u (show 0 < 20 by decide); omega⟩) := by
  have w := View.write_emb_of_mem (Val := Elt F) (v := (wSlot σ h).view) (fun _ => default) ((wSrc u).view.read (Elt F) wp) (Finset.mem_univ (ix2 a b))
  rw [wSlot_emb] at w
  refine w.trans (congrArg wp ?_)
  funext x
  apply Fin.ext
  have g := ValueKit.rect_emb_unit_val (s := S2560x10240) ![0, 512 * (u % 20)] S2560x512.size (wSrc_in u) (ix2 a b)
  match x with
  | ⟨0, _⟩ => exact (g 0).trans (Nat.zero_add _)
  | ⟨1, _⟩ => exact (g 1)

/-- A tile of a slot of dy, at an element. -/
theorem rdDy_apply (f : B F c cc0_scratch1) (σ h : Fin 2) (r : Fin 4) (a b : Fin 512) :
    rdDy f (dyO σ h r) (dyO_in σ h r) (ix4 0 0 a b) = f (ix4 σ h ⟨rowAt r + a.val, by have := rowAt_le r; omega⟩ b) := by
  refine congrArg f ?_
  funext x
  apply Fin.ext
  have g := ValueKit.rect_emb_unit_val (s := S2x2x2048x512) (dyO σ h r) S1x1x512x512.size (dyO_in σ h r) (ix4 0 0 a b)
  match x with
  | ⟨0, _⟩ => exact (g 0)
  | ⟨1, _⟩ => exact (g 1)
  | ⟨2, _⟩ => exact (g 2)
  | ⟨3, _⟩ => exact (g 3).trans (Nat.zero_add _)

/-- A tile of a slot of the weights, at an element. -/
theorem rdW_apply (f : B F c cc0_scratch2) (σ h : Fin 2) (k : Fin 5) (a b : Fin 512) :
    rdW f (wO σ h k) (wO_in σ h k) (ix4 0 0 a b) = f (ix4 σ h ⟨colAt k + a.val, by have := colAt_le k; omega⟩ b) := by
  refine congrArg f ?_
  funext x
  apply Fin.ext
  have g := ValueKit.rect_emb_unit_val (s := S2x2x2560x512) (wO σ h k) S1x1x512x512.size (wO_in σ h k) (ix4 0 0 a b)
  match x with
  | ⟨0, _⟩ => exact (g 0)
  | ⟨1, _⟩ => exact (g 1)
  | ⟨2, _⟩ => exact (g 2)
  | ⟨3, _⟩ => exact (g 3).trans (Nat.zero_add _)

end Cert.KernelIdeal.Hand
end
end
-- ==== Proof.AccValue.lean ====
/- The accumulator after the loop over the units, element by element: the sum of the units' products,
   each with its scale. -/
module

public import proofs.«01_k».proof.Proof.Body
public import proofs.«01_k».proof.Proof.Fold
public import proofs.«01_k».proof.Proof.Land

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx

variable {c : Dev nD}

/-- An element of a block of 2048×2560. -/
def el (f : S2048x2560.Idx → EReal) (i : S2048x2560.Idx) : EReal := f i

theorem mem_tiles : ∀ p : Fin 4 × Fin 5, p ∈ tiles := by decide
theorem nodup_tiles : tiles.Nodup := by decide

/-- The element of dy in row `i 0` of block `j` and column `κ` of unit `u`. -/
def dE (dyp : B Ideal c main_arg0) (j u : ℕ) (i : S2048x2560.Idx) (κ : Fin 512) : EReal :=
  (dyp : S8192x10240.Idx → EReal) (ix2 ⟨2048 * (j % 4) + (i 0).val, by have h : (i 0).val < 2048 := (i 0).isLt; have := Nat.mod_lt j (show 0 < 4 by decide); omega⟩
    ⟨512 * (u % 20) + κ.val, by have := Nat.mod_lt u (show 0 < 20 by decide); omega⟩)
/-- The weight in row `i 1` and column `κ` of unit `u`. -/
def wE (wp : B Ideal c main_arg1) (u : ℕ) (i : S2048x2560.Idx) (κ : Fin 512) : EReal :=
  (wp : S2560x10240.Idx → EReal) (ix2 (i 1) ⟨512 * (u % 20) + κ.val, by have := Nat.mod_lt u (show 0 < 20 by decide); omega⟩)

theorem dy_at (dyp : B Ideal c main_arg0) (σ h : Fin 2) (j u : ℕ) (i : S2048x2560.Idx) (κ : Fin 512) :
    rdDy (dyLand dyp σ h j u) (dyO σ h (tr i)) (dyO_in σ h (tr i)) (ix4 0 0 (lr i) κ) = dE dyp j u i κ := by
  rw [rdDy_apply, dyLand_apply]
  unfold dE
  refine congrArg dyp (congrArg (fun x => ix2 x _) (Fin.ext ?_))
  show 2048 * (j % 4) + (rowAt (tr i) + (i 0).val % 512) = 2048 * (j % 4) + (i 0).val
  rw [rowAt_eq, show (tr i).val = (i 0).val / 512 from rfl, Nat.div_add_mod]

theorem w_at (wp : B Ideal c main_arg1) (σ h : Fin 2) (u : ℕ) (i : S2048x2560.Idx) (κ : Fin 512) :
    rdW (wLand wp σ h u) (wO σ h (tc i)) (wO_in σ h (tc i)) (ix4 0 0 (lc i) κ) = wE wp u i κ := by
  rw [rdW_apply, wLand_apply]
  unfold wE
  refine congrArg wp (congrArg (fun x => ix2 x _) (Fin.ext ?_))
  show colAt (tc i) + (i 1).val % 512 = (i 1).val
  rw [colAt_eq, show (tc i).val = (i 1).val / 512 from rfl, Nat.div_add_mod]

/-- The product of one unit at an element. -/
def prodE (dyp : B Ideal c main_arg0) (wp : B Ideal c main_arg1) (j u : ℕ) (i : S2048x2560.Idx) : EReal :=
  ∑ κ : Fin 512, dE dyp j u i κ * wE wp u i κ
/-- The product of one unit with a scale per column at an element. -/
def prodR (s : Vec Ideal S1x512 .f32) (dyp : B Ideal c main_arg0) (wp : B Ideal c main_arg1) (j u : ℕ) (i : S2048x2560.Idx) : EReal :=
  ∑ κ : Fin 512, (dE dyp j u i κ * s (ix2 0 κ)) * wE wp u i κ

/-- A step on a tile, as a step on the elements of a block. -/
abbrev stp {ι : Type} (g : B Ideal c cc0_scratch0 → ι → B Ideal c cc0_scratch0) : (S2048x2560.Idx → EReal) → ι → S2048x2560.Idx → EReal := g

theorem singleStep_at (s : Elt Ideal .f32) (dyp : B Ideal c main_arg0) (wp : B Ideal c main_arg1) (σ : Fin 2) (j u : ℕ) (f : S2048x2560.Idx → EReal) (p : Fin 4 × Fin 5) (i : S2048x2560.Idx) :
    stp (c := c) (singleStep s (dyLand dyp σ 0 j u) (wLand wp σ 0 u) (dyO σ 0) (wO σ 0) (dyO_in σ 0) (wO_in σ 0)) f p i
      = if (tr i, tc i) = p then f i + prodE dyp wp j u i * s else f i := by
  refine (wrAcc_apply (F := Ideal) (c := c) f p.1 p.2 _ i).trans ?_
  by_cases h : (tr i, tc i) = p
  · subst h
    rw [if_pos rfl, if_pos rfl, pay42_apply, rdAcc_apply]
    unfold prodE
    simp only [dy_at, w_at]
  · rw [if_neg h, if_neg h]

theorem pairStep_at (s0 s1 : Elt Ideal .f32) (dyp : B Ideal c main_arg0) (wp : B Ideal c main_arg1) (σ : Fin 2) (j u : ℕ) (f : S2048x2560.Idx → EReal) (p : Fin 4 × Fin 5) (i : S2048x2560.Idx) :
    stp (c := c) (pairStep s0 s1 (dyLand dyp σ 0 j u) (dyLand dyp σ 1 j (u + 1)) (wLand wp σ 0 u) (wLand wp σ 1 (u + 1))
      (dyO σ 0) (dyO σ 1) (wO σ 0) (wO σ 1) (dyO_in σ 0) (dyO_in σ 1) (wO_in σ 0) (wO_in σ 1)) f p i
      = if (tr i, tc i) = p then f i + (prodE dyp wp j u i * s0 + prodE dyp wp j (u + 1) i * s1) else f i := by
  refine (wrAcc_apply (F := Ideal) (c := c) f p.1 p.2 _ i).trans ?_
  by_cases h : (tr i, tc i) = p
  · subst h
    rw [if_pos rfl, if_pos rfl, pay3_apply, rdAcc_apply]
    unfold prodE
    simp only [dy_at, w_at]
  · rw [if_neg h, if_neg h]

theorem scaledStep_at (s : Vec Ideal S1x512 .f32) (dyp : B Ideal c main_arg0) (wp : B Ideal c main_arg1) (σ : Fin 2) (j u : ℕ) (r : Fin 4) (f : S2048x2560.Idx → EReal) (k : Fin 5) (i : S2048x2560.Idx) :
    stp (c := c) (scaledStep s (rdDy (dyLand dyp σ 0 j u) (dyO σ 0 r) (dyO_in σ 0 r)) (wLand wp σ 0 u) (wO σ 0) (wO_in σ 0) r) f k i
      = if tc i = k then (if tr i = r then f i + prodR s dyp wp j u i else f i) else f i := by
  refine (wrAcc_apply (F := Ideal) (c := c) f r k _ i).trans ?_
  by_cases hr : tr i = r
  · by_cases hk : tc i = k
    · subst hr hk
      rw [if_pos rfl, if_pos rfl, if_pos rfl, pay67_apply, rdAcc_apply]
      unfold prodR
      simp only [dy_at, w_at]
    · rw [if_neg hk, if_neg (fun e => hk (Prod.mk.inj e).2)]
  · rw [if_neg hr, ite_self, if_neg (fun e => hr (Prod.mk.inj e).1)]

theorem mem_cols : ∀ k : Fin 5, k ∈ ([0, 1, 2, 3, 4] : List (Fin 5)) := by decide
theorem mem_rows : ∀ k : Fin 4, k ∈ ([0, 1, 2, 3] : List (Fin 4)) := by decide

theorem single_apply (s : Elt Ideal .f32) (dyp : B Ideal c main_arg0) (wp : B Ideal c main_arg1) (σ : Fin 2) (j u : ℕ) (f : B Ideal c cc0_scratch0) (i : S2048x2560.Idx) :
    el (singleF c s dyp wp σ j u f) i = el f i + prodE dyp wp j u i * s :=
  (foldl_key (I := S2048x2560.Idx) (α := EReal) (fun i => (tr i, tc i)) (fun i x => x + prodE dyp wp j u i * s) (stp _)
    (singleStep_at s dyp wp σ j u) tiles nodup_tiles f i).trans (if_pos (mem_tiles _))

theorem pair_apply (s0 s1 : Elt Ideal .f32) (dyp : B Ideal c main_arg0) (wp : B Ideal c main_arg1) (σ : Fin 2) (j u : ℕ) (f : B Ideal c cc0_scratch0) (i : S2048x2560.Idx) :
    el (pairF c s0 s1 dyp wp σ j u f) i = el f i + (prodE dyp wp j u i * s0 + prodE dyp wp j (u + 1) i * s1) :=
  (foldl_key (I := S2048x2560.Idx) (α := EReal) (fun i => (tr i, tc i)) (fun i x => x + (prodE dyp wp j u i * s0 + prodE dyp wp j (u + 1) i * s1)) (stp _)
    (pairStep_at s0 s1 dyp wp σ j u) tiles nodup_tiles f i).trans (if_pos (mem_tiles _))

theorem scaledRow_at (s : Vec Ideal S1x512 .f32) (dyp : B Ideal c main_arg0) (wp : B Ideal c main_arg1) (σ : Fin 2) (j u : ℕ) (f : S2048x2560.Idx → EReal) (r : Fin 4) (i : S2048x2560.Idx) :
    stp (c := c) (scaledRowStep s (dyLand dyp σ 0 j u) (wLand wp σ 0 u) (dyO σ 0) (wO σ 0) (dyO_in σ 0) (wO_in σ 0)) f r i
      = if tr i = r then f i + prodR s dyp wp j u i else f i :=
  (foldl_key (I := S2048x2560.Idx) (α := EReal) tc (fun i x => if tr i = r then x + prodR s dyp wp j u i else x) (stp _)
    (scaledStep_at s dyp wp σ j u r) [0, 1, 2, 3, 4] (by decide) f i).trans (if_pos (mem_cols _))

theorem scaled_apply (s : Vec Ideal S1x512 .f32) (dyp : B Ideal c main_arg0) (wp : B Ideal c main_arg1) (σ : Fin 2) (j u : ℕ) (f : B Ideal c cc0_scratch0) (i : S2048x2560.Idx) :
    el (scaledF c s dyp wp σ j u f) i = el f i + prodR s dyp wp j u i :=
  (foldl_key (I := S2048x2560.Idx) (α := EReal) tr (fun i x => x + prodR s dyp wp j u i) (stp _)
    (scaledRow_at s dyp wp σ j u) [0, 1, 2, 3] (by decide) f i).trans (if_pos (mem_rows _))

/-- What unit `u` adds: with one scale for a counted unit, with a scale per column for the others. -/
def unitE (n : Fin 21) (d3 : Vec Ideal S20 .f32) (d6 : Vec Ideal S1x10240 .f32) (dyp : B Ideal c main_arg0) (wp : B Ideal c main_arg1) (j u : ℕ) (i : S2048x2560.Idx) : EReal :=
  if u < n.val then prodE dyp wp j u i * us d3 u else prodR (row d6 u) dyp wp j u i

theorem uo_zero : ∀ n : Fin 21, uo n 0 = 0 := by decide +kernel
theorem uo_all : ∀ n : Fin 21, uo n (nT n) = 20 := by decide +kernel
theorem uo_pair : ∀ n : Fin 21, ∀ t : Fin (nT n), pr n t.val → uo n (t.val + 1) = uo n t.val + 2 ∧ uo n t.val + 1 < n.val := by decide +kernel
theorem uo_single : ∀ n : Fin 21, ∀ t : Fin (nT n), ¬ pr n t.val → t.val < nf n → uo n (t.val + 1) = uo n t.val + 1 ∧ uo n t.val < n.val := by decide +kernel
theorem uo_scaled : ∀ n : Fin 21, ∀ t : Fin (nT n), ¬ pr n t.val → ¬ t.val < nf n → uo n (t.val + 1) = uo n t.val + 1 ∧ ¬ uo n t.val < n.val := by decide +kernel

/-- The accumulator after `t` trips: the sum of the units done. -/
theorem acc_apply (n : Fin 21) (d3 : Vec Ideal S20 .f32) (d6 : Vec Ideal S1x10240 .f32) (dyp : B Ideal c main_arg0) (wp : B Ideal c main_arg1) (j : Fin 4) (i : S2048x2560.Idx) :
    ∀ t : ℕ, t ≤ nT n → el (accAt c dyp wp n d3 d6 j.val t) i = ∑ u ∈ Finset.range (uo n t), unitE n d3 d6 dyp wp j.val u i
  | 0, _ => by
    rw [uo_zero, Finset.range_zero, Finset.sum_empty]
    show (k0_pay184 (F := Ideal)) i = 0
    unfold k0_pay184
    rw [shapeCast_self]
    exact zero32
  | t + 1, ht => by
    have ih := acc_apply n d3 d6 dyp wp j i t (Nat.le_of_succ_le ht)
    have e1 : trOf n (j.val * nT n + t) = t := by
      show (j.val * nT n + t) % nT n = t
      rw [Nat.mul_comm, Nat.mul_add_mod, Nat.mod_eq_of_lt ht]
    have e2 : ptOf n (j.val * nT n + t) = j.val := by
      show (j.val * nT n + t) / nT n = j.val
      rw [Nat.mul_comm, Nat.mul_add_div (nT_pos n), Nat.div_eq_of_lt ht, Nat.add_zero]
    show el (tripF c dyp wp n d3 d6 (j.val * nT n + t) (accAt c dyp wp n d3 d6 j.val t)) i = _
    unfold tripF
    rw [e1, e2]
    by_cases hp : pr n t
    · obtain ⟨a, b⟩ := uo_pair n ⟨t, ht⟩ hp
      rw [if_pos hp, pair_apply, ih]
      dsimp only at a b
      rw [a, Finset.sum_range_succ, Finset.sum_range_succ, add_assoc]
      unfold unitE
      rw [if_pos (show uo n t < n.val by omega), if_pos b]
    · rw [if_neg hp]
      by_cases hs : t < nf n
      · obtain ⟨a, b⟩ := uo_single n ⟨t, ht⟩ hp hs
        rw [if_pos hs, single_apply, ih]
        dsimp only at a b
        rw [a, Finset.sum_range_succ]
        unfold unitE
        rw [if_pos b]
      · obtain ⟨a, b⟩ := uo_scaled n ⟨t, ht⟩ hp hs
        rw [if_neg hs, scaled_apply, ih]
        dsimp only at a b
        rw [a, Finset.sum_range_succ]
        unfold unitE
        rw [if_neg b]

end Cert.KernelIdeal.Hand
end
end
-- ==== Proof.OutValue.lean ====
/- A block of the result element by element: the accumulator plus the products of t3 with a2, times
   the scale of the row. -/
module

public import proofs.«01_k».proof.Proof.AccValue

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx

variable {c : Dev nD}

theorem mm256 {φ₁ φ₂ : FTy} (x : FVec Ideal S512x256 φ₁) (y : FVec Ideal S512x256 φ₂) (a b : Fin 512) :
    matmul dot_S512x256_S512x256_S512x512_1_1_0_0_n_n none x y (constant S512x512 .f32 0x00000000#32) (ix2 a b)
      = ∑ κ : Fin 256, x (ix2 a κ) * y (ix2 b κ) := by
  have h := Ideal.matmul_transposedRhs_apply (M := 512) (K := 256) (N := 512) none x y (constant S512x512 .f32 0x00000000#32) a b
  refine h.trans ?_
  rw [show (constant S512x512 .f32 0x00000000#32 : FVec Ideal S512x512 .f32) (ix2 a b) = 0 from zero32, zero_add]

theorem mm128 {φ₁ φ₂ : FTy} (x : FVec Ideal S512x128 φ₁) (y : FVec Ideal S512x128 φ₂) (a b : Fin 512) :
    matmul dot_S512x128_S512x128_S512x512_1_1_0_0_n_n none x y (constant S512x512 .f32 0x00000000#32) (ix2 a b)
      = ∑ κ : Fin 128, x (ix2 a κ) * y (ix2 b κ) := by
  have h := Ideal.matmul_transposedRhs_apply (M := 512) (K := 128) (N := 512) none x y (constant S512x512 .f32 0x00000000#32) a b
  refine h.trans ?_
  rw [show (constant S512x512 .f32 0x00000000#32 : FVec Ideal S512x512 .f32) (ix2 a b) = 0 from zero32, zero_add]

theorem cast3a {α : Type} (x : S1x512x256.Idx → α) (a : Fin 512) (b : Fin 256) :
    shapeCast S512x256 x shapeCasts_S1x512x256_S512x256 (ix2 a b) = x (ix3 0 a b) :=
  shapeCast_apply x _ _ _ (by
    rw [Shape.rowMajor_val_three, Shape.rowMajor_val_two]
    simp)
theorem cast3b {α : Type} (x : S1x512x128.Idx → α) (a : Fin 512) (b : Fin 128) :
    shapeCast S512x128 x shapeCasts_S1x512x128_S512x128 (ix2 a b) = x (ix3 0 a b) :=
  shapeCast_apply x _ _ _ (by
    rw [Shape.rowMajor_val_three, Shape.rowMajor_val_two]
    simp)

theorem pay193_apply (v95 : Vec Ideal S512x256 .bf16) (v96 : Vec Ideal S1x512x256 .bf16) (v99 : Vec Ideal S512x128 .bf16) (v100 : Vec Ideal S1x512x128 .bf16)
    (v103 : Vec Ideal S512x512 .f32) (v106 : Vec Ideal S512x1 .f32) (a b : Fin 512) :
    k0_pay193 v95 v96 v99 v100 v103 v106 (ix2 a b)
      = (v103 (ix2 a b) + ((∑ κ : Fin 128, v99 (ix2 a κ) * v100 (ix3 0 b κ)) + ∑ κ : Fin 256, v95 (ix2 a κ) * v96 (ix3 0 b κ))) * v106 (ix2 a 0) := by
  unfold k0_pay193
  rw [shapeCast_self, truncf_apply, mulf_apply, addf_apply, addf_apply, mm128, mm256,
    broadcastTo_apply _ broadcasts_S512x1_S512x512 (ix2 a b) (ix2 a 0) (fun x => by
      match x with
      | ⟨0, _⟩ => rfl
      | ⟨1, _⟩ => rfl)]
  simp only [cast3a, cast3b]

/-- The half of a2 in use for an element. -/
abbrev hb (i : S2048x2560.Idx) : Fin 2 := bAt (tr i)

section
variable {F : FTy → Type} [FloatOps F] {c : Dev nD}

theorem t3A_apply (f : B F c cc0_scratch3) (i : S2048x2560.Idx) (κ : Fin 256) :
    ((M14.access (t3A (tr i))).read (Elt F) f : Vec F S512x256 .bf16) (ix2 (lr i) κ) = f (ix2 (i 0) ⟨κ.val, by omega⟩) := by
  refine congrArg f ?_
  funext x
  apply Fin.ext
  have g := ValueKit.rect_emb_unit_val (s := S2048x384) ![rowAt (tr i), 0] S512x256.size (t3A_in (tr i)) (ix2 (lr i) κ)
  match x with
  | ⟨0, _⟩ => exact (g 0).trans ((congrArg (· + (i 0).val % 512) (rowAt_eq (tr i))).trans (Nat.div_add_mod (i 0).val 512))
  | ⟨1, _⟩ => exact (g 1).trans (Nat.zero_add _)

theorem t3B_apply (f : B F c cc0_scratch3) (i : S2048x2560.Idx) (κ : Fin 128) :
    ((M14.access (t3B (tr i))).read (Elt F) f : Vec F S512x128 .bf16) (ix2 (lr i) κ) = f (ix2 (i 0) ⟨256 + κ.val, by omega⟩) := by
  refine congrArg f ?_
  funext x
  apply Fin.ext
  have g := ValueKit.rect_emb_unit_val (s := S2048x384) ![rowAt (tr i), 256] S512x128.size (t3B_in (tr i)) (ix2 (lr i) κ)
  match x with
  | ⟨0, _⟩ => exact (g 0).trans ((congrArg (· + (i 0).val % 512) (rowAt_eq (tr i))).trans (Nat.div_add_mod (i 0).val 512))
  | ⟨1, _⟩ => exact (g 1)

theorem a2A_apply (f : B F c cc0_scratch4) (i : S2048x2560.Idx) (κ : Fin 256) :
    ((M15.access (a2A (tr i) (tc i))).read (Elt F) f : Vec F S1x512x256 .bf16) (ix3 0 (lc i) κ) = f (ix3 (hb i) (i 1) κ) := by
  refine congrArg f ?_
  funext x
  apply Fin.ext
  have g := ValueKit.rect_emb_unit_val (s := S2x2560x256) ![(bAt (tr i)).val, colAt (tc i), 0] S1x512x256.size (a2A_in (bAt (tr i)) (tc i)) (ix3 0 (lc i) κ)
  match x with
  | ⟨0, _⟩ => exact (g 0)
  | ⟨1, _⟩ => exact (g 1).trans ((congrArg (· + (i 1).val % 512) (colAt_eq (tc i))).trans (Nat.div_add_mod (i 1).val 512))
  | ⟨2, _⟩ => exact (g 2).trans (Nat.zero_add _)

theorem a2B_apply (f : B F c cc0_scratch4) (i : S2048x2560.Idx) (κ : Fin 128) :
    ((M15.access (a2B (tr i) (tc i))).read (Elt F) f : Vec F S1x512x128 .bf16) (ix3 0 (lc i) κ) = f (ix3 (hb i) (i 1) ⟨κ.val, by omega⟩) := by
  refine congrArg f ?_
  funext x
  apply Fin.ext
  have g := ValueKit.rect_emb_unit_val (s := S2x2560x256) ![(bAt (tr i)).val, colAt (tc i), 0] S1x512x128.size (a2B_in (bAt (tr i)) (tc i)) (ix3 0 (lc i) κ)
  match x with
  | ⟨0, _⟩ => exact (g 0)
  | ⟨1, _⟩ => exact (g 1).trans ((congrArg (· + (i 1).val % 512) (colAt_eq (tc i))).trans (Nat.div_add_mod (i 1).val 512))
  | ⟨2, _⟩ => exact (g 2).trans (Nat.zero_add _)

theorem rowD_apply (d9 : Vec F S2048x1 .f32) (i : S2048x2560.Idx) : rowD d9 (tr i) (ix2 (lr i) 0) = d9 (ix2 (i 0) 0) := by
  refine congrArg d9 ?_
  funext x
  apply Fin.ext
  have g := ValueKit.rect_emb_unit_val (s := S2048x1) ![rowAt (tr i), 0] S512x1.size (dys_in (tr i)) (ix2 (lr i) 0)
  match x with
  | ⟨0, _⟩ => exact (g 0).trans ((congrArg (· + (i 0).val % 512) (rowAt_eq (tr i))).trans (Nat.div_add_mod (i 0).val 512))
  | ⟨1, _⟩ => exact (g 1)

/-- The place of t3 holding a block of it. -/
theorem t3Land_apply (t3 : B F c main_arg5) (j : ℕ) (a : Fin 2048) (b : Fin 384) :
    (t3Land t3 j : S2048x384.Idx → Elt F .bf16) (ix2 a b) = t3 (ix2 ⟨2048 * (j % 4) + a.val, by have := Nat.mod_lt j (show 0 < 4 by decide); omega⟩ b) := by
  have w := View.write_emb_of_mem (Val := Elt F) (v := M14.view) (fun _ => default) ((t3Src j).view.read (Elt F) t3) (Finset.mem_univ (ix2 a b))
  refine w.trans (congrArg t3 ?_)
  funext x
  apply Fin.ext
  have g := ValueKit.rect_emb_unit_val (s := S8192x384) ![2048 * (j % 4), 0] S2048x384.size (t3Src_in j) (ix2 a b)
  match x with
  | ⟨0, _⟩ => exact (g 0)
  | ⟨1, _⟩ => exact (g 1).trans (Nat.zero_add _)

theorem sq3 (a : Fin 2560) (b : Fin 256) :
    Shape.reshapeEquiv (s := S1x2560x256) (s' := S2560x256) (Shape.Squeezes.numel_eq squeezes_S1x2560x256_S2560x256) (ix2 a b) = ix3 0 a b :=
  Shape.reshapeEquiv_eq_of_rowMajor _ (by
    rw [Shape.rowMajor_val_three, Shape.rowMajor_val_two]
    simp)

theorem a2Dst_emb (b : Fin 2) (x : Fin 2560) (y : Fin 256) : (a2Dst b).view.emb (ix2 x y) = ix3 b x y := by
  refine (congrArg (Rect.unit (s := S2x2560x256) ![b.val, 0, 0] S1x2560x256.size (a2Dst_in b)).emb (sq3 x y)).trans ?_
  funext z
  apply Fin.ext
  have g := ValueKit.rect_emb_unit_val (s := S2x2560x256) ![b.val, 0, 0] S1x2560x256.size (a2Dst_in b) (ix3 0 x y)
  match z with
  | ⟨0, _⟩ => exact (g 0)
  | ⟨1, _⟩ => exact (g 1).trans (Nat.zero_add _)
  | ⟨2, _⟩ => exact (g 2).trans (Nat.zero_add _)

theorem a2Src_emb (a : Fin 5) (x : Fin 2560) (y : Fin 256) : (a2Src a).view.emb (ix2 x y) = ix3 a x y := by
  refine (congrArg (Rect.unit (s := S5x2560x256) ![a.val, 0, 0] S1x2560x256.size (a2Src_in a)).emb (sq3 x y)).trans ?_
  funext z
  apply Fin.ext
  have g := ValueKit.rect_emb_unit_val (s := S5x2560x256) ![a.val, 0, 0] S1x2560x256.size (a2Src_in a) (ix3 0 x y)
  match z with
  | ⟨0, _⟩ => exact (g 0)
  | ⟨1, _⟩ => exact (g 1).trans (Nat.zero_add _)
  | ⟨2, _⟩ => exact (g 2).trans (Nat.zero_add _)

/-- A place of a2 holding a block of it. -/
theorem a2Land_apply (a2 : B F c main_arg6) (b : Fin 2) (a : Fin 5) (x : Fin 2560) (y : Fin 256) :
    (a2Land a2 b a : S2x2560x256.Idx → Elt F .bf16) (ix3 b x y) = a2 (ix3 a x y) := by
  have w := View.write_emb_of_mem (Val := Elt F) (v := (a2Dst b).view) (fun _ => default) ((a2Src a).view.read (Elt F) a2) (Finset.mem_univ (ix2 x y))
  rw [a2Dst_emb] at w
  exact w.trans (congrArg a2 (a2Src_emb a x y))

/-- A tile of the result written, at an element. -/
theorem outStep_at (f3 : B F c cc0_scratch3) (g : Fin 2 → B F c cc0_scratch4) (fa : B F c cc0_scratch0) (d9 : Vec F S2048x1 .f32)
    (f : S2048x2560.Idx → Elt F .bf16) (p : Fin 4 × Fin 5) (i : S2048x2560.Idx) :
    (outStep f3 g fa d9 f p : S2048x2560.Idx → Elt F .bf16) i = if (tr i, tc i) = p then outVal f3 g fa d9 (tr i, tc i) (ix2 (lr i) (lc i)) else f i := by
  split
  · next h =>
    subst h
    have e : (M16.access (outR (tr i) (tc i))).emb (ix2 (lr i) (lc i)) = i := accR_at i
    have := View.write_emb_of_mem (Val := Elt F) (v := M16.access (outR (tr i) (tc i))) f (outVal f3 g fa d9 (tr i, tc i)) (Finset.mem_univ (ix2 (lr i) (lc i)))
    rw [e] at this
    exact this
  · next h =>
    refine View.write_of_not_mem (Val := Elt F) (v := M16.access (outR p.1 p.2)) f (outVal f3 g fa d9 p) Finset.univ (i := i) fun hi => h ?_
    replace hi : i ∈ (accR p.1 p.2).set := (View.set_slice_whole cc0_scratch5 (outR p.1 p.2)) ▸ hi
    exact Prod.ext (accR_mem p.1 p.2 i hi).1 (accR_mem p.1 p.2 i hi).2
end

/-- The products of t3 with a2 at an element. -/
def loraE (t3 : B Ideal c main_arg5) (a2 : B Ideal c main_arg6) (j : ℕ) (a : Fin 5) (i : S2048x2560.Idx) : EReal :=
  let T : Fin 384 → EReal := fun κ => t3 (ix2 ⟨2048 * (j % 4) + (i 0).val, by have h : (i 0).val < 2048 := (i 0).isLt; have := Nat.mod_lt j (show 0 < 4 by decide); omega⟩ κ)
  let A : Fin 256 → EReal := fun κ => a2 (ix3 a (i 1) κ)
  (∑ κ : Fin 128, T ⟨256 + κ.val, by omega⟩ * A ⟨κ.val, by omega⟩) + ∑ κ : Fin 256, T ⟨κ.val, by omega⟩ * A κ

/-- A tile's result at an element. -/
theorem outVal_at (f3 : S2048x384.Idx → EReal) (g : Fin 2 → S2x2560x256.Idx → EReal) (fa : S2048x2560.Idx → EReal) (d9 : S2048x1.Idx → EReal) (i : S2048x2560.Idx) :
    outVal (F := Ideal) (c := c) f3 g fa d9 (tr i, tc i) (ix2 (lr i) (lc i))
      = (fa i + ((∑ κ : Fin 128, f3 (ix2 (i 0) ⟨256 + κ.val, by omega⟩) * g (hb i) (ix3 (hb i) (i 1) ⟨κ.val, by omega⟩))
          + ∑ κ : Fin 256, f3 (ix2 (i 0) ⟨κ.val, by omega⟩) * g (hb i) (ix3 (hb i) (i 1) κ))) * d9 (ix2 (i 0) 0) := by
  refine (pay193_apply ((M14.access (t3A (tr i))).read (Elt Ideal) f3) ((M15.access (a2A (tr i) (tc i))).read (Elt Ideal) (g (bAt (tr i))))
    ((M14.access (t3B (tr i))).read (Elt Ideal) f3) ((M15.access (a2B (tr i) (tc i))).read (Elt Ideal) (g (bAt (tr i)))) (rdAcc (F := Ideal) (c := c) fa (tr i) (tc i)) (rowD (F := Ideal) d9 (tr i)) (lr i) (lc i)).trans ?_
  refine congrArg₂ (fun x y : EReal => x * y) (congrArg₂ (fun x y : EReal => x + y) (rdAcc_apply (F := Ideal) (c := c) fa i) (congrArg₂ (fun x y : EReal => x + y) ?_ ?_)) (rowD_apply (F := Ideal) d9 i)
  · exact Finset.sum_congr rfl fun κ _ => congrArg₂ (fun x y : EReal => x * y) (t3B_apply (F := Ideal) (c := c) f3 i κ) (a2B_apply (F := Ideal) (c := c) (g (hb i)) i κ)
  · exact Finset.sum_congr rfl fun κ _ => congrArg₂ (fun x y : EReal => x * y) (t3A_apply (F := Ideal) (c := c) f3 i κ) (a2A_apply (F := Ideal) (c := c) (g (hb i)) i κ)

/-- A block of the result at an element. -/
theorem outBlk_at (f3 : S2048x384.Idx → EReal) (g : Fin 2 → S2x2560x256.Idx → EReal) (fa : S2048x2560.Idx → EReal) (d9 : S2048x1.Idx → EReal) (i : S2048x2560.Idx) :
    el (outBlk (F := Ideal) (c := c) f3 g fa d9) i = outVal (F := Ideal) (c := c) f3 g fa d9 (tr i, tc i) (ix2 (lr i) (lc i)) :=
  (foldl_key (I := S2048x2560.Idx) (α := EReal) (fun i => (tr i, tc i))
    (fun i x => outVal (F := Ideal) (c := c) f3 g fa d9 (tr i, tc i) (ix2 (lr i) (lc i)))
    (outStep (F := Ideal) (c := c) f3 g fa d9)
    (outStep_at (F := Ideal) (c := c) f3 g fa d9) tiles nodup_tiles _ i).trans (if_pos (mem_tiles _))

/-- A block of the result from the blocks of t3 and a2, at an element. -/
theorem out_apply (t3 : B Ideal c main_arg5) (a2 : B Ideal c main_arg6) (j : ℕ) (g : Fin 2 → Fin 5) (fa : B Ideal c cc0_scratch0) (d9 : S2048x1.Idx → EReal) (i : S2048x2560.Idx) :
    el (outBlk (F := Ideal) (c := c) (t3Land t3 j) (fun b => a2Land a2 b (g b)) fa d9) i = (el fa i + loraE t3 a2 j (g (hb i)) i) * d9 (ix2 (i 0) 0) := by
  refine (outBlk_at (c := c) (t3Land t3 j) (fun b => a2Land a2 b (g b)) fa d9 i).trans ((outVal_at (c := c) (t3Land t3 j) (fun b => a2Land a2 b (g b)) fa d9 i).trans ?_)
  refine congrArg (fun x : EReal => (el fa i + x) * d9 (ix2 (i 0) 0)) (congrArg₂ (fun x y : EReal => x + y) ?_ ?_)
  · exact Finset.sum_congr rfl fun κ _ => congrArg₂ (fun x y : EReal => x * y) (t3Land_apply t3 j _ _) (a2Land_apply a2 _ _ _ _)
  · exact Finset.sum_congr rfl fun κ _ => congrArg₂ (fun x y : EReal => x * y) (t3Land_apply t3 j _ _) (a2Land_apply a2 _ _ _ _)

end Cert.KernelIdeal.Hand
end
end
-- ==== Proof.ResValue.lean ====
/- The kernel's result element by element: the blocks a grid point reads are the arguments, and an
   element of the result is the element of the block that its row falls into. -/
module

public import proofs.«01_k».proof.Proof.Frame
public import proofs.«01_k».proof.Proof.OutValue

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

theorem coords_pt (j : Fin 4) : (cfgM m).grid.coords (pt m j) = crd j := by
  obtain ⟨j', h1, h2⟩ := coords_eq (pt m j)
  have : j' = j := Fin.ext h1.symm
  exact this ▸ h2

/-- The first block is the whole array of unit scales. -/
theorem blk0_apply (c : Dev nD) (j : Fin 4) (x : S20.Idx) : blk0 m c (pt m j) x = V m c main_arg3 x := by
  refine congrArg (V m c main_arg3) (funext fun y => Fin.ext ?_)
  match y with
  | ⟨0, _⟩ =>
    show 0 * 20 + 1 * (x 0).val = (x 0).val
    omega

/-- The second block is the whole array of column scales. -/
theorem blk1_apply (c : Dev nD) (j : Fin 4) (x : S1x10240.Idx) : blk1 m c (pt m j) x = V m c main_arg4 x := by
  refine congrArg (V m c main_arg4) (funext fun y => Fin.ext ?_)
  match y with
  | ⟨0, _⟩ =>
    show 0 * 1 + 1 * (x 0).val = (x 0).val
    omega
  | ⟨1, _⟩ =>
    show 0 * 10240 + 1 * (x 1).val = (x 1).val
    omega

theorem idx6 : ∀ j : Fin 4, cc0_transform_6 (crd j) = ![j.val, 0] := by decide

/-- The third block is the point's rows of the row scales. -/
theorem blk2_apply (c : Dev nD) (j : Fin 4) (a : Fin 2048) : blk2 m c (pt m j) (ix2 a 0) = V m c main_arg7 (ix2 ⟨2048 * j.val + a.val, by omega⟩ 0) := by
  refine congrArg (V m c main_arg7) (funext fun y => Fin.ext ?_)
  have e : cc0_transform_6 ((cfgM m).grid.coords (pt m j)) = ![j.val, 0] := by
    rw [coords_pt]
    exact idx6 j
  match y with
  | ⟨0, _⟩ =>
    show cc0_transform_6 ((cfgM m).grid.coords (pt m j)) 0 * 2048 + 1 * a.val = 2048 * j.val + a.val
    rw [e]
    show j.val * 2048 + 1 * a.val = 2048 * j.val + a.val
    omega
  | ⟨1, _⟩ =>
    show cc0_transform_6 ((cfgM m).grid.coords (pt m j)) 1 * 1 + 1 * 0 = 0
    rw [e]
    rfl

variable (n : Fin 21) (idn : Fin 8 → Fin 5)

/-- An element of a block of the result. -/
theorem res_apply (c : Dev nD) (j : Fin 4) (i : S2048x2560.Idx) :
    el (res m n idn c j) i
      = ((∑ u ∈ Finset.range 20, unitE n (blk0 m c (pt m j)) (blk1 m c (pt m j)) (V m c main_arg0) (V m c main_arg1) j.val u i)
          + loraE (V m c main_arg5) (V m c main_arg6) j.val (aAt idn j (hb i)) i) * blk2 m c (pt m j) (ix2 (i 0) 0) := by
  have h := out_apply (c := c) (V m c main_arg5) (V m c main_arg6) j.val (aAt idn j)
    (accAt c (V m c main_arg0) (V m c main_arg1) n (blk0 m c (pt m j)) (blk1 m c (pt m j)) j.val (nT n)) (blk2 m c (pt m j)) i
  have h2 := acc_apply (c := c) n (blk0 m c (pt m j)) (blk1 m c (pt m j)) (V m c main_arg0) (V m c main_arg1) j i (nT n) (le_refl _)
  rw [uo_all] at h2
  exact h.trans (congrArg (fun z : EReal => (z + loraE (V m c main_arg5) (V m c main_arg6) j.val (aAt idn j (hb i)) i) * blk2 m c (pt m j) (ix2 (i 0) 0)) h2)

theorem dxDst_emb (j : ℕ) (a : Fin 2048) (b : Fin 2560) : (dxDst j).view.emb (ix2 a b) = ix2 ⟨2048 * (j % 4) + a.val, by have := Nat.mod_lt j (show 0 < 4 by decide); omega⟩ b := by
  funext x
  apply Fin.ext
  have g := ValueKit.rect_emb_unit_val (s := S8192x2560) ![2048 * (j % 4), 0] S2048x2560.size (dxDst_in j) (ix2 a b)
  match x with
  | ⟨0, _⟩ => exact (g 0)
  | ⟨1, _⟩ => exact (g 1).trans (Nat.zero_add _)

/-- An element of the result as a plain number. -/
def elX (f : S8192x2560.Idx → EReal) (i : S8192x2560.Idx) : EReal := f i

/-- The result where a block was just placed. -/
theorem dxPut_in {c : Dev nD} (j : Fin 4) (o : B Ideal c cc0_scratch5) (G : B Ideal c main_v0) (a : Fin 2048) (b : Fin 2560) :
    elX (dxPut j.val o G) (ix2 ⟨2048 * j.val + a.val, by omega⟩ b) = el o (ix2 a b) := by
  have w := View.write_emb_of_mem (Val := Elt Ideal) (v := (dxDst j.val).view) G (M16.view.read (Elt Ideal) o) (Finset.mem_univ (ix2 a b))
  rw [dxDst_emb] at w
  have e : (ix2 ⟨2048 * j.val + a.val, by omega⟩ b : S8192x2560.Idx) = ix2 ⟨2048 * (j.val % 4) + a.val, by omega⟩ b := by
    congr 1
    apply Fin.ext
    show 2048 * j.val + a.val = 2048 * (j.val % 4) + a.val
    omega
  rw [e]
  exact w

/-- The result away from the block just placed. -/
theorem dxPut_out {c : Dev nD} (j : Fin 4) (o : B Ideal c cc0_scratch5) (G : B Ideal c main_v0) (I : S8192x2560.Idx) (h : (I 0).val / 2048 ≠ j.val) :
    elX (dxPut j.val o G) I = elX G I := by
  refine View.write_of_not_mem (Val := Elt Ideal) (v := (dxDst j.val).view) G (M16.view.read (Elt Ideal) o) Finset.univ (i := I) fun hi => h ?_
  obtain ⟨x, -, hx⟩ := Finset.mem_map.1 hi
  have hx2 : (dxDst j.val).view.emb (ix2 (x 0) (x 1)) = I := by rw [← hx]; exact congrArg _ (eq_ix2 x).symm
  have hx3 := (dxDst_emb j.val (x 0) (x 1)).symm.trans hx2
  have : 2048 * (j.val % 4) + (x 0).val = (I 0).val := congrArg (fun K : S8192x2560.Idx => (K 0).val) hx3
  have hx0 : (x 0).val < 2048 := (x 0).isLt
  omega

/-- An element of the result after the blocks of the first `k` points. -/
theorem RS_apply (c : Dev nD) (j : Fin 4) (a : Fin 2048) (b : Fin 2560) : ∀ k : ℕ, k ≤ 4 → j.val < k →
    elX (RS m n idn c k) (ix2 ⟨2048 * j.val + a.val, by omega⟩ b) = el (res m n idn c j) (ix2 a b)
  | 0, _, h => absurd h (Nat.not_lt_zero _)
  | k + 1, hk, h => by
    have hk4 : k < 4 := by omega
    have e : RS m n idn c (k + 1) = dxPut k (res m n idn c ⟨k, hk4⟩) (RS m n idn c k) := dif_pos hk4
    rw [e]
    by_cases hj : k = j.val
    · have : j = ⟨k, hk4⟩ := Fin.ext hj.symm
      subst this
      exact dxPut_in ⟨k, hk4⟩ _ _ a b
    · refine (dxPut_out ⟨k, hk4⟩ _ _ _ ?_).trans (RS_apply c j a b k (by omega) (by omega))
      show (2048 * j.val + a.val) / 2048 ≠ k
      have := a.isLt
      omega

end Cert.KernelIdeal.Hand
end
end
-- ==== Proof.Sums.lean ====
/- Sums of extended reals: the product of the rows cut into twenty units is the whole product, and the
   three parts of t times the two equal halves of a2 are the sum of the parts times one half. -/
module

public import Idealize.ShloMosaic.Lib.ValueIdx

@[expose] public section

noncomputable section

namespace Cert.Sums

/-- A sum over 10240 columns, unit by unit. -/
theorem sum_units (g : Fin 10240 → EReal) :
    ∑ u ∈ Finset.range 20, ∑ κ : Fin 512, g ⟨512 * (u % 20) + κ.val, by have := Nat.mod_lt u (show 0 < 20 by decide); omega⟩ = ∑ k : Fin 10240, g k := by
  rw [Finset.sum_range (fun u => ∑ κ : Fin 512, g ⟨512 * (u % 20) + κ.val, by have := Nat.mod_lt u (show 0 < 20 by decide); omega⟩)]
  rw [← Fintype.sum_prod_type' (fun (u : Fin 20) (κ : Fin 512) => g ⟨512 * (u.val % 20) + κ.val, by have := Nat.mod_lt u.val (show 0 < 20 by decide); omega⟩)]
  refine Fintype.sum_equiv (finProdFinEquiv (m := 20) (n := 512)) _ _ fun p => congrArg g (Fin.ext ?_)
  show 512 * (p.1.val % 20) + p.2.val = p.2.val + 512 * p.1.val
  rw [Nat.mod_eq_of_lt p.1.isLt, Nat.add_comm]

/-- A nonnegative finite factor goes into a sum. -/
theorem sum_mul {ι : Type} (s : Finset ι) (f : ι → EReal) (a : EReal) (h0 : 0 ≤ a) (ht : a ≠ ⊤) : (∑ i ∈ s, f i) * a = ∑ i ∈ s, f i * a := by
  classical
  induction s using Finset.induction_on with
  | empty => rw [Finset.sum_empty, Finset.sum_empty, zero_mul]
  | insert i s hi ih => rw [Finset.sum_insert hi, Finset.sum_insert hi, EReal.right_distrib_of_nonneg_of_ne_top h0 ht, ih]

/-- Units with one scale and units with a scale per column together are the whole product with the
    scales in the weights. -/
theorem units (D W S : Fin 10240 → EReal) (n : ℕ) (us : ℕ → EReal)
    (hs : ∀ u, u < 20 → u < n → ∀ κ : Fin 512, S ⟨512 * (u % 20) + κ.val, by have := Nat.mod_lt u (show 0 < 20 by decide); omega⟩ = us u)
    (h0 : ∀ u, u < 20 → u < n → 0 ≤ us u ∧ us u ≠ ⊤) :
    (∑ u ∈ Finset.range 20, if u < n then
        (∑ κ : Fin 512, D ⟨512 * (u % 20) + κ.val, by have := Nat.mod_lt u (show 0 < 20 by decide); omega⟩ * W ⟨512 * (u % 20) + κ.val, by have := Nat.mod_lt u (show 0 < 20 by decide); omega⟩) * us u
      else ∑ κ : Fin 512, (D ⟨512 * (u % 20) + κ.val, by have := Nat.mod_lt u (show 0 < 20 by decide); omega⟩ * S ⟨512 * (u % 20) + κ.val, by have := Nat.mod_lt u (show 0 < 20 by decide); omega⟩) * W ⟨512 * (u % 20) + κ.val, by have := Nat.mod_lt u (show 0 < 20 by decide); omega⟩)
      = ∑ k : Fin 10240, D k * (W k * S k) := by
  rw [← sum_units]
  refine Finset.sum_congr rfl fun u hu => ?_
  have hu' := Finset.mem_range.1 hu
  split
  · next h =>
    rw [sum_mul _ _ _ (h0 u hu' h).1 (h0 u hu' h).2]
    refine Finset.sum_congr rfl fun κ _ => ?_
    rw [hs u hu' h κ, mul_assoc]
  · refine Finset.sum_congr rfl fun κ _ => ?_
    rw [mul_assoc, mul_comm (S _)]

theorem coe_sum {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty, EReal.coe_zero]
  | insert i s hi ih => rw [Finset.sum_insert hi, Finset.sum_insert hi, EReal.coe_add, ih]

theorem sum_256 (g : Fin 256 → ℝ) : ∑ κ : Fin 256, g κ = ∑ κ : Fin 128, (g ⟨κ.val, by omega⟩ + g ⟨128 + κ.val, by omega⟩) := by
  rw [Finset.sum_add_distrib]
  exact Fin.sum_univ_add (a := 128) (b := 128) g

/-- The three parts of t with the two halves of a2. -/
theorem parts (T : Fin 384 → EReal) (A : Fin 256 → EReal) (d : EReal) (hT : ∀ κ, T κ ≠ ⊤ ∧ T κ ≠ ⊥) (hA : ∀ κ, A κ ≠ ⊤ ∧ A κ ≠ ⊥)
    (hAA : ∀ κ : Fin 128, A ⟨128 + κ.val, by omega⟩ = A ⟨κ.val, by omega⟩) (hd : d ≠ ⊤ ∧ d ≠ ⊥) :
    ((∑ κ : Fin 128, T ⟨256 + κ.val, by omega⟩ * A ⟨κ.val, by omega⟩) + ∑ κ : Fin 256, T ⟨κ.val, by omega⟩ * A κ) * d
      = ∑ κ : Fin 128, (((T ⟨κ.val, by omega⟩ + T ⟨128 + κ.val, by omega⟩) + T ⟨256 + κ.val, by omega⟩) * d) * A ⟨κ.val, by omega⟩ := by
  obtain ⟨t, rfl⟩ : ∃ t : Fin 384 → ℝ, T = fun κ => (t κ : EReal) := ⟨fun κ => (T κ).toReal, funext fun κ => (EReal.coe_toReal (hT κ).1 (hT κ).2).symm⟩
  obtain ⟨a, rfl⟩ : ∃ a : Fin 256 → ℝ, A = fun κ => (a κ : EReal) := ⟨fun κ => (A κ).toReal, funext fun κ => (EReal.coe_toReal (hA κ).1 (hA κ).2).symm⟩
  obtain ⟨e, rfl⟩ : ∃ e : ℝ, d = (e : EReal) := ⟨d.toReal, (EReal.coe_toReal hd.1 hd.2).symm⟩
  have haa : ∀ κ : Fin 128, a ⟨128 + κ.val, by omega⟩ = a ⟨κ.val, by omega⟩ := fun κ => EReal.coe_injective (hAA κ)
  simp only [← EReal.coe_mul, ← EReal.coe_add, coe_sum]
  refine congrArg _ ?_
  rw [sum_256 (fun κ => t ⟨κ.val, by omega⟩ * a κ), ← Finset.sum_add_distrib, Finset.sum_mul]
  refine Finset.sum_congr rfl fun κ _ => ?_
  simp only [haa κ]
  ring

/-- The products of the parts are finite. -/
theorem parts_fin (T : Fin 384 → EReal) (A : Fin 256 → EReal) (hT : ∀ κ, T κ ≠ ⊤ ∧ T κ ≠ ⊥) (hA : ∀ κ, A κ ≠ ⊤ ∧ A κ ≠ ⊥) :
    ∃ l : ℝ, (∑ κ : Fin 128, T ⟨256 + κ.val, by omega⟩ * A ⟨κ.val, by omega⟩) + ∑ κ : Fin 256, T ⟨κ.val, by omega⟩ * A κ = (l : EReal) := by
  obtain ⟨t, rfl⟩ : ∃ t : Fin 384 → ℝ, T = fun κ => (t κ : EReal) := ⟨fun κ => (T κ).toReal, funext fun κ => (EReal.coe_toReal (hT κ).1 (hT κ).2).symm⟩
  obtain ⟨a, rfl⟩ : ∃ a : Fin 256 → ℝ, A = fun κ => (a κ : EReal) := ⟨fun κ => (A κ).toReal, funext fun κ => (EReal.coe_toReal (hA κ).1 (hA κ).2).symm⟩
  simp only [← EReal.coe_mul, ← EReal.coe_add, coe_sum]
  exact ⟨_, rfl⟩

/-- A finite factor goes into a sum one of whose addends is finite. -/
theorem add_mul_fin (x : EReal) (l d : ℝ) : (x + (l : EReal)) * (d : EReal) = x * (d : EReal) + (l : EReal) * (d : EReal) := by
  induction x with
  | bot =>
    rcases lt_trichotomy d 0 with h | h | h
    · rw [EReal.bot_add, EReal.bot_mul_coe_of_neg h, ← EReal.coe_mul, EReal.top_add_coe]
    · subst h; simp
    · rw [EReal.bot_add, EReal.bot_mul_coe_of_pos h, EReal.bot_add]
  | top =>
    rcases lt_trichotomy d 0 with h | h | h
    · rw [EReal.top_add_coe, EReal.top_mul_coe_of_neg h, EReal.bot_add]
    · subst h; simp
    · rw [EReal.top_add_coe, EReal.top_mul_coe_of_pos h, ← EReal.coe_mul, EReal.top_add_coe]
  | coe x => rw [← EReal.coe_add, ← EReal.coe_mul, ← EReal.coe_mul, ← EReal.coe_mul, ← EReal.coe_add, add_mul]

end Cert.Sums
end
end
-- ==== Proof.KernelValue.lean ====
/- The kernel's result in the reference's form, when the scales of single-scale units agree with the
   column scales and the small arrays are finite. -/
module

public import proofs.«01_k».proof.Proof.ResValue
public import proofs.«01_k».proof.Proof.Sums

@[expose] public section

set_option synthInstance.maxSize 4096

noncomputable section

namespace Cert.KernelIdeal.Hand

open Cert.KernelIdeal Cert.KernelIdeal.Gen
open Idealize.ShloMosaic Idealize.ShloMosaic.TcCoe Idealize.ShloMosaic.ValueIdx

theorem us_apply (d3 : Vec Ideal S20 .f32) (u : ℕ) : us d3 u = d3 (ix1 ⟨u % 20, Nat.mod_lt _ (by decide)⟩) := by
  unfold us
  refine congrArg d3 (funext fun x => Fin.ext ?_)
  have g := ValueKit.rect_emb_unit_val (s := S20) ![u % 20] S1.size (us_in u) (Shape.Idx.first (numel1_S1.symm ▸ Nat.one_pos))
  match x with
  | ⟨0, _⟩ =>
    refine (g 0).trans ?_
    have h1 : ((Shape.Idx.first (numel1_S1.symm ▸ Nat.one_pos) : S1.Idx) 0).val < 1 := ((Shape.Idx.first (numel1_S1.symm ▸ Nat.one_pos) : S1.Idx) 0).isLt
    show u % 20 + ((Shape.Idx.first (numel1_S1.symm ▸ Nat.one_pos) : S1.Idx) 0).val = u % 20
    omega

theorem row_apply (d6 : Vec Ideal S1x10240 .f32) (u : ℕ) (κ : Fin 512) :
    row d6 u (ix2 0 κ) = d6 (ix2 0 ⟨512 * (u % 20) + κ.val, by have := Nat.mod_lt u (show 0 < 20 by decide); omega⟩) := by
  unfold row
  refine congrArg d6 (funext fun x => Fin.ext ?_)
  have g := ValueKit.rect_emb_unit_val (s := S1x10240) ![0, 512 * (u % 20)] S1x512.size (row_in u) (ix2 0 κ)
  match x with
  | ⟨0, _⟩ => exact (g 0)
  | ⟨1, _⟩ => exact (g 1)

/-- The adapter of an element's batch. -/
theorem aAt_hb (idn : Fin 8 → Fin 5) (j : Fin 4) (a : Fin 2048) (C : Fin 2560) (b : Fin 8) (hb' : b.val = 2 * j.val + a.val / 1024) :
    aAt idn j (hb (ix2 a C)) = idn b := by
  have e : tr (ix2 a C) = ⟨a.val / 512, by omega⟩ := rfl
  unfold hb
  rw [e]
  by_cases h : a.val < 1024
  · have h2 : bAt ⟨a.val / 512, by omega⟩ = 0 := by
      have : a.val / 512 = 0 ∨ a.val / 512 = 1 := by omega
      rcases this with h3 | h3
      · rw [show (⟨a.val / 512, by omega⟩ : Fin 4) = 0 from Fin.ext h3]; rfl
      · rw [show (⟨a.val / 512, by omega⟩ : Fin 4) = 1 from Fin.ext h3]; rfl
    rw [h2]
    show idn (idx0 j) = idn b
    exact congrArg idn (Fin.ext (by show 2 * j.val = b.val; omega))
  · have h2 : bAt ⟨a.val / 512, by omega⟩ = 1 := by
      have : a.val / 512 = 2 ∨ a.val / 512 = 3 := by omega
      rcases this with h3 | h3
      · rw [show (⟨a.val / 512, by omega⟩ : Fin 4) = 2 from Fin.ext h3]; rfl
      · rw [show (⟨a.val / 512, by omega⟩ : Fin 4) = 3 from Fin.ext h3]; rfl
    rw [h2]
    show idn (idx1 j) = idn b
    exact congrArg idn (Fin.ext (by show 2 * j.val + 1 = b.val; omega))

section
variable {c : Dev nD}

/-- A unit's contribution, with the scales as plain functions. -/
theorem unitE_apply (n : Fin 21) (d3 : Vec Ideal S20 .f32) (d6 : Vec Ideal S1x10240 .f32) (dyp : B Ideal c main_arg0) (wp : B Ideal c main_arg1) (j : Fin 4) (u : ℕ) (a : Fin 2048) (C : Fin 2560)
    (D W S : Fin 10240 → EReal) (hD : ∀ k, D k = (dyp : S8192x10240.Idx → EReal) (ix2 ⟨2048 * (j.val % 4) + a.val, by omega⟩ k)) (hW : ∀ k, W k = (wp : S2560x10240.Idx → EReal) (ix2 C k)) (hS : ∀ k, S k = d6 (ix2 0 k)) :
    unitE n d3 d6 dyp wp j.val u (ix2 a C)
      = if u < n.val then (∑ κ : Fin 512, D ⟨512 * (u % 20) + κ.val, by have := Nat.mod_lt u (show 0 < 20 by decide); omega⟩ * W ⟨512 * (u % 20) + κ.val, by have := Nat.mod_lt u (show 0 < 20 by decide); omega⟩) * us d3 u
        else ∑ κ : Fin 512, (D ⟨512 * (u % 20) + κ.val, by have := Nat.mod_lt u (show 0 < 20 by decide); omega⟩ * S ⟨512 * (u % 20) + κ.val, by have := Nat.mod_lt u (show 0 < 20 by decide); omega⟩) * W ⟨512 * (u % 20) + κ.val, by have := Nat.mod_lt u (show 0 < 20 by decide); omega⟩ := by
  unfold unitE
  refine if_congr Iff.rfl (congrArg (fun z : EReal => z * us d3 u) ?_) ?_
  · exact Finset.sum_congr rfl fun κ _ => congrArg₂ (fun x y : EReal => x * y) (hD _).symm (hW _).symm
  · exact Finset.sum_congr rfl fun κ _ => congrArg₂ (fun x y : EReal => x * y) (congrArg₂ (fun x y : EReal => x * y) (hD _).symm ((row_apply d6 u κ).trans (hS _).symm)) (hW _).symm

/-- A sum and the small products, times the row's scale. -/
theorem loraE_apply (t3 : S8192x384.Idx → EReal) (a2 : S5x2560x256.Idx → EReal) (j : Fin 4) (q : Fin 5) (a : Fin 2048) (C : Fin 2560) (R : Fin 8192) (hR : R.val = 2048 * j.val + a.val) (x d : EReal)
    (hT : ∀ κ, t3 (ix2 R κ) ≠ ⊤ ∧ t3 (ix2 R κ) ≠ ⊥)
    (hA : ∀ κ : Fin 128, a2 (ix3 q C ⟨128 + κ.val, by omega⟩) = a2 (ix3 q C ⟨κ.val, by omega⟩)
      ∧ a2 (ix3 q C ⟨κ.val, by omega⟩) ≠ ⊤ ∧ a2 (ix3 q C ⟨κ.val, by omega⟩) ≠ ⊥)
    (hd : d ≠ ⊤ ∧ d ≠ ⊥) :
    (x + loraE (c := c) t3 a2 j.val q (ix2 a C)) * d
      = x * d + ∑ κ : Fin 128, (((t3 (ix2 R ⟨κ.val, by omega⟩) + t3 (ix2 R ⟨128 + κ.val, by omega⟩)) + t3 (ix2 R ⟨256 + κ.val, by omega⟩)) * d)
          * a2 (ix3 q C ⟨κ.val, by omega⟩) := by
  have e : (⟨2048 * (j.val % 4) + a.val, by clear hR; omega⟩ : Fin 8192) = R := Fin.ext (by show 2048 * (j.val % 4) + a.val = R.val; omega)
  have hA' : ∀ κ : Fin 256, a2 (ix3 q C κ) ≠ ⊤ ∧ a2 (ix3 q C κ) ≠ ⊥ := fun κ => by
    by_cases hκ : κ.val < 128
    · exact (hA ⟨κ.val, hκ⟩).2
    · have := hA ⟨κ.val - 128, by omega⟩
      have e2 : (⟨128 + (κ.val - 128), by omega⟩ : Fin 256) = κ := Fin.ext (by show 128 + (κ.val - 128) = κ.val; omega)
      have h1 := this.1
      rw [e2] at h1
      rw [h1]
      exact this.2
  have h := Cert.Sums.parts (fun κ => t3 (ix2 R κ)) (fun κ => a2 (ix3 q C κ)) d hT hA' (fun κ => (hA κ).1) hd
  obtain ⟨l, hl⟩ := Cert.Sums.parts_fin (fun κ => t3 (ix2 R κ)) (fun κ => a2 (ix3 q C κ)) hT hA'
  obtain ⟨r, rfl⟩ : ∃ r : ℝ, d = (r : EReal) := ⟨d.toReal, (EReal.coe_toReal hd.1 hd.2).symm⟩
  rw [hl] at h
  have hL : loraE (c := c) t3 a2 j.val q (ix2 a C) = (l : EReal) := by
    refine Eq.trans ?_ hl
    subst e
    rfl
  rw [hL, Cert.Sums.add_mul_fin x l r, h]

end

variable (m : (ℓ : Loc nD τ sig) → Buf (Elt Ideal) ℓ) (n : Fin 21) (idn : Fin 8 → Fin 5)

/-- An element of the kernel's result, in the reference's form. -/
theorem kernel_value (c : Dev nD) (dy : S8192x10240.Idx → EReal) (w : S2560x10240.Idx → EReal) (s3 : S20.Idx → EReal) (s4 : S1x10240.Idx → EReal) (t : S8192x384.Idx → EReal)
    (a2 : S5x2560x256.Idx → EReal) (d : S8192x1.Idx → EReal)
    (h0 : dy = V m c main_arg0) (h1 : w = V m c main_arg1) (h3 : s3 = V m c main_arg3) (h4 : s4 = V m c main_arg4) (h5 : t = V m c main_arg5) (h6 : a2 = V m c main_arg6) (h7 : d = V m c main_arg7)
    (hs : ∀ u : Fin 20, u.val < n.val → ∀ κ : Fin 512, s4 (ix2 0 ⟨512 * u.val + κ.val, by omega⟩) = s3 (ix1 u) ∧ 0 ≤ s3 (ix1 u) ∧ s3 (ix1 u) ≠ ⊤)
    (hd : ∀ R : Fin 8192, d (ix2 R 0) ≠ ⊤ ∧ d (ix2 R 0) ≠ ⊥)
    (hT : ∀ (R : Fin 8192) (κ : Fin 384), t (ix2 R κ) ≠ ⊤ ∧ t (ix2 R κ) ≠ ⊥)
    (hA : ∀ (q : Fin 5) (C : Fin 2560) (κ : Fin 128), a2 (ix3 q C ⟨128 + κ.val, by omega⟩) = a2 (ix3 q C ⟨κ.val, by omega⟩) ∧ a2 (ix3 q C ⟨κ.val, by omega⟩) ≠ ⊤ ∧ a2 (ix3 q C ⟨κ.val, by omega⟩) ≠ ⊥)
    (j : Fin 4) (a : Fin 2048) (C : Fin 2560) (R : Fin 8192) (hR : R.val = 2048 * j.val + a.val) (b : Fin 8) (hb' : b.val = R.val / 1024) :
    elX (RS m n idn c 4) (ix2 R C)
      = (∑ k : Fin 10240, dy (ix2 R k) * (w (ix2 C k) * s4 (ix2 0 k))) * d (ix2 R 0)
        + ∑ κ : Fin 128, (((t (ix2 R ⟨κ.val, by omega⟩) + t (ix2 R ⟨128 + κ.val, by omega⟩)) + t (ix2 R ⟨256 + κ.val, by omega⟩)) * d (ix2 R 0)) * a2 (ix3 (idn b) C ⟨κ.val, by omega⟩) := by
  have eR : R = ⟨2048 * j.val + a.val, by omega⟩ := Fin.ext hR
  have eR2 : R = ⟨2048 * (j.val % 4) + a.val, by omega⟩ := Fin.ext (by show R.val = 2048 * (j.val % 4) + a.val; omega)
  have hrs : elX (RS m n idn c 4) (ix2 R C) = el (res m n idn c j) (ix2 a C) := by
    rw [eR]
    exact RS_apply m n idn c j a C 4 (le_refl _) j.isLt
  refine hrs.trans ((res_apply m n idn c j (ix2 a C)).trans ?_)
  have e7 : blk2 m c (pt m j) (ix2 ((ix2 a C : S2048x2560.Idx) 0) 0) = d (ix2 R 0) := by
    rw [h7, eR]
    exact blk2_apply m c j a
  have hus : ∀ u : ℕ, u < 20 → us (blk0 m c (pt m j)) u = s3 (ix1 ⟨u % 20, Nat.mod_lt _ (by decide)⟩) := fun u _ => by
    rw [h3]
    exact (us_apply _ u).trans (blk0_apply m c j _)
  have hsum : ∑ u ∈ Finset.range 20, unitE n (blk0 m c (pt m j)) (blk1 m c (pt m j)) (V m c main_arg0) (V m c main_arg1) j.val u (ix2 a C)
      = ∑ k : Fin 10240, dy (ix2 R k) * (w (ix2 C k) * s4 (ix2 0 k)) := by
    refine Eq.trans (Finset.sum_congr rfl fun u _ => unitE_apply n (blk0 m c (pt m j)) (blk1 m c (pt m j)) (V m c main_arg0) (V m c main_arg1) j u a C
      (fun k => dy (ix2 R k)) (fun k => w (ix2 C k)) (fun k => s4 (ix2 0 k)) (fun k => by rw [h0, eR2]) (fun k => by rw [h1]) (fun k => by rw [h4]; exact (blk1_apply m c j _).symm)) ?_
    refine Cert.Sums.units (fun k => dy (ix2 R k)) (fun k => w (ix2 C k)) (fun k => s4 (ix2 0 k)) n.val (us (blk0 m c (pt m j))) ?_ ?_
    · intro u hu hun κ
      rw [hus u hu]
      exact (hs ⟨u % 20, Nat.mod_lt _ (by decide)⟩ (by show u % 20 < n.val; rw [Nat.mod_eq_of_lt hu]; exact hun) κ).1
    · intro u hu hun
      rw [hus u hu]
      exact (hs ⟨u % 20, Nat.mod_lt _ (by decide)⟩ (by show u % 20 < n.val; rw [Nat.mod_eq_of_lt hu]; exact hun) 0).2
  have hl := loraE_apply (c := c) (V m c main_arg5) (V m c main_arg6) j (idn b) a C R hR (∑ k : Fin 10240, dy (ix2 R k) * (w (ix2 C k) * s4 (ix2 0 k))) (d (ix2 R 0)) (by rw [← h5]; exact hT R) (by rw [← h6]; exact hA (idn b) C) (hd R)
  have ha := aAt_hb idn j a C b (by omega)
  rw [ha, e7, hsum, hl, ← h5, ← h6]

end Cert.KernelIdeal.Hand
end
end
-- ==== Proof.RefValue.lean ====
/- The reference's result element by element: the product of the rows with the scaled weights, and the
   product of the sum of the parts of t with the gathered half of a2, each times the scale of the row. -/
module

public import proofs.«01_k».proof.Proof.Gen.ReferenceIdeal.Value
public import Idealize.ShloMosaic.Lib.ValueIdx
public import Idealize.ShloMosaic.Lib.MatmulPlain
public import Idealize.ShloMosaic.Lib.Pipeline.ValueKit.Geometry

@[expose] public section

set_option synthInstance.maxSize 4096

noncomputable section

namespace Cert.ReferenceIdeal.Hand

open Cert.ReferenceIdeal Cert.ReferenceIdeal.Gen
open Idealize.ShloMosaic Idealize.ShloMosaic.TcCoe Idealize.ShloMosaic.ValueIdx

theorem zero32 : Ideal.ofBits .f32 0x00000000#32 = 0 := by simp [Ideal.ofBits, Ideal.ieee]

/-- The large product, element by element. -/
theorem mmBig {φ₁ φ₂ : FTy} (x : FVec Ideal S8192x10240 φ₁) (y : FVec Ideal S2560x10240 φ₂) (R : Fin 8192) (C : Fin 2560) :
    matmul dot_S8192x10240_S2560x10240_S8192x2560_1_1_0_0_n_n (some .fp32) x y (constant S8192x2560 .f32 0x00000000#32) (ix2 R C)
      = ∑ k : Fin 10240, x (ix2 R k) * y (ix2 C k) := by
  have h := Ideal.matmul_transposedRhs_apply (M := 8192) (K := 10240) (N := 2560) (some .fp32) x y (constant S8192x2560 .f32 0x00000000#32) R C
  refine h.trans ?_
  rw [show (constant S8192x2560 .f32 0x00000000#32 : FVec Ideal S8192x2560 .f32) (ix2 R C) = 0 from zero32, zero_add]

/-- The small product, element by element. -/
theorem mmSmall {φ₁ φ₂ : FTy} (x : FVec Ideal S1024x128 φ₁) (y : FVec Ideal S2560x128 φ₂) (r : Fin 1024) (C : Fin 2560) :
    matmul dot_S1024x128_S2560x128_S1024x2560_1_1_0_0_n_n (some .fp32) x y (constant S1024x2560 .f32 0x00000000#32) (ix2 r C)
      = ∑ k : Fin 128, x (ix2 r k) * y (ix2 C k) := by
  have h := Ideal.matmul_transposedRhs_apply (M := 1024) (K := 128) (N := 2560) (some .fp32) x y (constant S1024x2560 .f32 0x00000000#32) r C
  refine h.trans ?_
  rw [show (constant S1024x2560 .f32 0x00000000#32 : FVec Ideal S1024x2560 .f32) (ix2 r C) = 0 from zero32, zero_add]

theorem pay1_apply (v0 : Vec Ideal S2560x10240 .fp8e4m3) (v2 : Vec Ideal S1x10240 .f32) (v6 : Vec Ideal S8192x10240 .fp8e5m2) (v9 : Vec Ideal S8192x1 .f32)
    (R : Fin 8192) (C : Fin 2560) :
    k0_pay1 v0 v2 v6 v9 (ix2 R C) = (∑ k : Fin 10240, v6 (ix2 R k) * (v0 (ix2 C k) * v2 (ix2 0 k))) * v9 (ix2 R 0) := by
  unfold k0_pay1
  rw [mulf_apply, mmBig, broadcastTo_apply v9 broadcasts_S8192x1_S8192x2560 (ix2 R C) (ix2 R 0) (fun x => by
      match x with
      | ⟨0, _⟩ => rfl
      | ⟨1, _⟩ => rfl)]
  refine congrArg (fun z : EReal => z * v9 (ix2 R 0)) (Finset.sum_congr rfl fun k _ => ?_)
  rw [mulf_apply, broadcastTo_apply _ broadcasts_S1x10240_S2560x10240 (ix2 C k) (ix2 0 k) (fun x => by
      match x with
      | ⟨0, _⟩ => rfl
      | ⟨1, _⟩ => rfl)]
  rfl

theorem pay2_apply (v12 v14 v17 : Vec Ideal S8192x128 .bf16) (v20 : Vec Ideal S8192x1 .f32) (R : Fin 8192) (κ : Fin 128) :
    k0_pay2 v12 v14 v17 v20 (ix2 R κ) = ((v12 (ix2 R κ) + v14 (ix2 R κ)) + v17 (ix2 R κ)) * v20 (ix2 R 0) := by
  unfold k0_pay2
  rw [mulf_apply, addf_apply, addf_apply, broadcastTo_apply v20 broadcasts_S8192x1_S8192x128 (ix2 R κ) (ix2 R 0) (fun x => by
      match x with
      | ⟨0, _⟩ => rfl
      | ⟨1, _⟩ => rfl)]
  rfl

theorem cast3 {α : Type} (x : S1x2560x128.Idx → α) (a : Fin 2560) (b : Fin 128) :
    shapeCast S2560x128 x shapeCasts_S1x2560x128_S2560x128 (ix2 a b) = x (ix3 0 a b) :=
  shapeCast_apply x _ _ _ (by
    rw [Shape.rowMajor_val_three, Shape.rowMajor_val_two]
    simp)

/-- The small product of the rows from `off` on. -/
theorem tile_apply (v22 : FVec Ideal S8192x128 .f32) (a : Vec Ideal S1x2560x128 .bf16) (off : ℕ) (h : S8192x128.Slices ![off, 0] S1024x128) (r : Fin 1024) (C : Fin 2560)
    (ho : off + r.val < 8192) :
    matmul dot_S1024x128_S2560x128_S1024x2560_1_1_0_0_n_n (some .fp32) (extractStridedSlice S1024x128 ![off, 0] v22 h)
        (extf .f32 (shapeCast S2560x128 a shapeCasts_S1x2560x128_S2560x128) bitsLt_bf16_f32 : FVec Ideal S2560x128 .f32) (constant S1024x2560 .f32 0x00000000#32) (ix2 r C)
      = ∑ κ : Fin 128, v22 (ix2 ⟨off + r.val, ho⟩ κ) * a (ix3 0 C κ) := by
  rw [mmSmall]
  refine Finset.sum_congr rfl fun κ _ => ?_
  rw [extf_apply, cast3, extractStridedSlice_apply ![off, 0] v22 h (ix2 r κ) (ix2 ⟨off + r.val, ho⟩ κ) (fun x => by
      match x with
      | ⟨0, _⟩ => rfl
      | ⟨1, _⟩ => exact (Nat.zero_add _).symm)]

/-- Eight blocks of rows one below the other. -/
theorem cat8_apply (x : Fin 8 → S1024x2560.Idx → EReal)
    (h : Shape.Concatenates (([⟨S1024x2560, x 0⟩, ⟨S1024x2560, x 1⟩, ⟨S1024x2560, x 2⟩, ⟨S1024x2560, x 3⟩, ⟨S1024x2560, x 4⟩, ⟨S1024x2560, x 5⟩, ⟨S1024x2560, x 6⟩, ⟨S1024x2560, x 7⟩] : List ((s : Shape) × (s.Idx → EReal))).map (·.1)) S8192x2560 0)
    (b : Fin 8) (r : Fin 1024) (C : Fin 2560) (hR : 1024 * b.val + r.val < 8192) :
    concatenate S8192x2560 0 [⟨S1024x2560, x 0⟩, ⟨S1024x2560, x 1⟩, ⟨S1024x2560, x 2⟩, ⟨S1024x2560, x 3⟩, ⟨S1024x2560, x 4⟩, ⟨S1024x2560, x 5⟩, ⟨S1024x2560, x 6⟩, ⟨S1024x2560, x 7⟩] h (ix2 ⟨1024 * b.val + r.val, hR⟩ C)
      = x b (ix2 r C) := by
  have hi : ∀ q : Fin S1024x2560.rank, q.cast (show S1024x2560.rank = S8192x2560.rank from rfl) ≠ (0 : Fin S8192x2560.rank) →
      ((ix2 r C : S1024x2560.Idx) q).val = ((ix2 ⟨1024 * b.val + r.val, hR⟩ C : S8192x2560.Idx) (q.cast rfl)).val := fun q hq => by
    match q with
    | ⟨0, _⟩ => exact absurd rfl hq
    | ⟨1, _⟩ => rfl
  match b, hR, hi with
  | ⟨0, _⟩, hR, hi => exact concatenate_apply_piece 0 _ h _ 0 (by simp) S1024x2560 (x 0) rfl rfl (1024 * 0) (by simp) (ix2 r C) hi rfl
  | ⟨1, _⟩, hR, hi => exact concatenate_apply_piece 0 _ h _ 1 (by simp) S1024x2560 (x 1) rfl rfl (1024 * 1) (by simp) (ix2 r C) hi rfl
  | ⟨2, _⟩, hR, hi => exact concatenate_apply_piece 0 _ h _ 2 (by simp) S1024x2560 (x 2) rfl rfl (1024 * 2) (by simp) (ix2 r C) hi rfl
  | ⟨3, _⟩, hR, hi => exact concatenate_apply_piece 0 _ h _ 3 (by simp) S1024x2560 (x 3) rfl rfl (1024 * 3) (by simp) (ix2 r C) hi rfl
  | ⟨4, _⟩, hR, hi => exact concatenate_apply_piece 0 _ h _ 4 (by simp) S1024x2560 (x 4) rfl rfl (1024 * 4) (by simp) (ix2 r C) hi rfl
  | ⟨5, _⟩, hR, hi => exact concatenate_apply_piece 0 _ h _ 5 (by simp) S1024x2560 (x 5) rfl rfl (1024 * 5) (by simp) (ix2 r C) hi rfl
  | ⟨6, _⟩, hR, hi => exact concatenate_apply_piece 0 _ h _ 6 (by simp) S1024x2560 (x 6) rfl rfl (1024 * 6) (by simp) (ix2 r C) hi rfl
  | ⟨7, _⟩, hR, hi => exact concatenate_apply_piece 0 _ h _ 7 (by simp) S1024x2560 (x 7) rfl rfl (1024 * 7) (by simp) (ix2 r C) hi rfl

/-- Two summands at an element. -/
theorem sum_out (v11 : FVec Ideal S8192x2560 .f32) (k : S8192x2560.Idx → EReal) (I : S8192x2560.Idx) (z : EReal) (h : k I = z) :
    (truncf .bf16 (addf v11 (k : FVec Ideal S8192x2560 .f32)) bitsLt_bf16_f32 : FVec Ideal S8192x2560 .bf16) I = v11 I + z := by
  rw [truncf_apply, addf_apply, h]

/-- A block of one batch of the gathered halves. -/
theorem ld4 (x4 : S8x2560x128.Idx → EReal) (b : Fin 8) (h : ∀ a : Fin 3, (![b.val, 0, 0] : Fin 3 → ℕ) a + S1x2560x128.size a ≤ S8x2560x128.size a) (C : Fin 2560) (κ : Fin 128) :
    x4 ((Rect.unit (s := S8x2560x128) ![b.val, 0, 0] S1x2560x128.size h).emb (ix3 0 C κ)) = x4 (ix3 b C κ) := by
  refine congrArg x4 (funext fun x => Fin.ext ?_)
  have g := ValueKit.rect_emb_unit_val (s := S8x2560x128) ![b.val, 0, 0] S1x2560x128.size h (ix3 0 C κ)
  match x with
  | ⟨0, _⟩ => exact (g 0)
  | ⟨1, _⟩ => exact (g 1).trans (Nat.zero_add _)
  | ⟨2, _⟩ => exact (g 2).trans (Nat.zero_add _)

/-- Columns of t from `o` on. -/
theorem ld3 (x3 : S8192x384.Idx → EReal) (o : ℕ) (h : ∀ a : Fin 2, (![0, o] : Fin 2 → ℕ) a + S8192x128.size a ≤ S8192x384.size a) (R : Fin 8192) (κ : Fin 128) (ho : o + κ.val < 384) :
    x3 ((Rect.unit (s := S8192x384) ![0, o] S8192x128.size h).emb (ix2 R κ)) = x3 (ix2 R ⟨o + κ.val, ho⟩) := by
  refine congrArg x3 (funext fun x => Fin.ext ?_)
  have g := ValueKit.rect_emb_unit_val (s := S8192x384) ![0, o] S8192x128.size h (ix2 R κ)
  match x with
  | ⟨0, _⟩ => exact (g 0).trans (Nat.zero_add _)
  | ⟨1, _⟩ => exact (g 1)

/-- The last payload: the large product plus the eight small ones. -/
theorem pay6_apply (v11 : FVec Ideal S8192x2560 .f32) (v22 : FVec Ideal S8192x128 .f32) (v27 v32 : FVec Ideal S1024x2560 .f32) (v33 : FVec Ideal S1024x128 .f32)
    (v34 v39 v44 v49 v54 v59 : Vec Ideal S1x2560x128 .bf16) (a7 : S8x2560x128.Idx → EReal)
    (h27 : ∀ (r : Fin 1024) (C : Fin 2560), v27 (ix2 r C) = ∑ κ : Fin 128, v22 (ix2 ⟨0 + r.val, by omega⟩ κ) * a7 (ix3 0 C κ))
    (h32 : ∀ (r : Fin 1024) (C : Fin 2560), v32 (ix2 r C) = ∑ κ : Fin 128, v22 (ix2 ⟨1024 + r.val, by omega⟩ κ) * a7 (ix3 1 C κ))
    (h33 : v33 = extractStridedSlice S1024x128 ![2048, 0] v22 slices_S8192x128_o2048_0_S1024x128)
    (h34 : ∀ (C : Fin 2560) (κ : Fin 128), v34 (ix3 0 C κ) = a7 (ix3 2 C κ))
    (h39 : ∀ (C : Fin 2560) (κ : Fin 128), v39 (ix3 0 C κ) = a7 (ix3 3 C κ))
    (h44 : ∀ (C : Fin 2560) (κ : Fin 128), v44 (ix3 0 C κ) = a7 (ix3 4 C κ))
    (h49 : ∀ (C : Fin 2560) (κ : Fin 128), v49 (ix3 0 C κ) = a7 (ix3 5 C κ))
    (h54 : ∀ (C : Fin 2560) (κ : Fin 128), v54 (ix3 0 C κ) = a7 (ix3 6 C κ))
    (h59 : ∀ (C : Fin 2560) (κ : Fin 128), v59 (ix3 0 C κ) = a7 (ix3 7 C κ))
    (b : Fin 8) (r : Fin 1024) (C : Fin 2560) :
    k0_pay6 v11 v22 v27 v32 v33 v34 v39 v44 v49 v54 v59 (ix2 ⟨1024 * b.val + r.val, by omega⟩ C)
      = v11 (ix2 ⟨1024 * b.val + r.val, by omega⟩ C) + ∑ κ : Fin 128, v22 (ix2 ⟨1024 * b.val + r.val, by omega⟩ κ) * a7 (ix3 b C κ) := by
  subst h33
  have hR : 1024 * b.val + r.val < 8192 := by omega
  let x : Fin 8 → S1024x2560.Idx → EReal := fun q => match q with
    | 0 => v27
    | 1 => v32
    | 2 => matmul dot_S1024x128_S2560x128_S1024x2560_1_1_0_0_n_n (some .fp32) (extractStridedSlice S1024x128 ![2048, 0] v22 slices_S8192x128_o2048_0_S1024x128) (extf .f32 (shapeCast S2560x128 v34 shapeCasts_S1x2560x128_S2560x128) bitsLt_bf16_f32 : FVec Ideal S2560x128 .f32) (constant S1024x2560 .f32 0x00000000#32)
    | 3 => matmul dot_S1024x128_S2560x128_S1024x2560_1_1_0_0_n_n (some .fp32) (extractStridedSlice S1024x128 ![3072, 0] v22 slices_S8192x128_o3072_0_S1024x128) (extf .f32 (shapeCast S2560x128 v39 shapeCasts_S1x2560x128_S2560x128) bitsLt_bf16_f32 : FVec Ideal S2560x128 .f32) (constant S1024x2560 .f32 0x00000000#32)
    | 4 => matmul dot_S1024x128_S2560x128_S1024x2560_1_1_0_0_n_n (some .fp32) (extractStridedSlice S1024x128 ![4096, 0] v22 slices_S8192x128_o4096_0_S1024x128) (extf .f32 (shapeCast S2560x128 v44 shapeCasts_S1x2560x128_S2560x128) bitsLt_bf16_f32 : FVec Ideal S2560x128 .f32) (constant S1024x2560 .f32 0x00000000#32)
    | 5 => matmul dot_S1024x128_S2560x128_S1024x2560_1_1_0_0_n_n (some .fp32) (extractStridedSlice S1024x128 ![5120, 0] v22 slices_S8192x128_o5120_0_S1024x128) (extf .f32 (shapeCast S2560x128 v49 shapeCasts_S1x2560x128_S2560x128) bitsLt_bf16_f32 : FVec Ideal S2560x128 .f32) (constant S1024x2560 .f32 0x00000000#32)
    | 6 => matmul dot_S1024x128_S2560x128_S1024x2560_1_1_0_0_n_n (some .fp32) (extractStridedSlice S1024x128 ![6144, 0] v22 slices_S8192x128_o6144_0_S1024x128) (extf .f32 (shapeCast S2560x128 v54 shapeCasts_S1x2560x128_S2560x128) bitsLt_bf16_f32 : FVec Ideal S2560x128 .f32) (constant S1024x2560 .f32 0x00000000#32)
    | 7 => matmul dot_S1024x128_S2560x128_S1024x2560_1_1_0_0_n_n (some .fp32) (extractStridedSlice S1024x128 ![7168, 0] v22 slices_S8192x128_o7168_0_S1024x128) (extf .f32 (shapeCast S2560x128 v59 shapeCasts_S1x2560x128_S2560x128) bitsLt_bf16_f32 : FVec Ideal S2560x128 .f32) (constant S1024x2560 .f32 0x00000000#32)
  have hx : x b (ix2 r C) = ∑ κ : Fin 128, v22 (ix2 ⟨1024 * b.val + r.val, hR⟩ κ) * a7 (ix3 b C κ) := by
    match b, hR with
    | ⟨0, _⟩, hR => exact h27 r C
    | ⟨1, _⟩, hR => exact h32 r C
    | ⟨2, _⟩, hR => exact (tile_apply v22 v34 2048 _ r C (by omega)).trans (Finset.sum_congr rfl fun κ _ => congrArg (fun z : EReal => _ * z) (h34 C κ))
    | ⟨3, _⟩, hR => exact (tile_apply v22 v39 3072 _ r C (by omega)).trans (Finset.sum_congr rfl fun κ _ => congrArg (fun z : EReal => _ * z) (h39 C κ))
    | ⟨4, _⟩, hR => exact (tile_apply v22 v44 4096 _ r C (by omega)).trans (Finset.sum_congr rfl fun κ _ => congrArg (fun z : EReal => _ * z) (h44 C κ))
    | ⟨5, _⟩, hR => exact (tile_apply v22 v49 5120 _ r C (by omega)).trans (Finset.sum_congr rfl fun κ _ => congrArg (fun z : EReal => _ * z) (h49 C κ))
    | ⟨6, _⟩, hR => exact (tile_apply v22 v54 6144 _ r C (by omega)).trans (Finset.sum_congr rfl fun κ _ => congrArg (fun z : EReal => _ * z) (h54 C κ))
    | ⟨7, _⟩, hR => exact (tile_apply v22 v59 7168 _ r C (by omega)).trans (Finset.sum_congr rfl fun κ _ => congrArg (fun z : EReal => _ * z) (h59 C κ))
  exact sum_out v11 _ _ _ ((cat8_apply x _ b r C hR).trans hx)

/-- A rectangle of the whole shape reads the whole array. -/
theorem ld_full {s : Shape} {α : Type} (X : s.Idx → α) (off : Fin s.rank → ℕ) (h : ∀ a, off a + s.size a ≤ s.size a) : (fun x => X ((Rect.unit (s := s) off s.size h).emb x)) = X := by
  funext x
  refine congrArg X (funext fun a => Fin.ext ?_)
  have g := ValueKit.rect_emb_unit_val (s := s) off s.size h x a
  have := h a
  exact g.trans (by omega)

/-- What the body stores, element by element. -/
theorem out_apply (x0 : Vec Ideal S8192x10240 .fp8e5m2) (x1 : Vec Ideal S2560x10240 .fp8e4m3) (x2 : Vec Ideal S1x10240 .f32) (x3 : Vec Ideal S8192x384 .bf16) (x4 : Vec Ideal S8x2560x128 .bf16)
    (x5 : Vec Ideal S8192x1 .f32) (b : Fin 8) (r : Fin 1024) (C : Fin 2560) (R : Fin 8192) (hR : R = ⟨1024 * b.val + r.val, by omega⟩) :
    out0_6 x0 x1 x2 x3 x4 x5 (ix2 R C)
      = (∑ k : Fin 10240, x0 (ix2 R k) * (x1 (ix2 C k) * x2 (ix2 0 k))) * x5 (ix2 R 0)
        + ∑ κ : Fin 128, (((x3 (ix2 R ⟨κ.val, by omega⟩) + x3 (ix2 R ⟨128 + κ.val, by omega⟩)) + x3 (ix2 R ⟨256 + κ.val, by omega⟩)) * x5 (ix2 R 0)) * x4 (ix3 b C κ) := by
  have e0 : View.ld x0 r0_2 = x0 := ld_full (s := S8192x10240) x0 _ _
  have e1 : View.ld x1 r0_0 = x1 := ld_full (s := S2560x10240) x1 _ _
  have e2 : View.ld x2 r0_1 = x2 := ld_full (s := S1x10240) x2 _ _
  have e5 : View.ld x5 r0_3 = x5 := ld_full (s := S8192x1) x5 _ _
  have eI : r0_15.emb (ix2 R C) = ix2 R C := congrFun (ld_full (s := S8192x2560) (fun x => x) _ _) (ix2 R C)
  have h0 : out0_6 x0 x1 x2 x3 x4 x5 (ix2 R C) = out0_6 x0 x1 x2 x3 x4 x5 (r0_15.emb (ix2 R C)) := by rw [eI]
  refine h0.trans ?_
  unfold out0_6
  refine (View.canon_cons_emb r0_15 _ _ (ix2 R C)).trans ?_
  rw [e0, e1, e2, e5]
  have hp2 : ∀ (R : Fin 8192) (κ : Fin 128), k0_pay2 (View.ld x3 r0_4) (View.ld x3 r0_5) (View.ld x3 r0_6) x5 (ix2 R κ)
      = ((x3 (ix2 R ⟨κ.val, by omega⟩) + x3 (ix2 R ⟨128 + κ.val, by omega⟩)) + x3 (ix2 R ⟨256 + κ.val, by omega⟩)) * x5 (ix2 R 0) := fun R κ => by
    refine (pay2_apply _ _ _ x5 R κ).trans ?_
    refine congrArg (fun z : EReal => z * x5 (ix2 R 0)) ?_
    refine congrArg₂ (fun y z : EReal => y + z) (congrArg₂ (fun y z : EReal => y + z) ((ld3 x3 0 _ R κ (by omega)).trans ?_) (ld3 x3 128 _ R κ (by omega))) (ld3 x3 256 _ R κ (by omega))
    exact congrArg (fun q : Fin 384 => x3 (ix2 R q)) (Fin.ext (Nat.zero_add _))
  subst hR
  refine (pay6_apply _ (k0_pay2 (View.ld x3 r0_4) (View.ld x3 r0_5) (View.ld x3 r0_6) x5) _ _ _ _ _ _ _ _ _ x4
    (fun r C => (tile_apply _ (View.ld x4 r0_7) 0 _ r C (by omega)).trans (Finset.sum_congr rfl fun κ _ => congrArg (fun z : EReal => _ * z) (ld4 x4 0 _ C κ)))
    (fun r C => (tile_apply _ (View.ld x4 r0_8) 1024 _ r C (by omega)).trans (Finset.sum_congr rfl fun κ _ => congrArg (fun z : EReal => _ * z) (ld4 x4 1 _ C κ)))
    rfl (fun C κ => ld4 x4 2 _ C κ) (fun C κ => ld4 x4 3 _ C κ) (fun C κ => ld4 x4 4 _ C κ) (fun C κ => ld4 x4 5 _ C κ) (fun C κ => ld4 x4 6 _ C κ) (fun C κ => ld4 x4 7 _ C κ)
    b r C).trans ?_
  exact congrArg₂ (fun y z : EReal => y + z) (pay1_apply x1 x2 x0 x5 _ C) (Finset.sum_congr rfl fun κ _ => congrArg (fun z : EReal => z * x4 (ix3 b C κ)) (hp2 _ κ))

variable (m : (ℓ : Loc nD τ sig) → Buf (Elt Ideal) ℓ)

/-- The only grid point. -/
def t0 : Fin cfg0.N := ⟨0, by decide⟩

theorem blkA (c : Dev nD) : (iblk m c 0 t0 : S8192x10240.Idx → EReal) = V m c main_arg0 := by
  funext x
  refine congrArg (V m c main_arg0) (funext fun y => Fin.ext ?_)
  match y with
  | ⟨0, _⟩ => exact (show 0 * 8192 + 1 * (x 0).val = (x 0).val by omega)
  | ⟨1, _⟩ => exact (show 0 * 10240 + 1 * (x 1).val = (x 1).val by omega)
theorem blkB (c : Dev nD) : (iblk m c 1 t0 : S2560x10240.Idx → EReal) = V m c main_arg1 := by
  funext x
  refine congrArg (V m c main_arg1) (funext fun y => Fin.ext ?_)
  match y with
  | ⟨0, _⟩ => exact (show 0 * 2560 + 1 * (x 0).val = (x 0).val by omega)
  | ⟨1, _⟩ => exact (show 0 * 10240 + 1 * (x 1).val = (x 1).val by omega)
theorem blkC (c : Dev nD) : (iblk m c 2 t0 : S1x10240.Idx → EReal) = V m c main_arg4 := by
  funext x
  refine congrArg (V m c main_arg4) (funext fun y => Fin.ext ?_)
  match y with
  | ⟨0, _⟩ => exact (show 0 * 1 + 1 * (x 0).val = (x 0).val by omega)
  | ⟨1, _⟩ => exact (show 0 * 10240 + 1 * (x 1).val = (x 1).val by omega)
theorem blkD (c : Dev nD) : (iblk m c 3 t0 : S8192x384.Idx → EReal) = V m c main_arg5 := by
  funext x
  refine congrArg (V m c main_arg5) (funext fun y => Fin.ext ?_)
  match y with
  | ⟨0, _⟩ => exact (show 0 * 8192 + 1 * (x 0).val = (x 0).val by omega)
  | ⟨1, _⟩ => exact (show 0 * 384 + 1 * (x 1).val = (x 1).val by omega)
theorem blkE (c : Dev nD) : (iblk m c 4 t0 : S8x2560x128.Idx → EReal) = V m c main_v7 := by
  funext x
  refine congrArg (V m c main_v7) (funext fun y => Fin.ext ?_)
  match y with
  | ⟨0, _⟩ => exact (show 0 * 8 + 1 * (x 0).val = (x 0).val by omega)
  | ⟨1, _⟩ => exact (show 0 * 2560 + 1 * (x 1).val = (x 1).val by omega)
  | ⟨2, _⟩ => exact (show 0 * 128 + 1 * (x 2).val = (x 2).val by omega)
theorem blkF (c : Dev nD) : (iblk m c 5 t0 : S8192x1.Idx → EReal) = V m c main_arg7 := by
  funext x
  refine congrArg (V m c main_arg7) (funext fun y => Fin.ext ?_)
  match y with
  | ⟨0, _⟩ => exact (show 0 * 8192 + 1 * (x 0).val = (x 0).val by omega)
  | ⟨1, _⟩ => exact (show 0 * 1 + 1 * (x 1).val = (x 1).val by omega)

/-- What the one point writes back. -/
def outV (c : Dev nD) : S8192x2560.Idx → EReal := out0_6 (F := Ideal) (iblk m c 0 t0) (iblk m c 1 t0) (iblk m c 2 t0) (iblk m c 3 t0) (iblk m c 4 t0) (iblk m c 5 t0)

/-- The result array. -/
def arrV (c : Dev nD) : S8192x2560.Idx → EReal := (dats m 0 c).arrAt 6 cfg0.N

theorem flush0 : (cfg0.win 6).flush t0 = true := by decide +kernel

set_option maxRecDepth 40000 in
theorem arr_read (c : Dev nD) (x : ((cfg0.win 6).xblock (grid0.coords t0)).Idx) : arrV m c (((cfg0.win 6).blk t0).view.emb x) = (dats m 0 c).flushed 6 t0 x :=
  congrFun (Value.blocks6 m c t0 flush0) x

theorem flushed_read (c : Dev nD) (x : ((cfg0.win 6).xblock (grid0.coords t0)).Idx) : (dats m 0 c).flushed 6 t0 x = outV m c ((cfg0.win 6).xinj (grid0.coords t0) x) :=
  congrFun (Value.flushed6 m c t0) x

/-- The result array is what the one point stores. -/
theorem arr_eq (c : Dev nD) (R : Fin 8192) (C : Fin 2560) :
    arrV m c (ix2 R C)
      = out0_6 (F := Ideal) (V m c main_arg0) (V m c main_arg1) (V m c main_arg4) (V m c main_arg5) (V m c main_v7) (V m c main_arg7) (ix2 R C) := by
  have e1 : ((cfg0.win 6).blk t0).view.emb (ix2 R C) = ix2 R C := funext fun y => Fin.ext (by
    match y with
    | ⟨0, _⟩ => exact (show 0 * 8192 + 1 * R.val = R.val by omega)
    | ⟨1, _⟩ => exact (show 0 * 2560 + 1 * C.val = C.val by omega))
  have e2 : (cfg0.win 6).xinj (grid0.coords t0) (ix2 R C) = ix2 R C := funext fun y => Fin.ext (by
    match y with
    | ⟨0, _⟩ => rfl
    | ⟨1, _⟩ => rfl)
  refine (congrArg (arrV m c) e1).symm.trans (((arr_read m c (ix2 R C)).trans (flushed_read m c (ix2 R C))).trans ((congrArg (outV m c) e2).trans ?_))
  unfold outV
  rw [← blkA m c, ← blkB m c, ← blkC m c, ← blkD m c, ← blkE m c, ← blkF m c]

end Cert.ReferenceIdeal.Hand
end
end
-- ==== Proof.RefGather.lean ====
/- The half of a2 the reference gathers: the block of each batch's number. -/
module

public import proofs.«01_k».proof.Proof.Gen.ReferenceIdeal.Value
public import Idealize.ShloMosaic.Lib.ValueIdx
public import Idealize.ShloMosaic.Lib.DynamicIndex

@[expose] public section

set_option synthInstance.maxSize 4096

noncomputable section

namespace Cert.ReferenceIdeal.Hand

open Cert.ReferenceIdeal Cert.ReferenceIdeal.Gen
open Idealize.ShloMosaic Idealize.ShloMosaic.TcCoe Idealize.ShloMosaic.ValueIdx

/-- What the operations before the call leave as gathered halves. -/
def halves {α : Type} (a2 : S5x2560x256.Idx → α) (ids : IVec S8 32) : S8x2560x128.Idx → α :=
  Host.gather gather_S5x2560x128_S8x1_S8x2560x128_12_0_n_n_0_1_12560128
    (extractStridedSlice S5x2560x128 ![0, 0, 0] a2 slices_S5x2560x256_S5x2560x128_0_0_0)
    (broadcastInDim S8x1 ![0] bcast_S8_S8x1_0
      (select (cmpi .slt ids (broadcastInDim S8 ![] bcast_S_S8 (constantI S_ 32 0#32)))
        (addi ids (broadcastInDim S8 ![] bcast_S_S8 (constantI S_ 32 5#32))) ids))

variable {F : FTy → Type} [FloatOps F]
variable (m : (ℓ : Loc nD τ sig) → Buf (Elt F) ℓ)

theorem V_v7 (c : Dev nD) : V m c main_v7 = halves (m ((c : Thread nD τ).loc main_arg6)) (m ((c : Thread nD τ).loc main_arg8)) := by
  show StableHlo.after hostOps0 (fun b => m (c, b)) (main_v7 : DevRef τ sig) = _
  after_results
  rfl

/-- The gather's dimension numbers. -/
abbrev gd : GatherDims S5x2560x128 S8x1 S8x2560x128 := gather_S5x2560x128_S8x1_S8x2560x128_12_0_n_n_0_1_12560128

theorem start0 (idx : IVec S8x1 32) (b : Fin 8) (C : Fin 2560) (κ : Fin 128) : gd.start (ix3 b C κ) idx (0 : Fin 3) = min (idx (ix2 b 0)).toInt.toNat (5 - 1) := by
  unfold GatherDims.start
  rw [dif_pos (show (0 : Fin 3) ∈ gd.startIndexMap from List.mem_singleton.mpr rfl)]
  have hsi : gd.siIdx (ix3 b C κ) ⟨List.idxOf (0 : Fin 3) gd.startIndexMap, List.idxOf_lt_length_iff.2 (List.mem_singleton.mpr rfl)⟩ = ix2 b 0 := by
    funext q
    refine Fin.ext ?_
    match q with
    | ⟨0, _⟩ => rfl
    | ⟨1, _⟩ => rfl
  rw [hsi]
  rfl

theorem startR (idx : IVec S8x1 32) (y : S8x2560x128.Idx) (a : Fin 3) (ha : a ≠ 0) : gd.start y idx a = 0 := by
  unfold GatherDims.start
  exact dif_neg fun h => ha (List.mem_singleton.mp h)

theorem off1 (b : Fin 8) (C : Fin 2560) (κ : Fin 128) : gd.offCoord (ix3 b C κ) (1 : Fin 3) = C.val := by
  unfold GatherDims.offCoord
  rw [dif_pos (show (1 : Fin 3) ∈ gd.sKept from (GatherDims.mem_sKept _ _).mpr ⟨fun h => absurd (List.mem_singleton.mp h) (by decide), List.not_mem_nil⟩)]
  rfl

theorem off2 (b : Fin 8) (C : Fin 2560) (κ : Fin 128) : gd.offCoord (ix3 b C κ) (2 : Fin 3) = κ.val := by
  unfold GatherDims.offCoord
  rw [dif_pos (show (2 : Fin 3) ∈ gd.sKept from (GatherDims.mem_sKept _ _).mpr ⟨fun h => absurd (List.mem_singleton.mp h) (by decide), List.not_mem_nil⟩)]
  rfl

theorem clamp : ∀ i : Fin 5, min (BitVec.ofNat 32 i.val).toInt.toNat (5 - 1) = i.val := by decide

/-- The gather of blocks, element by element. -/
theorem gather_apply {α : Type} (x : S5x2560x128.Idx → α) (idx : IVec S8x1 32) (b : Fin 8) (C : Fin 2560) (κ : Fin 128) (i : Fin 5)
    (hi : idx (ix2 b 0) = BitVec.ofNat 32 i.val) :
    Host.gather gd x idx (ix3 b C κ) = x (ix3 i C κ) := by
  unfold Host.gather
  refine congrArg x (funext fun a => Fin.ext ?_)
  show gd.start (ix3 b C κ) idx a + gd.batchCoord (ix3 b C κ) a + gd.offCoord (ix3 b C κ) a = _
  rw [GatherDims.batchCoord_eq_zero _ _ _ List.not_mem_nil, Nat.add_zero]
  match a with
  | ⟨0, _⟩ =>
    have e := GatherDims.offCoord_eq_zero gd (ix3 b C κ) (0 : Fin 3) (fun h => ((GatherDims.mem_sKept _ _).mp h).1 (List.mem_singleton.mpr rfl))
    have e2 := (start0 idx b C κ).trans ((congrArg (fun z : BitVec 32 => min z.toInt.toNat (5 - 1)) hi).trans (clamp i))
    exact congrArg₂ (· + ·) e2 e
  | ⟨1, _⟩ => exact (congrArg₂ (· + ·) (startR idx (ix3 b C κ) 1 (by decide)) (off1 b C κ)).trans (Nat.zero_add _)
  | ⟨2, _⟩ => exact (congrArg₂ (· + ·) (startR idx (ix3 b C κ) 2 (by decide)) (off2 b C κ)).trans (Nat.zero_add _)

theorem num_nonneg : ∀ i : Fin 5, 0 ≤ (BitVec.ofNat 32 i.val).toInt := by decide

/-- The gathered half of batch `b`. -/
theorem halves_apply {α : Type} (a2 : S5x2560x256.Idx → α) (ids : IVec S8 32) (b : Fin 8) (C : Fin 2560) (κ : Fin 128) (i : Fin 5) (hi : ids (ix1 b) = BitVec.ofNat 32 i.val) :
    halves a2 ids (ix3 b C κ) = a2 (ix3 i C ⟨κ.val, by omega⟩) := by
  unfold halves
  have hidx : broadcastInDim S8x1 ![0] bcast_S8_S8x1_0
      (select (cmpi .slt ids (broadcastInDim S8 ![] bcast_S_S8 (constantI S_ 32 0#32)))
        (addi ids (broadcastInDim S8 ![] bcast_S_S8 (constantI S_ 32 5#32))) ids) (ix2 b 0) = BitVec.ofNat 32 i.val := by
    rw [broadcastInDim_apply ![0] bcast_S8_S8x1_0 _ (ix2 b 0) (ix1 b) (fun x => by
      match x with
      | ⟨0, _⟩ => rfl)]
    exact (select_slt_zero_of_nonneg (s := S8) ids _ ids (ix1 b) (by rw [hi]; exact num_nonneg i)).trans hi
  rw [gather_apply _ _ b C κ i hidx, extractStridedSlice_apply ![0, 0, 0] a2 slices_S5x2560x256_S5x2560x128_0_0_0 (ix3 i C κ) (ix3 i C ⟨κ.val, by omega⟩) (fun x => by
      match x with
      | ⟨0, _⟩ => exact (Nat.zero_add _).symm
      | ⟨1, _⟩ => exact (Nat.zero_add _).symm
      | ⟨2, _⟩ => exact (Nat.zero_add _).symm)]

end Cert.ReferenceIdeal.Hand
end
end
-- ==== Proof.Scales.lean ====
/- The precondition on the scales and the small arrays, read as numbers. -/
module

public import proofs.«01_k».proof.Proof.Gen.Pre_scales_fit
public import proofs.«01_k».proof.Proof.Tables
public import Idealize.ShloMosaic.Lib.ValueIdx
public import Idealize.ShloMosaic.Lib.Pipeline.Value

@[expose] public section

noncomputable section

namespace Cert.Scales

open Idealize.ShloMosaic Idealize.ShloMosaic.ValueIdx Cert.Pre_scales_fit Cert.Pre_scales_fit.Facts
open Cert.Tables (and_one)

theorem or_one {a b : BitVec 1} (h : IntOp.ori a b = 1#1) : a = 1#1 ∨ b = 1#1 := by
  revert a b; decide

theorem eq_of {x y : EReal} (h : Ideal.cmp .oeq x y = 1#1) : x = y := of_decide_eq_true ((StableHlo.Predicate.ofBool_eq_one_iff _).1 h)
theorem ge_of {x y : EReal} (h : Ideal.cmp .oge x y = 1#1) : y ≤ x := of_decide_eq_true ((StableHlo.Predicate.ofBool_eq_one_iff _).1 h)
theorem le_of {x y : EReal} (h : Ideal.cmp .ole x y = 1#1) : x ≤ y := of_decide_eq_true ((StableHlo.Predicate.ofBool_eq_one_iff _).1 h)

theorem zero32 : Ideal.ofBits .f32 0x00000000#32 = 0 := by simp [Ideal.ofBits, Ideal.ieee]
theorem big_ne_top : Ideal.ofBits .f32 0x7F61B1E6#32 ≠ ⊤ := by
  simp [Ideal.ofBits, Ideal.ieee, -EReal.coe_mul]
theorem small_ne_bot : Ideal.ofBits .f32 0xFF61B1E6#32 ≠ ⊥ := by
  simp [Ideal.ofBits, Ideal.ieee, -EReal.coe_mul]

theorem fin_of {x : EReal} (h1 : Ideal.ofBits .f32 0xFF61B1E6#32 ≤ x) (h2 : x ≤ Ideal.ofBits .f32 0x7F61B1E6#32) : x ≠ ⊤ ∧ x ≠ ⊥ :=
  ⟨fun h => big_ne_top (top_le_iff.1 (h ▸ h2)), fun h => small_ne_bot (le_bot_iff.1 (h ▸ h1))⟩

theorem nonneg_of {x : EReal} (h1 : Ideal.ofBits .f32 0x00000000#32 ≤ x) (h2 : x ≤ Ideal.ofBits .f32 0x7F61B1E6#32) : 0 ≤ x ∧ x ≠ ⊤ :=
  ⟨zero32 ▸ h1, fun h => big_ne_top (top_le_iff.1 (h ▸ h2))⟩

variable [Cert.Pre_scales_fit.Facts]
variable {a0 : FVec Ideal S8192x10240 .fp8e5m2} {a1 : FVec Ideal S2560x10240 .fp8e4m3} {a2 : IVec S1 32} {a3 : FVec Ideal S20 .f32} {a4 : FVec Ideal S1x10240 .f32}
  {a5 : FVec Ideal S8192x384 .bf16} {a6 : FVec Ideal S5x2560x256 .bf16} {a7 : FVec Ideal S8192x1 .f32} {a8 : IVec S8 32}

/-- The row scales are finite. -/
theorem rows (h : (Cert.Pre_scales_fit.fn (F := Ideal) a0 a1 a2 a3 a4 a5 a6 a7 a8).2.2.1 = fun _ => 1#1) (R : Fin 8192) : a7 (ix2 R 0) ≠ ⊤ ∧ a7 (ix2 R 0) ≠ ⊥ := by
  have e := congrFun h (ix2 R 0)
  obtain ⟨e1, e2⟩ := and_one e
  exact fin_of (ge_of e1) (le_of e2)

/-- The parts of t are finite. -/
theorem parts (h : (Cert.Pre_scales_fit.fn (F := Ideal) a0 a1 a2 a3 a4 a5 a6 a7 a8).2.2.2.1 = fun _ => 1#1) (R : Fin 8192) (κ : Fin 384) : a5 (ix2 R κ) ≠ ⊤ ∧ a5 (ix2 R κ) ≠ ⊥ := by
  have e := congrFun h (ix2 R κ)
  obtain ⟨e1, e2⟩ := and_one e
  exact fin_of (ge_of e1) (le_of e2)

/-- The halves of a2 are equal and finite. -/
theorem halves (h : (Cert.Pre_scales_fit.fn (F := Ideal) a0 a1 a2 a3 a4 a5 a6 a7 a8).2.2.2.2 = fun _ => 1#1) (i : Fin 5) (C : Fin 2560) (κ : Fin 128) :
    a6 (ix3 i C ⟨128 + κ.val, by omega⟩) = a6 (ix3 i C ⟨κ.val, by omega⟩) ∧ a6 (ix3 i C ⟨κ.val, by omega⟩) ≠ ⊤ ∧ a6 (ix3 i C ⟨κ.val, by omega⟩) ≠ ⊥ := by
  have e := congrFun h (ix3 i C κ)
  obtain ⟨e1, e2⟩ := and_one e
  obtain ⟨e3, e4⟩ := and_one e1
  have l : (extractStridedSlice S5x2560x128 ![0, 0, 0] a6 slices_S5x2560x256_S5x2560x128_0_0_0) (ix3 i C κ) = a6 (ix3 i C ⟨κ.val, by omega⟩) :=
    extractStridedSlice_apply ![0, 0, 0] a6 slices_S5x2560x256_S5x2560x128_0_0_0 (ix3 i C κ) (ix3 i C ⟨κ.val, by omega⟩) (fun x => by
      match x with
      | ⟨0, _⟩ => exact (Nat.zero_add _).symm
      | ⟨1, _⟩ => exact (Nat.zero_add _).symm
      | ⟨2, _⟩ => exact (Nat.zero_add _).symm)
  have r : (extractStridedSlice S5x2560x128 ![0, 0, 128] a6 slices_S5x2560x256_S5x2560x128_0_0_128) (ix3 i C κ) = a6 (ix3 i C ⟨128 + κ.val, by omega⟩) :=
    extractStridedSlice_apply ![0, 0, 128] a6 slices_S5x2560x256_S5x2560x128_0_0_128 (ix3 i C κ) (ix3 i C ⟨128 + κ.val, by omega⟩) (fun x => by
      match x with
      | ⟨0, _⟩ => exact (Nat.zero_add _).symm
      | ⟨1, _⟩ => exact (Nat.zero_add _).symm
      | ⟨2, _⟩ => rfl)
  have f3 : (extractStridedSlice S5x2560x128 ![0, 0, 0] a6 slices_S5x2560x256_S5x2560x128_0_0_0) (ix3 i C κ) = (extractStridedSlice S5x2560x128 ![0, 0, 128] a6 slices_S5x2560x256_S5x2560x128_0_0_128) (ix3 i C κ) := eq_of e3
  have f4 : Ideal.ofBits .f32 0xFF61B1E6#32 ≤ (extractStridedSlice S5x2560x128 ![0, 0, 0] a6 slices_S5x2560x256_S5x2560x128_0_0_0) (ix3 i C κ) := ge_of e4
  have f2 : (extractStridedSlice S5x2560x128 ![0, 0, 0] a6 slices_S5x2560x256_S5x2560x128_0_0_0) (ix3 i C κ) ≤ Ideal.ofBits .f32 0x7F61B1E6#32 := le_of e2
  have f := fin_of f4 f2
  rw [l] at f f3
  rw [r] at f3
  exact ⟨f3.symm, f⟩

theorem word_ge : ∀ (u : Fin 20) (n : Fin 21), IntOp.cmpi .sge (BitVec.ofNat 32 u.val) (BitVec.ofNat 32 n.val) = 1#1 → n.val ≤ u.val := by decide

/-- The scales of the columns of a unit before the `n`-th are the unit's scale, which is nonnegative and finite. -/
theorem cols (h : (Cert.Pre_scales_fit.fn (F := Ideal) a0 a1 a2 a3 a4 a5 a6 a7 a8).2.1 = fun _ => 1#1) (n : Fin 21) (hn : ∀ x, a2 x = BitVec.ofNat 32 n.val)
    (u : Fin 20) (hu : u.val < n.val) (κ : Fin 512) :
    a4 (ix2 0 ⟨512 * u.val + κ.val, by omega⟩) = a3 (ix1 u) ∧ 0 ≤ a3 (ix1 u) ∧ a3 (ix1 u) ≠ ⊤ := by
  have e := congrFun h (ix2 u κ)
  rcases or_one e with e | e
  · have e' : IntOp.cmpi .sge (BitVec.ofNat 32 u.val) (a2 _) = 1#1 := e
    rw [hn] at e'
    exact absurd (word_ge u n e') (Nat.not_le.2 hu)
  · obtain ⟨e1, e2⟩ := and_one e
    obtain ⟨e3, e4⟩ := and_one e1
    have l : (shapeCast S20x512 a4 shapeCasts_S1x10240_S20x512) (ix2 u κ) = a4 (ix2 0 ⟨512 * u.val + κ.val, by omega⟩) :=
      shapeCast_apply a4 _ _ _ (by
        rw [Shape.rowMajor_val_two, Shape.rowMajor_val_two]
        show 0 * 10240 + (512 * u.val + κ.val) = u.val * 512 + κ.val
        omega)
    have r : (broadcastInDim S20x512 ![0, 1] bcast_S20x1_S20x512_0_1 (shapeCast S20x1 a3 shapeCasts_S20_S20x1)) (ix2 u κ) = a3 (ix1 u) := by
      rw [broadcastInDim_apply ![0, 1] bcast_S20x1_S20x512_0_1 _ (ix2 u κ) (ix2 u 0) (fun x => by
        match x with
        | ⟨0, _⟩ => rfl
        | ⟨1, _⟩ => rfl)]
      exact shapeCast_apply a3 _ _ _ (by
        rw [Shape.rowMajor_val_one, Shape.rowMajor_val_two]
        simp)
    have f3 : (shapeCast S20x512 a4 shapeCasts_S1x10240_S20x512) (ix2 u κ) = (broadcastInDim S20x512 ![0, 1] bcast_S20x1_S20x512_0_1 (shapeCast S20x1 a3 shapeCasts_S20_S20x1)) (ix2 u κ) := eq_of e3
    have f4 : Ideal.ofBits .f32 0x00000000#32 ≤ (shapeCast S20x512 a4 shapeCasts_S1x10240_S20x512) (ix2 u κ) := ge_of e4
    have f2 : (shapeCast S20x512 a4 shapeCasts_S1x10240_S20x512) (ix2 u κ) ≤ Ideal.ofBits .f32 0x7F61B1E6#32 := le_of e2
    have f := nonneg_of f4 f2
    rw [f3, r] at f
    rw [l, r] at f3
    exact ⟨f3, f⟩

end Cert.Scales
end
end
-- ==== Proof.Algebra.lean ====
/- The kernel and the plain-mathematics reference compute equal results over the extended reals. -/
module

public import proofs.«01_k».proof.Defs
public import proofs.«01_k».proof.Proof.Quiet
public import proofs.«01_k».proof.Proof.KernelValue
public import proofs.«01_k».proof.Proof.RefValue
public import proofs.«01_k».proof.Proof.RefGather
public import proofs.«01_k».proof.Proof.Scales

@[expose] public section

noncomputable section

namespace Cert.Algebra

open Idealize.ShloMosaic Idealize.ShloMosaic.TcCoe Idealize.ShloMosaic.ValueIdx Idealize.SL.Sem

/-- A memory of the kernel, and one of the reference. -/
abbrev MK := (ℓ : Loc Cert.KernelIdeal.nD Cert.KernelIdeal.τ Cert.KernelIdeal.sig) → Buf (Elt Ideal) ℓ
abbrev MR := (ℓ : Loc Cert.ReferenceIdeal.nD Cert.ReferenceIdeal.τ Cert.ReferenceIdeal.sig) → Buf (Elt Ideal) ℓ

open Cert.KernelIdeal in
/-- The reference's result at an index, from its arguments. -/
theorem ref_value (m' : MR) (c : Dev Cert.ReferenceIdeal.nD)
    (dy : S8192x10240.Idx → EReal) (w : S2560x10240.Idx → EReal) (s4 : S1x10240.Idx → EReal) (t : S8192x384.Idx → EReal)
    (a2 : S5x2560x256.Idx → EReal) (d : S8192x1.Idx → EReal) (ids : S8.Idx → BitVec 32)
    (h0 : m' ((c.tc : Thread Cert.ReferenceIdeal.nD Cert.ReferenceIdeal.τ).loc Cert.ReferenceIdeal.main_arg0) = dy)
    (h1 : m' ((c.tc : Thread Cert.ReferenceIdeal.nD Cert.ReferenceIdeal.τ).loc Cert.ReferenceIdeal.main_arg1) = w)
    (h4 : m' ((c.tc : Thread Cert.ReferenceIdeal.nD Cert.ReferenceIdeal.τ).loc Cert.ReferenceIdeal.main_arg4) = s4)
    (h5 : m' ((c.tc : Thread Cert.ReferenceIdeal.nD Cert.ReferenceIdeal.τ).loc Cert.ReferenceIdeal.main_arg5) = t)
    (h6 : m' ((c.tc : Thread Cert.ReferenceIdeal.nD Cert.ReferenceIdeal.τ).loc Cert.ReferenceIdeal.main_arg6) = a2)
    (h7 : m' ((c.tc : Thread Cert.ReferenceIdeal.nD Cert.ReferenceIdeal.τ).loc Cert.ReferenceIdeal.main_arg7) = d)
    (h8 : m' ((c.tc : Thread Cert.ReferenceIdeal.nD Cert.ReferenceIdeal.τ).loc Cert.ReferenceIdeal.main_arg8) = ids)
    (b : Fin 8) (q : Fin 5) (hq : ids (ix1 b) = BitVec.ofNat 32 q.val) (C : Fin 2560) (R : Fin 8192) (hb : b.val = R.val / 1024) :
    Cert.ReferenceIdeal.Hand.arrV m' c (ix2 R C)
      = (∑ k : Fin 10240, dy (ix2 R k) * (w (ix2 C k) * s4 (ix2 0 k))) * d (ix2 R 0)
        + ∑ κ : Fin 128, (((t (ix2 R ⟨κ.val, by omega⟩) + t (ix2 R ⟨128 + κ.val, by omega⟩)) + t (ix2 R ⟨256 + κ.val, by omega⟩)) * d (ix2 R 0)) * a2 (ix3 q C ⟨κ.val, by omega⟩) := by
  refine (Cert.ReferenceIdeal.Hand.arr_eq m' c R C).trans ?_
  refine (Cert.ReferenceIdeal.Hand.out_apply _ _ _ _ _ _ b ⟨R.val % 1024, Nat.mod_lt _ (by decide)⟩ C R (Fin.ext (by show R.val = 1024 * b.val + R.val % 1024; omega))).trans ?_
  have e0 : Cert.ReferenceIdeal.Gen.V m' c Cert.ReferenceIdeal.main_arg0 = dy := (Cert.ReferenceIdeal.Gen.V_main_arg0 m' c).trans h0
  have e1 : Cert.ReferenceIdeal.Gen.V m' c Cert.ReferenceIdeal.main_arg1 = w := (Cert.ReferenceIdeal.Gen.V_main_arg1 m' c).trans h1
  have e4 : Cert.ReferenceIdeal.Gen.V m' c Cert.ReferenceIdeal.main_arg4 = s4 := (Cert.ReferenceIdeal.Gen.V_main_arg4 m' c).trans h4
  have e5 : Cert.ReferenceIdeal.Gen.V m' c Cert.ReferenceIdeal.main_arg5 = t := (Cert.ReferenceIdeal.Gen.V_main_arg5 m' c).trans h5
  have e7 : Cert.ReferenceIdeal.Gen.V m' c Cert.ReferenceIdeal.main_arg7 = d := (Cert.ReferenceIdeal.Gen.V_main_arg7 m' c).trans h7
  have e6 : Cert.ReferenceIdeal.Gen.V m' c Cert.ReferenceIdeal.main_v7 = Cert.ReferenceIdeal.Hand.halves a2 ids :=
    (Cert.ReferenceIdeal.Hand.V_v7 m' c).trans (congrArg₂ Cert.ReferenceIdeal.Hand.halves h6 h8)
  rw [e0, e1, e4, e5, e6, e7]
  exact congrArg₂ (fun x y : EReal => x + y) rfl (Finset.sum_congr rfl fun κ _ =>
    congrArg (fun z : EReal => (((t (ix2 R ⟨κ.val, by omega⟩) + t (ix2 R ⟨128 + κ.val, by omega⟩)) + t (ix2 R ⟨256 + κ.val, by omega⟩)) * d (ix2 R 0)) * z)
      (Cert.ReferenceIdeal.Hand.halves_apply a2 ids b C κ q hq))

open Cert.KernelIdeal in
/-- Under the scale precondition the kernel's result and the reference's agree at every index. -/
theorem agree (m : MK) (m' : MR) (n : Fin 21) (idn : Fin 8 → Fin 5) (hp : Cert.Pre_KernelIdeal_scales_fit m) (c : Dev nD)
    (h2 : ∀ x, m ((c.tc : Thread nD τ).loc main_arg2) x = BitVec.ofNat 32 n.val) (h8 : ∀ x : S8.Idx, m ((c.tc : Thread nD τ).loc main_arg8) x = BitVec.ofNat 32 (idn (x 0)).val)
    (g0 : m' ((c.tc : Thread Cert.ReferenceIdeal.nD Cert.ReferenceIdeal.τ).loc Cert.ReferenceIdeal.main_arg0) = m ((c.tc : Thread nD τ).loc main_arg0))
    (g1 : m' ((c.tc : Thread Cert.ReferenceIdeal.nD Cert.ReferenceIdeal.τ).loc Cert.ReferenceIdeal.main_arg1) = m ((c.tc : Thread nD τ).loc main_arg1))
    (g4 : m' ((c.tc : Thread Cert.ReferenceIdeal.nD Cert.ReferenceIdeal.τ).loc Cert.ReferenceIdeal.main_arg4) = m ((c.tc : Thread nD τ).loc main_arg4))
    (g5 : m' ((c.tc : Thread Cert.ReferenceIdeal.nD Cert.ReferenceIdeal.τ).loc Cert.ReferenceIdeal.main_arg5) = m ((c.tc : Thread nD τ).loc main_arg5))
    (g6 : m' ((c.tc : Thread Cert.ReferenceIdeal.nD Cert.ReferenceIdeal.τ).loc Cert.ReferenceIdeal.main_arg6) = m ((c.tc : Thread nD τ).loc main_arg6))
    (g7 : m' ((c.tc : Thread Cert.ReferenceIdeal.nD Cert.ReferenceIdeal.τ).loc Cert.ReferenceIdeal.main_arg7) = m ((c.tc : Thread nD τ).loc main_arg7))
    (g8 : m' ((c.tc : Thread Cert.ReferenceIdeal.nD Cert.ReferenceIdeal.τ).loc Cert.ReferenceIdeal.main_arg8) = m ((c.tc : Thread nD τ).loc main_arg8))
    (I : S8192x2560.Idx) : Cert.ReferenceIdeal.Hand.arrV m' c I = Cert.KernelIdeal.Hand.elX (Cert.KernelIdeal.Hand.RS m n idn c 4) I := by
  obtain ⟨R, C, rfl⟩ : ∃ (R : Fin 8192) (C : Fin 2560), I = ix2 R C := ⟨I 0, I 1, eq_ix2 I⟩
  have hr := ref_value m' c (m ((c.tc : Thread nD τ).loc main_arg0)) (m ((c.tc : Thread nD τ).loc main_arg1)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) g0 g1 g4 g5 g6 g7 g8
    ⟨R.val / 1024, by omega⟩ (idn ⟨R.val / 1024, by omega⟩) (h8 (ix1 ⟨R.val / 1024, by omega⟩)) C R rfl
  have hk := Cert.KernelIdeal.Hand.kernel_value m n idn c (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) rfl rfl rfl rfl rfl rfl rfl
    (fun u hu κ => Cert.Scales.cols (hp c).2.1 n h2 u hu κ) (fun R => Cert.Scales.rows (hp c).2.2.1 R) (fun R κ => Cert.Scales.parts (hp c).2.2.2.1 R κ) (fun q C κ => Cert.Scales.halves (hp c).2.2.2.2 q C κ)
    ⟨R.val / 2048, by omega⟩ ⟨R.val % 2048, Nat.mod_lt _ (by decide)⟩ C R (by show R.val = 2048 * (R.val / 2048) + R.val % 2048; omega) ⟨R.val / 1024, by omega⟩ rfl
  exact hr.trans hk.symm

/-- The kernel's frame, from the scale precondition, which contains the table precondition. -/
theorem frame_scales : Cert.quiescent_KernelIdeal_pre_scales_fit :=
  fun m g hp => Cert.KernelIdeal.Hand.frame_of m g fun c => (hp c).1

open Cert.KernelIdeal in
/-- Kernel and reference compute the same array. -/
theorem algebraic : Cert.algebraic_KernelIdeal_ReferenceIdeal_pre_scales_fit := by
  intro m g m' g' hp he
  obtain ⟨n, idn, h2, h8⟩ := Cert.Tables.tables (F := Ideal) (a0 := m (((0 : Dev nD).tc : Thread nD τ).loc main_arg0)) (a1 := m (((0 : Dev nD).tc : Thread nD τ).loc main_arg1)) (a2 := m (((0 : Dev nD).tc : Thread nD τ).loc main_arg2)) (a3 := m (((0 : Dev nD).tc : Thread nD τ).loc main_arg3)) (a4 := m (((0 : Dev nD).tc : Thread nD τ).loc main_arg4)) (a5 := m (((0 : Dev nD).tc : Thread nD τ).loc main_arg5)) (a6 := m (((0 : Dev nD).tc : Thread nD τ).loc main_arg6)) (a7 := m (((0 : Dev nD).tc : Thread nD τ).loc main_arg7)) (a8 := m (((0 : Dev nD).tc : Thread nD τ).loc main_arg8)) (hp 0).1
  have hc : ∀ c : Dev nD, c = 0 := fun c => Subsingleton.elim c 0
  have hT : Cert.KernelIdeal.Hand.Tab m n idn := fun c => by
    rw [hc c]
    exact ⟨h2, h8⟩
  refine ⟨fun c => Cert.KernelIdeal.Hand.RS m n idn c 4, ?_, ?_⟩
  · exact (θ_run _ _ _).mono (fun r h c => ⟨(h.1 c).2.2.2.2.2.2.2.2.2, (h.1 c).1, (h.1 c).2.1, (h.1 c).2.2.1, (h.1 c).2.2.2.1, (h.1 c).2.2.2.2.1, (h.1 c).2.2.2.2.2.1, (h.1 c).2.2.2.2.2.2.1, (h.1 c).2.2.2.2.2.2.2.1, (h.1 c).2.2.2.2.2.2.2.2.1⟩)
      (Cert.KernelIdeal.Hand.run m g n idn hT)
  · refine (θ_run _ _ _).mono (fun r h c => ⟨(h c).1.trans ?_, (h c).2⟩) (Cert.ReferenceIdeal.Value.run_blocks (F := Ideal) m' g')
    have e := he c
    refine funext fun I => agree m m' n idn hp c ?_ ?_ e.1 e.2.1 e.2.2.2.2.1 e.2.2.2.2.2.1 e.2.2.2.2.2.2.1 e.2.2.2.2.2.2.2.1 e.2.2.2.2.2.2.2.2 I
    · rw [hc c]; exact h2
    · rw [hc c]; exact h8

end Cert.Algebra
end
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_tables_fit
public import proofs.«01_k».proof.Proof.Gen.Pre_scales_fit
public import proofs.«01_k».proof.Proof.Quiet
public import proofs.«01_k».proof.Proof.Same
public import proofs.«01_k».proof.Proof.Algebra

@[expose] public section

namespace Cert.Proof

theorem claim : Cert.Claim :=
  ⟨Cert.Kernel.Gen.facts, Cert.KernelIdeal.Gen.facts, Cert.ReferenceIdeal.Gen.facts, Cert.Pre_tables_fit.Gen.facts, Cert.Pre_scales_fit.Gen.facts,
    Cert.Same.frame, Cert.KernelIdeal.Hand.frame, Cert.Algebra.frame_scales, fun m g _ => Cert.ReferenceIdeal.Gen.frame m g,
    fun m g _ => Cert.ReferenceIdeal.Gen.frame m g, trivial, Cert.Algebra.algebraic⟩

end Cert.Proof
